-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91_0)) (v1 : (c : Dev Cert.KernelIdeal.nD) → Buf (Elt Ideal) ((c.tc : Thread Cert.KernelIdeal.nD Cert.KernelIdeal.τ).loc Cert.KernelIdeal.main_v91_1)) (v2 : (c : Dev Cert.KernelIdeal.nD) → Buf (Elt Ideal) ((c.tc : Thread Cert.KernelIdeal.nD Cert.KernelIdeal.τ).loc Cert.KernelIdeal.main_v91_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91_0) = v0 c
          ∧ r.2.mem ((c.tc : Thread Cert.KernelIdeal.nD Cert.KernelIdeal.τ).loc Cert.KernelIdeal.main_v91_1) = v1 c
          ∧ r.2.mem ((c.tc : Thread Cert.KernelIdeal.nD Cert.KernelIdeal.τ).loc Cert.KernelIdeal.main_v91_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_v44) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v80) = v0 c
          ∧ r.2.mem ((c.tc : Thread Cert.Reference13Ideal.nD Cert.Reference13Ideal.τ).loc Cert.Reference13Ideal.main_v109) = v1 c
          ∧ r.2.mem ((c.tc : Thread Cert.Reference13Ideal.nD Cert.Reference13Ideal.τ).loc Cert.Reference13Ideal.main_v108) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_finite.lean ====
abbrev S4096x2048 : Shape := ⟨2, ![4096, 2048]⟩
abbrev S4x512x512 : Shape := ⟨3, ![4, 512, 512]⟩
abbrev S1x2048 : Shape := ⟨2, ![1, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_arg5 : FVec F S4096x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  main_v28

def fn {F : FTy → Type} [FloatOps F] (main_arg0 : FVec F S4096x2048 .f32) (main_arg1 : FVec F S4096x2048 .f32) (main_arg2 : FVec F S4x512x512 .f32) (main_arg3 : FVec F S1x2048 .f32) (main_arg4 : FVec F S2048x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4x512x512 .f32 := Host.absf main_arg2
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_v13 main_v16
-- ==== Pre_finite13.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S4096x2048 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  main_v38

def fn_part1 {F : FTy → Type} [FloatOps F] (main_arg4 : FVec F S1x2048 .f32) (main_arg5 : FVec F S1x2048 .f32) (main_arg6 : FVec F S1x2048 .f32) (main_arg7 : FVec F S4096x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S2048x2048 .f32) (main_arg2 : FVec F S4096x2048 .f32) (main_arg3 : FVec F S1x2048 .f32) (main_arg4 : FVec F S1x2048 .f32) (main_arg5 : FVec F S1x2048 .f32) (main_arg6 : FVec F S1x2048 .f32) (main_arg7 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_arg7 main_v13 main_v16
-- ==== Pre_finite2.lean ====
abbrev S4096x2048 : Shape := ⟨2, ![4096, 2048]⟩
abbrev S1x2048 : Shape := ⟨2, ![1, 2048]⟩
abbrev S2048x4096 : Shape := ⟨2, ![2048, 4096]⟩
abbrev S2048x256 : Shape := ⟨2, ![2048, 256]⟩
abbrev S2x4096x2048 : Shape := ⟨3, ![2, 4096, 2048]⟩
abbrev S4096x512 : Shape := ⟨2, ![4096, 512]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S2048x256 : S_.BroadcastsInDim S2048x256 (![] : Fin 0 → Fin S2048x256.rank)
  reducesTo_S2048x256_S_d0_1 : S2048x256.ReducesTo [0, 1] S_
  bcast_S_S2x4096x2048 : S_.BroadcastsInDim S2x4096x2048 (![] : Fin 0 → Fin S2x4096x2048.rank)
  reducesTo_S2x4096x2048_S_d0_1_2 : S2x4096x2048.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part2 {F : FTy → Type} [FloatOps F] (main_arg7 : FVec F S4096x2048 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  main_v38

def fn_part1 {F : FTy → Type} [FloatOps F] (main_arg4 : FVec F S2048x256 .f32) (main_arg5 : FVec F S2x4096x2048 .f32) (main_arg6 : FVec F S4096x512 .f32) (main_arg7 : FVec F S4096x2048 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S2x4096x2048 .f32 := Host.absf main_arg5
  let main_cst_8 : FVec F S_ .f32 := constant S_ .f32 0x7F800000#32
  let main_v25 : FVec F S2x4096x2048 .f32 := broadcastInDim S2x4096x2048 ![] bcast_S_S2x4096x2048 main_cst_8
  let main_v26 : IVec S2x4096x2048 1 := cmpf .olt main_v24 main_v25
  let main_c_9 : IVec S_ 1 := constantI S_ 1 1#1
  let main_v27 : IVec S_ 1 := (fun x v => Host.reduce IntOp.andi x v reducesTo_S2x4096x2048_S_d0_1_2 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S1x2048 .f32) (main_arg2 : FVec F S2048x4096 .f32) (main_arg3 : FVec F S2048x256 .f32) (main_arg4 : FVec F S2048x256 .f32) (main_arg5 : FVec F S2x4096x2048 .f32) (main_arg6 : FVec F S4096x512 .f32) (main_arg7 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_arg7 main_v13 main_v16
-- ==== Kernel.lean ====
abbrev S4096x2048 : Shape := ⟨2, ![4096, 2048]⟩
abbrev S4x512x512 : Shape := ⟨3, ![4, 512, 512]⟩
abbrev S1x2048 : Shape := ⟨2, ![1, 2048]⟩
abbrev S2048x2048 : Shape := ⟨2, ![2048, 2048]⟩
abbrev S1x4096x2048 : Shape := ⟨3, ![1, 4096, 2048]⟩
abbrev S1x4096x4x512 : Shape := ⟨4, ![1, 4096, 4, 512]⟩
abbrev S1x4096x1x512 : Shape := ⟨4, ![1, 4096, 1, 512]⟩
abbrev S1x4096x512 : Shape := ⟨3, ![1, 4096, 512]⟩
abbrev S_ : Shape := ⟨0, ![]⟩
abbrev S1x2x512 : Shape := ⟨3, ![1, 2, 512]⟩
abbrev S1x4094x512 : Shape := ⟨3, ![1, 4094, 512]⟩
abbrev S4096 : Shape := ⟨1, ![4096]⟩
abbrev S1x4096x1 : Shape := ⟨3, ![1, 4096, 1]⟩
abbrev S1x4x512 : Shape := ⟨3, ![1, 4, 512]⟩
abbrev S1x4092x512 : Shape := ⟨3, ![1, 4092, 512]⟩
abbrev S1x8x512 : Shape := ⟨3, ![1, 8, 512]⟩
abbrev S1x4088x512 : Shape := ⟨3, ![1, 4088, 512]⟩
abbrev S1x16x512 : Shape := ⟨3, ![1, 16, 512]⟩
abbrev S1x4080x512 : Shape := ⟨3, ![1, 4080, 512]⟩
abbrev S4x512x1x4096 : Shape := ⟨4, ![4, 512, 1, 4096]⟩
abbrev S2x4096x2048 : Shape := ⟨3, ![2, 4096, 2048]⟩
abbrev S8x2048 : Shape := ⟨2, ![8, 2048]⟩
abbrev S256x2048 : Shape := ⟨2, ![256, 2048]⟩
abbrev S2x256x2048 : Shape := ⟨3, ![2, 256, 2048]⟩
abbrev S16x2048 : Shape := ⟨2, ![16, 2048]⟩
abbrev S512x2048 : Shape := ⟨2, ![512, 2048]⟩
abbrev S256x512 : Shape := ⟨2, ![256, 512]⟩
abbrev S256x1 : Shape := ⟨2, ![256, 1]⟩
abbrev S1x512 : Shape := ⟨2, ![1, 512]⟩
abbrev S512 : Shape := ⟨1, ![512]⟩
abbrev S1x256x512 : Shape := ⟨3, ![1, 256, 512]⟩
abbrev S1x512x512 : Shape := ⟨3, ![1, 512, 512]⟩
abbrev S512x512 : Shape := ⟨2, ![512, 512]⟩
abbrev S16x512 : Shape := ⟨2, ![16, 512]⟩
abbrev S272x512 : Shape := ⟨2, ![272, 512]⟩

abbrev nBuf : Space → Nat
  | .hbm => 120
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x512x512, .f32⟩
  | .hbm, ⟨3, _⟩ => ⟨S1x2048, .f32⟩
  | .hbm, ⟨4, _⟩ => ⟨S2048x2048, .f32⟩
  | .hbm, ⟨5, _⟩ => ⟨S4096x2048, .f32⟩
  | .hbm, ⟨6, _⟩ => ⟨S1x4096x2048, .f32⟩
  | .hbm, ⟨7, _⟩ => ⟨S1x4096x4x512, .f32⟩
  | .hbm, ⟨8, _⟩ => ⟨S1x4096x1x512, .f32⟩
  | .hbm, ⟨9, _⟩ => ⟨S1x4096x512, .f32⟩
  | .hbm, ⟨10, _⟩ => ⟨S_, .f32⟩
  | .hbm, ⟨11, _⟩ => ⟨S_, .f32⟩
  | .hbm, ⟨12, _⟩ => ⟨S1x4096x512, .f32⟩
  | .hbm, ⟨13, _⟩ => ⟨S_, .f32⟩
  | .hbm, ⟨14, _⟩ => ⟨S1x2x512, .f32⟩
  | .hbm, ⟨15, _⟩ => ⟨S1x4094x512, .f32⟩
  | .hbm, ⟨16, _⟩ => ⟨S1x4096x512, .f32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .f32⟩
  | .hbm, ⟨25, _⟩ => ⟨S1x4096x512, .f32⟩
  | .hbm, ⟨26, _⟩ => ⟨S1x4096x1, .f32⟩
  | .hbm, ⟨27, _⟩ => ⟨S1x4096x512, .f32⟩
  | .hbm, ⟨28, _⟩ => ⟨S1x4096x512, .f32⟩
  | .hbm, ⟨29, _⟩ => ⟨S1x4096x1x512, .f32⟩
  | .hbm, ⟨30, _⟩ => ⟨S1x4096x512, .f32⟩
  | .hbm, ⟨31, _⟩ => ⟨S1x4096x512, .f32⟩
  | .hbm, ⟨32, _⟩ => ⟨S1x4096x1x512, .f32⟩
  | .hbm, ⟨33, _⟩ => ⟨S1x4096x512, .f32⟩
  | .hbm, ⟨34, _⟩ => ⟨S_, .f32⟩
  | .hbm, ⟨35, _⟩ => ⟨S_, .f32⟩
  | .hbm, ⟨36, _⟩ => ⟨S1x4096x512, .f32⟩
  | .hbm, ⟨37, _⟩ => ⟨S_, .f32⟩
  | .hbm, ⟨38, _⟩ => ⟨S1x4x512, .f32⟩
  | .hbm, ⟨39, _⟩ => ⟨S1x4092x512, .f32⟩
  | .hbm, ⟨40, _⟩ => ⟨S1x4096x512, .f32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S1x4096x512, .f32⟩
  | .hbm, ⟨50, _⟩ => ⟨S1x4096x1, .f32⟩
  | .hbm, ⟨51, _⟩ => ⟨S1x4096x512, .f32⟩
  | .hbm, ⟨52, _⟩ => ⟨S1x4096x512, .f32⟩
  | .hbm, ⟨53, _⟩ => ⟨S1x4096x1x512, .f32⟩
  | .hbm, ⟨54, _⟩ => ⟨S1x4096x512, .f32⟩
  | .hbm, ⟨55, _⟩ => ⟨S1x4096x512, .f32⟩
  | .hbm, ⟨56, _⟩ => ⟨S1x4096x1x512, .f32⟩
  | .hbm, ⟨57, _⟩ => ⟨S1x4096x512, .f32⟩
  | .hbm, ⟨58, _⟩ => ⟨S_, .f32⟩
  | .hbm, ⟨59, _⟩ => ⟨S_, .f32⟩
  | .hbm, ⟨60, _⟩ => ⟨S1x4096x512, .f32⟩
  | .hbm, ⟨61, _⟩ => ⟨S_, .f32⟩
  | .hbm, ⟨62, _⟩ => ⟨S1x8x512, .f32⟩
  | .hbm, ⟨63, _⟩ => ⟨S1x4088x512, .f32⟩
  | .hbm, ⟨64, _⟩ => ⟨S1x4096x512, .f32⟩
  | .hbm, ⟨65, _⟩ => ⟨S4096, .i32⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .f32⟩
  | .hbm, ⟨73, _⟩ => ⟨S1x4096x512, .f32⟩
  | .hbm, ⟨74, _⟩ => ⟨S1x4096x1, .f32⟩
  | .hbm, ⟨75, _⟩ => ⟨S1x4096x512, .f32⟩
  | .hbm, ⟨76, _⟩ => ⟨S1x4096x512, .f32⟩
  | .hbm, ⟨77, _⟩ => ⟨S1x4096x1x512, .f32⟩
  | .hbm, ⟨78, _⟩ => ⟨S1x4096x512, .f32⟩
  | .hbm, ⟨79, _⟩ => ⟨S1x4096x512, .f32⟩
  | .hbm, ⟨80, _⟩ => ⟨S1x4096x1x512, .f32⟩
  | .hbm, ⟨81, _⟩ => ⟨S1x4096x512, .f32⟩
  | .hbm, ⟨82, _⟩ => ⟨S_, .f32⟩
  | .hbm, ⟨83, _⟩ => ⟨S_, .f32⟩
  | .hbm, ⟨84, _⟩ => ⟨S1x4096x512, .f32⟩
  | .hbm, ⟨85, _⟩ => ⟨S_, .f32⟩
  | .hbm, ⟨86, _⟩ => ⟨S1x16x512, .f32⟩
  | .hbm, ⟨87, _⟩ => ⟨S1x4080x512, .f32⟩
  | .hbm, ⟨88, _⟩ => ⟨S1x4096x512, .f32⟩
  | .hbm, ⟨89, _⟩ => ⟨S4096, .i32⟩
  | .hbm, ⟨90, _⟩ => ⟨S_, .i32⟩
  | .hbm, ⟨91, _⟩ => ⟨S4096, .i32⟩
  | .hbm, ⟨92, _⟩ => ⟨S4096, .i32⟩
  | .hbm, ⟨93, _⟩ => ⟨S_, .i32⟩
  | .hbm, ⟨94, _⟩ => ⟨S4096, .i32⟩
  | .hbm, ⟨95, _⟩ => ⟨S4096, .i32⟩
  | .hbm, ⟨96, _⟩ => ⟨S4096, .f32⟩
  | .hbm, ⟨97, _⟩ => ⟨S1x4096x512, .f32⟩
  | .hbm, ⟨98, _⟩ => ⟨S1x4096x1, .f32⟩
  | .hbm, ⟨99, _⟩ => ⟨S1x4096x512, .f32⟩
  | .hbm, ⟨100, _⟩ => ⟨S1x4096x512, .f32⟩
  | .hbm, ⟨101, _⟩ => ⟨S1x4096x1x512, .f32⟩
  | .hbm, ⟨102, _⟩ => ⟨S1x4096x512, .f32⟩
  | .hbm, ⟨103, _⟩ => ⟨S1x4096x512, .f32⟩
  | .hbm, ⟨104, _⟩ => ⟨S1x4096x1x512, .f32⟩
  | .hbm, ⟨105, _⟩ => ⟨S1x4096x1x512, .f32⟩
  | .hbm, ⟨106, _⟩ => ⟨S1x4096x1x512, .f32⟩
  | .hbm, ⟨107, _⟩ => ⟨S1x4096x1x512, .f32⟩
  | .hbm, ⟨108, _⟩ => ⟨S1x4096x4x512, .f32⟩
  | .hbm, ⟨109, _⟩ => ⟨S4x512x1x4096, .f32⟩
  | .hbm, ⟨110, _⟩ => ⟨S1x4096x4x512, .f32⟩
  | .hbm, ⟨111, _⟩ => ⟨S4096x2048, .f32⟩
  | .hbm, ⟨112, _⟩ => ⟨S4096x2048, .f32⟩
  | .hbm, ⟨113, _⟩ => ⟨S4096x2048, .bf16⟩
  | .hbm, ⟨114, _⟩ => ⟨S4096x2048, .bf16⟩
  | .hbm, ⟨115, _⟩ => ⟨S2048x2048, .bf16⟩
  | .hbm, ⟨116, _⟩ => ⟨S4x512x512, .bf16⟩
  | .hbm, ⟨117, _⟩ => ⟨S2x4096x2048, .bf16⟩
  | .hbm, ⟨118, _⟩ => ⟨S4x512x512, .bf16⟩
  | .hbm, ⟨119, _⟩ => ⟨S8x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S4x512x512, .bf16⟩
  | .local _ .vmem, ⟨10, _⟩ => ⟨S1x2048, .f32⟩
  | .local _ .vmem, ⟨11, _⟩ => ⟨S2x256x2048, .bf16⟩
  | .local _ .vmem, ⟨12, _⟩ => ⟨S2x256x2048, .bf16⟩
  | .local _ .vmem, ⟨13, _⟩ => ⟨S4x512x512, .bf16⟩
  | .local _ .vmem, ⟨14, _⟩ => ⟨S8x2048, .f32⟩
  | .local _ .vmem, ⟨15, _⟩ => ⟨S4x512x512, .f32⟩
  | .local _ .vmem, ⟨16, _⟩ => ⟨S16x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_call0_cst : Ref sig .tc := ⟨.hbm, 10, rfl⟩
abbrev main_call0_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_call0_cst : Ref sig .tc := ⟨.hbm, 34, rfl⟩
abbrev main_call1_call0_v0 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call2_call0_cst : Ref sig .tc := ⟨.hbm, 58, rfl⟩
abbrev main_call2_call0_v0 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call3_call0_cst : Ref sig .tc := ⟨.hbm, 82, rfl⟩
abbrev main_call3_call0_v0 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_8 : Ref sig .tc := ⟨.hbm, 90, rfl⟩
abbrev main_v66 : Ref sig .tc := ⟨.hbm, 91, rfl⟩
abbrev main_v67 : Ref sig .tc := ⟨.hbm, 92, rfl⟩
abbrev main_c_9 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91_0 : Ref sig .tc := ⟨.hbm, 117, rfl⟩
abbrev main_v91_1 : Ref sig .tc := ⟨.hbm, 118, rfl⟩
abbrev main_v91_2 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_171 : BitVec 32 := 15#32
  let v295 : BitVec 1 := Scalar.cmpi .eq arg0 c15_i32_171
  let v296 : BitVec 32 := Scalar.extui v295
  let c0_i32_172 : BitVec 32 := 0#32
  let v297 : BitVec 1 := Scalar.cmpi .ne v296 c0_i32_172
  v297

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x2048 : Shape := ⟨2, ![4096, 2048]⟩
abbrev S4x512x512 : Shape := ⟨3, ![4, 512, 512]⟩
abbrev S1x2048 : Shape := ⟨2, ![1, 2048]⟩
abbrev S2048x2048 : Shape := ⟨2, ![2048, 2048]⟩
abbrev S1x4096x2048 : Shape := ⟨3, ![1, 4096, 2048]⟩
abbrev S1x4096x4x512 : Shape := ⟨4, ![1, 4096, 4, 512]⟩
abbrev S1x4096x1x512 : Shape := ⟨4, ![1, 4096, 1, 512]⟩
abbrev S1x4096x512 : Shape := ⟨3, ![1, 4096, 512]⟩
abbrev S_ : Shape := ⟨0, ![]⟩
abbrev S1x2x512 : Shape := ⟨3, ![1, 2, 512]⟩
abbrev S1x4094x512 : Shape := ⟨3, ![1, 4094, 512]⟩
abbrev S4096 : Shape := ⟨1, ![4096]⟩
abbrev S1x4096x1 : Shape := ⟨3, ![1, 4096, 1]⟩
abbrev S1x4x512 : Shape := ⟨3, ![1, 4, 512]⟩
abbrev S1x4092x512 : Shape := ⟨3, ![1, 4092, 512]⟩
abbrev S1x8x512 : Shape := ⟨3, ![1, 8, 512]⟩
abbrev S1x4088x512 : Shape := ⟨3, ![1, 4088, 512]⟩
abbrev S1x16x512 : Shape := ⟨3, ![1, 16, 512]⟩
abbrev S1x4080x512 : Shape := ⟨3, ![1, 4080, 512]⟩
abbrev S4x512x1x4096 : Shape := ⟨4, ![4, 512, 1, 4096]⟩
abbrev S2048 : Shape := ⟨1, ![2048]⟩
abbrev S4x1x4096x512 : Shape := ⟨4, ![4, 1, 4096, 512]⟩
abbrev S7x2048 : Shape := ⟨2, ![7, 2048]⟩
abbrev S8x2048 : Shape := ⟨2, ![8, 2048]⟩
abbrev S2x4096x2048 : Shape := ⟨3, ![2, 4096, 2048]⟩

abbrev nBuf : Space → Nat
  | .hbm => 254
  | .vmem => 0
  | .smem => 0
  | _ => 0

abbrev hbmTy0_0 (i : Nat) : BufTy := match i % 128 with
  | 0 => ⟨S4096x2048, .f32⟩
  | 1 => ⟨S4096x2048, .f32⟩
  | 2 => ⟨S4x512x512, .f32⟩
  | 3 => ⟨S1x2048, .f32⟩
  | 4 => ⟨S2048x2048, .f32⟩
  | 5 => ⟨S4096x2048, .f32⟩
  | 6 => ⟨S1x4096x2048, .f32⟩
  | 7 => ⟨S1x4096x4x512, .f32⟩
  | 8 => ⟨S1x4096x1x512, .f32⟩
  | 9 => ⟨S1x4096x512, .f32⟩
  | 10 => ⟨S_, .f32⟩
  | 11 => ⟨S_, .f32⟩
  | 12 => ⟨S1x4096x512, .f32⟩
  | 13 => ⟨S_, .f32⟩
  | 14 => ⟨S1x2x512, .f32⟩
  | 15 => ⟨S1x4094x512, .f32⟩
  | 16 => ⟨S1x4096x512, .f32⟩
  | 17 => ⟨S_, .f32⟩
  | 18 => ⟨S1x2x512, .f32⟩
  | 19 => ⟨S4096, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .f32⟩
  | 27 => ⟨S1x4096x512, .f32⟩
  | 28 => ⟨S1x4096x1, .f32⟩
  | 29 => ⟨S1x4096x512, .f32⟩
  | 30 => ⟨S1x4096x512, .f32⟩
  | 31 => ⟨S1x4096x1x512, .f32⟩
  | 32 => ⟨S1x4096x512, .f32⟩
  | 33 => ⟨S1x4096x512, .f32⟩
  | 34 => ⟨S1x4096x1x512, .f32⟩
  | 35 => ⟨S1x4096x512, .f32⟩
  | 36 => ⟨S_, .f32⟩
  | 37 => ⟨S_, .f32⟩
  | 38 => ⟨S1x4096x512, .f32⟩
  | 39 => ⟨S_, .f32⟩
  | 40 => ⟨S1x4x512, .f32⟩
  | 41 => ⟨S1x4092x512, .f32⟩
  | 42 => ⟨S1x4096x512, .f32⟩
  | 43 => ⟨S_, .f32⟩
  | 44 => ⟨S1x4x512, .f32⟩
  | 45 => ⟨S4096, .i32⟩
  | 46 => ⟨S_, .i32⟩
  | 47 => ⟨S4096, .i32⟩
  | 48 => ⟨S4096, .i32⟩
  | 49 => ⟨S_, .i32⟩
  | 50 => ⟨S4096, .i32⟩
  | 51 => ⟨S4096, .i32⟩
  | 52 => ⟨S4096, .f32⟩
  | 53 => ⟨S1x4096x512, .f32⟩
  | 54 => ⟨S1x4096x1, .f32⟩
  | 55 => ⟨S1x4096x512, .f32⟩
  | 56 => ⟨S1x4096x512, .f32⟩
  | 57 => ⟨S1x4096x1x512, .f32⟩
  | 58 => ⟨S1x4096x512, .f32⟩
  | 59 => ⟨S1x4096x512, .f32⟩
  | 60 => ⟨S1x4096x1x512, .f32⟩
  | 61 => ⟨S1x4096x512, .f32⟩
  | 62 => ⟨S_, .f32⟩
  | 63 => ⟨S_, .f32⟩
  | 64 => ⟨S1x4096x512, .f32⟩
  | 65 => ⟨S_, .f32⟩
  | 66 => ⟨S1x8x512, .f32⟩
  | 67 => ⟨S1x4088x512, .f32⟩
  | 68 => ⟨S1x4096x512, .f32⟩
  | 69 => ⟨S_, .f32⟩
  | 70 => ⟨S1x8x512, .f32⟩
  | 71 => ⟨S4096, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S4096, .f32⟩
  | 79 => ⟨S1x4096x512, .f32⟩
  | 80 => ⟨S1x4096x1, .f32⟩
  | 81 => ⟨S1x4096x512, .f32⟩
  | 82 => ⟨S1x4096x512, .f32⟩
  | 83 => ⟨S1x4096x1x512, .f32⟩
  | 84 => ⟨S1x4096x512, .f32⟩
  | 85 => ⟨S1x4096x512, .f32⟩
  | 86 => ⟨S1x4096x1x512, .f32⟩
  | 87 => ⟨S1x4096x512, .f32⟩
  | 88 => ⟨S_, .f32⟩
  | 89 => ⟨S_, .f32⟩
  | 90 => ⟨S1x4096x512, .f32⟩
  | 91 => ⟨S_, .f32⟩
  | 92 => ⟨S1x16x512, .f32⟩
  | 93 => ⟨S1x4080x512, .f32⟩
  | 94 => ⟨S1x4096x512, .f32⟩
  | 95 => ⟨S_, .f32⟩
  | 96 => ⟨S1x16x512, .f32⟩
  | 97 => ⟨S4096, .i32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S4096, .f32⟩
  | 105 => ⟨S1x4096x512, .f32⟩
  | 106 => ⟨S1x4096x1, .f32⟩
  | 107 => ⟨S1x4096x512, .f32⟩
  | 108 => ⟨S1x4096x512, .f32⟩
  | 109 => ⟨S1x4096x1x512, .f32⟩
  | 110 => ⟨S1x4096x512, .f32⟩
  | 111 => ⟨S1x4096x512, .f32⟩
  | 112 => ⟨S1x4096x1x512, .f32⟩
  | 113 => ⟨S1x4096x1x512, .f32⟩
  | 114 => ⟨S1x4096x1x512, .f32⟩
  | 115 => ⟨S1x4096x1x512, .f32⟩
  | 116 => ⟨S1x4096x4x512, .f32⟩
  | 117 => ⟨S4x512x1x4096, .f32⟩
  | 118 => ⟨S1x4096x4x512, .f32⟩
  | 119 => ⟨S4096x2048, .f32⟩
  | 120 => ⟨S4096x2048, .f32⟩
  | 121 => ⟨S4096x2048, .f32⟩
  | 122 => ⟨S4096x2048, .f32⟩
  | 123 => ⟨S4096x2048, .f32⟩
  | 124 => ⟨S_, .f32⟩
  | 125 => ⟨S4096x2048, .f32⟩
  | 126 => ⟨S4096x2048, .f32⟩
  | 127 => ⟨S_, .f32⟩
  | _ => ⟨S4096x2048, .f32⟩

abbrev hbmTy0_1 (i : Nat) : BufTy := match i % 128 with
  | 0 => ⟨S4096x2048, .f32⟩
  | 1 => ⟨S4096x2048, .f32⟩
  | 2 => ⟨S_, .f32⟩
  | 3 => ⟨S4096x2048, .f32⟩
  | 4 => ⟨S4096x2048, .f32⟩
  | 5 => ⟨S4096x2048, .f32⟩
  | 6 => ⟨S4096x2048, .f32⟩
  | 7 => ⟨S4096x2048, .f32⟩
  | 8 => ⟨S4096x2048, .f32⟩
  | 9 => ⟨S4096x2048, .f32⟩
  | 10 => ⟨S4096x2048, .f32⟩
  | 11 => ⟨S4096x2048, .f32⟩
  | 12 => ⟨S4096x2048, .f32⟩
  | 13 => ⟨S4096x2048, .f32⟩
  | 14 => ⟨S4096x2048, .f32⟩
  | 15 => ⟨S4096x2048, .f32⟩
  | 16 => ⟨S4096x2048, .f32⟩
  | 17 => ⟨S_, .f32⟩
  | 18 => ⟨S2048, .f32⟩
  | 19 => ⟨S1x2048, .f32⟩
  | 20 => ⟨S4096x2048, .f32⟩
  | 21 => ⟨S4096x2048, .f32⟩
  | 22 => ⟨S1x4096x4x512, .f32⟩
  | 23 => ⟨S4x512x1x4096, .f32⟩
  | 24 => ⟨S4x1x4096x512, .f32⟩
  | 25 => ⟨S1x4096x4x512, .f32⟩
  | 26 => ⟨S4x512x512, .f32⟩
  | 27 => ⟨S4x512x512, .f32⟩
  | 28 => ⟨S1x4096x1x512, .f32⟩
  | 29 => ⟨S1x4096x512, .f32⟩
  | 30 => ⟨S1x4096x1x512, .f32⟩
  | 31 => ⟨S1x4096x512, .f32⟩
  | 32 => ⟨S1x4096x1x512, .f32⟩
  | 33 => ⟨S1x4096x512, .f32⟩
  | 34 => ⟨S1x4096x1x512, .f32⟩
  | 35 => ⟨S1x4096x512, .f32⟩
  | 36 => ⟨S1x4096x512, .f32⟩
  | 37 => ⟨S1x4096x1x512, .f32⟩
  | 38 => ⟨S_, .f32⟩
  | 39 => ⟨S1x4096x4x512, .f32⟩
  | 40 => ⟨S1x4096x512, .f32⟩
  | 41 => ⟨S1x4096x512, .f32⟩
  | 42 => ⟨S1x4096x512, .f32⟩
  | 43 => ⟨S1x16x512, .f32⟩
  | 44 => ⟨S1x4080x512, .f32⟩
  | 45 => ⟨S_, .f32⟩
  | 46 => ⟨S1x4096x512, .f32⟩
  | 47 => ⟨S1x4096x512, .f32⟩
  | 48 => ⟨S_, .f32⟩
  | 49 => ⟨S_, .f32⟩
  | 50 => ⟨S1x4096x512, .f32⟩
  | 51 => ⟨S1x4096x1x512, .f32⟩
  | 52 => ⟨S_, .f32⟩
  | 53 => ⟨S1x4096x4x512, .f32⟩
  | 54 => ⟨S1x4096x4x512, .f32⟩
  | 55 => ⟨S1x4096x512, .f32⟩
  | 56 => ⟨S1x4096x1x512, .f32⟩
  | 57 => ⟨S_, .f32⟩
  | 58 => ⟨S1x4096x4x512, .f32⟩
  | 59 => ⟨S1x4096x4x512, .f32⟩
  | 60 => ⟨S1x4096x512, .f32⟩
  | 61 => ⟨S1x4096x512, .f32⟩
  | 62 => ⟨S1x4096x512, .f32⟩
  | 63 => ⟨S1x8x512, .f32⟩
  | 64 => ⟨S1x4088x512, .f32⟩
  | 65 => ⟨S_, .f32⟩
  | 66 => ⟨S1x4096x512, .f32⟩
  | 67 => ⟨S1x4096x512, .f32⟩
  | 68 => ⟨S_, .f32⟩
  | 69 => ⟨S_, .f32⟩
  | 70 => ⟨S1x4096x512, .f32⟩
  | 71 => ⟨S1x4096x1x512, .f32⟩
  | 72 => ⟨S_, .f32⟩
  | 73 => ⟨S1x4096x4x512, .f32⟩
  | 74 => ⟨S1x4096x4x512, .f32⟩
  | 75 => ⟨S1x4096x512, .f32⟩
  | 76 => ⟨S1x4096x1x512, .f32⟩
  | 77 => ⟨S_, .f32⟩
  | 78 => ⟨S1x4096x4x512, .f32⟩
  | 79 => ⟨S1x4096x4x512, .f32⟩
  | 80 => ⟨S1x4096x512, .f32⟩
  | 81 => ⟨S1x4096x512, .f32⟩
  | 82 => ⟨S1x4096x512, .f32⟩
  | 83 => ⟨S1x4x512, .f32⟩
  | 84 => ⟨S1x4092x512, .f32⟩
  | 85 => ⟨S_, .f32⟩
  | 86 => ⟨S1x4096x512, .f32⟩
  | 87 => ⟨S1x4096x512, .f32⟩
  | 88 => ⟨S_, .f32⟩
  | 89 => ⟨S_, .f32⟩
  | 90 => ⟨S1x4096x512, .f32⟩
  | 91 => ⟨S1x4096x1x512, .f32⟩
  | 92 => ⟨S_, .f32⟩
  | 93 => ⟨S1x4096x4x512, .f32⟩
  | 94 => ⟨S1x4096x4x512, .f32⟩
  | 95 => ⟨S1x4096x512, .f32⟩
  | 96 => ⟨S1x4096x1x512, .f32⟩
  | 97 => ⟨S_, .f32⟩
  | 98 => ⟨S1x4096x4x512, .f32⟩
  | 99 => ⟨S1x4096x4x512, .f32⟩
  | 100 => ⟨S1x4096x512, .f32⟩
  | 101 => ⟨S1x4096x512, .f32⟩
  | 102 => ⟨S1x4096x512, .f32⟩
  | 103 => ⟨S1x2x512, .f32⟩
  | 104 => ⟨S1x4094x512, .f32⟩
  | 105 => ⟨S_, .f32⟩
  | 106 => ⟨S1x4096x512, .f32⟩
  | 107 => ⟨S1x4096x512, .f32⟩
  | 108 => ⟨S_, .f32⟩
  | 109 => ⟨S_, .f32⟩
  | 110 => ⟨S1x4096x512, .f32⟩
  | 111 => ⟨S1x4096x1x512, .f32⟩
  | 112 => ⟨S_, .f32⟩
  | 113 => ⟨S1x4096x4x512, .f32⟩
  | 114 => ⟨S1x4096x4x512, .f32⟩
  | 115 => ⟨S1x4096x2048, .f32⟩
  | 116 => ⟨S_, .f32⟩
  | 117 => ⟨S4096x2048, .f32⟩
  | 118 => ⟨S_, .f32⟩
  | 119 => ⟨S7x2048, .f32⟩
  | 120 => ⟨S8x2048, .f32⟩
  | 121 => ⟨S1x4096x2048, .f32⟩
  | 122 => ⟨S1x4096x2048, .f32⟩
  | 123 => ⟨S2x4096x2048, .f32⟩
  | 124 => ⟨S2x4096x2048, .bf16⟩
  | 125 => ⟨S4x512x512, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_call0_cst : Ref sig .tc := ⟨.hbm, 10, rfl⟩
abbrev main_call0_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_call0_cst : Ref sig .tc := ⟨.hbm, 36, rfl⟩
abbrev main_call1_call0_v0 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call2_call0_cst : Ref sig .tc := ⟨.hbm, 62, rfl⟩
abbrev main_call2_call0_v0 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call3_call0_cst : Ref sig .tc := ⟨.hbm, 88, rfl⟩
abbrev main_call3_call0_v0 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_c_12 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call4_v0 : Ref sig .tc := ⟨.hbm, 122, rfl⟩
abbrev main_call4_v1 : Ref sig .tc := ⟨.hbm, 123, rfl⟩
abbrev main_call4_cst : Ref sig .tc := ⟨.hbm, 124, rfl⟩
abbrev main_call4_v2 : Ref sig .tc := ⟨.hbm, 125, rfl⟩
abbrev main_call4_v3 : Ref sig .tc := ⟨.hbm, 126, rfl⟩
abbrev main_call4_cst_0 : Ref sig .tc := ⟨.hbm, 127, rfl⟩
abbrev main_call4_v4 : Ref sig .tc := ⟨.hbm, 128, rfl⟩
abbrev main_v92_2 : Ref sig .tc := ⟨.hbm, 129, rfl⟩
abbrev main_call4_cst_1 : Ref sig .tc := ⟨.hbm, 130, rfl⟩
abbrev main_call4_v6 : Ref sig .tc := ⟨.hbm, 131, rfl⟩
abbrev main_call4_v7 : Ref sig .tc := ⟨.hbm, 132, rfl⟩
abbrev main_v92_1 : Ref sig .tc := ⟨.hbm, 133, rfl⟩
abbrev main_v92_0 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v98 : Ref sig .tc := ⟨.hbm, 143, rfl⟩
abbrev main_v99 : Ref sig .tc := ⟨.hbm, 144, rfl⟩
abbrev main_cst_14 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_15 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_16 : Ref sig .tc := ⟨.hbm, 173, rfl⟩
abbrev main_v126 : Ref sig .tc := ⟨.hbm, 174, rfl⟩
abbrev main_v127 : Ref sig .tc := ⟨.hbm, 175, rfl⟩
abbrev main_call6_call0_cst : Ref sig .tc := ⟨.hbm, 176, rfl⟩
abbrev main_call6_call0_v0 : Ref sig .tc := ⟨.hbm, 177, rfl⟩
abbrev main_v128 : Ref sig .tc := ⟨.hbm, 178, rfl⟩
abbrev main_v129 : Ref sig .tc := ⟨.hbm, 179, rfl⟩
abbrev main_cst_17 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_18 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_19 : Ref sig .tc := ⟨.hbm, 193, rfl⟩
abbrev main_v141 : Ref sig .tc := ⟨.hbm, 194, rfl⟩
abbrev main_v142 : Ref sig .tc := ⟨.hbm, 195, rfl⟩
abbrev main_call7_call0_cst : Ref sig .tc := ⟨.hbm, 196, rfl⟩
abbrev main_call7_call0_v0 : Ref sig .tc := ⟨.hbm, 197, rfl⟩
abbrev main_v143 : Ref sig .tc := ⟨.hbm, 198, rfl⟩
abbrev main_v144 : Ref sig .tc := ⟨.hbm, 199, rfl⟩
abbrev main_cst_20 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_21 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_22 : Ref sig .tc := ⟨.hbm, 213, rfl⟩
abbrev main_v156 : Ref sig .tc := ⟨.hbm, 214, rfl⟩
abbrev main_v157 : Ref sig .tc := ⟨.hbm, 215, rfl⟩
abbrev main_call8_call0_cst : Ref sig .tc := ⟨.hbm, 216, rfl⟩
abbrev main_call8_call0_v0 : Ref sig .tc := ⟨.hbm, 217, rfl⟩
abbrev main_v158 : Ref sig .tc := ⟨.hbm, 218, rfl⟩
abbrev main_v159 : Ref sig .tc := ⟨.hbm, 219, rfl⟩
abbrev main_cst_23 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_24 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_25 : Ref sig .tc := ⟨.hbm, 233, rfl⟩
abbrev main_v171 : Ref sig .tc := ⟨.hbm, 234, rfl⟩
abbrev main_v172 : Ref sig .tc := ⟨.hbm, 235, rfl⟩
abbrev main_call9_call0_cst : Ref sig .tc := ⟨.hbm, 236, rfl⟩
abbrev main_call9_call0_v0 : Ref sig .tc := ⟨.hbm, 237, rfl⟩
abbrev main_v173 : Ref sig .tc := ⟨.hbm, 238, rfl⟩
abbrev main_v174 : Ref sig .tc := ⟨.hbm, 239, rfl⟩
abbrev main_cst_26 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_27 : Ref sig .tc := ⟨.hbm, 244, rfl⟩
abbrev main_v178 : Ref sig .tc := ⟨.hbm, 245, rfl⟩
abbrev main_cst_28 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩

abbrev nD : Nat := 1
abbrev τ : Topo := Topo.v7x

variable {F : FTy → Type} [FloatOps F]
-- ==== Kernel2.lean ====
abbrev S4096x2048 : Shape := ⟨2, ![4096, 2048]⟩
abbrev S1x2048 : Shape := ⟨2, ![1, 2048]⟩
abbrev S2048x4096 : Shape := ⟨2, ![2048, 4096]⟩
abbrev S2048x256 : Shape := ⟨2, ![2048, 256]⟩
abbrev S2x4096x2048 : Shape := ⟨3, ![2, 4096, 2048]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S2048x512 : Shape := ⟨2, ![2048, 512]⟩
abbrev S8x2048 : Shape := ⟨2, ![8, 2048]⟩
abbrev S2x256x2048 : Shape := ⟨3, ![2, 256, 2048]⟩
abbrev S256x512 : Shape := ⟨2, ![256, 512]⟩
abbrev S256x2048 : Shape := ⟨2, ![256, 2048]⟩
abbrev S256x1 : Shape := ⟨2, ![256, 1]⟩
abbrev S1x256x2048 : Shape := ⟨3, ![1, 256, 2048]⟩
abbrev S2048x2048 : Shape := ⟨2, ![2048, 2048]⟩
abbrev S256 : Shape := ⟨1, ![256]⟩
abbrev S2048 : Shape := ⟨1, ![2048]⟩

abbrev nBuf : Space → Nat
  | .hbm => 39
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S2048x256, .f32⟩
  | .hbm, ⟨4, _⟩ => ⟨S2048x256, .f32⟩
  | .hbm, ⟨5, _⟩ => ⟨S2x4096x2048, .f32⟩
  | .hbm, ⟨6, _⟩ => ⟨S4096x512, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S2048x512, .f32⟩
  | .hbm, ⟨32, _⟩ => ⟨S2048x512, .bf16⟩
  | .hbm, ⟨33, _⟩ => ⟨S2x4096x2048, .bf16⟩
  | .hbm, ⟨34, _⟩ => ⟨S2048x4096, .bf16⟩
  | .hbm, ⟨35, _⟩ => ⟨S4096x512, .bf16⟩
  | .hbm, ⟨36, _⟩ => ⟨S4096x2048, .f32⟩
  | .hbm, ⟨37, _⟩ => ⟨S4096x2048, .bf16⟩
  | .hbm, ⟨38, _⟩ => ⟨S8x2048, .f32⟩
  | .local _ .vmem, ⟨0, _⟩ => ⟨S2x256x2048, .bf16⟩
  | .local _ .vmem, ⟨1, _⟩ => ⟨S2x256x2048, .bf16⟩
  | .local _ .vmem, ⟨2, _⟩ => ⟨S2048x4096, .bf16⟩
  | .local _ .vmem, ⟨3, _⟩ => ⟨S256x512, .bf16⟩
  | .local _ .vmem, ⟨4, _⟩ => ⟨S256x512, .bf16⟩
  | .local _ .vmem, ⟨5, _⟩ => ⟨S2048x512, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x1, .f32⟩
  | .local _ .vmem, ⟨11, _⟩ => ⟨S256x1, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x2048 : Shape := ⟨2, ![4096, 2048]⟩
abbrev S1x2048 : Shape := ⟨2, ![1, 2048]⟩
abbrev S2048x4096 : Shape := ⟨2, ![2048, 4096]⟩
abbrev S2048x256 : Shape := ⟨2, ![2048, 256]⟩
abbrev S2x4096x2048 : Shape := ⟨3, ![2, 4096, 2048]⟩
abbrev S4096x512 : Shape := ⟨2, ![4096, 512]⟩
abbrev S1x4096x2048 : Shape := ⟨3, ![1, 4096, 2048]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S2048 : Shape := ⟨1, ![2048]⟩
abbrev S6x2048 : Shape := ⟨2, ![6, 2048]⟩
abbrev S8x2048 : Shape := ⟨2, ![8, 2048]⟩

abbrev nBuf : Space → Nat
  | .hbm => 110
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S2048x256, .f32⟩
  | .hbm, ⟨4, _⟩ => ⟨S2048x256, .f32⟩
  | .hbm, ⟨5, _⟩ => ⟨S2x4096x2048, .f32⟩
  | .hbm, ⟨6, _⟩ => ⟨S4096x512, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S1x4096x2048, .f32⟩
  | .hbm, ⟨11, _⟩ => ⟨S4096x2048, .f32⟩
  | .hbm, ⟨12, _⟩ => ⟨S4096x4096, .f32⟩
  | .hbm, ⟨13, _⟩ => ⟨S_, .f32⟩
  | .hbm, ⟨14, _⟩ => ⟨S1x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x4096, .f32⟩
  | .hbm, ⟨50, _⟩ => ⟨S4096x256, .f32⟩
  | .hbm, ⟨51, _⟩ => ⟨S4096x256, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x256, .f32⟩
  | .hbm, ⟨56, _⟩ => ⟨S4096x256, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x2048, .f32⟩
  | .hbm, ⟨80, _⟩ => ⟨S4096x2048, .f32⟩
  | .hbm, ⟨81, _⟩ => ⟨S4096x1, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x2048, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x2048, .f32⟩
  | .hbm, ⟨105, _⟩ => ⟨S4096x2048, .f32⟩
  | .hbm, ⟨106, _⟩ => ⟨S_, .f32⟩
  | .hbm, ⟨107, _⟩ => ⟨S6x2048, .f32⟩
  | .hbm, ⟨108, _⟩ => ⟨S8x2048, .f32⟩
  | .hbm, ⟨109, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_18 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Kernel3.lean ====
abbrev S2048x4096 : Shape := ⟨2, ![2048, 4096]⟩
abbrev S2x4096x2048 : Shape := ⟨3, ![2, 4096, 2048]⟩
abbrev S4096x2048 : Shape := ⟨2, ![4096, 2048]⟩
abbrev S2x1024x2048 : Shape := ⟨3, ![2, 1024, 2048]⟩
abbrev S512x4096 : Shape := ⟨2, ![512, 4096]⟩
abbrev S1024x512 : Shape := ⟨2, ![1024, 512]⟩
abbrev S1x1024x2048 : Shape := ⟨3, ![1, 1024, 2048]⟩
abbrev S1024x2048 : Shape := ⟨2, ![1024, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S2x4096x2048, .f32⟩
  | .hbm, ⟨2, _⟩ => ⟨S4096x2048, .f32⟩
  | .hbm, ⟨3, _⟩ => ⟨S2x4096x2048, .bf16⟩
  | .hbm, ⟨4, _⟩ => ⟨S2048x4096, .bf16⟩
  | .hbm, ⟨5, _⟩ => ⟨S4096x2048, .f32⟩
  | .local _ .vmem, ⟨0, _⟩ => ⟨S2x1024x2048, .bf16⟩
  | .local _ .vmem, ⟨1, _⟩ => ⟨S2x1024x2048, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2048x4096 : Shape := ⟨2, ![2048, 4096]⟩
abbrev S2x4096x2048 : Shape := ⟨3, ![2, 4096, 2048]⟩
abbrev S4096x2048 : Shape := ⟨2, ![4096, 2048]⟩
abbrev S1x4096x2048 : Shape := ⟨3, ![1, 4096, 2048]⟩
abbrev S4096x4096 : Shape := ⟨2, ![4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2x4096x2048, .f32⟩
  | .hbm, ⟨2, _⟩ => ⟨S4096x2048, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S4096x2048, .f32⟩
  | .hbm, ⟨7, _⟩ => ⟨S4096x4096, .f32⟩
  | .hbm, ⟨8, _⟩ => ⟨S_, .f32⟩
  | .hbm, ⟨9, _⟩ => ⟨S4096x2048, .f32⟩
  | .hbm, ⟨10, _⟩ => ⟨S4096x4096, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel4.lean ====
abbrev S4096x2048 : Shape := ⟨2, ![4096, 2048]⟩
abbrev S2x4096x2048 : Shape := ⟨3, ![2, 4096, 2048]⟩
abbrev S2048x4096 : Shape := ⟨2, ![2048, 4096]⟩
abbrev S4096x1024 : Shape := ⟨2, ![4096, 1024]⟩
abbrev S1x4096x1024 : Shape := ⟨3, ![1, 4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2x4096x2048, .f32⟩
  | .hbm, ⟨2, _⟩ => ⟨S4096x2048, .bf16⟩
  | .hbm, ⟨3, _⟩ => ⟨S2x4096x2048, .bf16⟩
  | .hbm, ⟨4, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2048 : Shape := ⟨2, ![4096, 2048]⟩
abbrev S2x4096x2048 : Shape := ⟨3, ![2, 4096, 2048]⟩
abbrev S1x4096x2048 : Shape := ⟨3, ![1, 4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x4096x2048, .f32⟩
  | .hbm, ⟨2, _⟩ => ⟨S1x4096x2048, .f32⟩
  | .hbm, ⟨3, _⟩ => ⟨S4096x2048, .f32⟩
  | .hbm, ⟨4, _⟩ => ⟨S1x4096x2048, .f32⟩
  | .hbm, ⟨5, _⟩ => ⟨S4096x2048, .f32⟩
  | .hbm, ⟨6, _⟩ => ⟨S4096x4096, .f32⟩
  | .hbm, ⟨7, _⟩ => ⟨S_, .f32⟩
  | .hbm, ⟨8, _⟩ => ⟨S2048x4096, .f32⟩
  | .hbm, ⟨9, _⟩ => ⟨S4096x4096, .f32⟩
  | .hbm, ⟨10, _⟩ => ⟨S4096x2048, .f32⟩
  | .hbm, ⟨11, _⟩ => ⟨S2048x4096, .f32⟩
  | .hbm, ⟨12, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4096x2048 : Shape := ⟨2, ![4096, 2048]⟩
abbrev S2x4096x2048 : Shape := ⟨3, ![2, 4096, 2048]⟩
abbrev S1024x4096 : Shape := ⟨2, ![1024, 4096]⟩
abbrev S4096x1024 : Shape := ⟨2, ![4096, 1024]⟩
abbrev S1x4096x1024 : Shape := ⟨3, ![1, 4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2x4096x2048, .f32⟩
  | .hbm, ⟨2, _⟩ => ⟨S4096x2048, .f32⟩
  | .hbm, ⟨3, _⟩ => ⟨S4096x2048, .bf16⟩
  | .hbm, ⟨4, _⟩ => ⟨S2x4096x2048, .bf16⟩
  | .hbm, ⟨5, _⟩ => ⟨S1024x4096, .bf16⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2048 : Shape := ⟨2, ![4096, 2048]⟩
abbrev S2x4096x2048 : Shape := ⟨3, ![2, 4096, 2048]⟩
abbrev S1x4096x2048 : Shape := ⟨3, ![1, 4096, 2048]⟩
abbrev S4096x4096 : Shape := ⟨2, ![4096, 4096]⟩
abbrev S_ : Shape := ⟨0, ![]⟩
abbrev S2048x4096 : Shape := ⟨2, ![2048, 4096]⟩
abbrev S1024x4096 : Shape := ⟨2, ![1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x4096x2048, .f32⟩
  | .hbm, ⟨2, _⟩ => ⟨S4096x2048, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S4096x2048, .f32⟩
  | .hbm, ⟨7, _⟩ => ⟨S4096x4096, .f32⟩
  | .hbm, ⟨8, _⟩ => ⟨S_, .f32⟩
  | .hbm, ⟨9, _⟩ => ⟨S2048x4096, .f32⟩
  | .hbm, ⟨10, _⟩ => ⟨S4096x4096, .f32⟩
  | .hbm, ⟨11, _⟩ => ⟨S4096x2048, .f32⟩
  | .hbm, ⟨12, _⟩ => ⟨S2048x4096, .f32⟩
  | .hbm, ⟨13, _⟩ => ⟨S2048x4096, .bf16⟩
  | .hbm, ⟨14, _⟩ => ⟨S1024x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S4096x2048 : Shape := ⟨2, ![4096, 2048]⟩
abbrev S2x4096x2048 : Shape := ⟨3, ![2, 4096, 2048]⟩
abbrev S1024x4096 : Shape := ⟨2, ![1024, 4096]⟩
abbrev S4096x1024 : Shape := ⟨2, ![4096, 1024]⟩
abbrev S1x4096x1024 : Shape := ⟨3, ![1, 4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2x4096x2048, .f32⟩
  | .hbm, ⟨2, _⟩ => ⟨S4096x2048, .f32⟩
  | .hbm, ⟨3, _⟩ => ⟨S4096x2048, .bf16⟩
  | .hbm, ⟨4, _⟩ => ⟨S2x4096x2048, .bf16⟩
  | .hbm, ⟨5, _⟩ => ⟨S1024x4096, .bf16⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S2x4096x2048 : Shape := ⟨3, ![2, 4096, 2048]⟩
abbrev S1x4096x2048 : Shape := ⟨3, ![1, 4096, 2048]⟩
abbrev S4096x4096 : Shape := ⟨2, ![4096, 4096]⟩
abbrev S_ : Shape := ⟨0, ![]⟩
abbrev S2048x4096 : Shape := ⟨2, ![2048, 4096]⟩
abbrev S1024x4096 : Shape := ⟨2, ![1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x4096x2048, .f32⟩
  | .hbm, ⟨2, _⟩ => ⟨S4096x2048, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S4096x2048, .f32⟩
  | .hbm, ⟨7, _⟩ => ⟨S4096x4096, .f32⟩
  | .hbm, ⟨8, _⟩ => ⟨S_, .f32⟩
  | .hbm, ⟨9, _⟩ => ⟨S2048x4096, .f32⟩
  | .hbm, ⟨10, _⟩ => ⟨S4096x4096, .f32⟩
  | .hbm, ⟨11, _⟩ => ⟨S4096x2048, .f32⟩
  | .hbm, ⟨12, _⟩ => ⟨S2048x4096, .f32⟩
  | .hbm, ⟨13, _⟩ => ⟨S2048x4096, .bf16⟩
  | .hbm, ⟨14, _⟩ => ⟨S1024x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x2048 : Shape := ⟨2, ![4096, 2048]⟩
abbrev S4096x512 : Shape := ⟨2, ![4096, 512]⟩
abbrev S2048x512 : Shape := ⟨2, ![2048, 512]⟩
abbrev S4096x1024 : Shape := ⟨2, ![4096, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x2048, .bf16⟩
  | .hbm, ⟨3, _⟩ => ⟨S4096x512, .bf16⟩
  | .hbm, ⟨4, _⟩ => ⟨S2048x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x2048 : Shape := ⟨2, ![4096, 2048]⟩
abbrev S4096x512 : Shape := ⟨2, ![4096, 512]⟩
abbrev S_ : Shape := ⟨0, ![]⟩
abbrev S2048x256 : Shape := ⟨2, ![2048, 256]⟩
abbrev S4096x256 : Shape := ⟨2, ![4096, 256]⟩
abbrev S256x2048 : Shape := ⟨2, ![256, 2048]⟩
abbrev S2048x512 : Shape := ⟨2, ![2048, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S_, .f32⟩
  | .hbm, ⟨3, _⟩ => ⟨S2048x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S256x2048, .f32⟩
  | .hbm, ⟨9, _⟩ => ⟨S2048x256, .f32⟩
  | .hbm, ⟨10, _⟩ => ⟨S256x2048, .f32⟩
  | .hbm, ⟨11, _⟩ => ⟨S2048x256, .f32⟩
  | .hbm, ⟨12, _⟩ => ⟨S2048x512, .f32⟩
  | .hbm, ⟨13, _⟩ => ⟨S2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel11.lean ====
abbrev S4096x2048 : Shape := ⟨2, ![4096, 2048]⟩
abbrev S2048x4096 : Shape := ⟨2, ![2048, 4096]⟩
abbrev S2048x2048 : Shape := ⟨2, ![2048, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x2048, .bf16⟩
  | .hbm, ⟨3, _⟩ => ⟨S2048x4096, .bf16⟩
  | .hbm, ⟨4, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S2048x2048, .bf16⟩
  | .hbm, ⟨7, _⟩ => ⟨S4096x2048, .f32⟩
  | .hbm, ⟨8, _⟩ => ⟨S4096x1, .f32⟩
  | .hbm, ⟨9, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x1, .f32⟩
  | .local _ .vmem, ⟨10, _⟩ => ⟨S512x1, .f32⟩
  | .local _ .vmem, ⟨11, _⟩ => ⟨S512x2048, .bf16⟩
  | .local _ .vmem, ⟨12, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1x2048 : Shape := ⟨2, ![1, 2048]⟩
abbrev S8x2048 : Shape := ⟨2, ![8, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 13
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S2048x2048, .bf16⟩
  | .hbm, ⟨10, _⟩ => ⟨S4096x2048, .f32⟩
  | .hbm, ⟨11, _⟩ => ⟨S4096x2048, .bf16⟩
  | .hbm, ⟨12, _⟩ => ⟨S8x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference13Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 150
  | .vmem => 0
  | .smem => 0
  | _ => 0

abbrev hbmTy0_0 (i : Nat) : BufTy := match i % 128 with
  | 0 => ⟨S4096x2048, .f32⟩
  | 1 => ⟨S2048x2048, .f32⟩
  | 2 => ⟨S4096x2048, .f32⟩
  | 3 => ⟨S1x2048, .f32⟩
  | 4 => ⟨S1x2048, .f32⟩
  | 5 => ⟨S1x2048, .f32⟩
  | 6 => ⟨S1x2048, .f32⟩
  | 7 => ⟨S4096x2048, .f32⟩
  | 8 => ⟨S4096x2048, .f32⟩
  | 9 => ⟨S4096x2048, .f32⟩
  | 10 => ⟨S4096x2048, .f32⟩
  | 11 => ⟨S4096x2048, .f32⟩
  | 12 => ⟨S_, .f32⟩
  | 13 => ⟨S4096x2048, .f32⟩
  | 14 => ⟨S4096x2048, .f32⟩
  | 15 => ⟨S4096x2048, .f32⟩
  | 16 => ⟨S4096x2048, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x2048, .f32⟩
  | 24 => ⟨S4096x2048, .f32⟩
  | 25 => ⟨S4096x2048, .f32⟩
  | 26 => ⟨S_, .f32⟩
  | 27 => ⟨S4096x2048, .f32⟩
  | 28 => ⟨S4096x2048, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S4096x2048, .f32⟩
  | 36 => ⟨S4096x2048, .f32⟩
  | 37 => ⟨S_, .f32⟩
  | 38 => ⟨S4096x1, .f32⟩
  | 39 => ⟨S4096x1, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x2048, .f32⟩
  | 46 => ⟨S4096x2048, .f32⟩
  | 47 => ⟨S4096x2048, .f32⟩
  | 48 => ⟨S4096x2048, .f32⟩
  | 49 => ⟨S4096x2048, .f32⟩
  | 50 => ⟨S4096x2048, .f32⟩
  | 51 => ⟨S4096x2048, .f32⟩
  | 52 => ⟨S4096x2048, .f32⟩
  | 53 => ⟨S_, .f32⟩
  | 54 => ⟨S4096x2048, .f32⟩
  | 55 => ⟨S4096x2048, .f32⟩
  | 56 => ⟨S_, .f32⟩
  | 57 => ⟨S4096, .f32⟩
  | 58 => ⟨S_, .f32⟩
  | 59 => ⟨S4096, .f32⟩
  | 60 => ⟨S4096, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S4096, .f32⟩
  | 69 => ⟨S_, .f32⟩
  | 70 => ⟨S4096, .f32⟩
  | 71 => ⟨S4096, .f32⟩
  | 72 => ⟨S4096x2048, .f32⟩
  | 73 => ⟨S4096x2048, .f32⟩
  | 74 => ⟨S_, .f32⟩
  | 75 => ⟨S2048, .f32⟩
  | 76 => ⟨S1x2048, .f32⟩
  | 77 => ⟨S4096x2048, .f32⟩
  | 78 => ⟨S_, .f32⟩
  | 79 => ⟨S2048, .f32⟩
  | 80 => ⟨S1x2048, .f32⟩
  | 81 => ⟨S4096x2048, .f32⟩
  | 82 => ⟨S4096x2048, .f32⟩
  | 83 => ⟨S4096x2048, .f32⟩
  | 84 => ⟨S_, .f32⟩
  | 85 => ⟨S4096, .f32⟩
  | 86 => ⟨S4096x1, .f32⟩
  | 87 => ⟨S4096x2048, .f32⟩
  | 88 => ⟨S4096x2048, .f32⟩
  | 89 => ⟨S4096x1, .f32⟩
  | 90 => ⟨S4096x2048, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096, .f32⟩
  | 99 => ⟨S4096x2048, .f32⟩
  | 100 => ⟨S4096x2048, .f32⟩
  | 101 => ⟨S4096x2048, .f32⟩
  | 102 => ⟨S_, .f32⟩
  | 103 => ⟨S4096, .f32⟩
  | 104 => ⟨S4096x1, .f32⟩
  | 105 => ⟨S4096x2048, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x2048, .f32⟩
  | 113 => ⟨S4096x2048, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S4096x2048, .f32⟩
  | 121 => ⟨S4096x2048, .f32⟩
  | 122 => ⟨S4096x2048, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x2048, .f32⟩

abbrev hbmTy0_1 (i : Nat) : BufTy := match i % 128 with
  | 0 => ⟨S4096x1, .f32⟩
  | 1 => ⟨S4096x2048, .f32⟩
  | 2 => ⟨S4096x2048, .f32⟩
  | 3 => ⟨S_, .f32⟩
  | 4 => ⟨S4096x1, .f32⟩
  | 5 => ⟨S4096x1, .f32⟩
  | 6 => ⟨S4096x1, .f32⟩
  | 7 => ⟨S4096x2048, .f32⟩
  | 8 => ⟨S4096x2048, .f32⟩
  | 9 => ⟨S4096x2048, .f32⟩
  | 10 => ⟨S4096x2048, .f32⟩
  | 11 => ⟨S4096x2048, .f32⟩
  | 12 => ⟨S4096x2048, .f32⟩
  | 13 => ⟨S4096x2048, .f32⟩
  | 14 => ⟨S4096x2048, .f32⟩
  | 15 => ⟨S_, .f32⟩
  | 16 => ⟨S2048, .f32⟩
  | 17 => ⟨S1x2048, .f32⟩
  | 18 => ⟨S_, .f32⟩
  | 19 => ⟨S5x2048, .f32⟩
  | 20 => ⟨S8x2048, .f32⟩
  | 21 => ⟨S4096x2048, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_cst_12 : Ref sig .tc := ⟨.hbm, 65, rfl⟩
abbrev main_cst_13 : Ref sig .tc := ⟨.hbm, 66, rfl⟩
abbrev main_v44 : Ref sig .tc := ⟨.hbm, 67, rfl⟩
abbrev main_v45 : Ref sig .tc := ⟨.hbm, 68, rfl⟩
abbrev main_cst_14 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_16 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_cst_20 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_cst_23 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_24 : Ref sig .tc := ⟨.hbm, 114, rfl⟩
abbrev main_v81 : Ref sig .tc := ⟨.hbm, 115, rfl⟩
abbrev main_v82 : Ref sig .tc := ⟨.hbm, 116, rfl⟩
abbrev main_cst_25 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_26 : Ref sig .tc := ⟨.hbm, 123, rfl⟩
abbrev main_v88 : Ref sig .tc := ⟨.hbm, 124, rfl⟩
abbrev main_v89 : Ref sig .tc := ⟨.hbm, 125, rfl⟩
abbrev main_cst_27 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_28 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_29 : Ref sig .tc := ⟨.hbm, 143, rfl⟩
abbrev main_v105 : Ref sig .tc := ⟨.hbm, 144, rfl⟩
abbrev main_v106 : Ref sig .tc := ⟨.hbm, 145, rfl⟩
abbrev main_cst_30 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩

abbrev nD : Nat := 1
abbrev τ : Topo := Topo.v7x

variable {F : FTy → Type} [FloatOps F]
-- ==== Proof.RefFrame.lean ====
/- The reference runs and leaves its arguments as they were. -/
module

public import proofs.«01_k».proof.Proof.Gen.ReferenceIdeal.Run
public import proofs.«01_k».proof.Defs
public import Idealize.ShloMosaic.Lib.Quiescent

@[expose] public section

set_option maxRecDepth 16384

noncomputable section

namespace Cert.Pool

open Idealize.ShloMosaic Idealize.SL.Sem

/-- The reference ends with its arguments as they were and no counter raised. -/
theorem frame_ref : Cert.quiescent_ReferenceIdeal (hReferenceIdeal := Cert.ReferenceIdeal.Gen.facts) := fun m g _ =>
  (θ_run _ _ _).mono (fun r h => ⟨fun c => (h c).2.2.2, sem_eq_zero_of_no_sems rfl r.2⟩)
    (Cert.ReferenceIdeal.Value.run m g)

end Cert.Pool

end
-- ==== Proof.Reals.lean ====
/- Facts about the extended reals that the two programs' arithmetic needs: which values are real numbers, the
   derivative of `x * logistic x`, and a running sum of differences at distance `w` as a window of `w` terms. -/
module

public import Idealize.ShloMosaic.PureOps.Ideal
public import Idealize.ShloMosaic.Lib.Pointwise

@[expose] public section

noncomputable section

namespace Cert.Pool

open Idealize.ShloMosaic

/-- `x` is a real number: neither infinity. -/
def IsR (x : EReal) : Prop := ∃ r : ℝ, x = (r : EReal)

namespace IsR

/-- A real is real. -/
theorem coe (r : ℝ) : IsR (r : EReal) := ⟨r, rfl⟩
/-- Zero is real. -/
theorem zero : IsR 0 := ⟨0, rfl⟩
/-- One is real. -/
theorem one : IsR 1 := ⟨1, rfl⟩

/-- Sums of reals are real. -/
theorem add {x y : EReal} (hx : IsR x) (hy : IsR y) : IsR (x + y) := by
  obtain ⟨a, rfl⟩ := hx; obtain ⟨b, rfl⟩ := hy; exact ⟨a + b, (EReal.coe_add a b).symm⟩

/-- Products of reals are real. -/
theorem mul {x y : EReal} (hx : IsR x) (hy : IsR y) : IsR (x * y) := by
  obtain ⟨a, rfl⟩ := hx; obtain ⟨b, rfl⟩ := hy; exact ⟨a * b, (EReal.coe_mul a b).symm⟩

/-- Negatives of reals are real. -/
theorem neg {x : EReal} (hx : IsR x) : IsR (-x) := by
  obtain ⟨a, rfl⟩ := hx; exact ⟨-a, (EReal.coe_neg a).symm⟩

/-- Differences of reals are real. -/
theorem sub {x y : EReal} (hx : IsR x) (hy : IsR y) : IsR (x - y) := by
  obtain ⟨a, rfl⟩ := hx; obtain ⟨b, rfl⟩ := hy; exact ⟨a - b, (EReal.coe_sub a b).symm⟩

/-- Finite sums of reals are real. -/
theorem sum {ι : Type} (s : Finset ι) (f : ι → EReal) (h : ∀ i ∈ s, IsR (f i)) : IsR (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- Division by a nonzero real keeps a real number real. -/
theorem div {x : EReal} (hx : IsR x) {y : ℝ} (hy : y ≠ 0) : IsR (Ideal.div x (y : EReal)) := by
  rw [Ideal.div_coe hy]; exact hx.mul (coe _)

/-- Sums over a list of reals are real. -/
theorem foldl {ι : Type} (l : List ι) (f : ι → EReal) (h : ∀ i ∈ l, IsR (f i)) (v : EReal) (hv : IsR v) :
    IsR (l.foldl (fun r n => r + f n) v) := by
  induction l generalizing v with
  | nil => exact hv
  | cons a l ih =>
    exact ih (fun i hi => h i (List.mem_cons_of_mem _ hi)) _ (hv.add (h a List.mem_cons_self))

/-- A value whose absolute value is below plus infinity is a real number. -/
theorem of_abs {x : EReal} (h : max x (-x) < ⊤) : IsR x := by
  induction x using EReal.rec with
  | bot => simp at h
  | top => simp at h
  | coe r => exact ⟨r, rfl⟩

/-- The logistic of a real is real. -/
theorem logistic {x : EReal} (hx : IsR x) : IsR (Ideal.logistic x) := by
  obtain ⟨a, rfl⟩ := hx
  have e : (1 : EReal) + Ideal.exp (-(a : EReal)) = ((1 + Real.exp (-a) : ℝ) : EReal) := by
    rw [← EReal.coe_neg, EReal.coe_add]; rfl
  unfold Ideal.logistic
  rw [e]
  exact one.div (by positivity)

end IsR

/-- The derivative of `z * logistic z` as the kernel factors it is the sum of the product rule's two terms. -/
theorem silu_grad {a z s : EReal} (ha : IsR a) (hz : IsR z) (hs : IsR s) :
    a * (s * (1 + z * (1 - s))) = a * s + z * a * (s * (1 - s)) := by
  obtain ⟨a, rfl⟩ := ha; obtain ⟨z, rfl⟩ := hz; obtain ⟨s, rfl⟩ := hs
  rw [← EReal.coe_one]
  simp only [← EReal.coe_sub, ← EReal.coe_mul, ← EReal.coe_add]
  congr 1; ring

/-- A left fold of additions is the initial value plus the sum. -/
theorem foldl_add {n : ℕ} (f : Fin n → EReal) (v : EReal) :
    (List.finRange n).foldl (fun r k => r + f k) v = v + ∑ k : Fin n, f k := by
  have h : ∀ (l : List (Fin n)) (v : EReal), l.foldl (fun r k => r + f k) v = v + (l.map f).sum := by
    intro l
    induction l with
    | nil => intro v; simp
    | cons a l ih => intro v; simp only [List.foldl_cons, List.map_cons, List.sum_cons]; rw [ih, add_assoc]
  rw [h, Fin.sum_univ_def]

/-- Over real terms that vanish from `N` on, the sum over `N` places of the differences at distance `w` is the sum
    of the first `w` terms. -/
theorem window_telescopes (N w r : ℕ) (e : ℕ → EReal) (he : ∀ t, IsR (e t)) (hz : ∀ t, N ≤ t → e t = 0) :
    ∑ k ∈ Finset.range N, (e (r + k) - e (r + k + w)) = ∑ j ∈ Finset.range w, e (r + j) := by
  choose f hf using he
  have hz' : ∀ t, N ≤ t → f t = 0 := fun t ht => by
    have := hz t ht; rw [hf t] at this; exact_mod_cast this
  have key : ∑ k ∈ Finset.range N, (f (r + k) - f (r + k + w)) = ∑ j ∈ Finset.range w, f (r + j) := by
    have h1 := Finset.sum_range_add (fun k => f (r + k)) N w
    have h2 := Finset.sum_range_add (fun k => f (r + k)) w N
    have h3 : ∑ x ∈ Finset.range w, f (r + (N + x)) = 0 :=
      Finset.sum_eq_zero fun x _ => hz' _ (by omega)
    have h4 : ∑ x ∈ Finset.range N, f (r + (w + x)) = ∑ k ∈ Finset.range N, f (r + k + w) :=
      Finset.sum_congr rfl fun k _ => by congr 1; omega
    rw [h3, add_zero] at h1
    rw [add_comm w N, h4] at h2
    rw [Finset.sum_sub_distrib]; linarith
  have hc : ∀ (m : ℕ) (g : ℕ → ℝ), ∑ k ∈ Finset.range m, ((g k : ℝ) : EReal) = ((∑ k ∈ Finset.range m, g k : ℝ) : EReal) := by
    intro m g
    induction m with
    | zero => simp
    | succ m ih => rw [Finset.sum_range_succ, Finset.sum_range_succ, ih, EReal.coe_add]
  simp only [hf, ← EReal.coe_sub]
  rw [hc N fun k => f (r + k) - f (r + k + w), hc w fun j => f (r + j), key]

end Cert.Pool

end
-- ==== Proof.Grad.lean ====
/- The gradients of the pooling mixer as plain sums over rows and channels, from which both programs' results are read:
   the arrays that the call takes, and what it returns at an index. -/
module

public import proofs.«01_k».proof.Proof.Reals

@[expose] public section

noncomputable section

namespace Cert.Pool

open Idealize.ShloMosaic

/-- The arrays of the mixer's backward pass, by row and channel. -/
structure Args where
  /-- the gate's input -/
  z : Fin 4096 → Fin 2048 → EReal
  /-- the gradient of the mixer's output -/
  dr : Fin 4096 → Fin 2048 → EReal
  /-- the output map -/
  wo : Fin 2048 → Fin 2048 → EReal
  /-- the group maps -/
  wg : Fin 4 → Fin 512 → Fin 512 → EReal
  /-- the channels' scale -/
  sc : Fin 2048 → EReal
  /-- the mixed channels -/
  mx : Fin 4096 → Fin 2048 → EReal
  /-- the pooled channels -/
  p : Fin 4096 → Fin 2048 → EReal

/-- Column `i` of group `g`. -/
def colOf (g : Fin 4) (i : Fin 512) : Fin 2048 := ⟨(g : ℕ) * 512 + i, by omega⟩

/-- Every column is a column of its group. -/
theorem exists_colOf (c : Fin 2048) : ∃ g i, c = colOf g i :=
  ⟨⟨c.val / 512, by omega⟩, ⟨c.val % 512, by omega⟩, by ext; simp only [colOf]; omega⟩

/-- The width of group `g`'s pooling window. -/
def width (g : Fin 4) : ℕ := 2 ^ ((g : ℕ) + 1)

variable (A : Args)

/-- The gradient of the mixer's inner result: `dr` times the transposed output map. -/
def DY (r : Fin 4096) (c : Fin 2048) : EReal := ∑ k : Fin 2048, A.dr r k * A.wo c k

/-- That gradient times the gate `silu(z)`. -/
def T1 (r : Fin 4096) (c : Fin 2048) : EReal := DY A r c * (A.z r c * Ideal.logistic (A.z r c))

/-- The gradient of the mixed channels: the above times the channel's scale. -/
def DMX (r : Fin 4096) (c : Fin 2048) : EReal := T1 A r c * A.sc c

/-- The gradient of group `g`'s pooled channel `i`. -/
def DP (r : Fin 4096) (g : Fin 4) (i : Fin 512) : EReal := ∑ d : Fin 512, DMX A r (colOf g d) * A.wg g i d

/-- The reciprocal of the number of rows in group `g`'s window ending at row `r`. -/
def rcount (g : Fin 4) (r : ℕ) : ℝ := 1 / ((min (r + 1) (width g) : ℕ) : ℝ)

/-- Row `r`'s share of the windows' gradient, zero past the last row. -/
def E (g : Fin 4) (i : Fin 512) (r : ℕ) : EReal :=
  if h : r < 4096 then DP A ⟨r, h⟩ g i * (rcount g r : EReal) else 0

/-- The gradient of the mixer's input `u`. -/
def DU (r : Fin 4096) (g : Fin 4) (i : Fin 512) : EReal :=
  (∑ j ∈ Finset.range (width g), E A g i (r + j)) - DP A r g i

/-- The gradient of the gate's input `z`. -/
def DZ (r : Fin 4096) (c : Fin 2048) : EReal :=
  DY A r c * (A.mx r c * A.sc c)
    * (Ideal.logistic (A.z r c) * (1 + A.z r c * (1 - Ideal.logistic (A.z r c))))

/-- The gradient of the group maps. -/
def DWG (g : Fin 4) (i j : Fin 512) : EReal := ∑ r : Fin 4096, A.p r (colOf g i) * DMX A r (colOf g j)

/-- The gradient of the channels' scale. -/
def DSC (c : Fin 2048) : EReal := ∑ r : Fin 4096, T1 A r c * A.mx r c

end Cert.Pool

end
-- ==== Proof.Pay.lean ====
/- The kernel body's named values at an index, over any row block and any column group. -/
module

public import proofs.«01_k».proof.Proof.Gen.KernelIdeal.Skeleton
public import proofs.«01_k».proof.Proof.Grad

@[expose] public section

set_option maxRecDepth 16384

noncomputable section

namespace Cert.Pool

open Cert.KernelIdeal Cert.KernelIdeal.Gen
open Idealize.ShloMosaic Idealize.ShloMosaic.TcCoe Idealize.SL.Sem

variable (A : Args) (R : Fin 256 → Fin 4096) (g : Fin 4)
variable (b0 : FVec Ideal S256x2048 .bf16) (w1 : FVec Ideal S512x2048 .bf16) (mx z : FVec Ideal S256x512 .f32)
  (p : FVec Ideal S256x512 .bf16) (wg : FVec Ideal S1x512x512 .bf16) (sc : FVec Ideal S1x512 .f32)

section dy
variable (h0 : ∀ r k, b0 (ix2 r k) = A.dr (R r) k) (h1 : ∀ j k, w1 (ix2 j k) = A.wo (colOf g j) k)
include h0 h1

/-- The tile's product with the transposed slab of the output map. -/
theorem dy4 (r : Fin 256) (j : Fin 512) : k0_pay4 (F := Ideal) b0 w1 (ix2 r j) = DY A (R r) (colOf g j) := by
  pointwise [k0_pay4, DY, h0, h1]
/-- The gradient of y for a group, from its rows of the output projection. -/
theorem dy11 (r : Fin 256) (j : Fin 512) : k0_pay11 (F := Ideal) b0 w1 (ix2 r j) = DY A (R r) (colOf g j) := by
  pointwise [k0_pay11, DY, h0, h1]
/-- The gradient of y for a group, from its rows of the output projection. -/
theorem dy25 (r : Fin 256) (j : Fin 512) : k0_pay25 (F := Ideal) b0 w1 (ix2 r j) = DY A (R r) (colOf g j) := by
  pointwise [k0_pay25, DY, h0, h1]
/-- The gradient of y for a group, from its rows of the output projection. -/
theorem dy39 (r : Fin 256) (j : Fin 512) : k0_pay39 (F := Ideal) b0 w1 (ix2 r j) = DY A (R r) (colOf g j) := by
  pointwise [k0_pay39, DY, h0, h1]

/-- The first group's gated gradient. -/
theorem t13 (hz : ∀ r j, z (ix2 r j) = A.z (R r) (colOf g j)) (r : Fin 256) (j : Fin 512) :
    k0_pay13 (F := Ideal) b0 w1 z (ix2 r j) = T1 A (R r) (colOf g j) := by
  pointwise [k0_pay13, k0_pay9, T1, hz, dy4 A R g b0 w1 h0 h1]

end dy

section t1
variable (d : FVec Ideal S256x512 .f32) (hd : ∀ r j, d (ix2 r j) = DY A (R r) (colOf g j))
  (hz : ∀ r j, z (ix2 r j) = A.z (R r) (colOf g j))
include hd hz

/-- The later groups' gated gradients. -/
theorem t27 (r : Fin 256) (j : Fin 512) : k0_pay27 d z (ix2 r j) = T1 A (R r) (colOf g j) := by
  pointwise [k0_pay27, k0_pay23, T1, hz, hd]
/-- The gate times the gradient of y, for a group. -/
theorem t41 (r : Fin 256) (j : Fin 512) : k0_pay41 d z (ix2 r j) = T1 A (R r) (colOf g j) := by
  pointwise [k0_pay41, k0_pay37, T1, hz, hd]
/-- The gate times the gradient of y, for a group. -/
theorem t54 (r : Fin 256) (j : Fin 512) : k0_pay54 d z (ix2 r j) = T1 A (R r) (colOf g j) := by
  pointwise [k0_pay54, k0_pay51, T1, hz, hd]

end t1

section stats
variable (t : FVec Ideal S256x512 .f32) (ht : ∀ r j, t (ix2 r j) = T1 A (R r) (colOf g j))
  (hm : ∀ r j, mx (ix2 r j) = A.mx (R r) (colOf g j)) (acc : FVec Ideal S1x512 .f32)
include ht hm

/-- The scale's gradient: what was summed before, plus this tile's rows. -/
theorem st14 (j : Fin 512) : k0_pay14 (k0_pay12 mx) t acc (ix2 0 j)
    = acc (ix2 0 j) + ∑ r : Fin 256, T1 A (R r) (colOf g j) * A.mx (R r) (colOf g j) := by
  pointwise [k0_pay14, k0_pay12, ht, hm]
/-- A tile's share of the scale gradient, added to the sum so far, for a group. -/
theorem st29 (j : Fin 512) : k0_pay29 (k0_pay26 mx) t (k0_pay28 acc) (ix2 0 j)
    = acc (ix2 0 j) + ∑ r : Fin 256, T1 A (R r) (colOf g j) * A.mx (R r) (colOf g j) := by
  pointwise [k0_pay29, k0_pay26, k0_pay28, ht, hm]
/-- A tile's share of the scale gradient, added to the sum so far, for a group. -/
theorem st43 (j : Fin 512) : k0_pay43 (k0_pay40 mx) t (k0_pay42 acc) (ix2 0 j)
    = acc (ix2 0 j) + ∑ r : Fin 256, T1 A (R r) (colOf g j) * A.mx (R r) (colOf g j) := by
  pointwise [k0_pay43, k0_pay40, k0_pay42, ht, hm]

end stats

/-- The last group's, which forms its gated gradient within. -/
theorem st55 (d : FVec Ideal S256x512 .f32) (hd : ∀ r j, d (ix2 r j) = DY A (R r) (colOf g j))
    (hz : ∀ r j, z (ix2 r j) = A.z (R r) (colOf g j)) (hm : ∀ r j, mx (ix2 r j) = A.mx (R r) (colOf g j))
    (acc : FVec Ideal S1x512 .f32) (j : Fin 512) : k0_pay55 d z mx acc (ix2 0 j)
    = acc (ix2 0 j) + ∑ r : Fin 256, T1 A (R r) (colOf g j) * A.mx (R r) (colOf g j) := by
  pointwise [k0_pay55, k0_pay53, t54 A R g z d hd hz, hm]

section dz
variable (d : FVec Ideal S256x512 .f32) (hd : ∀ r j, d (ix2 r j) = DY A (R r) (colOf g j))
  (hz : ∀ r j, z (ix2 r j) = A.z (R r) (colOf g j)) (hm : ∀ r j, mx (ix2 r j) = A.mx (R r) (colOf g j))
  (hs : ∀ j, sc (ix2 0 j) = A.sc (colOf g j))
include hd hz hm hs

/-- The gradient of the gate's input. -/
theorem dz15 (r : Fin 256) (j : Fin 512) :
    k0_pay15 d (k0_pay10 z) (k0_pay12 mx) sc (ix3 0 r j) = DZ A (R r) (colOf g j) := by
  pointwise [k0_pay15, k0_pay10, k0_pay9, k0_pay12, DZ, hd, hz, hm, hs]
/-- The gradient of z, for a group. -/
theorem dz30 (r : Fin 256) (j : Fin 512) :
    k0_pay30 d (k0_pay24 z) (k0_pay26 mx) sc (ix3 0 r j) = DZ A (R r) (colOf g j) := by
  pointwise [k0_pay30, k0_pay24, k0_pay23, k0_pay26, DZ, hd, hz, hm, hs]
/-- The gradient of z, for a group. -/
theorem dz44 (r : Fin 256) (j : Fin 512) :
    k0_pay44 d (k0_pay38 z) (k0_pay40 mx) sc (ix3 0 r j) = DZ A (R r) (colOf g j) := by
  pointwise [k0_pay44, k0_pay38, k0_pay37, k0_pay40, DZ, hd, hz, hm, hs]
/-- The gradient of z, for a group. -/
theorem dz56 (r : Fin 256) (j : Fin 512) :
    k0_pay56 d (k0_pay52 z) (k0_pay53 mx) sc (ix3 0 r j) = DZ A (R r) (colOf g j) := by
  pointwise [k0_pay56, k0_pay52, k0_pay51, k0_pay53, DZ, hd, hz, hm, hs]

end dz

section dwg
variable (t : FVec Ideal S256x512 .f32) (ht : ∀ r j, t (ix2 r j) = T1 A (R r) (colOf g j))
  (hs : ∀ j, sc (ix2 0 j) = A.sc (colOf g j))

section
include ht hs
/-- The gradient of the mixed channels, tile by tile. -/
theorem dmx16 (r : Fin 256) (j : Fin 512) : k0_pay16 sc t (ix2 r j) = DMX A (R r) (colOf g j) := by
  pointwise [k0_pay16, DMX, ht, hs]
/-- The gradient of the mixed channels, for a group. -/
theorem dmx31 (r : Fin 256) (j : Fin 512) : k0_pay31 sc t (ix2 r j) = DMX A (R r) (colOf g j) := by
  pointwise [k0_pay31, DMX, ht, hs]
/-- The gradient of the mixed channels, for a group. -/
theorem dmx45 (r : Fin 256) (j : Fin 512) : k0_pay45 sc t (ix2 r j) = DMX A (R r) (colOf g j) := by
  pointwise [k0_pay45, DMX, ht, hs]
/-- The gradient of the mixed channels, for a group. -/
theorem dmx57 (r : Fin 256) (j : Fin 512) : k0_pay57 sc t (ix2 r j) = DMX A (R r) (colOf g j) := by
  pointwise [k0_pay57, DMX, ht, hs]
end

section
variable (hp : ∀ r j, p (ix2 r j) = A.p (R r) (colOf g j)) (acc : FVec Ideal S1x512x512 .f32)
include ht hs hp
/-- The group map's gradient: what was summed before, plus this tile's rows. -/
theorem wg17 (i j : Fin 512) : k0_pay17 sc t acc p (ix3 0 i j)
    = acc (ix3 0 i j) + ∑ r : Fin 256, A.p (R r) (colOf g i) * DMX A (R r) (colOf g j) := by
  pointwise [k0_pay17, dmx16 A R g sc t ht hs, hp]
/-- A tile's share of a group map's gradient, added to the sum so far. -/
theorem wg32 (i j : Fin 512) : k0_pay32 sc t acc p (ix3 0 i j)
    = acc (ix3 0 i j) + ∑ r : Fin 256, A.p (R r) (colOf g i) * DMX A (R r) (colOf g j) := by
  pointwise [k0_pay32, dmx31 A R g sc t ht hs, hp]
/-- A tile's share of a group map's gradient, added to the sum so far. -/
theorem wg46 (i j : Fin 512) : k0_pay46 sc t acc p (ix3 0 i j)
    = acc (ix3 0 i j) + ∑ r : Fin 256, A.p (R r) (colOf g i) * DMX A (R r) (colOf g j) := by
  pointwise [k0_pay46, dmx45 A R g sc t ht hs, hp]
/-- A tile's share of a group map's gradient, added to the sum so far. -/
theorem wg58 (i j : Fin 512) : k0_pay58 sc t acc p (ix3 0 i j)
    = acc (ix3 0 i j) + ∑ r : Fin 256, A.p (R r) (colOf g i) * DMX A (R r) (colOf g j) := by
  pointwise [k0_pay58, dmx57 A R g sc t ht hs, hp]
end

section
variable (hw : ∀ i j, wg (ix3 0 i j) = A.wg g i j)
include ht hs hw
/-- The gradient of the pooled channels, tile by tile. -/
theorem dp18 (r : Fin 256) (i : Fin 512) : k0_pay18 sc t wg (ix2 r i) = DP A (R r) g i := by
  pointwise [k0_pay18, dmx16 A R g sc t ht hs, hw, DP]
/-- The gradient of the pooled channels, for a group. -/
theorem dp33 (r : Fin 256) (i : Fin 512) : k0_pay33 sc t wg (ix2 r i) = DP A (R r) g i := by
  pointwise [k0_pay33, dmx31 A R g sc t ht hs, hw, DP]
/-- The gradient of the pooled channels, for a group. -/
theorem dp47 (r : Fin 256) (i : Fin 512) : k0_pay47 sc t wg (ix2 r i) = DP A (R r) g i := by
  pointwise [k0_pay47, dmx45 A R g sc t ht hs, hw, DP]
/-- The gradient of the pooled channels, for a group. -/
theorem dp59 (r : Fin 256) (i : Fin 512) : k0_pay59 sc t wg (ix2 r i) = DP A (R r) g i := by
  pointwise [k0_pay59, dmx57 A R g sc t ht hs, hw, DP]
end

end dwg

end Cert.Pool

end
-- ==== Proof.Win.lean ====
/- The kernel body's window step at an index: the row counts, each row's share of its windows' gradient, the rotations
   that sum a window by doubling, and the gradient of the mixer's input. -/
module

public import proofs.«01_k».proof.Proof.Pay
public import Idealize.ShloMosaic.Lib.IdealHost

@[expose] public section

set_option maxRecDepth 16384

noncomputable section

namespace Cert.Pool

open Cert.KernelIdeal Cert.KernelIdeal.Gen
open Idealize.ShloMosaic Idealize.ShloMosaic.TcCoe Idealize.SL.Sem

/-- The first row of the tile that point `t` works on. -/
def base (t : ℕ) : ℕ := (15 - t) * 256

/-- Row `r` of that tile. -/
def row (t : ℕ) (r : Fin 256) : Fin 4096 := ⟨base t + r, by unfold base; omega⟩

/-- The row count that the body forms: the row's number plus one. -/
theorem count_at (i : grid0.Coords) (r : Fin 256) :
    k0_pay8 (F := Ideal) i (ix2 r 0) = (((base (i 0).val + r + 1 : ℕ) : ℝ) : EReal) := by
  have hi : (i 0).val < 16 := (i 0).isLt
  pointwise [k0_pay8]
  have key : ((IntOp.addi (IntOp.addi (Scalar.muli (Scalar.subi (15#32) (BitVec.ofNat 32 (i 0).val)) 256#32)
      (BitVec.ofNat 32 r.val)) 1#32 : BitVec 32).toInt : ℤ) = ((base (i 0).val + r + 1 : ℕ) : ℤ) := by
    generalize (i 0).val = n at *
    have hr := r.isLt
    have e : (IntOp.addi (IntOp.addi (Scalar.muli (Scalar.subi (15#32) (BitVec.ofNat 32 n)) 256#32)
      (BitVec.ofNat 32 r.val)) 1#32 : BitVec 32) = BitVec.ofNat 32 (base n + r + 1) := by
      show ((15#32 - BitVec.ofNat 32 n) * 256#32 + BitVec.ofNat 32 r.val + 1#32 : BitVec 32) = _
      have h15 : (15#32 - BitVec.ofNat 32 n : BitVec 32) = BitVec.ofNat 32 (15 - n) := by
        apply BitVec.eq_of_toNat_eq; simp only [BitVec.toNat_sub, BitVec.toNat_ofNat]; omega
      rw [h15]; unfold base
      simp only [← BitVec.ofNat_add, ← BitVec.ofNat_mul]
    rw [e, BitVec.toInt_eq_toNat_cond, BitVec.toNat_ofNat]
    unfold base
    have : ((15 - n) * 256 + r + 1) % 2 ^ 32 = (15 - n) * 256 + r + 1 := Nat.mod_eq_of_lt (by omega)
    rw [this, if_pos (by omega)]
  show (((_ : BitVec 32).toInt : ℝ) : EReal) = _
  rw [key]; simp

/-- One doubling step: sums of `k` consecutive terms, added to themselves `k` rows up, are sums of `2k`. -/
theorem double (x : FVec Ideal S272x512 .f32) (i : Fin 512) (f : ℕ → EReal) (n : BitVec 32) (k bnd : ℕ)
    (hn : n.toNat = 272 - k) (hk : 0 < k) (hk' : k ≤ 16) (hb : bnd ≤ 272)
    (h : ∀ q (hq : q < 272), q < bnd → x (ix2 ⟨q, hq⟩ i) = ∑ j ∈ Finset.range k, f (q + j)) :
    ∀ q (hq : q < 272), q < bnd - k →
      (addf x (dynamicRotate 0 n none x rotates_S272x512_d0)) (ix2 ⟨q, hq⟩ i) = ∑ j ∈ Finset.range (k + k), f (q + j) := by
  intro q hq hqb
  pointwise []
  have e : (⟨(q + 272 - n.toNat % 272) % 272, Nat.mod_lt _ (by decide)⟩ : Fin 272) = ⟨q + k, by omega⟩ := by
    ext; simp only [hn]; omega
  have e2 := h (q + k) (by omega) (by omega)
  rw [← e] at e2
  rw [h q hq (by omega), Finset.sum_range_add]
  refine congrArg _ (e2.trans (Finset.sum_congr rfl fun j _ => by congr 1; omega))

/-- The tile's rows above the sixteen carried ones. -/
theorem cat_at (e : FVec Ideal S256x512 .f32) (cr : FVec Ideal S16x512 .f32) (i : Fin 512) (f : ℕ → EReal)
    (he : ∀ r : Fin 256, e (ix2 r i) = f r) (hc : ∀ q : Fin 16, cr (ix2 q i) = f (256 + q)) :
    ∀ q (hq : q < 272), q < 272 →
      (concatenate S272x512 0 [⟨S256x512, e⟩, ⟨S16x512, cr⟩] concatenates_S256x512_S16x512_S272x512_d0 : FVec Ideal S272x512 .f32)
        (ix2 ⟨q, hq⟩ i) = ∑ j ∈ Finset.range 1, f (q + j) := by
  intro q hq _
  pointwise []
  simp only [Finset.sum_range_one, add_zero]
  split
  · next h => exact he ⟨q, h⟩
  · next h => rw [hc]; congr 1; simp only; omega

/-- The body's reciprocal of a clipped row count. -/
theorem rcount_at (n w : ℕ) (hw : 0 < w) :
    Ideal.div 1 (min (((n + 1 : ℕ) : ℝ) : EReal) ((w : ℝ) : EReal)) = ((1 / ((min (n + 1) w : ℕ) : ℝ) : ℝ) : EReal) := by
  have hm : min (((n + 1 : ℕ) : ℝ) : EReal) ((w : ℝ) : EReal) = (((min (n + 1) w : ℕ) : ℝ) : EReal) := by
    rcases le_total (n + 1) w with h | h
    · rw [min_eq_left h, min_eq_left (by exact_mod_cast h)]
    · rw [min_eq_right h, min_eq_right (by exact_mod_cast h)]
  rw [hm, Ideal.div_coe (by positivity), one_mul]

/-- The word of the float 2. -/
theorem ofBits_2 : Ideal.ofBits .f32 0x40000000#32 = (((2 : ℕ) : ℝ) : EReal) := by
  simp [Ideal.ofBits, Ideal.ieee, -EReal.coe_mul]; norm_num
/-- The word of the float 4. -/
theorem ofBits_4 : Ideal.ofBits .f32 0x40800000#32 = (((4 : ℕ) : ℝ) : EReal) := by
  simp [Ideal.ofBits, Ideal.ieee, -EReal.coe_mul]; norm_num
/-- The word of the float 8. -/
theorem ofBits_8 : Ideal.ofBits .f32 0x41000000#32 = (((8 : ℕ) : ℝ) : EReal) := by
  simp [Ideal.ofBits, Ideal.ieee, -EReal.coe_mul]; norm_num
/-- The word of the float 16. -/
theorem ofBits_16 : Ideal.ofBits .f32 0x41800000#32 = (((16 : ℕ) : ℝ) : EReal) := by
  simp [Ideal.ofBits, Ideal.ieee, -EReal.coe_mul]; norm_num

variable (A : Args)

/-- A row of the tile in `E`. -/
theorem E_row (g : Fin 4) (i : Fin 512) (t : ℕ) (r : Fin 256) :
    E A g i (base t + r) = DP A (row t r) g i * (rcount g (base t + r) : EReal) := by
  have h : base t + r < 4096 := (row t r).isLt
  rw [E, dif_pos h]; rfl

section e
variable (t : ℕ) (cnt : FVec Ideal S256x1 .f32) (hcnt : ∀ r : Fin 256, cnt (ix2 r 0) = (((base t + r + 1 : ℕ) : ℝ) : EReal))
include hcnt

/-- Each row's share of its windows' gradient, group by group. -/
theorem e20 (dp : FVec Ideal S256x512 .f32) (hd : ∀ r i, dp (ix2 r i) = DP A (row t r) 0 i) (r : Fin 256) (i : Fin 512) :
    k0_pay20 dp (k0_pay19 cnt) (ix2 r i) = E A 0 i (base t + r) := by
  pointwise [k0_pay20, k0_pay19, hcnt, hd, E_row]
  rw [ofBits_2, rcount_at _ _ (by decide)]; rfl

variable (sc : FVec Ideal S1x512 .f32) (s : FVec Ideal S256x512 .f32) (wg : FVec Ideal S1x512x512 .bf16)

/-- The share per row of the window, for a group. -/
theorem e34 (hd : ∀ r i, k0_pay33 sc s wg (ix2 r i) = DP A (row t r) 1 i) (r : Fin 256) (i : Fin 512) :
    k0_pay34 cnt sc s wg (ix2 r i) = E A 1 i (base t + r) := by
  pointwise [k0_pay34, hcnt, hd, E_row]
  rw [ofBits_4, rcount_at _ _ (by decide)]; rfl
/-- The share per row of the window, for a group. -/
theorem e48 (hd : ∀ r i, k0_pay47 sc s wg (ix2 r i) = DP A (row t r) 2 i) (r : Fin 256) (i : Fin 512) :
    k0_pay48 cnt sc s wg (ix2 r i) = E A 2 i (base t + r) := by
  pointwise [k0_pay48, hcnt, hd, E_row]
  rw [ofBits_8, rcount_at _ _ (by decide)]; rfl
/-- The share per row of the window, for a group. -/
theorem e60 (hd : ∀ r i, k0_pay59 sc s wg (ix2 r i) = DP A (row t r) 3 i) (r : Fin 256) (i : Fin 512) :
    k0_pay60 cnt sc s wg (ix2 r i) = E A 3 i (base t + r) := by
  pointwise [k0_pay60, hcnt, hd, E_row]
  rw [ofBits_16, rcount_at _ _ (by decide)]; rfl

end e

section du
variable (t : ℕ) (dp e : FVec Ideal S256x512 .f32) (cr : FVec Ideal S16x512 .f32)

/-- The gradient of the mixer's input in the first group, -/
theorem du21 (v : FVec Ideal S256x512 .f32) (i : Fin 512) (hd : ∀ r, dp (ix2 r i) = DP A (row t r) 0 i)
    (he : ∀ r : Fin 256, k0_pay20 dp v (ix2 r i) = E A 0 i (base t + r))
    (hc : ∀ q : Fin 16, cr (ix2 q i) = E A 0 i (base t + (256 + q))) (r : Fin 256) :
    k0_pay21 dp v cr (ix3 0 r i) = DU A (row t r) 0 i := by
  have h1 := cat_at (k0_pay20 dp v) cr i (fun q => E A 0 i (base t + q)) he hc
  have h2 := double _ i (fun q => E A 0 i (base t + q)) 271#32 1 272 (by decide) (by decide) (by decide) (by decide) h1
    r (by omega) (by omega)
  unfold k0_pay21
  dsimp only
  generalize addf (F := Ideal) (φ := .f32) _ _ = y at h2 ⊢
  pointwise [hd, DU]
  rw [h2]
  exact congrArg (· - _) (Finset.sum_congr rfl fun j _ => congrArg _ (Nat.add_assoc _ _ _).symm)

/-- in the second, -/
theorem du35 (i : Fin 512) (hd : ∀ r, dp (ix2 r i) = DP A (row t r) 1 i)
    (he : ∀ r : Fin 256, e (ix2 r i) = E A 1 i (base t + r))
    (hc : ∀ q : Fin 16, cr (ix2 q i) = E A 1 i (base t + (256 + q))) (r : Fin 256) :
    k0_pay35 dp e cr (ix3 0 r i) = DU A (row t r) 1 i := by
  have h1 := cat_at e cr i (fun q => E A 1 i (base t + q)) he hc
  have h2 := double _ i (fun q => E A 1 i (base t + q)) 271#32 1 272 (by decide) (by decide) (by decide) (by decide) h1
  have h3 := double _ i (fun q => E A 1 i (base t + q)) 270#32 2 271 (by decide) (by decide) (by decide) (by decide) h2
    r (by omega) (by omega)
  unfold k0_pay35
  dsimp only
  generalize addf (F := Ideal) (φ := .f32) (addf (F := Ideal) (φ := .f32) _ _) _ = y at h3 ⊢
  pointwise [hd, DU]
  rw [h3]
  exact congrArg (· - _) (Finset.sum_congr rfl fun j _ => congrArg _ (Nat.add_assoc _ _ _).symm)

/-- in the third, -/
theorem du49 (i : Fin 512) (hd : ∀ r, dp (ix2 r i) = DP A (row t r) 2 i)
    (he : ∀ r : Fin 256, e (ix2 r i) = E A 2 i (base t + r))
    (hc : ∀ q : Fin 16, cr (ix2 q i) = E A 2 i (base t + (256 + q))) (r : Fin 256) :
    k0_pay49 dp e cr (ix3 0 r i) = DU A (row t r) 2 i := by
  have h1 := cat_at e cr i (fun q => E A 2 i (base t + q)) he hc
  have h2 := double _ i (fun q => E A 2 i (base t + q)) 271#32 1 272 (by decide) (by decide) (by decide) (by decide) h1
  have h3 := double _ i (fun q => E A 2 i (base t + q)) 270#32 2 271 (by decide) (by decide) (by decide) (by decide) h2
  have h4 := double _ i (fun q => E A 2 i (base t + q)) 268#32 4 269 (by decide) (by decide) (by decide) (by decide) h3
    r (by omega) (by omega)
  unfold k0_pay49
  dsimp only
  generalize addf (F := Ideal) (φ := .f32) (addf (F := Ideal) (φ := .f32) (addf (F := Ideal) (φ := .f32) _ _) _) _ = y at h4 ⊢
  pointwise [hd, DU]
  rw [h4]
  exact congrArg (· - _) (Finset.sum_congr rfl fun j _ => congrArg _ (Nat.add_assoc _ _ _).symm)

/-- and in the last. -/
theorem du1 (cnt : FVec Ideal S256x1 .f32) (sc : FVec Ideal S1x512 .f32) (s : FVec Ideal S256x512 .f32)
    (wg : FVec Ideal S1x512x512 .bf16) (i : Fin 512) (hd : ∀ r, dp (ix2 r i) = DP A (row t r) 3 i)
    (he : ∀ r : Fin 256, k0_pay60 cnt sc s wg (ix2 r i) = E A 3 i (base t + r))
    (hc : ∀ q : Fin 16, cr (ix2 q i) = E A 3 i (base t + (256 + q))) (r : Fin 256) :
    k0_pay1 dp (k0_pay61 cnt sc s wg cr) (k0_pay62 cnt sc s wg cr) (ix3 0 r i) = DU A (row t r) 3 i := by
  have h1 := cat_at (k0_pay60 cnt sc s wg) cr i (fun q => E A 3 i (base t + q)) he hc
  have h2 := double _ i (fun q => E A 3 i (base t + q)) 271#32 1 272 (by decide) (by decide) (by decide) (by decide) h1
  have h3 := double _ i (fun q => E A 3 i (base t + q)) 270#32 2 271 (by decide) (by decide) (by decide) (by decide) h2
  have h4 := double _ i (fun q => E A 3 i (base t + q)) 268#32 4 269 (by decide) (by decide) (by decide) (by decide) h3
  have h5 := double _ i (fun q => E A 3 i (base t + q)) 264#32 8 265 (by decide) (by decide) (by decide) (by decide) h4
    r (by omega) (by omega)
  unfold k0_pay1 k0_pay62 k0_pay61
  dsimp only
  generalize addf (F := Ideal) (φ := .f32) (addf (F := Ideal) (φ := .f32) (addf (F := Ideal) (φ := .f32) (addf (F := Ideal) (φ := .f32) _ _) _) _) _ = y at h5 ⊢
  pointwise [hd, DU]
  rw [h5]
  exact congrArg (· - _) (Finset.sum_congr rfl fun j _ => congrArg _ (Nat.add_assoc _ _ _).symm)

/-- The sixteen rows handed to the next point. -/
theorem cr22 (v : FVec Ideal S256x512 .f32) (q : Fin 16) (i : Fin 512) :
    k0_pay22 dp v (ix2 q i) = k0_pay20 dp v (ix2 ⟨q, by omega⟩ i) := by pointwise [k0_pay22]
/-- The carried rows are the tile's first. -/
theorem cr36 (q : Fin 16) (i : Fin 512) : k0_pay36 e (ix2 q i) = e (ix2 ⟨q, by omega⟩ i) := by pointwise [k0_pay36]
/-- The carried rows are the tile's first. -/
theorem cr50 (q : Fin 16) (i : Fin 512) : k0_pay50 e (ix2 q i) = e (ix2 ⟨q, by omega⟩ i) := by pointwise [k0_pay50]
/-- The carried rows are the tile's first. -/
theorem cr2 (q : Fin 16) (i : Fin 512) : k0_pay2 e (ix2 q i) = e (ix2 ⟨q, by omega⟩ i) := by pointwise [k0_pay2]

end du

end Cert.Pool

end
-- ==== Proof.EntryCast.lean ====
/- The operands that are arguments in the narrower format. -/
module

public import proofs.«01_k».proof.Proof.Gen.KernelIdeal.Value
public import proofs.«01_k».proof.Proof.Gen.ReferenceIdeal.Read
public import Idealize.ShloMosaic.Lib.StableHlo.RunRead

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The output gradient in the narrower format. -/
theorem V88 : V m c main_v88 = (truncf (F := Ideal) .bf16 (m ((c : Thread nD τ).loc main_arg5)) bitsLt_bf16_f32 : FVec Ideal S4096x2048 .bf16) := by
  simp only [V, List.flatten_cons, List.flatten_nil, List.append_nil]
  after_reads_simp

/-- The output map in the narrower format. -/
theorem V89 : V m c main_v89 = (truncf (F := Ideal) .bf16 (m ((c : Thread nD τ).loc main_arg4)) bitsLt_bf16_f32 : FVec Ideal S2048x2048 .bf16) := by
  simp only [V, List.flatten_cons, List.flatten_nil, List.append_nil]
  after_reads_simp

/-- The group maps in the narrower format. -/
theorem V90 : V m c main_v90 = (truncf (F := Ideal) .bf16 (m ((c : Thread nD τ).loc main_arg2)) bitsLt_bf16_f32 : FVec Ideal S4x512x512 .bf16) := by
  simp only [V, List.flatten_cons, List.flatten_nil, List.append_nil]
  after_reads_simp

end Cert.Pool

end
-- ==== Proof.EntryMix.lean ====
/- The mixed channels that the call takes, by the reference's own forward lines. -/
module

public import proofs.«01_k».proof.Proof.Gen.KernelIdeal.Value
public import proofs.«01_k».proof.Proof.Gen.ReferenceIdeal.Read
public import Idealize.ShloMosaic.Lib.StableHlo.RunRead

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

set_option maxHeartbeats 1600000 in
/-- The mixed channels are what the reference's forward lines compute from `u` and the group maps. -/
theorem V85 : V m c main_v85 = (Cert.ReferenceIdeal.Read.val_main_v89 (F := Ideal) (m ((c : Thread nD τ).loc main_arg0)) (m ((c : Thread nD τ).loc main_arg2)) : FVec Ideal S4096x2048 .f32) := by
  simp only [V, List.flatten_cons, List.flatten_nil, List.append_nil]
  after_reads_simp
  rfl

end Cert.Pool

end
-- ==== Proof.EntryPool.lean ====
/- The pooled channels that the call takes, by the reference's own forward lines. -/
module

public import proofs.«01_k».proof.Proof.Gen.KernelIdeal.Value
public import proofs.«01_k».proof.Proof.Gen.ReferenceIdeal.Read
public import Idealize.ShloMosaic.Lib.StableHlo.RunRead

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

set_option maxHeartbeats 1600000 in
/-- The pooled channels, stacked by group in the reference's forward lines, are one row of channels here. -/
theorem V87 : V m c main_v87 = (truncf (F := Ideal) .bf16 (shapeCast S4096x2048 (Cert.ReferenceIdeal.Read.val_main_v86 (F := Ideal) (m ((c : Thread nD τ).loc main_arg0))) shapeCasts_S1x4096x4x512_S4096x2048) bitsLt_bf16_f32 : FVec Ideal S4096x2048 .bf16) := by
  simp only [V, List.flatten_cons, List.flatten_nil, List.append_nil]
  after_reads_simp
  rfl

end Cert.Pool

end
-- ==== Proof.Spec.lean ====
/- The arrays of the backward pass as both programs take them: what forward computed is the reference's own forward
   lines. -/
module

public import proofs.«01_k».proof.Proof.Gen.ReferenceIdeal.Read
public import proofs.«01_k».proof.Proof.Grad

@[expose] public section

noncomputable section

namespace Cert.Pool

open Cert.ReferenceIdeal Cert.ReferenceIdeal.Read
open Idealize.ShloMosaic

/-- The six arguments, and the mixed and the pooled channels that forward forms from them, by row and channel. -/
def argsOf (x0 x1 : FVec Ideal S4096x2048 .f32) (x2 : FVec Ideal S4x512x512 .f32) (x3 : FVec Ideal S1x2048 .f32)
    (x4 : FVec Ideal S2048x2048 .f32) (x5 : FVec Ideal S4096x2048 .f32) : Args where
  z r j := x1 (ix2 r j)
  dr r j := x5 (ix2 r j)
  wo r j := x4 (ix2 r j)
  wg g i j := x2 (ix3 g i j)
  sc j := x3 (ix2 0 j)
  mx r j := val_main_v89 (F := Ideal) x0 x2 (ix2 r j)
  p r j := val_main_v86 (F := Ideal) x0 (ix4 0 r ⟨j.val / 512, by omega⟩ ⟨j.val % 512, by omega⟩)

end Cert.Pool

end
-- ==== Proof.Blocks.lean ====
/- The input blocks that a point reads, as rows and columns of the arrays. -/
module

public import proofs.«01_k».proof.Proof.Gen.KernelIdeal.Value
public import proofs.«01_k».proof.Proof.Win
public import proofs.«01_k».proof.Proof.EntryCast
public import proofs.«01_k».proof.Proof.EntryMix
public import proofs.«01_k».proof.Proof.EntryPool
public import proofs.«01_k».proof.Proof.Spec
public import proofs.«01_k».proof.Proof.EntryCast
public import proofs.«01_k».proof.Proof.EntryMix
public import proofs.«01_k».proof.Proof.EntryPool
public import proofs.«01_k».proof.Proof.Spec
public import proofs.«01_k».proof.Proof.EntryCast
public import proofs.«01_k».proof.Proof.EntryMix
public import proofs.«01_k».proof.Proof.EntryPool
public import proofs.«01_k».proof.Proof.Spec
public import Idealize.ShloMosaic.Lib.Pipeline.ValueKit

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The arrays the call takes, by row and channel. -/
def args : Args := argsOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- Which block each window takes at a point. -/
theorem idx : ∀ t : Fin cfg0.N, win0_0.index t = ![15 - t.val, 0] ∧ win0_1.index t = ![0, 0]
    ∧ win0_2.index t = ![15 - t.val, 0] ∧ win0_3.index t = ![15 - t.val, 0] ∧ win0_4.index t = ![15 - t.val, 0]
    ∧ win0_5.index t = ![0, 0, 0] ∧ win0_6.index t = ![0, 0] ∧ win0_7.index t = ![0, 15 - t.val, 0]
    ∧ win0_8.index t = ![0, 0, 0] ∧ win0_9.index t = ![0, 0] ∧ (grid0.coords t 0).val = t.val :=
  (by decide +kernel : ∀ t : Fin grid0.N, _)
/-- Where block 0 of the tile lies in its array. -/
theorem blk_emb0 (t : Fin cfg0.N) (r : Fin 256) (j : Fin 2048) : ((cfg0.win 0).blk t).view.emb (ix2 r j) = (ix2 (row t r) j) := by
  unfold row base
  blk_ext [idx t]
/-- Window 0 of a point reads `dr`. -/
theorem block0 (t : Fin cfg0.N) (r : Fin 256) (j : Fin 2048) :
    (iblk m c 0 t : FVec Ideal S256x2048 .bf16) (ix2 r j) = (args m c).dr (row t r) j :=
  (congrArg (V m c main_v88 : FVec Ideal S4096x2048 .bf16) (blk_emb0 t r j)).trans
    (congrFun (V88 m c) _)

/-- Where block 1 of the tile lies in its array. -/
theorem blk_emb1 (t : Fin cfg0.N) (r j : Fin 2048) : ((cfg0.win 1).blk t).view.emb (ix2 r j) = (ix2 r j) := by
  blk_ext [idx t]
/-- Window 1 of a point reads `wo`. -/
theorem block1 (t : Fin cfg0.N) (r j : Fin 2048) :
    (iblk m c 1 t : FVec Ideal S2048x2048 .bf16) (ix2 r j) = (args m c).wo r j :=
  (congrArg (V m c main_v89 : FVec Ideal S2048x2048 .bf16) (blk_emb1 t r j)).trans
    (congrFun (V89 m c) _)

/-- Where block 2 of the tile lies in its array. -/
theorem blk_emb2 (t : Fin cfg0.N) (r : Fin 256) (j : Fin 2048) : ((cfg0.win 2).blk t).view.emb (ix2 r j) = (ix2 (row t r) j) := by
  unfold row base
  blk_ext [idx t]
/-- Window 2 of a point reads `mx`. -/
theorem block2 (t : Fin cfg0.N) (r : Fin 256) (j : Fin 2048) :
    (iblk m c 2 t : FVec Ideal S256x2048 .f32) (ix2 r j) = (args m c).mx (row t r) j :=
  (congrArg (V m c main_v85 : FVec Ideal S4096x2048 .f32) (blk_emb2 t r j)).trans
    (congrFun (V85 m c) _)

/-- Where block 3 of the tile lies in its array. -/
theorem blk_emb3 (t : Fin cfg0.N) (r : Fin 256) (j : Fin 2048) : ((cfg0.win 3).blk t).view.emb (ix2 r j) = (ix2 (row t r) j) := by
  unfold row base
  blk_ext [idx t]
/-- Window 3 of a point reads `z`. -/
theorem block3 (t : Fin cfg0.N) (r : Fin 256) (j : Fin 2048) :
    (iblk m c 3 t : FVec Ideal S256x2048 .f32) (ix2 r j) = (args m c).z (row t r) j :=
  (congrArg (V m c main_arg1 : FVec Ideal S4096x2048 .f32) (blk_emb3 t r j)).trans
    (congrFun (V_main_arg1 m c) _)

/-- Where block 4 of the tile lies in its array. -/
theorem blk_emb4 (t : Fin cfg0.N) (r : Fin 256) (j : Fin 2048) : ((cfg0.win 4).blk t).view.emb (ix2 r j) = (ix2 (row t r) j) := by
  unfold row base
  blk_ext [idx t]
/-- The stack of pooled channels laid out as rows. -/
theorem pool_at (x : FVec Ideal S1x4096x4x512 .f32) (r : Fin 4096) (j : Fin 2048) :
    (truncf (F := Ideal) .bf16 (shapeCast S4096x2048 x shapeCasts_S1x4096x4x512_S4096x2048) bitsLt_bf16_f32
      : FVec Ideal S4096x2048 .bf16) (ix2 r j) = x (ix4 0 r ⟨j.val / 512, by omega⟩ ⟨j.val % 512, by omega⟩) := by
  pointwise []
/-- Window 4 of a point reads `p`. -/
theorem block4 (t : Fin cfg0.N) (r : Fin 256) (j : Fin 2048) :
    (iblk m c 4 t : FVec Ideal S256x2048 .bf16) (ix2 r j) = (args m c).p (row t r) j :=
  (congrArg (V m c main_v87 : FVec Ideal S4096x2048 .bf16) (blk_emb4 t r j)).trans
    ((congrFun (V87 m c) _).trans (pool_at _ (row t r) j))

/-- Where block 5 of the tile lies in its array. -/
theorem blk_emb5 (t : Fin cfg0.N) (g : Fin 4) (i j : Fin 512) : ((cfg0.win 5).blk t).view.emb (ix3 g i j) = (ix3 g i j) := by
  blk_ext [idx t]
/-- Window 5 of a point reads `wg`. -/
theorem block5 (t : Fin cfg0.N) (g : Fin 4) (i j : Fin 512) :
    (iblk m c 5 t : FVec Ideal S4x512x512 .bf16) (ix3 g i j) = (args m c).wg g i j :=
  (congrArg (V m c main_v90 : FVec Ideal S4x512x512 .bf16) (blk_emb5 t g i j)).trans
    (congrFun (V90 m c) _)

/-- Where block 6 of the tile lies in its array. -/
theorem blk_emb6 (t : Fin cfg0.N) (j : Fin 2048) : ((cfg0.win 6).blk t).view.emb (ix2 0 j) = (ix2 0 j) := by
  blk_ext [idx t]
/-- Window 6 of a point reads `sc`. -/
theorem block6 (t : Fin cfg0.N) (j : Fin 2048) :
    (iblk m c 6 t : FVec Ideal S1x2048 .f32) (ix2 0 j) = (args m c).sc j :=
  (congrArg (V m c main_arg3 : FVec Ideal S1x2048 .f32) (blk_emb6 t j)).trans
    (congrFun (V_main_arg3 m c) _)

/-! ## Slabs of a block -/

section
variable {off size : Fin 2 → ℕ}

/-- Group `g`'s columns of the seventh window's block and the like: a slab of 512 columns. -/
theorem slab_idx (n : ℕ) (g : Fin 4) (inb) (r : Fin n) (j : Fin 512) (h0 : off 0 = 0) (h1 : off 1 = g.val * 512) :
    (Rect.unit (s := ⟨2, ![n, 2048]⟩) off ![n, 512] inb).idx (ix2 r j) = ix2 r (colOf g j) := by
  funext a; apply Fin.ext
  refine Fin.cases ?_ (fun a => ?_) a
  · show off 0 + 1 * r.val = r.val; omega
  · obtain rfl : a = 0 := Subsingleton.elim _ _
    show off 1 + 1 * j.val = g.val * 512 + j.val; omega

/-- Group `g`'s rows of the output map. -/
theorem rows_idx (g : Fin 4) (inb) (j : Fin 512) (k : Fin 2048) (h0 : off 0 = g.val * 512) (h1 : off 1 = 0) :
    (Rect.unit (s := ⟨2, ![2048, 2048]⟩) off ![512, 2048] inb).idx (ix2 j k) = ix2 (colOf g j) k := by
  funext a; apply Fin.ext
  refine Fin.cases ?_ (fun a => ?_) a
  · show off 0 + 1 * j.val = g.val * 512 + j.val; omega
  · obtain rfl : a = 0 := Subsingleton.elim _ _
    show off 1 + 1 * k.val = k.val; omega

/-- Group `g`'s map of the four. -/
theorem map_idx {off : Fin 3 → ℕ} (g : Fin 4) (inb) (i j : Fin 512) (h0 : off 0 = g.val) (h1 : off 1 = 0) (h2 : off 2 = 0) :
    (Rect.unit (s := ⟨3, ![4, 512, 512]⟩) off ![1, 512, 512] inb).idx (ix3 0 i j) = ix3 g i j := by
  funext a; apply Fin.ext
  fin_cases a
  · show off 0 + 1 * 0 = g.val; omega
  · show off 1 + 1 * i.val = i.val; omega
  · show off 2 + 1 * j.val = j.val; omega

/-- A whole block loaded is the block. -/
theorem whole_idx {n k : ℕ} (inb) (r : Fin n) (j : Fin k) (h0 : off 0 = 0) (h1 : off 1 = 0) :
    (Rect.unit (s := ⟨2, ![n, k]⟩) off ![n, k] inb).idx (ix2 r j) = ix2 r j := by
  funext a; apply Fin.ext
  refine Fin.cases ?_ (fun a => ?_) a
  · show off 0 + 1 * r.val = r.val; omega
  · obtain rfl : a = 0 := Subsingleton.elim _ _
    show off 1 + 1 * j.val = j.val; omega

end

end Cert.Pool

end
-- ==== Proof.Canon.lean ====
/- A list of stores read at an index, newest first, with the position within the store named by its coordinates. -/
module

public import Idealize.ShloMosaic.Lib.Pipeline.ValueKit
public import Idealize.ShloMosaic.Lib.WritesUnit

@[expose] public section

noncomputable section

namespace Cert.Pool

open Idealize.ShloMosaic

variable {S : Shape} {e : EltTy} {Val : EltTy → Type} [∀ e, Nonempty (Val e)]

/-- Under the newest store the value is what it wrote there. -/
theorem canon_hit {off size : Fin S.rank → ℕ} (inb : ∀ a, off a + size a ≤ S.size a)
    (w : (Rect.unit off size inb).shape.Idx → Val e) (L : List (View.Piece Val S e)) (y : S.Idx)
    (x : (Rect.unit off size inb).shape.Idx) (hx : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  rw [← hy]; exact View.canon_cons_emb _ w L x

/-- Off the newest store the value is what the earlier ones left. -/
theorem canon_miss {off size : Fin S.rank → ℕ} (inb : ∀ a, off a + size a ≤ S.size a)
    (w : (Rect.unit off size inb).shape.Idx → Val e) (L : List (View.Piece Val S e)) (y : S.Idx) (a : Fin S.rank)
    (ha : (y a).val < off a ∨ off a + size a ≤ (y a).val) :
    View.canon ((⟨Rect.unit off size inb, w⟩ : View.Piece Val S e) :: L) y = View.canon L y := by
  refine View.canon_cons_of_not_mem _ L ?_
  show y ∉ (Rect.unit off size inb).set
  rw [Rect.mem_set_unit]
  intro h
  have := h a
  omega

end Cert.Pool

end
-- ==== Proof.Tile.lean ====
/- What one grid point computes on its slabs, from the blocks it reads. -/
module

public import proofs.«01_k».proof.Proof.Blocks
public import proofs.«01_k».proof.Proof.Pay
public import proofs.«01_k».proof.Proof.Canon
public import Idealize.ShloMosaic.Lib.Pipeline.ValueKit

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

variable (t : Fin cfg0.N)

/-! ## Loads of a slab -/

section
variable {off : Fin 2 → ℕ} (g : Fin 4)

/-- A group's rows of the output projection. -/
theorem ldW (inb) (h0 : off 0 = g.val * 512) (h1 : off 1 = 0) (j : Fin 512) (k : Fin 2048) :
    View.ld (Val := Elt Ideal) (e' := .bf16) (iblk m c 1 t : FVec Ideal S2048x2048 .bf16) (Rect.unit off ![512, 2048] inb) (ix2 j k)
      = (args m c).wo (colOf g j) k :=
  (congrArg (iblk m c 1 t : FVec Ideal S2048x2048 .bf16) (rows_idx g inb j k h0 h1)).trans (block1 m c t _ _)

/-- A group's columns of the mixed channels. -/
theorem ldM (inb) (h0 : off 0 = 0) (h1 : off 1 = g.val * 512) (r : Fin 256) (j : Fin 512) :
    View.ld (Val := Elt Ideal) (e' := .f32) (iblk m c 2 t : FVec Ideal S256x2048 .f32) (Rect.unit off ![256, 512] inb) (ix2 r j)
      = (args m c).mx (row t.val r) (colOf g j) :=
  (congrArg (iblk m c 2 t : FVec Ideal S256x2048 .f32) (slab_idx 256 g inb r j h0 h1)).trans (block2 m c t _ _)

/-- A group's columns of the gate. -/
theorem ldZ (inb) (h0 : off 0 = 0) (h1 : off 1 = g.val * 512) (r : Fin 256) (j : Fin 512) :
    View.ld (Val := Elt Ideal) (e' := .f32) (iblk m c 3 t : FVec Ideal S256x2048 .f32) (Rect.unit off ![256, 512] inb) (ix2 r j)
      = (args m c).z (row t.val r) (colOf g j) :=
  (congrArg (iblk m c 3 t : FVec Ideal S256x2048 .f32) (slab_idx 256 g inb r j h0 h1)).trans (block3 m c t _ _)

/-- A group's columns of the pooled channels. -/
theorem ldP (inb) (h0 : off 0 = 0) (h1 : off 1 = g.val * 512) (r : Fin 256) (j : Fin 512) :
    View.ld (Val := Elt Ideal) (e' := .bf16) (iblk m c 4 t : FVec Ideal S256x2048 .bf16) (Rect.unit off ![256, 512] inb) (ix2 r j)
      = (args m c).p (row t.val r) (colOf g j) :=
  (congrArg (iblk m c 4 t : FVec Ideal S256x2048 .bf16) (slab_idx 256 g inb r j h0 h1)).trans (block4 m c t _ _)

/-- A group's columns of the scale. -/
theorem ldS (inb) (h0 : off 0 = 0) (h1 : off 1 = g.val * 512) (j : Fin 512) :
    View.ld (Val := Elt Ideal) (e' := .f32) (iblk m c 6 t : FVec Ideal S1x2048 .f32) (Rect.unit off ![1, 512] inb) (ix2 0 j)
      = (args m c).sc (colOf g j) :=
  (congrArg (iblk m c 6 t : FVec Ideal S1x2048 .f32) (slab_idx 1 g inb 0 j h0 h1)).trans (block6 m c t _)

/-- A group's map. -/
theorem ldG {off : Fin 3 → ℕ} (inb) (h0 : off 0 = g.val) (h1 : off 1 = 0) (h2 : off 2 = 0) (i j : Fin 512) :
    View.ld (Val := Elt Ideal) (e' := .bf16) (iblk m c 5 t : FVec Ideal S4x512x512 .bf16) (Rect.unit off ![1, 512, 512] inb) (ix3 0 i j)
      = (args m c).wg g i j :=
  (congrArg (iblk m c 5 t : FVec Ideal S4x512x512 .bf16) (map_idx g inb i j h0 h1 h2)).trans (block5 m c t _ _ _)

end

/-- The number of rows up to each row of the tile. -/
theorem cnt_at (r : Fin 256) : k0_pay8 (F := Ideal) (grid0.coords t) (ix2 r 0) = (((base t.val + r + 1 : ℕ) : ℝ) : EReal) := by
  have h := count_at (grid0.coords t) r
  rwa [(idx t).2.2.2.2.2.2.2.2.2.2] at h

/-! ## The groups, one by one -/

/-- The gradient of y that a point takes, group 0. -/
theorem dy_0 (r : Fin 256) (j : Fin 512) : (k0_pay4 (F := Ideal) (iblk m c 0 t) (View.ld (iblk m c 1 t) (Rect.unit ![0, 0] ![512, 2048] inb_S2048x2048_S512x2048_0_0))) (ix2 r j) = DY (args m c) (row t.val r) (colOf 0 j) :=
  dy4 (args m c) (row t.val) 0 _ _ (block0 m c t) (ldW m c t 0 _ rfl rfl) r j
/-- The gate times it, group 0. -/
theorem t_0 (r : Fin 256) (j : Fin 512) : (k0_pay13 (F := Ideal) (iblk m c 0 t) (View.ld (iblk m c 1 t) (Rect.unit ![0, 0] ![512, 2048] inb_S2048x2048_S512x2048_0_0)) (View.ld (iblk m c 3 t) (Rect.unit ![0, 0] ![256, 512] inb_S256x2048_S256x512_0_0))) (ix2 r j) = T1 (args m c) (row t.val r) (colOf 0 j) :=
  t13 (args m c) (row t.val) 0 _ _ _ (block0 m c t) (ldW m c t 0 _ rfl rfl) (ldZ m c t 0 _ rfl rfl) r j
/-- The gradient of the pooled channels, group 0. -/
theorem dp_0 (r : Fin 256) (j : Fin 512) : (k0_pay18 (F := Ideal) (View.ld (iblk m c 6 t) (Rect.unit ![0, 0] ![1, 512] inb_S1x2048_S1x512_0_0)) (k0_pay13 (F := Ideal) (iblk m c 0 t) (View.ld (iblk m c 1 t) (Rect.unit ![0, 0] ![512, 2048] inb_S2048x2048_S512x2048_0_0)) (View.ld (iblk m c 3 t) (Rect.unit ![0, 0] ![256, 512] inb_S256x2048_S256x512_0_0))) (View.ld (iblk m c 5 t) (Rect.unit ![0, 0, 0] ![1, 512, 512] inb_S4x512x512_S1x512x512_0_0_0))) (ix2 r j) = DP (args m c) (row t.val r) 0 j :=
  dp18 (args m c) (row t.val) 0 _ _ _ (t_0 m c t) (ldS m c t 0 _ rfl rfl) (ldG m c t 0 _ rfl rfl rfl) r j
/-- Its share per row of the window, group 0. -/
theorem e_0 (r : Fin 256) (j : Fin 512) : (k0_pay20 (k0_pay18 (F := Ideal) (View.ld (iblk m c 6 t) (Rect.unit ![0, 0] ![1, 512] inb_S1x2048_S1x512_0_0)) (k0_pay13 (F := Ideal) (iblk m c 0 t) (View.ld (iblk m c 1 t) (Rect.unit ![0, 0] ![512, 2048] inb_S2048x2048_S512x2048_0_0)) (View.ld (iblk m c 3 t) (Rect.unit ![0, 0] ![256, 512] inb_S256x2048_S256x512_0_0))) (View.ld (iblk m c 5 t) (Rect.unit ![0, 0, 0] ![1, 512, 512] inb_S4x512x512_S1x512x512_0_0_0))) (k0_pay19 (k0_pay8 (F := Ideal) (grid0.coords t)))) (ix2 r j) = E (args m c) 0 j (base t.val + r) :=
  e20 (args m c) t.val _ (cnt_at t) _ (dp_0 m c t) r j
/-- The gradient of u, group 0, given the shares carried from the tile after. -/
theorem du_0 (cr : FVec Ideal S16x512 .f32) (hc : ∀ (q : Fin 16) (i : Fin 512), cr (ix2 q i) = E (args m c) 0 i (base t.val + (256 + q))) (r : Fin 256) (j : Fin 512) :
    k0_pay21 (k0_pay18 (F := Ideal) (View.ld (iblk m c 6 t) (Rect.unit ![0, 0] ![1, 512] inb_S1x2048_S1x512_0_0)) (k0_pay13 (F := Ideal) (iblk m c 0 t) (View.ld (iblk m c 1 t) (Rect.unit ![0, 0] ![512, 2048] inb_S2048x2048_S512x2048_0_0)) (View.ld (iblk m c 3 t) (Rect.unit ![0, 0] ![256, 512] inb_S256x2048_S256x512_0_0))) (View.ld (iblk m c 5 t) (Rect.unit ![0, 0, 0] ![1, 512, 512] inb_S4x512x512_S1x512x512_0_0_0))) (k0_pay19 (k0_pay8 (F := Ideal) (grid0.coords t))) cr (ix3 0 r j) = DU (args m c) (row t.val r) 0 j :=
  du21 (args m c) t.val _ cr _ j (fun r => dp_0 m c t r j) (fun r => e_0 m c t r j) (fun q => hc q j) r
/-- What is carried on to the tile before, group 0. -/
theorem keep_0 (q : Fin 16) (i : Fin 512) : k0_pay22 (k0_pay18 (F := Ideal) (View.ld (iblk m c 6 t) (Rect.unit ![0, 0] ![1, 512] inb_S1x2048_S1x512_0_0)) (k0_pay13 (F := Ideal) (iblk m c 0 t) (View.ld (iblk m c 1 t) (Rect.unit ![0, 0] ![512, 2048] inb_S2048x2048_S512x2048_0_0)) (View.ld (iblk m c 3 t) (Rect.unit ![0, 0] ![256, 512] inb_S256x2048_S256x512_0_0))) (View.ld (iblk m c 5 t) (Rect.unit ![0, 0, 0] ![1, 512, 512] inb_S4x512x512_S1x512x512_0_0_0))) (k0_pay19 (k0_pay8 (F := Ideal) (grid0.coords t))) (ix2 q i) = E (args m c) 0 i (base t.val + q) :=
  (cr22 _ _ q i).trans (e_0 m c t ⟨q, by omega⟩ i)
/-- The gradient of z, group 0. -/
theorem dz_0 (r : Fin 256) (j : Fin 512) :
    k0_pay15 (k0_pay4 (F := Ideal) (iblk m c 0 t) (View.ld (iblk m c 1 t) (Rect.unit ![0, 0] ![512, 2048] inb_S2048x2048_S512x2048_0_0))) (k0_pay10 (View.ld (iblk m c 3 t) (Rect.unit ![0, 0] ![256, 512] inb_S256x2048_S256x512_0_0))) (k0_pay12 (View.ld (iblk m c 2 t) (Rect.unit ![0, 0] ![256, 512] inb_S256x2048_S256x512_0_0))) (View.ld (iblk m c 6 t) (Rect.unit ![0, 0] ![1, 512] inb_S1x2048_S1x512_0_0)) (ix3 0 r j) = DZ (args m c) (row t.val r) (colOf 0 j) :=
  dz15 (args m c) (row t.val) 0 _ _ _ _ (dy_0 m c t) (ldZ m c t 0 _ rfl rfl) (ldM m c t 0 _ rfl rfl) (ldS m c t 0 _ rfl rfl) r j
/-- The scale sum, group 0. -/
theorem st_0 (acc : FVec Ideal S1x512 .f32) (j : Fin 512) :
    k0_pay14 (k0_pay12 (View.ld (iblk m c 2 t) (Rect.unit ![0, 0] ![256, 512] inb_S256x2048_S256x512_0_0))) (k0_pay13 (F := Ideal) (iblk m c 0 t) (View.ld (iblk m c 1 t) (Rect.unit ![0, 0] ![512, 2048] inb_S2048x2048_S512x2048_0_0)) (View.ld (iblk m c 3 t) (Rect.unit ![0, 0] ![256, 512] inb_S256x2048_S256x512_0_0))) acc (ix2 0 j) = acc (ix2 0 j) + ∑ r : Fin 256, T1 (args m c) (row t.val r) (colOf 0 j) * (args m c).mx (row t.val r) (colOf 0 j) :=
  st14 (args m c) (row t.val) 0 _ _ (t_0 m c t) (ldM m c t 0 _ rfl rfl) acc j
/-- The sum of the group map's gradient, group 0. -/
theorem wg_0 (acc : FVec Ideal S1x512x512 .f32) (i j : Fin 512) :
    k0_pay17 (View.ld (iblk m c 6 t) (Rect.unit ![0, 0] ![1, 512] inb_S1x2048_S1x512_0_0)) (k0_pay13 (F := Ideal) (iblk m c 0 t) (View.ld (iblk m c 1 t) (Rect.unit ![0, 0] ![512, 2048] inb_S2048x2048_S512x2048_0_0)) (View.ld (iblk m c 3 t) (Rect.unit ![0, 0] ![256, 512] inb_S256x2048_S256x512_0_0))) acc (View.ld (iblk m c 4 t) (Rect.unit ![0, 0] ![256, 512] inb_S256x2048_S256x512_0_0)) (ix3 0 i j)
      = acc (ix3 0 i j) + ∑ r : Fin 256, (args m c).p (row t.val r) (colOf 0 i) * DMX (args m c) (row t.val r) (colOf 0 j) :=
  wg17 (args m c) (row t.val) 0 _ _ _ (t_0 m c t) (ldS m c t 0 _ rfl rfl) (ldP m c t 0 _ rfl rfl) acc i j

/-- The gradient of y that a point takes, group 1. -/
theorem dy_1 (r : Fin 256) (j : Fin 512) : (k0_pay11 (F := Ideal) (iblk m c 0 t) (View.ld (iblk m c 1 t) (Rect.unit ![512, 0] ![512, 2048] inb_S2048x2048_S512x2048_512_0))) (ix2 r j) = DY (args m c) (row t.val r) (colOf 1 j) :=
  dy11 (args m c) (row t.val) 1 _ _ (block0 m c t) (ldW m c t 1 _ rfl rfl) r j
/-- The gate times it, group 1. -/
theorem t_1 (r : Fin 256) (j : Fin 512) : (k0_pay27 (F := Ideal) (k0_pay11 (F := Ideal) (iblk m c 0 t) (View.ld (iblk m c 1 t) (Rect.unit ![512, 0] ![512, 2048] inb_S2048x2048_S512x2048_512_0))) (View.ld (iblk m c 3 t) (Rect.unit ![0, 512] ![256, 512] inb_S256x2048_S256x512_0_512))) (ix2 r j) = T1 (args m c) (row t.val r) (colOf 1 j) :=
  t27 (args m c) (row t.val) 1 _ _ (dy_1 m c t) (ldZ m c t 1 _ rfl rfl) r j
/-- The gradient of the pooled channels, group 1. -/
theorem dp_1 (r : Fin 256) (j : Fin 512) : (k0_pay33 (F := Ideal) (View.ld (iblk m c 6 t) (Rect.unit ![0, 512] ![1, 512] inb_S1x2048_S1x512_0_512)) (k0_pay27 (F := Ideal) (k0_pay11 (F := Ideal) (iblk m c 0 t) (View.ld (iblk m c 1 t) (Rect.unit ![512, 0] ![512, 2048] inb_S2048x2048_S512x2048_512_0))) (View.ld (iblk m c 3 t) (Rect.unit ![0, 512] ![256, 512] inb_S256x2048_S256x512_0_512))) (View.ld (iblk m c 5 t) (Rect.unit ![1, 0, 0] ![1, 512, 512] inb_S4x512x512_S1x512x512_1_0_0))) (ix2 r j) = DP (args m c) (row t.val r) 1 j :=
  dp33 (args m c) (row t.val) 1 _ _ _ (t_1 m c t) (ldS m c t 1 _ rfl rfl) (ldG m c t 1 _ rfl rfl rfl) r j
/-- Its share per row of the window, group 1. -/
theorem e_1 (r : Fin 256) (j : Fin 512) : (k0_pay34 (k0_pay8 (F := Ideal) (grid0.coords t)) (View.ld (iblk m c 6 t) (Rect.unit ![0, 512] ![1, 512] inb_S1x2048_S1x512_0_512)) (k0_pay27 (F := Ideal) (k0_pay11 (F := Ideal) (iblk m c 0 t) (View.ld (iblk m c 1 t) (Rect.unit ![512, 0] ![512, 2048] inb_S2048x2048_S512x2048_512_0))) (View.ld (iblk m c 3 t) (Rect.unit ![0, 512] ![256, 512] inb_S256x2048_S256x512_0_512))) (View.ld (iblk m c 5 t) (Rect.unit ![1, 0, 0] ![1, 512, 512] inb_S4x512x512_S1x512x512_1_0_0))) (ix2 r j) = E (args m c) 1 j (base t.val + r) :=
  e34 (args m c) t.val _ (cnt_at t) _ _ _ (dp_1 m c t) r j
/-- The gradient of u, group 1, given the shares carried from the tile after. -/
theorem du_1 (cr : FVec Ideal S16x512 .f32) (hc : ∀ (q : Fin 16) (i : Fin 512), cr (ix2 q i) = E (args m c) 1 i (base t.val + (256 + q))) (r : Fin 256) (j : Fin 512) :
    k0_pay35 (k0_pay33 (F := Ideal) (View.ld (iblk m c 6 t) (Rect.unit ![0, 512] ![1, 512] inb_S1x2048_S1x512_0_512)) (k0_pay27 (F := Ideal) (k0_pay11 (F := Ideal) (iblk m c 0 t) (View.ld (iblk m c 1 t) (Rect.unit ![512, 0] ![512, 2048] inb_S2048x2048_S512x2048_512_0))) (View.ld (iblk m c 3 t) (Rect.unit ![0, 512] ![256, 512] inb_S256x2048_S256x512_0_512))) (View.ld (iblk m c 5 t) (Rect.unit ![1, 0, 0] ![1, 512, 512] inb_S4x512x512_S1x512x512_1_0_0))) (k0_pay34 (k0_pay8 (F := Ideal) (grid0.coords t)) (View.ld (iblk m c 6 t) (Rect.unit ![0, 512] ![1, 512] inb_S1x2048_S1x512_0_512)) (k0_pay27 (F := Ideal) (k0_pay11 (F := Ideal) (iblk m c 0 t) (View.ld (iblk m c 1 t) (Rect.unit ![512, 0] ![512, 2048] inb_S2048x2048_S512x2048_512_0))) (View.ld (iblk m c 3 t) (Rect.unit ![0, 512] ![256, 512] inb_S256x2048_S256x512_0_512))) (View.ld (iblk m c 5 t) (Rect.unit ![1, 0, 0] ![1, 512, 512] inb_S4x512x512_S1x512x512_1_0_0))) cr (ix3 0 r j) = DU (args m c) (row t.val r) 1 j :=
  du35 (args m c) t.val _ _ cr j (fun r => dp_1 m c t r j) (fun r => e_1 m c t r j) (fun q => hc q j) r
/-- What is carried on to the tile before, group 1. -/
theorem keep_1 (q : Fin 16) (i : Fin 512) : k0_pay36 (k0_pay34 (k0_pay8 (F := Ideal) (grid0.coords t)) (View.ld (iblk m c 6 t) (Rect.unit ![0, 512] ![1, 512] inb_S1x2048_S1x512_0_512)) (k0_pay27 (F := Ideal) (k0_pay11 (F := Ideal) (iblk m c 0 t) (View.ld (iblk m c 1 t) (Rect.unit ![512, 0] ![512, 2048] inb_S2048x2048_S512x2048_512_0))) (View.ld (iblk m c 3 t) (Rect.unit ![0, 512] ![256, 512] inb_S256x2048_S256x512_0_512))) (View.ld (iblk m c 5 t) (Rect.unit ![1, 0, 0] ![1, 512, 512] inb_S4x512x512_S1x512x512_1_0_0))) (ix2 q i) = E (args m c) 1 i (base t.val + q) :=
  (cr36 _ q i).trans (e_1 m c t ⟨q, by omega⟩ i)
/-- The gradient of z, group 1. -/
theorem dz_1 (r : Fin 256) (j : Fin 512) :
    k0_pay30 (k0_pay11 (F := Ideal) (iblk m c 0 t) (View.ld (iblk m c 1 t) (Rect.unit ![512, 0] ![512, 2048] inb_S2048x2048_S512x2048_512_0))) (k0_pay24 (View.ld (iblk m c 3 t) (Rect.unit ![0, 512] ![256, 512] inb_S256x2048_S256x512_0_512))) (k0_pay26 (View.ld (iblk m c 2 t) (Rect.unit ![0, 512] ![256, 512] inb_S256x2048_S256x512_0_512))) (View.ld (iblk m c 6 t) (Rect.unit ![0, 512] ![1, 512] inb_S1x2048_S1x512_0_512)) (ix3 0 r j) = DZ (args m c) (row t.val r) (colOf 1 j) :=
  dz30 (args m c) (row t.val) 1 _ _ _ _ (dy_1 m c t) (ldZ m c t 1 _ rfl rfl) (ldM m c t 1 _ rfl rfl) (ldS m c t 1 _ rfl rfl) r j
/-- The scale sum, group 1. -/
theorem st_1 (acc : FVec Ideal S1x512 .f32) (j : Fin 512) :
    k0_pay29 (k0_pay26 (View.ld (iblk m c 2 t) (Rect.unit ![0, 512] ![256, 512] inb_S256x2048_S256x512_0_512))) (k0_pay27 (F := Ideal) (k0_pay11 (F := Ideal) (iblk m c 0 t) (View.ld (iblk m c 1 t) (Rect.unit ![512, 0] ![512, 2048] inb_S2048x2048_S512x2048_512_0))) (View.ld (iblk m c 3 t) (Rect.unit ![0, 512] ![256, 512] inb_S256x2048_S256x512_0_512))) (k0_pay28 acc) (ix2 0 j) = acc (ix2 0 j) + ∑ r : Fin 256, T1 (args m c) (row t.val r) (colOf 1 j) * (args m c).mx (row t.val r) (colOf 1 j) :=
  st29 (args m c) (row t.val) 1 _ _ (t_1 m c t) (ldM m c t 1 _ rfl rfl) acc j
/-- The sum of the group map's gradient, group 1. -/
theorem wg_1 (acc : FVec Ideal S1x512x512 .f32) (i j : Fin 512) :
    k0_pay32 (View.ld (iblk m c 6 t) (Rect.unit ![0, 512] ![1, 512] inb_S1x2048_S1x512_0_512)) (k0_pay27 (F := Ideal) (k0_pay11 (F := Ideal) (iblk m c 0 t) (View.ld (iblk m c 1 t) (Rect.unit ![512, 0] ![512, 2048] inb_S2048x2048_S512x2048_512_0))) (View.ld (iblk m c 3 t) (Rect.unit ![0, 512] ![256, 512] inb_S256x2048_S256x512_0_512))) acc (View.ld (iblk m c 4 t) (Rect.unit ![0, 512] ![256, 512] inb_S256x2048_S256x512_0_512)) (ix3 0 i j)
      = acc (ix3 0 i j) + ∑ r : Fin 256, (args m c).p (row t.val r) (colOf 1 i) * DMX (args m c) (row t.val r) (colOf 1 j) :=
  wg32 (args m c) (row t.val) 1 _ _ _ (t_1 m c t) (ldS m c t 1 _ rfl rfl) (ldP m c t 1 _ rfl rfl) acc i j

/-- The gradient of y that a point takes, group 2. -/
theorem dy_2 (r : Fin 256) (j : Fin 512) : (k0_pay25 (F := Ideal) (iblk m c 0 t) (View.ld (iblk m c 1 t) (Rect.unit ![1024, 0] ![512, 2048] inb_S2048x2048_S512x2048_1024_0))) (ix2 r j) = DY (args m c) (row t.val r) (colOf 2 j) :=
  dy25 (args m c) (row t.val) 2 _ _ (block0 m c t) (ldW m c t 2 _ rfl rfl) r j
/-- The gate times it, group 2. -/
theorem t_2 (r : Fin 256) (j : Fin 512) : (k0_pay41 (F := Ideal) (k0_pay25 (F := Ideal) (iblk m c 0 t) (View.ld (iblk m c 1 t) (Rect.unit ![1024, 0] ![512, 2048] inb_S2048x2048_S512x2048_1024_0))) (View.ld (iblk m c 3 t) (Rect.unit ![0, 1024] ![256, 512] inb_S256x2048_S256x512_0_1024))) (ix2 r j) = T1 (args m c) (row t.val r) (colOf 2 j) :=
  t41 (args m c) (row t.val) 2 _ _ (dy_2 m c t) (ldZ m c t 2 _ rfl rfl) r j
/-- The gradient of the pooled channels, group 2. -/
theorem dp_2 (r : Fin 256) (j : Fin 512) : (k0_pay47 (F := Ideal) (View.ld (iblk m c 6 t) (Rect.unit ![0, 1024] ![1, 512] inb_S1x2048_S1x512_0_1024)) (k0_pay41 (F := Ideal) (k0_pay25 (F := Ideal) (iblk m c 0 t) (View.ld (iblk m c 1 t) (Rect.unit ![1024, 0] ![512, 2048] inb_S2048x2048_S512x2048_1024_0))) (View.ld (iblk m c 3 t) (Rect.unit ![0, 1024] ![256, 512] inb_S256x2048_S256x512_0_1024))) (View.ld (iblk m c 5 t) (Rect.unit ![2, 0, 0] ![1, 512, 512] inb_S4x512x512_S1x512x512_2_0_0))) (ix2 r j) = DP (args m c) (row t.val r) 2 j :=
  dp47 (args m c) (row t.val) 2 _ _ _ (t_2 m c t) (ldS m c t 2 _ rfl rfl) (ldG m c t 2 _ rfl rfl rfl) r j
/-- Its share per row of the window, group 2. -/
theorem e_2 (r : Fin 256) (j : Fin 512) : (k0_pay48 (k0_pay8 (F := Ideal) (grid0.coords t)) (View.ld (iblk m c 6 t) (Rect.unit ![0, 1024] ![1, 512] inb_S1x2048_S1x512_0_1024)) (k0_pay41 (F := Ideal) (k0_pay25 (F := Ideal) (iblk m c 0 t) (View.ld (iblk m c 1 t) (Rect.unit ![1024, 0] ![512, 2048] inb_S2048x2048_S512x2048_1024_0))) (View.ld (iblk m c 3 t) (Rect.unit ![0, 1024] ![256, 512] inb_S256x2048_S256x512_0_1024))) (View.ld (iblk m c 5 t) (Rect.unit ![2, 0, 0] ![1, 512, 512] inb_S4x512x512_S1x512x512_2_0_0))) (ix2 r j) = E (args m c) 2 j (base t.val + r) :=
  e48 (args m c) t.val _ (cnt_at t) _ _ _ (dp_2 m c t) r j
/-- The gradient of u, group 2, given the shares carried from the tile after. -/
theorem du_2 (cr : FVec Ideal S16x512 .f32) (hc : ∀ (q : Fin 16) (i : Fin 512), cr (ix2 q i) = E (args m c) 2 i (base t.val + (256 + q))) (r : Fin 256) (j : Fin 512) :
    k0_pay49 (k0_pay47 (F := Ideal) (View.ld (iblk m c 6 t) (Rect.unit ![0, 1024] ![1, 512] inb_S1x2048_S1x512_0_1024)) (k0_pay41 (F := Ideal) (k0_pay25 (F := Ideal) (iblk m c 0 t) (View.ld (iblk m c 1 t) (Rect.unit ![1024, 0] ![512, 2048] inb_S2048x2048_S512x2048_1024_0))) (View.ld (iblk m c 3 t) (Rect.unit ![0, 1024] ![256, 512] inb_S256x2048_S256x512_0_1024))) (View.ld (iblk m c 5 t) (Rect.unit ![2, 0, 0] ![1, 512, 512] inb_S4x512x512_S1x512x512_2_0_0))) (k0_pay48 (k0_pay8 (F := Ideal) (grid0.coords t)) (View.ld (iblk m c 6 t) (Rect.unit ![0, 1024] ![1, 512] inb_S1x2048_S1x512_0_1024)) (k0_pay41 (F := Ideal) (k0_pay25 (F := Ideal) (iblk m c 0 t) (View.ld (iblk m c 1 t) (Rect.unit ![1024, 0] ![512, 2048] inb_S2048x2048_S512x2048_1024_0))) (View.ld (iblk m c 3 t) (Rect.unit ![0, 1024] ![256, 512] inb_S256x2048_S256x512_0_1024))) (View.ld (iblk m c 5 t) (Rect.unit ![2, 0, 0] ![1, 512, 512] inb_S4x512x512_S1x512x512_2_0_0))) cr (ix3 0 r j) = DU (args m c) (row t.val r) 2 j :=
  du49 (args m c) t.val _ _ cr j (fun r => dp_2 m c t r j) (fun r => e_2 m c t r j) (fun q => hc q j) r
/-- What is carried on to the tile before, group 2. -/
theorem keep_2 (q : Fin 16) (i : Fin 512) : k0_pay50 (k0_pay48 (k0_pay8 (F := Ideal) (grid0.coords t)) (View.ld (iblk m c 6 t) (Rect.unit ![0, 1024] ![1, 512] inb_S1x2048_S1x512_0_1024)) (k0_pay41 (F := Ideal) (k0_pay25 (F := Ideal) (iblk m c 0 t) (View.ld (iblk m c 1 t) (Rect.unit ![1024, 0] ![512, 2048] inb_S2048x2048_S512x2048_1024_0))) (View.ld (iblk m c 3 t) (Rect.unit ![0, 1024] ![256, 512] inb_S256x2048_S256x512_0_1024))) (View.ld (iblk m c 5 t) (Rect.unit ![2, 0, 0] ![1, 512, 512] inb_S4x512x512_S1x512x512_2_0_0))) (ix2 q i) = E (args m c) 2 i (base t.val + q) :=
  (cr50 _ q i).trans (e_2 m c t ⟨q, by omega⟩ i)
/-- The gradient of z, group 2. -/
theorem dz_2 (r : Fin 256) (j : Fin 512) :
    k0_pay44 (k0_pay25 (F := Ideal) (iblk m c 0 t) (View.ld (iblk m c 1 t) (Rect.unit ![1024, 0] ![512, 2048] inb_S2048x2048_S512x2048_1024_0))) (k0_pay38 (View.ld (iblk m c 3 t) (Rect.unit ![0, 1024] ![256, 512] inb_S256x2048_S256x512_0_1024))) (k0_pay40 (View.ld (iblk m c 2 t) (Rect.unit ![0, 1024] ![256, 512] inb_S256x2048_S256x512_0_1024))) (View.ld (iblk m c 6 t) (Rect.unit ![0, 1024] ![1, 512] inb_S1x2048_S1x512_0_1024)) (ix3 0 r j) = DZ (args m c) (row t.val r) (colOf 2 j) :=
  dz44 (args m c) (row t.val) 2 _ _ _ _ (dy_2 m c t) (ldZ m c t 2 _ rfl rfl) (ldM m c t 2 _ rfl rfl) (ldS m c t 2 _ rfl rfl) r j
/-- The scale sum, group 2. -/
theorem st_2 (acc : FVec Ideal S1x512 .f32) (j : Fin 512) :
    k0_pay43 (k0_pay40 (View.ld (iblk m c 2 t) (Rect.unit ![0, 1024] ![256, 512] inb_S256x2048_S256x512_0_1024))) (k0_pay41 (F := Ideal) (k0_pay25 (F := Ideal) (iblk m c 0 t) (View.ld (iblk m c 1 t) (Rect.unit ![1024, 0] ![512, 2048] inb_S2048x2048_S512x2048_1024_0))) (View.ld (iblk m c 3 t) (Rect.unit ![0, 1024] ![256, 512] inb_S256x2048_S256x512_0_1024))) (k0_pay42 acc) (ix2 0 j) = acc (ix2 0 j) + ∑ r : Fin 256, T1 (args m c) (row t.val r) (colOf 2 j) * (args m c).mx (row t.val r) (colOf 2 j) :=
  st43 (args m c) (row t.val) 2 _ _ (t_2 m c t) (ldM m c t 2 _ rfl rfl) acc j
/-- The sum of the group map's gradient, group 2. -/
theorem wg_2 (acc : FVec Ideal S1x512x512 .f32) (i j : Fin 512) :
    k0_pay46 (View.ld (iblk m c 6 t) (Rect.unit ![0, 1024] ![1, 512] inb_S1x2048_S1x512_0_1024)) (k0_pay41 (F := Ideal) (k0_pay25 (F := Ideal) (iblk m c 0 t) (View.ld (iblk m c 1 t) (Rect.unit ![1024, 0] ![512, 2048] inb_S2048x2048_S512x2048_1024_0))) (View.ld (iblk m c 3 t) (Rect.unit ![0, 1024] ![256, 512] inb_S256x2048_S256x512_0_1024))) acc (View.ld (iblk m c 4 t) (Rect.unit ![0, 1024] ![256, 512] inb_S256x2048_S256x512_0_1024)) (ix3 0 i j)
      = acc (ix3 0 i j) + ∑ r : Fin 256, (args m c).p (row t.val r) (colOf 2 i) * DMX (args m c) (row t.val r) (colOf 2 j) :=
  wg46 (args m c) (row t.val) 2 _ _ _ (t_2 m c t) (ldS m c t 2 _ rfl rfl) (ldP m c t 2 _ rfl rfl) acc i j

/-- The gradient of y that a point takes, group 3. -/
theorem dy_3 (r : Fin 256) (j : Fin 512) : (k0_pay39 (F := Ideal) (iblk m c 0 t) (View.ld (iblk m c 1 t) (Rect.unit ![1536, 0] ![512, 2048] inb_S2048x2048_S512x2048_1536_0))) (ix2 r j) = DY (args m c) (row t.val r) (colOf 3 j) :=
  dy39 (args m c) (row t.val) 3 _ _ (block0 m c t) (ldW m c t 3 _ rfl rfl) r j
/-- The gate times it, group 3. -/
theorem t_3 (r : Fin 256) (j : Fin 512) : (k0_pay54 (F := Ideal) (k0_pay39 (F := Ideal) (iblk m c 0 t) (View.ld (iblk m c 1 t) (Rect.unit ![1536, 0] ![512, 2048] inb_S2048x2048_S512x2048_1536_0))) (View.ld (iblk m c 3 t) (Rect.unit ![0, 1536] ![256, 512] inb_S256x2048_S256x512_0_1536))) (ix2 r j) = T1 (args m c) (row t.val r) (colOf 3 j) :=
  t54 (args m c) (row t.val) 3 _ _ (dy_3 m c t) (ldZ m c t 3 _ rfl rfl) r j
/-- The gradient of the pooled channels, group 3. -/
theorem dp_3 (r : Fin 256) (j : Fin 512) : (k0_pay59 (F := Ideal) (View.ld (iblk m c 6 t) (Rect.unit ![0, 1536] ![1, 512] inb_S1x2048_S1x512_0_1536)) (k0_pay54 (F := Ideal) (k0_pay39 (F := Ideal) (iblk m c 0 t) (View.ld (iblk m c 1 t) (Rect.unit ![1536, 0] ![512, 2048] inb_S2048x2048_S512x2048_1536_0))) (View.ld (iblk m c 3 t) (Rect.unit ![0, 1536] ![256, 512] inb_S256x2048_S256x512_0_1536))) (View.ld (iblk m c 5 t) (Rect.unit ![3, 0, 0] ![1, 512, 512] inb_S4x512x512_S1x512x512_3_0_0))) (ix2 r j) = DP (args m c) (row t.val r) 3 j :=
  dp59 (args m c) (row t.val) 3 _ _ _ (t_3 m c t) (ldS m c t 3 _ rfl rfl) (ldG m c t 3 _ rfl rfl rfl) r j
/-- Its share per row of the window, group 3. -/
theorem e_3 (r : Fin 256) (j : Fin 512) : (k0_pay60 (k0_pay8 (F := Ideal) (grid0.coords t)) (View.ld (iblk m c 6 t) (Rect.unit ![0, 1536] ![1, 512] inb_S1x2048_S1x512_0_1536)) (k0_pay54 (F := Ideal) (k0_pay39 (F := Ideal) (iblk m c 0 t) (View.ld (iblk m c 1 t) (Rect.unit ![1536, 0] ![512, 2048] inb_S2048x2048_S512x2048_1536_0))) (View.ld (iblk m c 3 t) (Rect.unit ![0, 1536] ![256, 512] inb_S256x2048_S256x512_0_1536))) (View.ld (iblk m c 5 t) (Rect.unit ![3, 0, 0] ![1, 512, 512] inb_S4x512x512_S1x512x512_3_0_0))) (ix2 r j) = E (args m c) 3 j (base t.val + r) :=
  e60 (args m c) t.val _ (cnt_at t) _ _ _ (dp_3 m c t) r j
/-- The gradient of u, group 3, given the shares carried from the tile after. -/
theorem du_3 (cr : FVec Ideal S16x512 .f32) (hc : ∀ (q : Fin 16) (i : Fin 512), cr (ix2 q i) = E (args m c) 3 i (base t.val + (256 + q))) (r : Fin 256) (j : Fin 512) :
    k0_pay1 (k0_pay59 (F := Ideal) (View.ld (iblk m c 6 t) (Rect.unit ![0, 1536] ![1, 512] inb_S1x2048_S1x512_0_1536)) (k0_pay54 (F := Ideal) (k0_pay39 (F := Ideal) (iblk m c 0 t) (View.ld (iblk m c 1 t) (Rect.unit ![1536, 0] ![512, 2048] inb_S2048x2048_S512x2048_1536_0))) (View.ld (iblk m c 3 t) (Rect.unit ![0, 1536] ![256, 512] inb_S256x2048_S256x512_0_1536))) (View.ld (iblk m c 5 t) (Rect.unit ![3, 0, 0] ![1, 512, 512] inb_S4x512x512_S1x512x512_3_0_0))) (k0_pay61 (k0_pay8 (F := Ideal) (grid0.coords t)) (View.ld (iblk m c 6 t) (Rect.unit ![0, 1536] ![1, 512] inb_S1x2048_S1x512_0_1536)) (k0_pay54 (F := Ideal) (k0_pay39 (F := Ideal) (iblk m c 0 t) (View.ld (iblk m c 1 t) (Rect.unit ![1536, 0] ![512, 2048] inb_S2048x2048_S512x2048_1536_0))) (View.ld (iblk m c 3 t) (Rect.unit ![0, 1536] ![256, 512] inb_S256x2048_S256x512_0_1536))) (View.ld (iblk m c 5 t) (Rect.unit ![3, 0, 0] ![1, 512, 512] inb_S4x512x512_S1x512x512_3_0_0)) cr) (k0_pay62 (k0_pay8 (F := Ideal) (grid0.coords t)) (View.ld (iblk m c 6 t) (Rect.unit ![0, 1536] ![1, 512] inb_S1x2048_S1x512_0_1536)) (k0_pay54 (F := Ideal) (k0_pay39 (F := Ideal) (iblk m c 0 t) (View.ld (iblk m c 1 t) (Rect.unit ![1536, 0] ![512, 2048] inb_S2048x2048_S512x2048_1536_0))) (View.ld (iblk m c 3 t) (Rect.unit ![0, 1536] ![256, 512] inb_S256x2048_S256x512_0_1536))) (View.ld (iblk m c 5 t) (Rect.unit ![3, 0, 0] ![1, 512, 512] inb_S4x512x512_S1x512x512_3_0_0)) cr) (ix3 0 r j) = DU (args m c) (row t.val r) 3 j :=
  du1 (args m c) t.val _ cr _ _ _ _ j (fun r => dp_3 m c t r j) (fun r => e_3 m c t r j) (fun q => hc q j) r
/-- What is carried on to the tile before, group 3. -/
theorem keep_3 (q : Fin 16) (i : Fin 512) : k0_pay2 (k0_pay60 (k0_pay8 (F := Ideal) (grid0.coords t)) (View.ld (iblk m c 6 t) (Rect.unit ![0, 1536] ![1, 512] inb_S1x2048_S1x512_0_1536)) (k0_pay54 (F := Ideal) (k0_pay39 (F := Ideal) (iblk m c 0 t) (View.ld (iblk m c 1 t) (Rect.unit ![1536, 0] ![512, 2048] inb_S2048x2048_S512x2048_1536_0))) (View.ld (iblk m c 3 t) (Rect.unit ![0, 1536] ![256, 512] inb_S256x2048_S256x512_0_1536))) (View.ld (iblk m c 5 t) (Rect.unit ![3, 0, 0] ![1, 512, 512] inb_S4x512x512_S1x512x512_3_0_0))) (ix2 q i) = E (args m c) 3 i (base t.val + q) :=
  (cr2 _ q i).trans (e_3 m c t ⟨q, by omega⟩ i)
/-- The gradient of z, group 3. -/
theorem dz_3 (r : Fin 256) (j : Fin 512) :
    k0_pay56 (k0_pay39 (F := Ideal) (iblk m c 0 t) (View.ld (iblk m c 1 t) (Rect.unit ![1536, 0] ![512, 2048] inb_S2048x2048_S512x2048_1536_0))) (k0_pay52 (View.ld (iblk m c 3 t) (Rect.unit ![0, 1536] ![256, 512] inb_S256x2048_S256x512_0_1536))) (k0_pay53 (View.ld (iblk m c 2 t) (Rect.unit ![0, 1536] ![256, 512] inb_S256x2048_S256x512_0_1536))) (View.ld (iblk m c 6 t) (Rect.unit ![0, 1536] ![1, 512] inb_S1x2048_S1x512_0_1536)) (ix3 0 r j) = DZ (args m c) (row t.val r) (colOf 3 j) :=
  dz56 (args m c) (row t.val) 3 _ _ _ _ (dy_3 m c t) (ldZ m c t 3 _ rfl rfl) (ldM m c t 3 _ rfl rfl) (ldS m c t 3 _ rfl rfl) r j
/-- The scale sum, group 3. -/
theorem st_3 (acc : FVec Ideal S1x512 .f32) (j : Fin 512) :
    k0_pay55 (k0_pay39 (F := Ideal) (iblk m c 0 t) (View.ld (iblk m c 1 t) (Rect.unit ![1536, 0] ![512, 2048] inb_S2048x2048_S512x2048_1536_0))) (View.ld (iblk m c 3 t) (Rect.unit ![0, 1536] ![256, 512] inb_S256x2048_S256x512_0_1536)) (View.ld (iblk m c 2 t) (Rect.unit ![0, 1536] ![256, 512] inb_S256x2048_S256x512_0_1536)) acc (ix2 0 j) = acc (ix2 0 j) + ∑ r : Fin 256, T1 (args m c) (row t.val r) (colOf 3 j) * (args m c).mx (row t.val r) (colOf 3 j) :=
  st55 (args m c) (row t.val) 3 _ _ _ (dy_3 m c t) (ldZ m c t 3 _ rfl rfl) (ldM m c t 3 _ rfl rfl) acc j
/-- The sum of the group map's gradient, group 3. -/
theorem wg_3 (acc : FVec Ideal S1x512x512 .f32) (i j : Fin 512) :
    k0_pay58 (View.ld (iblk m c 6 t) (Rect.unit ![0, 1536] ![1, 512] inb_S1x2048_S1x512_0_1536)) (k0_pay54 (F := Ideal) (k0_pay39 (F := Ideal) (iblk m c 0 t) (View.ld (iblk m c 1 t) (Rect.unit ![1536, 0] ![512, 2048] inb_S2048x2048_S512x2048_1536_0))) (View.ld (iblk m c 3 t) (Rect.unit ![0, 1536] ![256, 512] inb_S256x2048_S256x512_0_1536))) acc (View.ld (iblk m c 4 t) (Rect.unit ![0, 1536] ![256, 512] inb_S256x2048_S256x512_0_1536)) (ix3 0 i j)
      = acc (ix3 0 i j) + ∑ r : Fin 256, (args m c).p (row t.val r) (colOf 3 i) * DMX (args m c) (row t.val r) (colOf 3 j) :=
  wg58 (args m c) (row t.val) 3 _ _ _ (t_3 m c t) (ldS m c t 3 _ rfl rfl) (ldP m c t 3 _ rfl rfl) acc i j

end Cert.Pool

end
-- ==== Proof.Lists.lean ====
/- The stores of one grid point read back: four slabs of columns, or four maps, whatever was stored before. -/
module

public import proofs.«01_k».proof.Proof.Gen.KernelIdeal.Value
public import proofs.«01_k».proof.Proof.Grad
public import proofs.«01_k».proof.Proof.Canon

@[expose] public section

noncomputable section

namespace Cert.Pool

open Cert.KernelIdeal Cert.KernelIdeal.Gen
open Idealize.ShloMosaic

/-- The four slabs of sixteen rows. -/
theorem slabs16 (w0 w1 w2 w3 : FVec Ideal S16x512 .f32) (L : List (View.Piece (Elt Ideal) S16x2048 .f32))
    (G : Fin 16 → Fin 2048 → EReal) (h0 : ∀ q i, w0 (ix2 q i) = G q (colOf 0 i)) (h1 : ∀ q i, w1 (ix2 q i) = G q (colOf 1 i))
    (h2 : ∀ q i, w2 (ix2 q i) = G q (colOf 2 i)) (h3 : ∀ q i, w3 (ix2 q i) = G q (colOf 3 i)) (q : Fin 16) (k : Fin 2048) :
    View.canon (Val := Elt Ideal) (e := .f32) (⟨Rect.unit ![0, 1536] ![16, 512] inb_S16x2048_S16x512_0_1536, w3⟩ ::
      ⟨Rect.unit ![0, 1024] ![16, 512] inb_S16x2048_S16x512_0_1024, w2⟩ ::
      ⟨Rect.unit ![0, 512] ![16, 512] inb_S16x2048_S16x512_0_512, w1⟩ ::
      ⟨Rect.unit ![0, 0] ![16, 512] inb_S16x2048_S16x512_0_0, w0⟩ :: L) (ix2 q k) = G q k := by
  obtain ⟨g, i, rfl⟩ := exists_colOf k
  have hi := i.isLt
  fin_cases g
  · rw [canon_miss _ _ _ _ (1 : Fin 2) (Or.inl _), canon_miss _ _ _ _ (1 : Fin 2) (Or.inl _),
      canon_miss _ _ _ _ (1 : Fin 2) (Or.inl _), canon_hit _ _ _ _ (ix2 q i) _]
    · exact h0 q i
    · intro a; fin_cases a <;> simp [colOf]
    all_goals (simp [colOf]; try omega)
  · rw [canon_miss _ _ _ _ (1 : Fin 2) (Or.inl _), canon_miss _ _ _ _ (1 : Fin 2) (Or.inl _),
      canon_hit _ _ _ _ (ix2 q i) _]
    · exact h1 q i
    · intro a; fin_cases a <;> simp [colOf]
    all_goals (simp [colOf]; try omega)
  · rw [canon_miss _ _ _ _ (1 : Fin 2) (Or.inl _), canon_hit _ _ _ _ (ix2 q i) _]
    · exact h2 q i
    · intro a; fin_cases a <;> simp [colOf]
    all_goals (simp [colOf]; try omega)
  · rw [canon_hit _ _ _ _ (ix2 q i) _]
    · exact h3 q i
    · intro a; fin_cases a <;> simp [colOf]

/-- The four maps. -/
theorem maps4 (w0 w1 w2 w3 : FVec Ideal S1x512x512 .f32) (L : List (View.Piece (Elt Ideal) S4x512x512 .f32))
    (G : Fin 4 → Fin 512 → Fin 512 → EReal) (h0 : ∀ i j, w0 (ix3 0 i j) = G 0 i j) (h1 : ∀ i j, w1 (ix3 0 i j) = G 1 i j)
    (h2 : ∀ i j, w2 (ix3 0 i j) = G 2 i j) (h3 : ∀ i j, w3 (ix3 0 i j) = G 3 i j) (g : Fin 4) (i j : Fin 512) :
    View.canon (Val := Elt Ideal) (e := .f32) (⟨Rect.unit ![3, 0, 0] ![1, 512, 512] inb_S4x512x512_S1x512x512_3_0_0, w3⟩ ::
      ⟨Rect.unit ![2, 0, 0] ![1, 512, 512] inb_S4x512x512_S1x512x512_2_0_0, w2⟩ ::
      ⟨Rect.unit ![1, 0, 0] ![1, 512, 512] inb_S4x512x512_S1x512x512_1_0_0, w1⟩ ::
      ⟨Rect.unit ![0, 0, 0] ![1, 512, 512] inb_S4x512x512_S1x512x512_0_0_0, w0⟩ :: L) (ix3 g i j) = G g i j := by
  fin_cases g
  · rw [canon_miss _ _ _ _ (0 : Fin 3) (Or.inl _), canon_miss _ _ _ _ (0 : Fin 3) (Or.inl _),
      canon_miss _ _ _ _ (0 : Fin 3) (Or.inl _), canon_hit _ _ _ _ (ix3 0 i j) _]
    · exact h0 i j
    · intro a; fin_cases a <;> simp
    all_goals simp
  · rw [canon_miss _ _ _ _ (0 : Fin 3) (Or.inl _), canon_miss _ _ _ _ (0 : Fin 3) (Or.inl _),
      canon_hit _ _ _ _ (ix3 0 i j) _]
    · exact h1 i j
    · intro a; fin_cases a <;> simp
    all_goals simp
  · rw [canon_miss _ _ _ _ (0 : Fin 3) (Or.inl _), canon_hit _ _ _ _ (ix3 0 i j) _]
    · exact h2 i j
    · intro a; fin_cases a <;> simp
    all_goals simp
  · rw [canon_hit _ _ _ _ (ix3 0 i j) _]
    · exact h3 i j
    · intro a; fin_cases a <;> simp

/-- The eight tiles of the two gradients' rows. -/
theorem tiles8 (w00 w01 w02 w03 w10 w11 w12 w13 : FVec Ideal S1x256x512 .bf16)
    (G : Fin 2 → Fin 256 → Fin 2048 → EReal)
    (h00 : ∀ r i, w00 (ix3 0 r i) = G 0 r (colOf 0 i)) (h10 : ∀ r i, w10 (ix3 0 r i) = G 1 r (colOf 0 i)) (h01 : ∀ r i, w01 (ix3 0 r i) = G 0 r (colOf 1 i)) (h11 : ∀ r i, w11 (ix3 0 r i) = G 1 r (colOf 1 i)) (h02 : ∀ r i, w02 (ix3 0 r i) = G 0 r (colOf 2 i)) (h12 : ∀ r i, w12 (ix3 0 r i) = G 1 r (colOf 2 i)) (h03 : ∀ r i, w03 (ix3 0 r i) = G 0 r (colOf 3 i)) (h13 : ∀ r i, w13 (ix3 0 r i) = G 1 r (colOf 3 i))
    (k : Fin 2) (r : Fin 256) (l : Fin 2048) :
    View.canon (Val := Elt Ideal) (e := .bf16) [⟨Rect.unit ![0, 0, 1536] ![1, 256, 512] inb_S2x256x2048_S1x256x512_0_0_1536, w03⟩, ⟨Rect.unit ![1, 0, 1536] ![1, 256, 512] inb_S2x256x2048_S1x256x512_1_0_1536, w13⟩, ⟨Rect.unit ![0, 0, 1024] ![1, 256, 512] inb_S2x256x2048_S1x256x512_0_0_1024, w02⟩, ⟨Rect.unit ![1, 0, 1024] ![1, 256, 512] inb_S2x256x2048_S1x256x512_1_0_1024, w12⟩, ⟨Rect.unit ![0, 0, 512] ![1, 256, 512] inb_S2x256x2048_S1x256x512_0_0_512, w01⟩, ⟨Rect.unit ![1, 0, 512] ![1, 256, 512] inb_S2x256x2048_S1x256x512_1_0_512, w11⟩, ⟨Rect.unit ![0, 0, 0] ![1, 256, 512] inb_S2x256x2048_S1x256x512_0_0_0, w00⟩, ⟨Rect.unit ![1, 0, 0] ![1, 256, 512] inb_S2x256x2048_S1x256x512_1_0_0, w10⟩] (ix3 k r l) = G k r l := by
  obtain ⟨g, i, rfl⟩ := exists_colOf l
  have hi := i.isLt
  fin_cases k <;> fin_cases g
  · rw [canon_miss _ _ _ _ (2 : Fin 3) (Or.inl _), canon_miss _ _ _ _ (2 : Fin 3) (Or.inl _), canon_miss _ _ _ _ (2 : Fin 3) (Or.inl _), canon_miss _ _ _ _ (2 : Fin 3) (Or.inl _), canon_miss _ _ _ _ (2 : Fin 3) (Or.inl _), canon_miss _ _ _ _ (2 : Fin 3) (Or.inl _), canon_hit _ _ _ _ (ix3 0 r i) _]
    · exact h00 r i
    · intro a; fin_cases a <;> simp [colOf]
    all_goals (simp [colOf]; try omega)
  · rw [canon_miss _ _ _ _ (2 : Fin 3) (Or.inl _), canon_miss _ _ _ _ (2 : Fin 3) (Or.inl _), canon_miss _ _ _ _ (2 : Fin 3) (Or.inl _), canon_miss _ _ _ _ (2 : Fin 3) (Or.inl _), canon_hit _ _ _ _ (ix3 0 r i) _]
    · exact h01 r i
    · intro a; fin_cases a <;> simp [colOf]
    all_goals (simp [colOf]; try omega)
  · rw [canon_miss _ _ _ _ (2 : Fin 3) (Or.inl _), canon_miss _ _ _ _ (2 : Fin 3) (Or.inl _), canon_hit _ _ _ _ (ix3 0 r i) _]
    · exact h02 r i
    · intro a; fin_cases a <;> simp [colOf]
    all_goals (simp [colOf]; try omega)
  · rw [canon_hit _ _ _ _ (ix3 0 r i) _]
    · exact h03 r i
    · intro a; fin_cases a <;> simp [colOf]
  · rw [canon_miss _ _ _ _ (2 : Fin 3) (Or.inl _), canon_miss _ _ _ _ (2 : Fin 3) (Or.inl _), canon_miss _ _ _ _ (2 : Fin 3) (Or.inl _), canon_miss _ _ _ _ (2 : Fin 3) (Or.inl _), canon_miss _ _ _ _ (2 : Fin 3) (Or.inl _), canon_miss _ _ _ _ (2 : Fin 3) (Or.inl _), canon_miss _ _ _ _ (0 : Fin 3) (Or.inr _), canon_hit _ _ _ _ (ix3 0 r i) _]
    · exact h10 r i
    · intro a; fin_cases a <;> simp [colOf]
    all_goals (simp [colOf]; try omega)
  · rw [canon_miss _ _ _ _ (2 : Fin 3) (Or.inl _), canon_miss _ _ _ _ (2 : Fin 3) (Or.inl _), canon_miss _ _ _ _ (2 : Fin 3) (Or.inl _), canon_miss _ _ _ _ (2 : Fin 3) (Or.inl _), canon_miss _ _ _ _ (0 : Fin 3) (Or.inr _), canon_hit _ _ _ _ (ix3 0 r i) _]
    · exact h11 r i
    · intro a; fin_cases a <;> simp [colOf]
    all_goals (simp [colOf]; try omega)
  · rw [canon_miss _ _ _ _ (2 : Fin 3) (Or.inl _), canon_miss _ _ _ _ (2 : Fin 3) (Or.inl _), canon_miss _ _ _ _ (0 : Fin 3) (Or.inr _), canon_hit _ _ _ _ (ix3 0 r i) _]
    · exact h12 r i
    · intro a; fin_cases a <;> simp [colOf]
    all_goals (simp [colOf]; try omega)
  · rw [canon_miss _ _ _ _ (0 : Fin 3) (Or.inr _), canon_hit _ _ _ _ (ix3 0 r i) _]
    · exact h13 r i
    · intro a; fin_cases a <;> simp [colOf]
    all_goals (simp [colOf]; try omega)

end Cert.Pool

end
-- ==== Proof.Points.lean ====
/- What each grid point leaves: the rows handed on, and the two gradients' tiles. -/
module

public import proofs.«01_k».proof.Proof.Blocks
public import proofs.«01_k».proof.Proof.Tile
public import proofs.«01_k».proof.Proof.Lists
public import proofs.«01_k».proof.Proof.Canon
public import Idealize.ShloMosaic.Lib.Pipeline.ValueKit
public import Idealize.ShloMosaic.Lib.Pipeline.ReadBack

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The group of a channel, -/
def grp (k : Fin 2048) : Fin 4 := ⟨k.val / 512, by omega⟩
/-- and its place within the group. -/
def sub (k : Fin 2048) : Fin 512 := ⟨k.val % 512, by omega⟩
/-- The group of a column of a group. -/
theorem grp_colOf (g : Fin 4) (i : Fin 512) : grp (colOf g i) = g := by
  apply Fin.ext; simp only [grp, colOf]; omega
/-- The place of a column of a group. -/
theorem sub_colOf (g : Fin 4) (i : Fin 512) : sub (colOf g i) = i := by
  apply Fin.ext; simp only [sub, colOf]; omega

/-- A row's share of the windows' gradient, by channel. -/
def EK (A : Args) (n : ℕ) (k : Fin 2048) : EReal := E A (grp k) (sub k) n
/-- The windows' shares at a group's column. -/
theorem EK_colOf (A : Args) (n : ℕ) (g : Fin 4) (i : Fin 512) : EK A n (colOf g i) = E A g i n := by
  rw [EK, grp_colOf, sub_colOf]

/-- The gradient of `u` or of `z`, by channel. -/
def D2 (A : Args) (k : Fin 2) (r : Fin 4096) (l : Fin 2048) : EReal :=
  if k = 0 then DU A r (grp l) (sub l) else DZ A r l
/-- The first slab at a group's column. -/
theorem D2_colOf (A : Args) (r : Fin 4096) (g : Fin 4) (i : Fin 512) : D2 A 0 r (colOf g i) = DU A r g i := by
  rw [D2, if_pos rfl, grp_colOf, sub_colOf]
/-- The second slab is the gradient of z. -/
theorem D2_one (A : Args) (r : Fin 4096) (l : Fin 2048) : D2 A 1 r l = DZ A r l := by
  rw [D2, if_neg (by decide)]

/-- The carry after a point: the tile's first sixteen rows' shares, whatever came before. -/
theorem carry_at (t : Fin cfg0.N) (q : Fin 16) (k : Fin 2048) :
    ((outsAt0 m c t.val t.isLt).2.2.2.2 : FVec Ideal S16x2048 .f32) (ix2 q k) = EK (args m c) (base t.val + q) k := by
  by_cases h0 : t.val % 16 = 0
  · have h1 : ¬t.val % 16 = 15 := by omega
    rw [outsAt0_A m c t h0 h1]
    frame_out
    exact slabs16 _ _ _ _ _ (fun q k => EK (args m c) (base t.val + q) k)
      (fun q i => (keep_0 m c t q i).trans (EK_colOf ..).symm) (fun q i => (keep_1 m c t q i).trans (EK_colOf ..).symm)
      (fun q i => (keep_2 m c t q i).trans (EK_colOf ..).symm) (fun q i => (keep_3 m c t q i).trans (EK_colOf ..).symm) q k
  · by_cases h1 : t.val % 16 = 15
    · rw [outsAt0_C m c t h0 h1]
      frame_out
      exact slabs16 _ _ _ _ _ (fun q k => EK (args m c) (base t.val + q) k)
        (fun q i => (keep_0 m c t q i).trans (EK_colOf ..).symm) (fun q i => (keep_1 m c t q i).trans (EK_colOf ..).symm)
        (fun q i => (keep_2 m c t q i).trans (EK_colOf ..).symm) (fun q i => (keep_3 m c t q i).trans (EK_colOf ..).symm) q k
    · rw [outsAt0_B m c t h0 h1]
      frame_out
      exact slabs16 _ _ _ _ _ (fun q k => EK (args m c) (base t.val + q) k)
        (fun q i => (keep_0 m c t q i).trans (EK_colOf ..).symm) (fun q i => (keep_1 m c t q i).trans (EK_colOf ..).symm)
        (fun q i => (keep_2 m c t q i).trans (EK_colOf ..).symm) (fun q i => (keep_3 m c t q i).trans (EK_colOf ..).symm) q k

/-- The carry that a later point reads is the rows after its tile. -/
theorem prev_at (t : Fin cfg0.N) (h0 : ¬t.val % 16 = 0) (hn : t.val - 1 < cfg0.N) (g : Fin 4) {off : Fin 2 → ℕ} (inb)
    (e0 : off 0 = 0) (e1 : off 1 = g.val * 512) (q : Fin 16) (i : Fin 512) :
    View.ld (Val := Elt Ideal) (e' := .f32) ((outsAt0 m c (t.val - 1) hn).2.2.2.2 : FVec Ideal S16x2048 .f32)
      (Rect.unit off ![16, 512] inb) (ix2 q i) = E (args m c) g i (base t.val + (256 + q)) := by
  have hb : base (t.val - 1) + q.val = base t.val + (256 + q.val) := by
    have : t.val < 16 := t.isLt
    simp only [base]; omega
  refine (congrArg ((outsAt0 m c (t.val - 1) hn).2.2.2.2 : FVec Ideal S16x2048 .f32) (slab_idx 16 g inb q i e0 e1)).trans ?_
  exact ((carry_at m c ⟨t.val - 1, hn⟩ q (colOf g i)).trans (EK_colOf ..)).trans (congrArg _ hb)

/-- The carry that the first point reads is the zeros it stored. -/
theorem fresh_0 {sp : Space} (v : View sig .tc sp S16x2048 .f32) (q : Fin 16) (i : Fin 512) :
    (View.readCov (Val := Elt Ideal) v [⟨Rect.unit ![0, 0] ![16, 2048] inb_S16x2048_S16x2048_0_0, k0_pay6 (F := Ideal)⟩]
      (Rect.unit (s := S16x2048) ![0, 0] ![16, 512] inb_S16x2048_S16x512_0_0).toLoadRect : FVec Ideal S16x512 .f32) (ix2 q i) = (0 : EReal) := by
  rw [View.readCov_eq_canon']
  have hy : (Rect.unit (s := S16x2048) ![0, 0] ![16, 512] inb_S16x2048_S16x512_0_0).toLoadRect.idx (ix2 q i) = ix2 q (colOf 0 i) :=
    slab_idx 16 0 _ q i rfl rfl
  have hi := i.isLt
  show View.canon _ ((Rect.unit (s := S16x2048) ![0, 0] ![16, 512] inb_S16x2048_S16x512_0_0).toLoadRect.idx (ix2 q i)) = _
  rw [hy, canon_hit _ _ _ _ (ix2 q (colOf 0 i)) _]
  · pointwise [k0_pay6]
  · intro a; fin_cases a <;> simp
  all_goals (simp [colOf]; try omega)

/-- A group's part of the carry after the writes of the groups before it. -/
theorem fresh_1 {sp : Space} (v : View sig .tc sp S16x2048 .f32) (w0 : FVec Ideal S16x512 .f32) (q : Fin 16) (i : Fin 512) :
    (View.readCov (Val := Elt Ideal) v [⟨Rect.unit ![0, 0] ![16, 512] inb_S16x2048_S16x512_0_0, w0⟩, ⟨Rect.unit ![0, 0] ![16, 2048] inb_S16x2048_S16x2048_0_0, k0_pay6 (F := Ideal)⟩]
      (Rect.unit (s := S16x2048) ![0, 512] ![16, 512] inb_S16x2048_S16x512_0_512).toLoadRect : FVec Ideal S16x512 .f32) (ix2 q i) = (0 : EReal) := by
  rw [View.readCov_eq_canon']
  have hy : (Rect.unit (s := S16x2048) ![0, 512] ![16, 512] inb_S16x2048_S16x512_0_512).toLoadRect.idx (ix2 q i) = ix2 q (colOf 1 i) :=
    slab_idx 16 1 _ q i rfl rfl
  have hi := i.isLt
  show View.canon _ ((Rect.unit (s := S16x2048) ![0, 512] ![16, 512] inb_S16x2048_S16x512_0_512).toLoadRect.idx (ix2 q i)) = _
  rw [hy, canon_miss _ _ _ _ (1 : Fin 2) (Or.inr _), canon_hit _ _ _ _ (ix2 q (colOf 1 i)) _]
  · pointwise [k0_pay6]
  · intro a; fin_cases a <;> simp
  all_goals (simp [colOf]; try omega)

/-- A group's part of the carry after the writes of the groups before it. -/
theorem fresh_2 {sp : Space} (v : View sig .tc sp S16x2048 .f32) (w0 w1 : FVec Ideal S16x512 .f32) (q : Fin 16) (i : Fin 512) :
    (View.readCov (Val := Elt Ideal) v [⟨Rect.unit ![0, 512] ![16, 512] inb_S16x2048_S16x512_0_512, w1⟩, ⟨Rect.unit ![0, 0] ![16, 512] inb_S16x2048_S16x512_0_0, w0⟩, ⟨Rect.unit ![0, 0] ![16, 2048] inb_S16x2048_S16x2048_0_0, k0_pay6 (F := Ideal)⟩]
      (Rect.unit (s := S16x2048) ![0, 1024] ![16, 512] inb_S16x2048_S16x512_0_1024).toLoadRect : FVec Ideal S16x512 .f32) (ix2 q i) = (0 : EReal) := by
  rw [View.readCov_eq_canon']
  have hy : (Rect.unit (s := S16x2048) ![0, 1024] ![16, 512] inb_S16x2048_S16x512_0_1024).toLoadRect.idx (ix2 q i) = ix2 q (colOf 2 i) :=
    slab_idx 16 2 _ q i rfl rfl
  have hi := i.isLt
  show View.canon _ ((Rect.unit (s := S16x2048) ![0, 1024] ![16, 512] inb_S16x2048_S16x512_0_1024).toLoadRect.idx (ix2 q i)) = _
  rw [hy, canon_miss _ _ _ _ (1 : Fin 2) (Or.inr _), canon_miss _ _ _ _ (1 : Fin 2) (Or.inr _), canon_hit _ _ _ _ (ix2 q (colOf 2 i)) _]
  · pointwise [k0_pay6]
  · intro a; fin_cases a <;> simp
  all_goals (simp [colOf]; try omega)

/-- A group's part of the carry after the writes of the groups before it. -/
theorem fresh_3 {sp : Space} (v : View sig .tc sp S16x2048 .f32) (w0 w1 w2 : FVec Ideal S16x512 .f32) (q : Fin 16) (i : Fin 512) :
    (View.readCov (Val := Elt Ideal) v [⟨Rect.unit ![0, 1024] ![16, 512] inb_S16x2048_S16x512_0_1024, w2⟩, ⟨Rect.unit ![0, 512] ![16, 512] inb_S16x2048_S16x512_0_512, w1⟩, ⟨Rect.unit ![0, 0] ![16, 512] inb_S16x2048_S16x512_0_0, w0⟩, ⟨Rect.unit ![0, 0] ![16, 2048] inb_S16x2048_S16x2048_0_0, k0_pay6 (F := Ideal)⟩]
      (Rect.unit (s := S16x2048) ![0, 1536] ![16, 512] inb_S16x2048_S16x512_0_1536).toLoadRect : FVec Ideal S16x512 .f32) (ix2 q i) = (0 : EReal) := by
  rw [View.readCov_eq_canon']
  have hy : (Rect.unit (s := S16x2048) ![0, 1536] ![16, 512] inb_S16x2048_S16x512_0_1536).toLoadRect.idx (ix2 q i) = ix2 q (colOf 3 i) :=
    slab_idx 16 3 _ q i rfl rfl
  have hi := i.isLt
  show View.canon _ ((Rect.unit (s := S16x2048) ![0, 1536] ![16, 512] inb_S16x2048_S16x512_0_1536).toLoadRect.idx (ix2 q i)) = _
  rw [hy, canon_miss _ _ _ _ (1 : Fin 2) (Or.inr _), canon_miss _ _ _ _ (1 : Fin 2) (Or.inr _), canon_miss _ _ _ _ (1 : Fin 2) (Or.inr _), canon_hit _ _ _ _ (ix2 q (colOf 3 i)) _]
  · pointwise [k0_pay6]
  · intro a; fin_cases a <;> simp
  all_goals (simp [colOf]; try omega)

/-- Past the last row nothing is shared. -/
theorem E_past (A : Args) (g : Fin 4) (i : Fin 512) (n : ℕ) (h : 4096 ≤ n) : E A g i n = 0 := by
  rw [E, dif_neg (by omega)]
/-- The rows above the first tile taken lie past the end. -/
theorem base_first (t : Fin cfg0.N) (h0 : t.val % 16 = 0) (q : Fin 16) : 4096 ≤ base t.val + (256 + q.val) := by
  have : t.val < 16 := t.isLt
  simp only [base]; omega

/-- The first result of a later point. -/
theorem out7_later (t : Fin cfg0.N) (h0 : ¬t.val % 16 = 0) (k : Fin 2) (r : Fin 256) (l : Fin 2048) :
    ((outsAt0 m c t.val t.isLt).1 : FVec Ideal S2x256x2048 .bf16) (ix3 k r l) = D2 (args m c) k (row t.val r) l := by
  by_cases h1 : t.val % 16 = 15
  · rw [outsAt0_C m c t h0 h1]
    frame_out
    simp only [read_unread_whole]
    exact tiles8 _ _ _ _ _ _ _ _ (fun k r l => D2 (args m c) k (row t.val r) l)
        (fun r i => (du_0 m c t _ (fun q i => prev_at m c t h0 _ 0 _ rfl rfl q i) r i).trans (D2_colOf ..).symm)
        (fun r i => (dz_0 m c t r i).trans (D2_one ..).symm)
        (fun r i => (du_1 m c t _ (fun q i => prev_at m c t h0 _ 1 _ rfl rfl q i) r i).trans (D2_colOf ..).symm)
        (fun r i => (dz_1 m c t r i).trans (D2_one ..).symm)
        (fun r i => (du_2 m c t _ (fun q i => prev_at m c t h0 _ 2 _ rfl rfl q i) r i).trans (D2_colOf ..).symm)
        (fun r i => (dz_2 m c t r i).trans (D2_one ..).symm)
        (fun r i => (du_3 m c t _ (fun q i => prev_at m c t h0 _ 3 _ rfl rfl q i) r i).trans (D2_colOf ..).symm)
        (fun r i => (dz_3 m c t r i).trans (D2_one ..).symm) k r l
  · rw [outsAt0_B m c t h0 h1]
    frame_out
    simp only [read_unread_whole]
    exact tiles8 _ _ _ _ _ _ _ _ (fun k r l => D2 (args m c) k (row t.val r) l)
        (fun r i => (du_0 m c t _ (fun q i => prev_at m c t h0 _ 0 _ rfl rfl q i) r i).trans (D2_colOf ..).symm)
        (fun r i => (dz_0 m c t r i).trans (D2_one ..).symm)
        (fun r i => (du_1 m c t _ (fun q i => prev_at m c t h0 _ 1 _ rfl rfl q i) r i).trans (D2_colOf ..).symm)
        (fun r i => (dz_1 m c t r i).trans (D2_one ..).symm)
        (fun r i => (du_2 m c t _ (fun q i => prev_at m c t h0 _ 2 _ rfl rfl q i) r i).trans (D2_colOf ..).symm)
        (fun r i => (dz_2 m c t r i).trans (D2_one ..).symm)
        (fun r i => (du_3 m c t _ (fun q i => prev_at m c t h0 _ 3 _ rfl rfl q i) r i).trans (D2_colOf ..).symm)
        (fun r i => (dz_3 m c t r i).trans (D2_one ..).symm) k r l

/-- The first result of the first point. -/
theorem out7_first (t : Fin cfg0.N) (h0 : t.val % 16 = 0) (k : Fin 2) (r : Fin 256) (l : Fin 2048) :
    ((outsAt0 m c t.val t.isLt).1 : FVec Ideal S2x256x2048 .bf16) (ix3 k r l) = D2 (args m c) k (row t.val r) l := by
  have h1 : ¬t.val % 16 = 15 := by omega
  rw [outsAt0_A m c t h0 h1]
  frame_out
  exact tiles8 _ _ _ _ _ _ _ _ (fun k r l => D2 (args m c) k (row t.val r) l)
        (fun r i => (du_0 m c t _ (fun q i => (fresh_0 _ q i).trans (E_past _ _ _ _ (base_first t h0 q)).symm) r i).trans (D2_colOf ..).symm)
        (fun r i => (dz_0 m c t r i).trans (D2_one ..).symm)
        (fun r i => (du_1 m c t _ (fun q i => (fresh_1 _ _ q i).trans (E_past _ _ _ _ (base_first t h0 q)).symm) r i).trans (D2_colOf ..).symm)
        (fun r i => (dz_1 m c t r i).trans (D2_one ..).symm)
        (fun r i => (du_2 m c t _ (fun q i => (fresh_2 _ _ _ q i).trans (E_past _ _ _ _ (base_first t h0 q)).symm) r i).trans (D2_colOf ..).symm)
        (fun r i => (dz_2 m c t r i).trans (D2_one ..).symm)
        (fun r i => (du_3 m c t _ (fun q i => (fresh_3 _ _ _ _ q i).trans (E_past _ _ _ _ (base_first t h0 q)).symm) r i).trans (D2_colOf ..).symm)
        (fun r i => (dz_3 m c t r i).trans (D2_one ..).symm) k r l
end Cert.Pool

end
-- ==== Proof.Rows.lean ====
/- The two running sums over the points: the group maps' gradients and the scale's gradient. -/
module

public import proofs.«01_k».proof.Proof.Blocks
public import proofs.«01_k».proof.Proof.Points
public import Idealize.ShloMosaic.Lib.Pipeline.ReadBack
public import proofs.«01_k».proof.Proof.Canon
public import Idealize.ShloMosaic.Lib.Pipeline.ValueKit

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- A tile's part of the group maps' gradient, -/
def WT (A : Args) (n : ℕ) (g : Fin 4) (i j : Fin 512) : EReal :=
  ∑ r : Fin 256, A.p (row n r) (colOf g i) * DMX A (row n r) (colOf g j)
/-- and of the scale's gradient. -/
def ST (A : Args) (n : ℕ) (k : Fin 2048) : EReal := ∑ r : Fin 256, T1 A (row n r) k * A.mx (row n r) k

/-- The sixteen tiles make up the rows. -/
theorem sum_tiles (f : Fin 4096 → EReal) : ∑ n ∈ Finset.range 16, ∑ r : Fin 256, f (row n r) = ∑ R : Fin 4096, f R := by
  rw [Finset.sum_range, ← Fintype.sum_prod_type' (f := fun (n : Fin 16) (r : Fin 256) => f (row n.val r))]
  refine Fintype.sum_bijective (fun x : Fin 16 × Fin 256 => row x.1.val x.2) ⟨?_, ?_⟩ _ _ fun _ => rfl
  · rintro ⟨a, b⟩ ⟨a', b'⟩ hab
    have h : (row a.val b).val = (row a'.val b').val := congrArg Fin.val hab
    simp only [row, base] at h
    have := a.isLt; have := a'.isLt; have := b.isLt; have := b'.isLt
    have ha : a.val = a'.val := by omega
    have hb : b.val = b'.val := by omega
    exact Prod.ext (Fin.ext ha) (Fin.ext hb)
  · intro R
    refine ⟨(⟨15 - R.val / 256, by omega⟩, ⟨R.val % 256, by omega⟩), Fin.ext ?_⟩
    simp only [row, base]; omega

/-- Group `g`'s columns of the first of eight rows. -/
theorem row_idx {off : Fin 2 → ℕ} (g : Fin 4) (inb) (j : Fin 512) (h0 : off 0 = 0) (h1 : off 1 = g.val * 512) :
    (Rect.unit (s := ⟨2, ![8, 2048]⟩) off ![1, 512] inb).idx (ix2 0 j) = ix2 0 (colOf g j) := by
  funext a; apply Fin.ext
  refine Fin.cases ?_ (fun a => ?_) a
  · show off 0 + 1 * 0 = 0; omega
  · obtain rfl : a = 0 := Subsingleton.elim _ _
    show off 1 + 1 * j.val = g.val * 512 + j.val; omega

/-! ## Fresh accumulators -/

/-- A group map's sum is not touched by the writes of the groups before it. -/
theorem fresh_map_0 {sp : Space} (v : View sig .tc sp S4x512x512 .f32) (i j : Fin 512) :
    (View.readCov (Val := Elt Ideal) v [⟨Rect.unit ![0, 0, 0] ![4, 512, 512] inb_S4x512x512_S4x512x512_0_0_0, k0_pay5 (F := Ideal)⟩]
      (Rect.unit (s := S4x512x512) ![0, 0, 0] ![1, 512, 512] inb_S4x512x512_S1x512x512_0_0_0).toLoadRect : FVec Ideal S1x512x512 .f32) (ix3 0 i j) = (0 : EReal) := by
  rw [View.readCov_eq_canon']
  have hy : (Rect.unit (s := S4x512x512) ![0, 0, 0] ![1, 512, 512] inb_S4x512x512_S1x512x512_0_0_0).toLoadRect.idx (ix3 0 i j) = ix3 0 i j := map_idx 0 _ i j rfl rfl rfl
  show View.canon _ ((Rect.unit (s := S4x512x512) ![0, 0, 0] ![1, 512, 512] inb_S4x512x512_S1x512x512_0_0_0).toLoadRect.idx (ix3 0 i j)) = _
  rw [hy, canon_hit _ _ _ _ (ix3 0 i j) _]
  · pointwise [k0_pay5]
  · intro a; fin_cases a <;> simp
  all_goals simp

/-- A group's part of the scale sum is not touched by the groups before it. -/
theorem fresh_row_0 {sp : Space} (v : View sig .tc sp S8x2048 .f32) (i : Fin 512) :
    (View.readCov (Val := Elt Ideal) v [⟨Rect.unit ![0, 0] ![8, 2048] inb_S8x2048_S8x2048_0_0, k0_pay7 (F := Ideal)⟩]
      (Rect.unit (s := S8x2048) ![0, 0] ![1, 512] inb_S8x2048_S1x512_0_0).toLoadRect : FVec Ideal S1x512 .f32) (ix2 0 i) = (0 : EReal) := by
  rw [View.readCov_eq_canon']
  have hy : (Rect.unit (s := S8x2048) ![0, 0] ![1, 512] inb_S8x2048_S1x512_0_0).toLoadRect.idx (ix2 0 i) = ix2 0 (colOf 0 i) := row_idx 0 _ i rfl rfl
  have hi := i.isLt
  show View.canon _ ((Rect.unit (s := S8x2048) ![0, 0] ![1, 512] inb_S8x2048_S1x512_0_0).toLoadRect.idx (ix2 0 i)) = _
  rw [hy, canon_hit _ _ _ _ (ix2 0 (colOf 0 i)) _]
  · pointwise [k0_pay7]
  · intro a; fin_cases a <;> simp
  all_goals (simp [colOf]; try omega)

/-- A group map's sum is not touched by the writes of the groups before it. -/
theorem fresh_map_1 {sp : Space} (v : View sig .tc sp S4x512x512 .f32) (w0 : FVec Ideal S1x512x512 .f32) (i j : Fin 512) :
    (View.readCov (Val := Elt Ideal) v [⟨Rect.unit ![0, 0, 0] ![1, 512, 512] inb_S4x512x512_S1x512x512_0_0_0, w0⟩, ⟨Rect.unit ![0, 0, 0] ![4, 512, 512] inb_S4x512x512_S4x512x512_0_0_0, k0_pay5 (F := Ideal)⟩]
      (Rect.unit (s := S4x512x512) ![1, 0, 0] ![1, 512, 512] inb_S4x512x512_S1x512x512_1_0_0).toLoadRect : FVec Ideal S1x512x512 .f32) (ix3 0 i j) = (0 : EReal) := by
  rw [View.readCov_eq_canon']
  have hy : (Rect.unit (s := S4x512x512) ![1, 0, 0] ![1, 512, 512] inb_S4x512x512_S1x512x512_1_0_0).toLoadRect.idx (ix3 0 i j) = ix3 1 i j := map_idx 1 _ i j rfl rfl rfl
  show View.canon _ ((Rect.unit (s := S4x512x512) ![1, 0, 0] ![1, 512, 512] inb_S4x512x512_S1x512x512_1_0_0).toLoadRect.idx (ix3 0 i j)) = _
  rw [hy, canon_miss _ _ _ _ (0 : Fin 3) (Or.inr _), canon_hit _ _ _ _ (ix3 1 i j) _]
  · pointwise [k0_pay5]
  · intro a; fin_cases a <;> simp
  all_goals simp

/-- A group's part of the scale sum is not touched by the groups before it. -/
theorem fresh_row_1 {sp : Space} (v : View sig .tc sp S8x2048 .f32) (w0 : FVec Ideal S1x512 .f32) (i : Fin 512) :
    (View.readCov (Val := Elt Ideal) v [⟨Rect.unit ![0, 0] ![1, 512] inb_S8x2048_S1x512_0_0, w0⟩, ⟨Rect.unit ![0, 0] ![8, 2048] inb_S8x2048_S8x2048_0_0, k0_pay7 (F := Ideal)⟩]
      (Rect.unit (s := S8x2048) ![0, 512] ![1, 512] inb_S8x2048_S1x512_0_512).toLoadRect : FVec Ideal S1x512 .f32) (ix2 0 i) = (0 : EReal) := by
  rw [View.readCov_eq_canon']
  have hy : (Rect.unit (s := S8x2048) ![0, 512] ![1, 512] inb_S8x2048_S1x512_0_512).toLoadRect.idx (ix2 0 i) = ix2 0 (colOf 1 i) := row_idx 1 _ i rfl rfl
  have hi := i.isLt
  show View.canon _ ((Rect.unit (s := S8x2048) ![0, 512] ![1, 512] inb_S8x2048_S1x512_0_512).toLoadRect.idx (ix2 0 i)) = _
  rw [hy, canon_miss _ _ _ _ (1 : Fin 2) (Or.inr _), canon_hit _ _ _ _ (ix2 0 (colOf 1 i)) _]
  · pointwise [k0_pay7]
  · intro a; fin_cases a <;> simp
  all_goals (simp [colOf]; try omega)

/-- A group map's sum is not touched by the writes of the groups before it. -/
theorem fresh_map_2 {sp : Space} (v : View sig .tc sp S4x512x512 .f32) (w0 w1 : FVec Ideal S1x512x512 .f32) (i j : Fin 512) :
    (View.readCov (Val := Elt Ideal) v [⟨Rect.unit ![1, 0, 0] ![1, 512, 512] inb_S4x512x512_S1x512x512_1_0_0, w1⟩, ⟨Rect.unit ![0, 0, 0] ![1, 512, 512] inb_S4x512x512_S1x512x512_0_0_0, w0⟩, ⟨Rect.unit ![0, 0, 0] ![4, 512, 512] inb_S4x512x512_S4x512x512_0_0_0, k0_pay5 (F := Ideal)⟩]
      (Rect.unit (s := S4x512x512) ![2, 0, 0] ![1, 512, 512] inb_S4x512x512_S1x512x512_2_0_0).toLoadRect : FVec Ideal S1x512x512 .f32) (ix3 0 i j) = (0 : EReal) := by
  rw [View.readCov_eq_canon']
  have hy : (Rect.unit (s := S4x512x512) ![2, 0, 0] ![1, 512, 512] inb_S4x512x512_S1x512x512_2_0_0).toLoadRect.idx (ix3 0 i j) = ix3 2 i j := map_idx 2 _ i j rfl rfl rfl
  show View.canon _ ((Rect.unit (s := S4x512x512) ![2, 0, 0] ![1, 512, 512] inb_S4x512x512_S1x512x512_2_0_0).toLoadRect.idx (ix3 0 i j)) = _
  rw [hy, canon_miss _ _ _ _ (0 : Fin 3) (Or.inr _), canon_miss _ _ _ _ (0 : Fin 3) (Or.inr _), canon_hit _ _ _ _ (ix3 2 i j) _]
  · pointwise [k0_pay5]
  · intro a; fin_cases a <;> simp
  all_goals simp

/-- A group's part of the scale sum is not touched by the groups before it. -/
theorem fresh_row_2 {sp : Space} (v : View sig .tc sp S8x2048 .f32) (w0 w1 : FVec Ideal S1x512 .f32) (i : Fin 512) :
    (View.readCov (Val := Elt Ideal) v [⟨Rect.unit ![0, 512] ![1, 512] inb_S8x2048_S1x512_0_512, w1⟩, ⟨Rect.unit ![0, 0] ![1, 512] inb_S8x2048_S1x512_0_0, w0⟩, ⟨Rect.unit ![0, 0] ![8, 2048] inb_S8x2048_S8x2048_0_0, k0_pay7 (F := Ideal)⟩]
      (Rect.unit (s := S8x2048) ![0, 1024] ![1, 512] inb_S8x2048_S1x512_0_1024).toLoadRect : FVec Ideal S1x512 .f32) (ix2 0 i) = (0 : EReal) := by
  rw [View.readCov_eq_canon']
  have hy : (Rect.unit (s := S8x2048) ![0, 1024] ![1, 512] inb_S8x2048_S1x512_0_1024).toLoadRect.idx (ix2 0 i) = ix2 0 (colOf 2 i) := row_idx 2 _ i rfl rfl
  have hi := i.isLt
  show View.canon _ ((Rect.unit (s := S8x2048) ![0, 1024] ![1, 512] inb_S8x2048_S1x512_0_1024).toLoadRect.idx (ix2 0 i)) = _
  rw [hy, canon_miss _ _ _ _ (1 : Fin 2) (Or.inr _), canon_miss _ _ _ _ (1 : Fin 2) (Or.inr _), canon_hit _ _ _ _ (ix2 0 (colOf 2 i)) _]
  · pointwise [k0_pay7]
  · intro a; fin_cases a <;> simp
  all_goals (simp [colOf]; try omega)

/-- A group map's sum is not touched by the writes of the groups before it. -/
theorem fresh_map_3 {sp : Space} (v : View sig .tc sp S4x512x512 .f32) (w0 w1 w2 : FVec Ideal S1x512x512 .f32) (i j : Fin 512) :
    (View.readCov (Val := Elt Ideal) v [⟨Rect.unit ![2, 0, 0] ![1, 512, 512] inb_S4x512x512_S1x512x512_2_0_0, w2⟩, ⟨Rect.unit ![1, 0, 0] ![1, 512, 512] inb_S4x512x512_S1x512x512_1_0_0, w1⟩, ⟨Rect.unit ![0, 0, 0] ![1, 512, 512] inb_S4x512x512_S1x512x512_0_0_0, w0⟩, ⟨Rect.unit ![0, 0, 0] ![4, 512, 512] inb_S4x512x512_S4x512x512_0_0_0, k0_pay5 (F := Ideal)⟩]
      (Rect.unit (s := S4x512x512) ![3, 0, 0] ![1, 512, 512] inb_S4x512x512_S1x512x512_3_0_0).toLoadRect : FVec Ideal S1x512x512 .f32) (ix3 0 i j) = (0 : EReal) := by
  rw [View.readCov_eq_canon']
  have hy : (Rect.unit (s := S4x512x512) ![3, 0, 0] ![1, 512, 512] inb_S4x512x512_S1x512x512_3_0_0).toLoadRect.idx (ix3 0 i j) = ix3 3 i j := map_idx 3 _ i j rfl rfl rfl
  show View.canon _ ((Rect.unit (s := S4x512x512) ![3, 0, 0] ![1, 512, 512] inb_S4x512x512_S1x512x512_3_0_0).toLoadRect.idx (ix3 0 i j)) = _
  rw [hy, canon_miss _ _ _ _ (0 : Fin 3) (Or.inr _), canon_miss _ _ _ _ (0 : Fin 3) (Or.inr _), canon_miss _ _ _ _ (0 : Fin 3) (Or.inr _), canon_hit _ _ _ _ (ix3 3 i j) _]
  · pointwise [k0_pay5]
  · intro a; fin_cases a <;> simp
  all_goals simp

/-- A group's part of the scale sum is not touched by the groups before it. -/
theorem fresh_row_3 {sp : Space} (v : View sig .tc sp S8x2048 .f32) (w0 w1 w2 : FVec Ideal S1x512 .f32) (i : Fin 512) :
    (View.readCov (Val := Elt Ideal) v [⟨Rect.unit ![0, 1024] ![1, 512] inb_S8x2048_S1x512_0_1024, w2⟩, ⟨Rect.unit ![0, 512] ![1, 512] inb_S8x2048_S1x512_0_512, w1⟩, ⟨Rect.unit ![0, 0] ![1, 512] inb_S8x2048_S1x512_0_0, w0⟩, ⟨Rect.unit ![0, 0] ![8, 2048] inb_S8x2048_S8x2048_0_0, k0_pay7 (F := Ideal)⟩]
      (Rect.unit (s := S8x2048) ![0, 1536] ![1, 512] inb_S8x2048_S1x512_0_1536).toLoadRect : FVec Ideal S1x512 .f32) (ix2 0 i) = (0 : EReal) := by
  rw [View.readCov_eq_canon']
  have hy : (Rect.unit (s := S8x2048) ![0, 1536] ![1, 512] inb_S8x2048_S1x512_0_1536).toLoadRect.idx (ix2 0 i) = ix2 0 (colOf 3 i) := row_idx 3 _ i rfl rfl
  have hi := i.isLt
  show View.canon _ ((Rect.unit (s := S8x2048) ![0, 1536] ![1, 512] inb_S8x2048_S1x512_0_1536).toLoadRect.idx (ix2 0 i)) = _
  rw [hy, canon_miss _ _ _ _ (1 : Fin 2) (Or.inr _), canon_miss _ _ _ _ (1 : Fin 2) (Or.inr _), canon_miss _ _ _ _ (1 : Fin 2) (Or.inr _), canon_hit _ _ _ _ (ix2 0 (colOf 3 i)) _]
  · pointwise [k0_pay7]
  · intro a; fin_cases a <;> simp
  all_goals (simp [colOf]; try omega)

/-- The four stores into the first of eight rows, read there, -/
theorem row_hit (w0 w1 w2 w3 : FVec Ideal S1x512 .f32) (L : List (View.Piece (Elt Ideal) S8x2048 .f32)) (G : Fin 2048 → EReal)
    (h0 : ∀ i, w0 (ix2 0 i) = G (colOf 0 i)) (h1 : ∀ i, w1 (ix2 0 i) = G (colOf 1 i)) (h2 : ∀ i, w2 (ix2 0 i) = G (colOf 2 i)) (h3 : ∀ i, w3 (ix2 0 i) = G (colOf 3 i)) (k : Fin 2048) :
    View.canon (Val := Elt Ideal) (e := .f32) (⟨Rect.unit ![0, 1536] ![1, 512] inb_S8x2048_S1x512_0_1536, w3⟩ :: ⟨Rect.unit ![0, 1024] ![1, 512] inb_S8x2048_S1x512_0_1024, w2⟩ :: ⟨Rect.unit ![0, 512] ![1, 512] inb_S8x2048_S1x512_0_512, w1⟩ :: ⟨Rect.unit ![0, 0] ![1, 512] inb_S8x2048_S1x512_0_0, w0⟩ :: L) (ix2 0 k) = G k := by
  obtain ⟨g, i, rfl⟩ := exists_colOf k
  have hi := i.isLt
  fin_cases g
  · rw [canon_miss _ _ _ _ (1 : Fin 2) (Or.inl _), canon_miss _ _ _ _ (1 : Fin 2) (Or.inl _), canon_miss _ _ _ _ (1 : Fin 2) (Or.inl _), canon_hit _ _ _ _ (ix2 0 i) _]
    · exact h0 i
    · intro a; fin_cases a <;> simp [colOf]
    all_goals (simp [colOf]; try omega)
  · rw [canon_miss _ _ _ _ (1 : Fin 2) (Or.inl _), canon_miss _ _ _ _ (1 : Fin 2) (Or.inl _), canon_hit _ _ _ _ (ix2 0 i) _]
    · exact h1 i
    · intro a; fin_cases a <;> simp [colOf]
    all_goals (simp [colOf]; try omega)
  · rw [canon_miss _ _ _ _ (1 : Fin 2) (Or.inl _), canon_hit _ _ _ _ (ix2 0 i) _]
    · exact h2 i
    · intro a; fin_cases a <;> simp [colOf]
    all_goals (simp [colOf]; try omega)
  · rw [canon_hit _ _ _ _ (ix2 0 i) _]
    · exact h3 i
    · intro a; fin_cases a <;> simp [colOf]

/-- and elsewhere. -/
theorem row_miss (w0 w1 w2 w3 : FVec Ideal S1x512 .f32) (L : List (View.Piece (Elt Ideal) S8x2048 .f32)) (q : Fin 8) (hq : q ≠ 0)
    (k : Fin 2048) :
    View.canon (Val := Elt Ideal) (e := .f32) (⟨Rect.unit ![0, 1536] ![1, 512] inb_S8x2048_S1x512_0_1536, w3⟩ :: ⟨Rect.unit ![0, 1024] ![1, 512] inb_S8x2048_S1x512_0_1024, w2⟩ :: ⟨Rect.unit ![0, 512] ![1, 512] inb_S8x2048_S1x512_0_512, w1⟩ :: ⟨Rect.unit ![0, 0] ![1, 512] inb_S8x2048_S1x512_0_0, w0⟩ :: L) (ix2 q k) = View.canon L (ix2 q k) := by
  have hq' : 1 ≤ q.val := Nat.one_le_iff_ne_zero.mpr fun h => hq (Fin.ext h)
  rw [canon_miss _ _ _ _ (0 : Fin 2) (Or.inr hq'), canon_miss _ _ _ _ (0 : Fin 2) (Or.inr hq'),
    canon_miss _ _ _ _ (0 : Fin 2) (Or.inr hq'), canon_miss _ _ _ _ (0 : Fin 2) (Or.inr hq')]

/-- The same over what the buffer held, -/
theorem over_hit {sp : Space} (v : View sig .tc sp S8x2048 .f32) (f : v.ty.Contents (Elt Ideal)) (w0 w1 w2 w3 : FVec Ideal S1x512 .f32) (G : Fin 2048 → EReal)
    (h0 : ∀ i, w0 (ix2 0 i) = G (colOf 0 i)) (h1 : ∀ i, w1 (ix2 0 i) = G (colOf 1 i)) (h2 : ∀ i, w2 (ix2 0 i) = G (colOf 2 i)) (h3 : ∀ i, w3 (ix2 0 i) = G (colOf 3 i)) (k : Fin 2048) :
    v.read (Elt Ideal) (v.writes (Elt Ideal) f [⟨Rect.unit ![0, 1536] ![1, 512] inb_S8x2048_S1x512_0_1536, w3⟩, ⟨Rect.unit ![0, 1024] ![1, 512] inb_S8x2048_S1x512_0_1024, w2⟩, ⟨Rect.unit ![0, 512] ![1, 512] inb_S8x2048_S1x512_0_512, w1⟩, ⟨Rect.unit ![0, 0] ![1, 512] inb_S8x2048_S1x512_0_0, w0⟩]) (ix2 0 k) = G k := by
  obtain ⟨g, i, rfl⟩ := exists_colOf k
  have hi := i.isLt
  fin_cases g
  · rw [View.read_writes_cons_unit_of_not_mem _ _ _ _ _ _ rfl (1 : Fin 2) (Or.inl _), View.read_writes_cons_unit_of_not_mem _ _ _ _ _ _ rfl (1 : Fin 2) (Or.inl _), View.read_writes_cons_unit_of_not_mem _ _ _ _ _ _ rfl (1 : Fin 2) (Or.inl _), View.read_writes_cons_unit_of_mem _ _ _ _ _ _ (ix2 0 i) rfl _]
    · exact h0 i
    · intro a; fin_cases a <;> simp [colOf]
    all_goals (simp [colOf]; try omega)
  · rw [View.read_writes_cons_unit_of_not_mem _ _ _ _ _ _ rfl (1 : Fin 2) (Or.inl _), View.read_writes_cons_unit_of_not_mem _ _ _ _ _ _ rfl (1 : Fin 2) (Or.inl _), View.read_writes_cons_unit_of_mem _ _ _ _ _ _ (ix2 0 i) rfl _]
    · exact h1 i
    · intro a; fin_cases a <;> simp [colOf]
    all_goals (simp [colOf]; try omega)
  · rw [View.read_writes_cons_unit_of_not_mem _ _ _ _ _ _ rfl (1 : Fin 2) (Or.inl _), View.read_writes_cons_unit_of_mem _ _ _ _ _ _ (ix2 0 i) rfl _]
    · exact h2 i
    · intro a; fin_cases a <;> simp [colOf]
    all_goals (simp [colOf]; try omega)
  · rw [View.read_writes_cons_unit_of_mem _ _ _ _ _ _ (ix2 0 i) rfl _]
    · exact h3 i
    · intro a; fin_cases a <;> simp [colOf]

/-- and elsewhere. -/
theorem over_miss {sp : Space} (v : View sig .tc sp S8x2048 .f32) (f : v.ty.Contents (Elt Ideal)) (w0 w1 w2 w3 : FVec Ideal S1x512 .f32) (q : Fin 8) (hq : q ≠ 0)
    (k : Fin 2048) :
    v.read (Elt Ideal) (v.writes (Elt Ideal) f [⟨Rect.unit ![0, 1536] ![1, 512] inb_S8x2048_S1x512_0_1536, w3⟩, ⟨Rect.unit ![0, 1024] ![1, 512] inb_S8x2048_S1x512_0_1024, w2⟩, ⟨Rect.unit ![0, 512] ![1, 512] inb_S8x2048_S1x512_0_512, w1⟩, ⟨Rect.unit ![0, 0] ![1, 512] inb_S8x2048_S1x512_0_0, w0⟩]) (ix2 q k) = v.read (Elt Ideal) f (ix2 q k) := by
  have hq' : 1 ≤ q.val := Nat.one_le_iff_ne_zero.mpr fun h => hq (Fin.ext h)
  rw [View.read_writes_cons_unit_of_not_mem _ _ _ _ _ _ rfl (0 : Fin 2) (Or.inr hq'), View.read_writes_cons_unit_of_not_mem _ _ _ _ _ _ rfl (0 : Fin 2) (Or.inr hq'),
    View.read_writes_cons_unit_of_not_mem _ _ _ _ _ _ rfl (0 : Fin 2) (Or.inr hq'), View.read_writes_cons_unit_of_not_mem _ _ _ _ _ _ rfl (0 : Fin 2) (Or.inr hq')]
  rfl

end Cert.Pool

end
-- ==== Proof.Sums.lean ====
/- What the two running sums hold after each point. -/
module

public import proofs.«01_k».proof.Proof.Blocks
public import proofs.«01_k».proof.Proof.Rows
public import Idealize.ShloMosaic.Lib.Pipeline.ReadBack
public import proofs.«01_k».proof.Proof.Canon
public import Idealize.ShloMosaic.Lib.Pipeline.ValueKit

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- A group map's sum as the point before left it. -/
theorem prev_map (t : Fin cfg0.N) (hn : t.val - 1 < cfg0.N) (g : Fin 4) {off : Fin 3 → ℕ} (inb) (e0 : off 0 = g.val)
    (e1 : off 1 = 0) (e2 : off 2 = 0) (i j : Fin 512) :
    View.ld (Val := Elt Ideal) (e' := .f32) ((outsAt0 m c (t.val - 1) hn).2.2.2.1 : FVec Ideal S4x512x512 .f32)
      (Rect.unit off ![1, 512, 512] inb) (ix3 0 i j)
      = ((outsAt0 m c (t.val - 1) hn).2.2.2.1 : FVec Ideal S4x512x512 .f32) (ix3 g i j) :=
  congrArg ((outsAt0 m c (t.val - 1) hn).2.2.2.1 : FVec Ideal S4x512x512 .f32) (map_idx g inb i j e0 e1 e2)

/-- A group's part of the scale sum as the point before left it. -/
theorem prev_row (t : Fin cfg0.N) (hn : t.val - 1 < cfg0.N) (g : Fin 4) {off : Fin 2 → ℕ} (inb) (e0 : off 0 = 0)
    (e1 : off 1 = g.val * 512) (j : Fin 512) :
    View.ld (Val := Elt Ideal) (e' := .f32) ((outsAt0 m c (t.val - 1) hn).2.2.1 : FVec Ideal S8x2048 .f32)
      (Rect.unit off ![1, 512] inb) (ix2 0 j)
      = ((outsAt0 m c (t.val - 1) hn).2.2.1 : FVec Ideal S8x2048 .f32) (ix2 0 (colOf g j)) :=
  congrArg ((outsAt0 m c (t.val - 1) hn).2.2.1 : FVec Ideal S8x2048 .f32) (row_idx g inb j e0 e1)

/-- The first point starts a group map's sum at zero. -/
theorem map_first (t : Fin cfg0.N) (h0 : t.val % 16 = 0) (g : Fin 4) (i j : Fin 512) :
    ((outsAt0 m c t.val t.isLt).2.2.2.1 : FVec Ideal S4x512x512 .f32) (ix3 g i j) = 0 + WT (args m c) t.val g i j := by
  have h1 : ¬t.val % 16 = 15 := by omega
  rw [outsAt0_A m c t h0 h1]
  frame_out
  exact maps4 _ _ _ _ _ (fun g i j => 0 + WT (args m c) t.val g i j)
      (fun i j => (wg_0 m c t _ i j).trans (congrArg (· + _) (fresh_map_0 _ i j)))
      (fun i j => (wg_1 m c t _ i j).trans (congrArg (· + _) (fresh_map_1 _ _ i j)))
      (fun i j => (wg_2 m c t _ i j).trans (congrArg (· + _) (fresh_map_2 _ _ _ i j)))
      (fun i j => (wg_3 m c t _ i j).trans (congrArg (· + _) (fresh_map_3 _ _ _ _ i j))) g i j

/-- A later point adds its tile to a group map's sum. -/
theorem map_later (t : Fin cfg0.N) (h0 : ¬t.val % 16 = 0) (g : Fin 4) (i j : Fin 512) :
    ((outsAt0 m c t.val t.isLt).2.2.2.1 : FVec Ideal S4x512x512 .f32) (ix3 g i j)
      = ((outsAt0 m c (t.val - 1) (Nat.lt_of_le_of_lt (Nat.sub_le _ _) t.isLt)).2.2.2.1 : FVec Ideal S4x512x512 .f32) (ix3 g i j) + WT (args m c) t.val g i j := by
  by_cases h1 : t.val % 16 = 15
  · rw [outsAt0_C m c t h0 h1]
    frame_out
    simp only [read_unread_whole]
    exact maps4 _ _ _ _ _ (fun g i j => ((outsAt0 m c (t.val - 1) (Nat.lt_of_le_of_lt (Nat.sub_le _ _) t.isLt)).2.2.2.1 : FVec Ideal S4x512x512 .f32) (ix3 g i j) + WT (args m c) t.val g i j)
      (fun i j => (wg_0 m c t _ i j).trans (congrArg (· + _) (prev_map m c t _ 0 _ rfl rfl rfl i j)))
      (fun i j => (wg_1 m c t _ i j).trans (congrArg (· + _) (prev_map m c t _ 1 _ rfl rfl rfl i j)))
      (fun i j => (wg_2 m c t _ i j).trans (congrArg (· + _) (prev_map m c t _ 2 _ rfl rfl rfl i j)))
      (fun i j => (wg_3 m c t _ i j).trans (congrArg (· + _) (prev_map m c t _ 3 _ rfl rfl rfl i j))) g i j
  · rw [outsAt0_B m c t h0 h1]
    frame_out
    simp only [read_unread_whole]
    exact maps4 _ _ _ _ _ (fun g i j => ((outsAt0 m c (t.val - 1) (Nat.lt_of_le_of_lt (Nat.sub_le _ _) t.isLt)).2.2.2.1 : FVec Ideal S4x512x512 .f32) (ix3 g i j) + WT (args m c) t.val g i j)
      (fun i j => (wg_0 m c t _ i j).trans (congrArg (· + _) (prev_map m c t _ 0 _ rfl rfl rfl i j)))
      (fun i j => (wg_1 m c t _ i j).trans (congrArg (· + _) (prev_map m c t _ 1 _ rfl rfl rfl i j)))
      (fun i j => (wg_2 m c t _ i j).trans (congrArg (· + _) (prev_map m c t _ 2 _ rfl rfl rfl i j)))
      (fun i j => (wg_3 m c t _ i j).trans (congrArg (· + _) (prev_map m c t _ 3 _ rfl rfl rfl i j))) g i j

/-- The scratch loaded whole and narrowed is what its stores left. -/
theorem back8 {sp : Space} (v : View sig .tc sp S4x512x512 .f32) (L : List (View.Piece (Elt Ideal) S4x512x512 .f32)) (g : Fin 4) (i j : Fin 512) :
    (k0_pay3 (F := Ideal) (View.readCov (Val := Elt Ideal) v L (Rect.unit (s := S4x512x512) ![0, 0, 0] ![4, 512, 512] inb_S4x512x512_S4x512x512_0_0_0).toLoadRect : FVec Ideal S4x512x512 .f32)) (ix3 g i j) = (View.canon L (ix3 g i j) : EReal) := by
  have hy : (Rect.unit (s := S4x512x512) ![0, 0, 0] ![4, 512, 512] inb_S4x512x512_S4x512x512_0_0_0).toLoadRect.idx (ix3 g i j) = ix3 g i j := by
    funext a; apply Fin.ext
    fin_cases a <;> exact (Nat.zero_add _).trans (Nat.one_mul _)
  have h : (View.readCov (Val := Elt Ideal) v L (Rect.unit (s := S4x512x512) ![0, 0, 0] ![4, 512, 512] inb_S4x512x512_S4x512x512_0_0_0).toLoadRect : FVec Ideal S4x512x512 .f32) (ix3 g i j) = View.canon L ((Rect.unit (s := S4x512x512) ![0, 0, 0] ![4, 512, 512] inb_S4x512x512_S4x512x512_0_0_0).toLoadRect.idx (ix3 g i j)) :=
    congrFun (View.readCov_eq_canon' v L (Rect.unit (s := S4x512x512) ![0, 0, 0] ![4, 512, 512] inb_S4x512x512_S4x512x512_0_0_0).toLoadRect) (ix3 g i j)
  rw [hy] at h
  generalize (View.readCov (Val := Elt Ideal) v L (Rect.unit (s := S4x512x512) ![0, 0, 0] ![4, 512, 512] inb_S4x512x512_S4x512x512_0_0_0).toLoadRect : FVec Ideal S4x512x512 .f32) = x at h
  pointwise [k0_pay3, h]

/-- The array that the last point writes back is the sum in the scratch. -/
theorem out8_last (t : Fin cfg0.N) (h1 : t.val % 16 = 15) (g : Fin 4) (i j : Fin 512) :
    ((outsAt0 m c t.val t.isLt).2.1 : FVec Ideal S4x512x512 .bf16) (ix3 g i j) = ((outsAt0 m c (t.val - 1) (Nat.lt_of_le_of_lt (Nat.sub_le _ _) t.isLt)).2.2.2.1 : FVec Ideal S4x512x512 .f32) (ix3 g i j) + WT (args m c) t.val g i j := by
  have h0 : ¬t.val % 16 = 0 := by omega
  rw [outsAt0_C m c t h0 h1]
  frame_out
  simp only [read_unread_whole]
  refine (back8 _ _ g i j).trans ?_
  exact maps4 _ _ _ _ _ (fun g i j => ((outsAt0 m c (t.val - 1) (Nat.lt_of_le_of_lt (Nat.sub_le _ _) t.isLt)).2.2.2.1 : FVec Ideal S4x512x512 .f32) (ix3 g i j) + WT (args m c) t.val g i j)
      (fun i j => (wg_0 m c t _ i j).trans (congrArg (· + _) (prev_map m c t _ 0 _ rfl rfl rfl i j)))
      (fun i j => (wg_1 m c t _ i j).trans (congrArg (· + _) (prev_map m c t _ 1 _ rfl rfl rfl i j)))
      (fun i j => (wg_2 m c t _ i j).trans (congrArg (· + _) (prev_map m c t _ 2 _ rfl rfl rfl i j)))
      (fun i j => (wg_3 m c t _ i j).trans (congrArg (· + _) (prev_map m c t _ 3 _ rfl rfl rfl i j))) g i j

/-- The first point starts the scale sum at zero. -/
theorem row_first (t : Fin cfg0.N) (h0 : t.val % 16 = 0) (k : Fin 2048) :
    ((outsAt0 m c t.val t.isLt).2.2.1 : FVec Ideal S8x2048 .f32) (ix2 0 k) = 0 + ST (args m c) t.val k := by
  have h1 : ¬t.val % 16 = 15 := by omega
  rw [outsAt0_A m c t h0 h1]
  frame_out
  exact row_hit _ _ _ _ _ (fun k => 0 + ST (args m c) t.val k)
      (fun i => (st_0 m c t _ i).trans (congrArg (· + _) (fresh_row_0 _ i)))
      (fun i => (st_1 m c t _ i).trans (congrArg (· + _) (fresh_row_1 _ _ i)))
      (fun i => (st_2 m c t _ i).trans (congrArg (· + _) (fresh_row_2 _ _ _ i)))
      (fun i => (st_3 m c t _ i).trans (congrArg (· + _) (fresh_row_3 _ _ _ _ i))) k

/-- A later point adds its tile to the scale sum. -/
theorem row_later (t : Fin cfg0.N) (h0 : ¬t.val % 16 = 0) (k : Fin 2048) :
    ((outsAt0 m c t.val t.isLt).2.2.1 : FVec Ideal S8x2048 .f32) (ix2 0 k)
      = ((outsAt0 m c (t.val - 1) (Nat.lt_of_le_of_lt (Nat.sub_le _ _) t.isLt)).2.2.1 : FVec Ideal S8x2048 .f32) (ix2 0 k) + ST (args m c) t.val k := by
  by_cases h1 : t.val % 16 = 15
  · rw [outsAt0_C m c t h0 h1]
    frame_out
    exact over_hit _ _ _ _ _ _ (fun k => ((outsAt0 m c (t.val - 1) (Nat.lt_of_le_of_lt (Nat.sub_le _ _) t.isLt)).2.2.1 : FVec Ideal S8x2048 .f32) (ix2 0 k) + ST (args m c) t.val k)
      (fun i => (st_0 m c t _ i).trans (congrArg (· + _) (prev_row m c t _ 0 _ rfl rfl i)))
      (fun i => (st_1 m c t _ i).trans (congrArg (· + _) (prev_row m c t _ 1 _ rfl rfl i)))
      (fun i => (st_2 m c t _ i).trans (congrArg (· + _) (prev_row m c t _ 2 _ rfl rfl i)))
      (fun i => (st_3 m c t _ i).trans (congrArg (· + _) (prev_row m c t _ 3 _ rfl rfl i))) k
  · rw [outsAt0_B m c t h0 h1]
    frame_out
    exact over_hit _ _ _ _ _ _ (fun k => ((outsAt0 m c (t.val - 1) (Nat.lt_of_le_of_lt (Nat.sub_le _ _) t.isLt)).2.2.1 : FVec Ideal S8x2048 .f32) (ix2 0 k) + ST (args m c) t.val k)
      (fun i => (st_0 m c t _ i).trans (congrArg (· + _) (prev_row m c t _ 0 _ rfl rfl i)))
      (fun i => (st_1 m c t _ i).trans (congrArg (· + _) (prev_row m c t _ 1 _ rfl rfl i)))
      (fun i => (st_2 m c t _ i).trans (congrArg (· + _) (prev_row m c t _ 2 _ rfl rfl i)))
      (fun i => (st_3 m c t _ i).trans (congrArg (· + _) (prev_row m c t _ 3 _ rfl rfl i))) k

/-- The first point clears the other rows. -/
theorem rest_first (t : Fin cfg0.N) (h0 : t.val % 16 = 0) (q : Fin 8) (hq : q ≠ 0) (k : Fin 2048) :
    ((outsAt0 m c t.val t.isLt).2.2.1 : FVec Ideal S8x2048 .f32) (ix2 q k) = 0 := by
  have h1 : ¬t.val % 16 = 15 := by omega
  rw [outsAt0_A m c t h0 h1]
  frame_out
  refine (row_miss _ _ _ _ _ q hq k).trans ?_
  rw [canon_hit _ _ _ _ (ix2 q k) _]
  · pointwise [k0_pay7]
  · intro a; fin_cases a <;> simp

/-- A later point keeps the other rows. -/
theorem rest_later (t : Fin cfg0.N) (h0 : ¬t.val % 16 = 0) (q : Fin 8) (hq : q ≠ 0) (k : Fin 2048) :
    ((outsAt0 m c t.val t.isLt).2.2.1 : FVec Ideal S8x2048 .f32) (ix2 q k)
      = ((outsAt0 m c (t.val - 1) (Nat.lt_of_le_of_lt (Nat.sub_le _ _) t.isLt)).2.2.1 : FVec Ideal S8x2048 .f32) (ix2 q k) := by
  by_cases h1 : t.val % 16 = 15
  · rw [outsAt0_C m c t h0 h1]
    frame_out
    refine (over_miss _ _ _ _ _ _ q hq k).trans ?_
    rw [Memref.IsWhole.read_unread]
  · rw [outsAt0_B m c t h0 h1]
    frame_out
    refine (over_miss _ _ _ _ _ _ q hq k).trans ?_
    rw [Memref.IsWhole.read_unread]

/-- A sum that starts at the first point and grows by a term at each. -/
theorem sum_of_steps (W : ∀ n, n < cfg0.N → EReal) (f : ℕ → EReal) (hfirst : ∀ t : Fin cfg0.N, t.val % 16 = 0 → W t.val t.isLt = 0 + f t.val)
    (hlater : ∀ t : Fin cfg0.N, ¬t.val % 16 = 0 → W t.val t.isLt = W (t.val - 1) (Nat.lt_of_le_of_lt (Nat.sub_le _ _) t.isLt) + f t.val) :
    ∀ n (hn : n < cfg0.N), W n hn = ∑ s ∈ Finset.range (n + 1), f s
  | 0, hn => (hfirst ⟨0, hn⟩ rfl).trans (by rw [Finset.sum_range_one, zero_add])
  | n + 1, hn => by
    have h16 : n + 1 < 16 := hn
    rw [Finset.sum_range_succ, ← sum_of_steps W f hfirst hlater n (by omega)]
    exact hlater ⟨n + 1, hn⟩ (by show ¬(n + 1) % 16 = 0; omega)

end Cert.Pool

end
-- ==== Proof.Finals.lean ====
module

public import proofs.«01_k».proof.Proof.Blocks
public import proofs.«01_k».proof.Proof.Sums
public import Idealize.ShloMosaic.Lib.Pipeline.ReadBack
public import proofs.«01_k».proof.Proof.Canon
public import Idealize.ShloMosaic.Lib.Pipeline.ValueKit

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- What the call writes into its first result: the two gradients, row by row. -/
def G7 (A : Args) : FVec Ideal S2x4096x2048 .bf16 := fun y => D2 A ⟨(y 0).val, (y 0).isLt⟩ ⟨(y 1).val, (y 1).isLt⟩ ⟨(y 2).val, (y 2).isLt⟩
/-- and into its second, the group maps' gradients. -/
def G8 (A : Args) : FVec Ideal S4x512x512 .bf16 := fun y => DWG A ⟨(y 0).val, (y 0).isLt⟩ ⟨(y 1).val, (y 1).isLt⟩ ⟨(y 2).val, (y 2).isLt⟩
/-- and into its third, the scale's gradient above seven rows of zeros. -/
def G9 (A : Args) : FVec Ideal S8x2048 .f32 := fun y => if (y 0).val = 0 then DSC A ⟨(y 1).val, (y 1).isLt⟩ else 0

/-- The gradients of u and z that a tile leaves. -/
theorem out7_at (t : Fin cfg0.N) (k : Fin 2) (r : Fin 256) (l : Fin 2048) :
    ((outsAt0 m c t.val t.isLt).1 : FVec Ideal S2x256x2048 .bf16) (ix3 k r l) = D2 (args m c) k (row t.val r) l := by
  by_cases h0 : t.val % 16 = 0
  · exact out7_first m c t h0 k r l
  · exact out7_later m c t h0 k r l

/-- Where a tile of the first result lies. -/
theorem emb7 (t : Fin cfg0.N) (k : Fin 2) (r : Fin 256) (l : Fin 2048) :
    ((cfg0.win 7).blk t).view.emb (ix3 k r l) = ix3 k (row t.val r) l := by
  unfold row base
  blk_ext [idx t]

/-- The first result: the two gradients, row by row. -/
theorem final7 : (dats m 0 c).arrAt 7 cfg0.N = G7 (args m c) := by
  refine (dats m 0 c).arrAt_eq_of_covers 7 _ (by decide +kernel) fun t hf y => ?_
  blk_simp
  rw [after0_7]
  obtain ⟨k, r, l, rfl⟩ : ∃ (k : Fin 2) (r : Fin 256) (l : Fin 2048), y = ix3 k r l := ⟨y 0, y 1, y 2, eq_ix3 y⟩
  exact (out7_at m c t k r l).trans (congrArg (G7 (args m c)) (emb7 t k r l)).symm

/-- The scratch after each point. -/
theorem map_sum (g : Fin 4) (i j : Fin 512) (n : ℕ) (hn : n < cfg0.N) :
    ((outsAt0 m c n hn).2.2.2.1 : FVec Ideal S4x512x512 .f32) (ix3 g i j) = ∑ s ∈ Finset.range (n + 1), WT (args m c) s g i j :=
  sum_of_steps (fun n hn => ((outsAt0 m c n hn).2.2.2.1 : FVec Ideal S4x512x512 .f32) (ix3 g i j)) (fun s => WT (args m c) s g i j)
    (fun t h0 => map_first m c t h0 g i j) (fun t h0 => map_later m c t h0 g i j) n hn

/-- The running sum of the scale gradient after a point. -/
theorem row_sum (k : Fin 2048) (n : ℕ) (hn : n < cfg0.N) :
    ((outsAt0 m c n hn).2.2.1 : FVec Ideal S8x2048 .f32) (ix2 0 k) = ∑ s ∈ Finset.range (n + 1), ST (args m c) s k :=
  sum_of_steps (fun n hn => ((outsAt0 m c n hn).2.2.1 : FVec Ideal S8x2048 .f32) (ix2 0 k)) (fun s => ST (args m c) s k)
    (fun t h0 => row_first m c t h0 k) (fun t h0 => row_later m c t h0 k) n hn

/-- The rows below the scale gradient are zero after every point. -/
theorem rest_zero (q : Fin 8) (hq : q ≠ 0) (k : Fin 2048) : ∀ (n : ℕ) (hn : n < cfg0.N),
    ((outsAt0 m c n hn).2.2.1 : FVec Ideal S8x2048 .f32) (ix2 q k) = 0
  | 0, hn => rest_first m c ⟨0, hn⟩ rfl q hq k
  | n + 1, hn => by
    have h16 : n + 1 < 16 := hn
    exact (rest_later m c ⟨n + 1, hn⟩ (by show ¬(n + 1) % 16 = 0; omega) q hq k).trans (rest_zero q hq k n (by omega))

/-- Only the last point writes the sums back. -/
theorem last_of_flush8 (t : Fin cfg0.N) (hf : (cfg0.win 8).flush t = true) : t.val = 15 := by
  have h := (flush0_8 t).mp hf
  have : t.val < 16 := t.isLt
  omega
/-- The scale gradient is written back by the last point alone. -/
theorem last_of_flush9 (t : Fin cfg0.N) (hf : (cfg0.win 9).flush t = true) : t.val = 15 := by
  have h := (flush0_9 t).mp hf
  have : t.val < 16 := t.isLt
  omega

/-- The second result is one block. -/
theorem emb8 (t : Fin cfg0.N) (g : Fin 4) (i j : Fin 512) : ((cfg0.win 8).blk t).view.emb (ix3 g i j) = ix3 g i j := by
  blk_ext [idx t]
/-- The third result is one block. -/
theorem emb9 (t : Fin cfg0.N) (q : Fin 8) (k : Fin 2048) : ((cfg0.win 9).blk t).view.emb (ix2 q k) = ix2 q k := by
  blk_ext [idx t]

/-- What the last point leaves of the group maps' gradients. -/
theorem out8_at (t : Fin cfg0.N) (ht : t.val = 15) (g : Fin 4) (i j : Fin 512) :
    ((outsAt0 m c t.val t.isLt).2.1 : FVec Ideal S4x512x512 .bf16) (ix3 g i j) = DWG (args m c) g i j := by
  rw [out8_last m c t (by omega) g i j, map_sum m c g i j]
  obtain ⟨n, hn⟩ := t
  obtain rfl : n = 15 := ht
  show ∑ s ∈ Finset.range 15, WT (args m c) s g i j + WT (args m c) 15 g i j = _
  rw [← Finset.sum_range_succ (fun s => WT (args m c) s g i j) 15]
  exact sum_tiles fun R => (args m c).p R (colOf g i) * DMX (args m c) R (colOf g j)

/-- What the last point leaves of the scale gradient. -/
theorem out9_at (t : Fin cfg0.N) (ht : t.val = 15) (k : Fin 2048) :
    ((outsAt0 m c t.val t.isLt).2.2.1 : FVec Ideal S8x2048 .f32) (ix2 0 k) = DSC (args m c) k := by
  rw [row_sum m c k]
  obtain ⟨n, hn⟩ := t
  obtain rfl : n = 15 := ht
  exact sum_tiles fun R => T1 (args m c) R k * (args m c).mx R k

/-- The second result: the group maps' gradients. -/
theorem final8 : (dats m 0 c).arrAt 8 cfg0.N = G8 (args m c) := by
  refine (dats m 0 c).arrAt_eq_of_covers 8 _ (by decide +kernel) fun t hf y => ?_
  blk_simp
  rw [after0_8]
  obtain ⟨g, i, j, rfl⟩ : ∃ (g : Fin 4) (i j : Fin 512), y = ix3 g i j := ⟨y 0, y 1, y 2, eq_ix3 y⟩
  exact (out8_at m c t (last_of_flush8 t hf) g i j).trans (congrArg (G8 (args m c)) (emb8 t g i j)).symm

/-- The third result: the scale's gradient above rows of zeros. -/
theorem final9 : (dats m 0 c).arrAt 9 cfg0.N = G9 (args m c) := by
  refine (dats m 0 c).arrAt_eq_of_covers 9 _ (by decide +kernel) fun t hf y => ?_
  blk_simp
  rw [after0_9]
  obtain ⟨q, k, rfl⟩ : ∃ (q : Fin 8) (k : Fin 2048), y = ix2 q k := ⟨y 0, y 1, eq_ix2 y⟩
  refine Eq.trans ?_ (congrArg (G9 (args m c)) (emb9 t q k)).symm
  by_cases hq : q = 0
  · subst hq
    exact (out9_at m c t (last_of_flush9 t hf) k).trans (if_pos rfl).symm
  · exact (rest_zero m c q hq k _ _).trans (if_neg fun h => hq (Fin.ext h)).symm

end Cert.Pool

end
-- ==== Proof.RefAt.lean ====
/- The reference's stages read at an index: the gradient that reaches the mixer's product, the gate's gradient, the
   group maps' gradients, and the scale's. -/
module

public import proofs.«01_k».proof.Proof.Spec
public import proofs.«01_k».proof.Proof.Reals

@[expose] public section

set_option maxRecDepth 16384

noncomputable section

namespace Cert.Pool

open Cert.ReferenceIdeal Cert.ReferenceIdeal.Gen Cert.ReferenceIdeal.Read
open Idealize.ShloMosaic Idealize.ShloMosaic.TcCoe Idealize.SL.Sem

variable (x0 x1 x5 : FVec Ideal S4096x2048 .f32) (x2 : FVec Ideal S4x512x512 .f32) (x3 : FVec Ideal S1x2048 .f32)
  (x4 : FVec Ideal S2048x2048 .f32)

/-- `dr` times the transposed output map. -/
theorem v95_at (r : Fin 4096) (c : Fin 2048) :
    val_main_v95 (F := Ideal) x4 x5 (ix2 r c) = DY (argsOf x0 x1 x2 x3 x4 x5) r c := by
  pointwise [val_main_v95, DY, argsOf]

/-- The gate's sigmoid. -/
theorem sig_at (r : Fin 4096) (c : Fin 2048) :
    val_main_v92_2 (F := Ideal) x1 (ix2 r c) = Ideal.logistic (x1 (ix2 r c)) := by
  pointwise [val_main_v92_2, val_main_call4_v4, val_main_call4_v3, val_main_call4_v2, val_main_call4_v1, val_main_call4_v0,
    val_main_call4_cst, val_main_call4_cst_0]
  rfl

/-- One minus the gate's sigmoid. -/
theorem cosig_at (r : Fin 4096) (c : Fin 2048) :
    val_main_call4_v7 (F := Ideal) x1 (ix2 r c) = 1 - Ideal.logistic (x1 (ix2 r c)) := by
  pointwise [val_main_call4_v7, val_main_call4_v6, val_main_call4_cst_1, sig_at]

/-- The gradient times the gate. -/
theorem v97_at (r : Fin 4096) (c : Fin 2048) :
    val_main_v97 (F := Ideal) x1 x4 x5 (ix2 r c) = T1 (argsOf x0 x1 x2 x3 x4 x5) r c := by
  pointwise [val_main_v97, val_main_v92_0, v95_at x0 x1 x5 x2 x3 x4, sig_at, T1]
  rfl

/-- The mixed channels' gradient. -/
theorem v103_at (r : Fin 4096) (c : Fin 2048) :
    val_main_v103 (F := Ideal) x1 x3 x4 x5 (ix2 r c) = DMX (argsOf x0 x1 x2 x3 x4 x5) r c := by
  pointwise [val_main_v103, val_main_v102, v97_at x0 x1 x5 x2 x3 x4, DMX]
  rfl

/-- The same, with the channels' groups first. -/
theorem v105_at (g : Fin 4) (d : Fin 512) (r : Fin 4096) :
    val_main_v105 (F := Ideal) x1 x3 x4 x5 (ix4 g d 0 r) = DMX (argsOf x0 x1 x2 x3 x4 x5) r (colOf g d) := by
  pointwise [val_main_v105, val_main_v104, v103_at x0 x1 x5 x2 x3 x4, colOf]

/-- The pooled channels' gradient. -/
theorem v107_at (r : Fin 4096) (g : Fin 4) (i : Fin 512) :
    val_main_v107 (F := Ideal) x1 x2 x3 x4 x5 (ix4 0 r g i) = DP (argsOf x0 x1 x2 x3 x4 x5) r g i := by
  pointwise [val_main_v107, val_main_v106, v105_at x0 x1 x5 x2 x3 x4, DP]
  rfl

/-- The gate's gradient, as the product rule's two terms. -/
theorem v98_at (r : Fin 4096) (c : Fin 2048) :
    val_main_v98 (F := Ideal) x0 x1 x2 x3 x4 x5 (ix2 r c)
      = (let A := argsOf x0 x1 x2 x3 x4 x5
         (A.mx r c * A.sc c * DY A r c) * Ideal.logistic (A.z r c)
           + A.z r c * (A.mx r c * A.sc c * DY A r c) * (Ideal.logistic (A.z r c) * (1 - Ideal.logistic (A.z r c)))) := by
  pointwise [val_main_v98, val_main_call5_v1, val_main_call5_v2, val_main_call5_v0, val_main_v96, val_main_v91, val_main_v90,
    val_main_v92_1, v95_at x0 x1 x5 x2 x3 x4, sig_at, cosig_at]
  rfl

/-- The gate's gradient where the mixed channels, the scale, the map's product and the gate's input are real. -/
theorem dz_at (r : Fin 4096) (c : Fin 2048)
    (hm : IsR ((argsOf x0 x1 x2 x3 x4 x5).mx r c)) (hs : IsR ((argsOf x0 x1 x2 x3 x4 x5).sc c))
    (hd : IsR (DY (argsOf x0 x1 x2 x3 x4 x5) r c)) (hz : IsR ((argsOf x0 x1 x2 x3 x4 x5).z r c)) :
    val_main_v98 (F := Ideal) x0 x1 x2 x3 x4 x5 (ix2 r c) = DZ (argsOf x0 x1 x2 x3 x4 x5) r c := by
  rw [v98_at]
  dsimp only
  rw [← silu_grad ((hm.mul hs).mul hd) hz hz.logistic]
  unfold DZ
  rw [mul_comm (DY _ r c) _]

/-- The scale's gradient, a sum over the rows. -/
theorem v100_at (c : Fin 2048) :
    val_main_v100 (F := Ideal) x0 x1 x2 x4 x5 (ix1 c) = DSC (argsOf x0 x1 x2 x3 x4 x5) c := by
  pointwise [val_main_v100, val_main_v99, val_main_cst_14, v97_at x0 x1 x5 x2 x3 x4]
  exact Finset.sum_congr rfl fun r _ => mul_comm _ _

/-- The third result. -/
theorem v180_at (k : Fin 8) (c : Fin 2048) :
    val_main_v180 (F := Ideal) x0 x1 x2 x4 x5 (ix2 k c)
      = if k.val = 0 then DSC (argsOf x0 x1 x2 x3 x4 x5) c else 0 := by
  pointwise [val_main_v180, val_main_v179, val_main_v101, val_main_cst_28, v100_at x0 x1 x5 x2 x3 x4]
  by_cases h : k.val = 0
  · rw [if_pos h, dif_pos (by omega)]
  · rw [if_neg h, dif_neg (by omega)]

/-- The pooled channel of a group's column. -/
theorem p_colOf (r : Fin 4096) (g : Fin 4) (i : Fin 512) :
    (argsOf x0 x1 x2 x3 x4 x5).p r (colOf g i) = val_main_v86 (F := Ideal) x0 (ix4 0 r g i) := by
  have hg : (⟨(colOf g i).val / 512, by have := (colOf g i).isLt; omega⟩ : Fin 4) = g :=
    Fin.ext (by show ((g : ℕ) * 512 + i) / 512 = g; omega)
  have hi : (⟨(colOf g i).val % 512, by omega⟩ : Fin 512) = i := Fin.ext (by show ((g : ℕ) * 512 + i) % 512 = i; omega)
  show val_main_v86 (F := Ideal) x0 (ix4 0 r ⟨(colOf g i).val / 512, _⟩ ⟨(colOf g i).val % 512, _⟩) = _
  rw [hg, hi]

/-- The group maps' gradient. -/
theorem v185_at (g : Fin 4) (i j : Fin 512) :
    val_main_v185 (F := Ideal) x0 x1 x3 x4 x5 (ix3 g i j) = DWG (argsOf x0 x1 x2 x3 x4 x5) g i j := by
  pointwise [val_main_v185, val_main_v109, val_main_v108, v105_at x0 x1 x5 x2 x3 x4, DWG]
  rw [Fin.sum_univ_one]
  refine Finset.sum_congr rfl fun r _ => ?_
  rw [v105_at x0 x1 x5 x2 x3 x4, p_colOf, mul_comm]

end Cert.Pool

end
-- ==== Proof.Window.lean ====
/- A running sum from the last row backwards, as the host computes it, read at an index; and whether a running sum of
   real numbers is real. -/
module

public import proofs.«01_k».proof.Proof.Reals
public import Idealize.ShloMosaic.Lib.ShapeFacts
public import Idealize.ShloMosaic.Lib.Pointwise

@[expose] public section

noncomputable section

namespace Cert.Pool

open Idealize.ShloMosaic Idealize.ShloMosaic.TcCoe Idealize.SL.Sem

/-- One block of `N` rows and `C` columns. -/
abbrev SB (N C : ℕ) : Shape := ⟨3, ![1, N, C]⟩

/-- A column of N rows has N elements. -/
theorem numel_col (N : ℕ) : (SB N 1).numel = N := by
  rw [Idealize.ShloMosaic.Shape.numel_rank3]
  show 1 * N * 1 = N
  omega

/-- Place `n` of one column is its row `n`. -/
theorem place_col (N : ℕ) (n : Fin (SB N 1).numel) : (SB N 1).rowMajor.symm n = (ix3 0 (n.cast (numel_col N)) 0 : (SB N 1).Idx) := by
  rw [Equiv.symm_apply_eq]
  apply Fin.ext
  rw [Shape.rowMajor_val_three]
  show n.val = (0 * N + n.val) * 1 + 0
  omega

/-- A column's sum from row `r` to the last, as the host's window sum padded below the last row reads it. -/
theorem window_fold {N M C : ℕ} (x : (SB N C).Idx → EReal) (init : EReal) (hi : init = 0)
    (h : (SB N C).ReduceWindows ![1, N, 1] ![1, 1, 1] ![0, 0, 0] ![0, M, 0] (SB N C)) (hu : 0 < (⟨0, ![]⟩ : Shape).numel)
    (r : Fin N) (i : Fin C) :
    Host.reduceWindow (· + ·) ![1, N, 1] ![1, 1, 1] ![0, 0, 0] ![0, M, 0] x (fun _ : (⟨0, ![]⟩ : Shape).Idx => init) h hu (ix3 0 r i)
      = ∑ k ∈ Finset.range N, if hk : r.val + k < N then x (ix3 0 ⟨r.val + k, hk⟩ i) else 0 := by
  subst hi
  unfold Host.reduceWindow
  refine (foldl_add _ _).trans ?_
  rw [zero_add]
  rw [← Fin.sum_univ_eq_sum_range (fun k : ℕ => if hk : r.val + k < N then x (ix3 0 ⟨r.val + k, hk⟩ i) else 0) N]
  refine Fintype.sum_equiv (finCongr (numel_col N)) _ _ fun n => ?_
  have p0 : ((SB N 1).rowMajor.symm n 0).val = 0 := by rw [place_col]; rfl
  have p1 : ((SB N 1).rowMajor.symm n 1).val = n.val := by rw [place_col]; rfl
  have p2 : ((SB N 1).rowMajor.symm n 2).val = 0 := by rw [place_col]; rfl
  have hr := r.isLt
  have hc := i.isLt
  show _ = if hk : r.val + n.val < N then x (ix3 0 ⟨r.val + n.val, hk⟩ i) else 0
  dsimp only
  split
  · next hin =>
    have h1 := (hin 1).2
    change r.val * 1 + ((SB N 1).rowMajor.symm n 1).val - 0 < N at h1
    rw [p1] at h1
    rw [dif_pos (by omega)]
    refine congrArg x (funext fun a => Fin.ext ?_)
    match a with
    | ⟨0, _⟩ => show 0 * 1 + ((SB N 1).rowMajor.symm n 0).val - 0 = 0; rw [p0]
    | ⟨1, _⟩ => show r.val * 1 + ((SB N 1).rowMajor.symm n 1).val - 0 = r.val + n.val; rw [p1]; omega
    | ⟨2, _⟩ => show i.val * 1 + ((SB N 1).rowMajor.symm n 2).val - 0 = i.val; rw [p2]; omega
  · next hin =>
    rw [dif_neg fun hk => hin fun a => ?_]
    match a with
    | ⟨0, _⟩ => exact ⟨Nat.zero_le _, by show 0 * 1 + ((SB N 1).rowMajor.symm n 0).val - 0 < 1; rw [p0]; omega⟩
    | ⟨1, _⟩ => exact ⟨Nat.zero_le _, by show r.val * 1 + ((SB N 1).rowMajor.symm n 1).val - 0 < N; rw [p1]; omega⟩
    | ⟨2, _⟩ => exact ⟨Nat.zero_le _, by show i.val * 1 + ((SB N 1).rowMajor.symm n 2).val - 0 < C; rw [p2]; omega⟩

/-- The same of a float array. -/
theorem window_at {N M C : ℕ} (x : FVec Ideal (SB N C) .f32) (init : FVec Ideal (⟨0, ![]⟩ : Shape) .f32)
    {hu : 0 < (⟨0, ![]⟩ : Shape).numel} (hi : init (Shape.Idx.first hu) = 0)
    (h : (SB N C).ReduceWindows ![1, N, 1] ![1, 1, 1] ![0, 0, 0] ![0, M, 0] (SB N C)) (hu' : 0 < (⟨0, ![]⟩ : Shape).numel)
    (r : Fin N) (i : Fin C) :
    Host.reduceWindowAdd (F := Ideal) (φ := .f32) ![1, N, 1] ![1, 1, 1] ![0, 0, 0] ![0, M, 0] x init h hu' (ix3 0 r i)
      = ∑ k ∈ Finset.range N, if hk : r.val + k < N then (x (ix3 0 ⟨r.val + k, hk⟩ i) : EReal) else 0 :=
  window_fold x _ hi h hu' r i

/-- A window sum of real numbers from a real number is real, wherever the window lies. -/
theorem window_isR {s t : Shape} (w st lo hi : Fin s.rank → ℕ) (x : s.Idx → EReal) (init : EReal) (hv : IsR init)
    (h : s.ReduceWindows w st lo hi t) (hu : 0 < (⟨0, ![]⟩ : Shape).numel) (hx : ∀ y, IsR (x y)) (y : t.Idx) :
    IsR (Host.reduceWindow (· + ·) w st lo hi x (fun _ : (⟨0, ![]⟩ : Shape).Idx => init) h hu y) := by
  unfold Host.reduceWindow
  refine IsR.foldl _ _ (fun n _ => ?_) _ hv
  dsimp only
  split
  · exact hx _
  · exact hv

/-- The same of a float array. -/
theorem window_real {s t : Shape} (w st lo hi : Fin s.rank → ℕ) (x : FVec Ideal s .f32) (init : FVec Ideal (⟨0, ![]⟩ : Shape) .f32)
    (h : s.ReduceWindows w st lo hi t) (hu : 0 < (⟨0, ![]⟩ : Shape).numel) (hv : IsR (init (Shape.Idx.first hu)))
    (hx : ∀ y, IsR (x y)) (y : t.Idx) :
    IsR (Host.reduceWindowAdd (F := Ideal) (φ := .f32) w st lo hi x init h hu y) :=
  window_isR w st lo hi x _ hv h hu hx y

end Cert.Pool

end
-- ==== Proof.RefWin.lean ====
/- The reference's pooling windows run backwards: each group's running sum of differences read at an index, the group's
   share of the mixer's input gradient, and the four groups together. -/
module

public import proofs.«01_k».proof.Proof.RefAt
public import proofs.«01_k».proof.Proof.Window

@[expose] public section

set_option maxRecDepth 16384

noncomputable section

namespace Cert.Pool

open Cert.ReferenceIdeal Cert.ReferenceIdeal.Gen Cert.ReferenceIdeal.Read
open Idealize.ShloMosaic Idealize.ShloMosaic.TcCoe Idealize.SL.Sem

variable (x0 x1 x5 : FVec Ideal S4096x2048 .f32) (x2 : FVec Ideal S4x512x512 .f32) (x3 : FVec Ideal S1x2048 .f32)
  (x4 : FVec Ideal S2048x2048 .f32)

/-- The number of rows in the window that ends at row `r`, as the reference counts them. -/
theorem count_word (r : Fin 4096) (w : ℕ) (hw : w < 4096) :
    (FloatOps.sitofp (F := Ideal) .f32 (IntOp.minsi (IntOp.addi (BitVec.ofNat 32 r.val) 1#32) (BitVec.ofNat 32 w)) : EReal)
      = (((min (r.val + 1) w : ℕ) : ℝ) : EReal) := by
  have h1 : IntOp.addi (BitVec.ofNat 32 r.val) 1#32 = BitVec.ofNat 32 (r.val + 1) := by
    show BitVec.ofNat 32 r.val + 1#32 = _
    rw [BitVec.ofNat_add]
  have ht : ∀ n : ℕ, n ≤ 4096 → (BitVec.ofNat 32 n).toInt = n := fun n hn => by
    rw [BitVec.toInt_eq_toNat_of_lt (by rw [BitVec.toNat_ofNat]; omega), BitVec.toNat_ofNat, Nat.mod_eq_of_lt (by omega)]
  have h2 : (IntOp.minsi (BitVec.ofNat 32 (r.val + 1)) (BitVec.ofNat 32 w)).toInt = ((min (r.val + 1) w : ℕ) : ℤ) := by
    unfold IntOp.minsi
    have := ht (r.val + 1) (by omega)
    have := ht w (by omega)
    split <;> rename_i hs <;> simp only [BitVec.slt, BitVec.sle, decide_eq_true_eq] at hs <;> omega
  rw [h1]
  show (((IntOp.minsi (BitVec.ofNat 32 (r.val + 1)) (BitVec.ofNat 32 w)).toInt : ℝ) : EReal) = _
  rw [h2]
  norm_cast

/-- A row's gradient over its window's count is the row's share. -/
theorem e_of_count (A : Args) (g : Fin 4) (r : Fin 4096) (i : Fin 512) :
    Ideal.div (DP A r g i) (((min (r.val + 1) (width g) : ℕ) : ℝ) : EReal) = E A g i r.val := by
  have hw : 0 < width g := by unfold width; positivity
  rw [Ideal.div_coe (by have : 0 < min (r.val + 1) (width g) := by omega
                        positivity)]
  unfold E rcount
  rw [dif_pos r.isLt]

/-- Past the last row there is no share. -/
theorem E_past (A : Args) (g : Fin 4) (i : Fin 512) (n : ℕ) (h : 4096 ≤ n) : E A g i n = 0 := dif_neg (by omega)

/-- A running sum of the differences, from row `r` on, is a window's sum. -/
theorem window_sum (A : Args) (g : Fin 4) (i : Fin 512) (hE : ∀ n, IsR (E A g i n)) (r : Fin 4096) (f : Fin 4096 → EReal)
    (hf : ∀ r, f r = E A g i r.val - E A g i (r.val + width g)) :
    (∑ k ∈ Finset.range 4096, if hk : r.val + k < 4096 then f ⟨r.val + k, hk⟩ else 0)
      = ∑ j ∈ Finset.range (width g), E A g i (r.val + j) := by
  rw [← window_telescopes 4096 (width g) r.val (E A g i) hE (E_past A g i)]
  refine Finset.sum_congr rfl fun k _ => ?_
  split
  · next hk => exact hf ⟨r.val + k, hk⟩
  · next hk => rw [E_past A g i (r.val + k) (by omega), E_past A g i (r.val + k + width g) (by omega), sub_zero]

variable (i : Fin 512)

/-! ## Group 0: windows of 2 rows -/

/-- The number of rows in the group's window at row `r`. -/
theorem cnt_ref0 (r : Fin 4096) : val_main_v16 (F := Ideal) (ix3 0 r 0) = (((min (r.val + 1) (width 0) : ℕ) : ℝ) : EReal) := by
  pointwise [val_main_v16, val_main_v14, val_main_v13, val_main_v11, val_main_v9, val_main_v10, val_main_v12, val_main_c, val_main_c_1]
  exact count_word r 2 (by omega)

/-- The group's pooled channels' gradient. -/
theorem dp_ref0 (r : Fin 4096) (i : Fin 512) : val_main_v111 (F := Ideal) x1 x2 x3 x4 x5 (ix3 0 r i) = DP (argsOf x0 x1 x2 x3 x4 x5) r 0 i := by
  pointwise [val_main_v111, val_main_v110, v107_at x0 x1 x5 x2 x3 x4]

/-- The same over the window's count. -/
theorem e_ref0 (r : Fin 4096) (i : Fin 512) : val_main_v167 (F := Ideal) x1 x2 x3 x4 x5 (ix3 0 r i) = E (argsOf x0 x1 x2 x3 x4 x5) 0 i r.val := by
  pointwise [val_main_v167, val_main_v166, dp_ref0 x0 x1 x5 x2 x3 x4, cnt_ref0]
  exact e_of_count (argsOf x0 x1 x2 x3 x4 x5) 0 r i

/-- Its differences at the window's distance. -/
theorem d_ref0 (r : Fin 4096) (i : Fin 512) :
    val_main_v172 (F := Ideal) x1 x2 x3 x4 x5 (ix3 0 r i) = E (argsOf x0 x1 x2 x3 x4 x5) 0 i r.val - E (argsOf x0 x1 x2 x3 x4 x5) 0 i (r.val + 2) := by
  pointwise [val_main_v172, val_main_v171, val_main_v170, val_main_v168, val_main_cst_25, e_ref0 x0 x1 x5 x2 x3 x4]
  by_cases h : r.val + 2 < 4096
  · rw [dif_pos (by omega), sub_eq_add_neg, add_comm r.val 2]
  · rw [dif_neg (by omega), E_past (argsOf x0 x1 x2 x3 x4 x5) 0 i (r.val + 2) (by omega), sub_zero, add_zero]

/-- Their running sum, a window's sum. -/
theorem w_ref0 (hE : ∀ n, IsR (E (argsOf x0 x1 x2 x3 x4 x5) 0 i n)) (r : Fin 4096) :
    val_main_v173 (F := Ideal) x1 x2 x3 x4 x5 (ix3 0 r i) = ∑ j ∈ Finset.range (width 0), E (argsOf x0 x1 x2 x3 x4 x5) 0 i (r.val + j) := by
  have hi : val_main_call9_call0_v0 (F := Ideal) (Shape.Idx.first h_S_) = 0 := by
    have e : (Shape.Idx.first h_S_ : S_.Idx) = ix0 := funext fun a => a.elim0
    rw [e]
    pointwise [val_main_call9_call0_v0, val_main_call9_call0_cst]
  unfold val_main_v173
  refine (window_at _ _ hi _ _ r i).trans ?_
  exact window_sum (argsOf x0 x1 x2 x3 x4 x5) 0 i hE r _ (fun r => d_ref0 x0 x1 x5 x2 x3 x4 r i)

/-- The group's two terms of the mixer's input gradient, among the four groups. -/
theorem neg_ref0 (r : Fin 4096) (k : Fin 4) (i : Fin 512) :
    val_main_v164 (F := Ideal) x1 x2 x3 x4 x5 (ix4 0 r k i) = if k = 0 then -DP (argsOf x0 x1 x2 x3 x4 x5) r 0 i else 0 := by
  pointwise [val_main_v164, val_main_v163, val_main_v162, val_main_cst_24, dp_ref0 x0 x1 x5 x2 x3 x4]
  by_cases h : k = 0
  · subst h
    rw [if_pos rfl]
    exact dif_pos (by decide)
  · have h' : k.val ≠ 0 := fun e => h (Fin.ext e)
    have hk := k.isLt
    rw [if_neg h]
    exact dif_neg (by omega)

/-- The window of the shares of group 0, in the reference. -/
theorem win_ref0 (hE : ∀ n, IsR (E (argsOf x0 x1 x2 x3 x4 x5) 0 i n)) (r : Fin 4096) (k : Fin 4) :
    val_main_v175 (F := Ideal) x1 x2 x3 x4 x5 (ix4 0 r k i)
      = if k = 0 then ∑ j ∈ Finset.range (width 0), E (argsOf x0 x1 x2 x3 x4 x5) 0 i (r.val + j) else 0 := by
  pointwise [val_main_v175, val_main_v174, val_main_cst_26, w_ref0 x0 x1 x5 x2 x3 x4 i hE]
  by_cases h : k = 0
  · subst h
    rw [if_pos rfl]
    exact dif_pos (by decide)
  · have h' : k.val ≠ 0 := fun e => h (Fin.ext e)
    have hk := k.isLt
    rw [if_neg h]
    exact dif_neg (by omega)

/-! ## Group 1: windows of 4 rows -/

/-- The number of rows in the group's window at row `r`. -/
theorem cnt_ref1 (r : Fin 4096) : val_main_v36 (F := Ideal) (ix3 0 r 0) = (((min (r.val + 1) (width 1) : ℕ) : ℝ) : EReal) := by
  pointwise [val_main_v36, val_main_v34, val_main_v33, val_main_v31, val_main_v29, val_main_v30, val_main_v32, val_main_c_4, val_main_c_5]
  exact count_word r 4 (by omega)

/-- The group's pooled channels' gradient. -/
theorem dp_ref1 (r : Fin 4096) (i : Fin 512) : val_main_v113 (F := Ideal) x1 x2 x3 x4 x5 (ix3 0 r i) = DP (argsOf x0 x1 x2 x3 x4 x5) r 1 i := by
  pointwise [val_main_v113, val_main_v112, v107_at x0 x1 x5 x2 x3 x4]

/-- The same over the window's count. -/
theorem e_ref1 (r : Fin 4096) (i : Fin 512) : val_main_v152 (F := Ideal) x1 x2 x3 x4 x5 (ix3 0 r i) = E (argsOf x0 x1 x2 x3 x4 x5) 1 i r.val := by
  pointwise [val_main_v152, val_main_v151, dp_ref1 x0 x1 x5 x2 x3 x4, cnt_ref1]
  exact e_of_count (argsOf x0 x1 x2 x3 x4 x5) 1 r i

/-- Its differences at the window's distance. -/
theorem d_ref1 (r : Fin 4096) (i : Fin 512) :
    val_main_v157 (F := Ideal) x1 x2 x3 x4 x5 (ix3 0 r i) = E (argsOf x0 x1 x2 x3 x4 x5) 1 i r.val - E (argsOf x0 x1 x2 x3 x4 x5) 1 i (r.val + 4) := by
  pointwise [val_main_v157, val_main_v156, val_main_v155, val_main_v153, val_main_cst_22, e_ref1 x0 x1 x5 x2 x3 x4]
  by_cases h : r.val + 4 < 4096
  · rw [dif_pos (by omega), sub_eq_add_neg, add_comm r.val 4]
  · rw [dif_neg (by omega), E_past (argsOf x0 x1 x2 x3 x4 x5) 1 i (r.val + 4) (by omega), sub_zero, add_zero]

/-- Their running sum, a window's sum. -/
theorem w_ref1 (hE : ∀ n, IsR (E (argsOf x0 x1 x2 x3 x4 x5) 1 i n)) (r : Fin 4096) :
    val_main_v158 (F := Ideal) x1 x2 x3 x4 x5 (ix3 0 r i) = ∑ j ∈ Finset.range (width 1), E (argsOf x0 x1 x2 x3 x4 x5) 1 i (r.val + j) := by
  have hi : val_main_call8_call0_v0 (F := Ideal) (Shape.Idx.first h_S_) = 0 := by
    have e : (Shape.Idx.first h_S_ : S_.Idx) = ix0 := funext fun a => a.elim0
    rw [e]
    pointwise [val_main_call8_call0_v0, val_main_call8_call0_cst]
  unfold val_main_v158
  refine (window_at _ _ hi _ _ r i).trans ?_
  exact window_sum (argsOf x0 x1 x2 x3 x4 x5) 1 i hE r _ (fun r => d_ref1 x0 x1 x5 x2 x3 x4 r i)

/-- The group's two terms of the mixer's input gradient, among the four groups. -/
theorem neg_ref1 (r : Fin 4096) (k : Fin 4) (i : Fin 512) :
    val_main_v149 (F := Ideal) x1 x2 x3 x4 x5 (ix4 0 r k i) = if k = 1 then -DP (argsOf x0 x1 x2 x3 x4 x5) r 1 i else 0 := by
  pointwise [val_main_v149, val_main_v148, val_main_v147, val_main_cst_21, dp_ref1 x0 x1 x5 x2 x3 x4]
  by_cases h : k = 1
  · subst h
    rw [if_pos rfl]
    exact dif_pos (by decide)
  · have h' : k.val ≠ 1 := fun e => h (Fin.ext e)
    have hk := k.isLt
    rw [if_neg h]
    exact dif_neg (by omega)

/-- The window of the shares of group 1, in the reference. -/
theorem win_ref1 (hE : ∀ n, IsR (E (argsOf x0 x1 x2 x3 x4 x5) 1 i n)) (r : Fin 4096) (k : Fin 4) :
    val_main_v160 (F := Ideal) x1 x2 x3 x4 x5 (ix4 0 r k i)
      = if k = 1 then ∑ j ∈ Finset.range (width 1), E (argsOf x0 x1 x2 x3 x4 x5) 1 i (r.val + j) else 0 := by
  pointwise [val_main_v160, val_main_v159, val_main_cst_23, w_ref1 x0 x1 x5 x2 x3 x4 i hE]
  by_cases h : k = 1
  · subst h
    rw [if_pos rfl]
    exact dif_pos (by decide)
  · have h' : k.val ≠ 1 := fun e => h (Fin.ext e)
    have hk := k.isLt
    rw [if_neg h]
    exact dif_neg (by omega)

/-! ## Group 2: windows of 8 rows -/

/-- The number of rows in the group's window at row `r`. -/
theorem cnt_ref2 (r : Fin 4096) : val_main_v56 (F := Ideal) (ix3 0 r 0) = (((min (r.val + 1) (width 2) : ℕ) : ℝ) : EReal) := by
  pointwise [val_main_v56, val_main_v54, val_main_v53, val_main_v51, val_main_v49, val_main_v50, val_main_v52, val_main_c_8, val_main_c_9]
  exact count_word r 8 (by omega)

/-- The group's pooled channels' gradient. -/
theorem dp_ref2 (r : Fin 4096) (i : Fin 512) : val_main_v115 (F := Ideal) x1 x2 x3 x4 x5 (ix3 0 r i) = DP (argsOf x0 x1 x2 x3 x4 x5) r 2 i := by
  pointwise [val_main_v115, val_main_v114, v107_at x0 x1 x5 x2 x3 x4]

/-- The same over the window's count. -/
theorem e_ref2 (r : Fin 4096) (i : Fin 512) : val_main_v137 (F := Ideal) x1 x2 x3 x4 x5 (ix3 0 r i) = E (argsOf x0 x1 x2 x3 x4 x5) 2 i r.val := by
  pointwise [val_main_v137, val_main_v136, dp_ref2 x0 x1 x5 x2 x3 x4, cnt_ref2]
  exact e_of_count (argsOf x0 x1 x2 x3 x4 x5) 2 r i

/-- Its differences at the window's distance. -/
theorem d_ref2 (r : Fin 4096) (i : Fin 512) :
    val_main_v142 (F := Ideal) x1 x2 x3 x4 x5 (ix3 0 r i) = E (argsOf x0 x1 x2 x3 x4 x5) 2 i r.val - E (argsOf x0 x1 x2 x3 x4 x5) 2 i (r.val + 8) := by
  pointwise [val_main_v142, val_main_v141, val_main_v140, val_main_v138, val_main_cst_19, e_ref2 x0 x1 x5 x2 x3 x4]
  by_cases h : r.val + 8 < 4096
  · rw [dif_pos (by omega), sub_eq_add_neg, add_comm r.val 8]
  · rw [dif_neg (by omega), E_past (argsOf x0 x1 x2 x3 x4 x5) 2 i (r.val + 8) (by omega), sub_zero, add_zero]

/-- Their running sum, a window's sum. -/
theorem w_ref2 (hE : ∀ n, IsR (E (argsOf x0 x1 x2 x3 x4 x5) 2 i n)) (r : Fin 4096) :
    val_main_v143 (F := Ideal) x1 x2 x3 x4 x5 (ix3 0 r i) = ∑ j ∈ Finset.range (width 2), E (argsOf x0 x1 x2 x3 x4 x5) 2 i (r.val + j) := by
  have hi : val_main_call7_call0_v0 (F := Ideal) (Shape.Idx.first h_S_) = 0 := by
    have e : (Shape.Idx.first h_S_ : S_.Idx) = ix0 := funext fun a => a.elim0
    rw [e]
    pointwise [val_main_call7_call0_v0, val_main_call7_call0_cst]
  unfold val_main_v143
  refine (window_at _ _ hi _ _ r i).trans ?_
  exact window_sum (argsOf x0 x1 x2 x3 x4 x5) 2 i hE r _ (fun r => d_ref2 x0 x1 x5 x2 x3 x4 r i)

/-- The group's two terms of the mixer's input gradient, among the four groups. -/
theorem neg_ref2 (r : Fin 4096) (k : Fin 4) (i : Fin 512) :
    val_main_v134 (F := Ideal) x1 x2 x3 x4 x5 (ix4 0 r k i) = if k = 2 then -DP (argsOf x0 x1 x2 x3 x4 x5) r 2 i else 0 := by
  pointwise [val_main_v134, val_main_v133, val_main_v132, val_main_cst_18, dp_ref2 x0 x1 x5 x2 x3 x4]
  by_cases h : k = 2
  · subst h
    rw [if_pos rfl]
    exact dif_pos (by decide)
  · have h' : k.val ≠ 2 := fun e => h (Fin.ext e)
    have hk := k.isLt
    rw [if_neg h]
    exact dif_neg (by omega)

/-- The window of the shares of group 2, in the reference. -/
theorem win_ref2 (hE : ∀ n, IsR (E (argsOf x0 x1 x2 x3 x4 x5) 2 i n)) (r : Fin 4096) (k : Fin 4) :
    val_main_v145 (F := Ideal) x1 x2 x3 x4 x5 (ix4 0 r k i)
      = if k = 2 then ∑ j ∈ Finset.range (width 2), E (argsOf x0 x1 x2 x3 x4 x5) 2 i (r.val + j) else 0 := by
  pointwise [val_main_v145, val_main_v144, val_main_cst_20, w_ref2 x0 x1 x5 x2 x3 x4 i hE]
  by_cases h : k = 2
  · subst h
    rw [if_pos rfl]
    exact dif_pos (by decide)
  · have h' : k.val ≠ 2 := fun e => h (Fin.ext e)
    have hk := k.isLt
    rw [if_neg h]
    exact dif_neg (by omega)

/-! ## Group 3: windows of 16 rows -/

/-- The number of rows in the group's window at row `r`. -/
theorem cnt_ref3 (r : Fin 4096) : val_main_v76 (F := Ideal) (ix3 0 r 0) = (((min (r.val + 1) (width 3) : ℕ) : ℝ) : EReal) := by
  pointwise [val_main_v76, val_main_v74, val_main_v73, val_main_v71, val_main_v69, val_main_v70, val_main_v72, val_main_c_12, val_main_c_13]
  exact count_word r 16 (by omega)

/-- The group's pooled channels' gradient. -/
theorem dp_ref3 (r : Fin 4096) (i : Fin 512) : val_main_v117 (F := Ideal) x1 x2 x3 x4 x5 (ix3 0 r i) = DP (argsOf x0 x1 x2 x3 x4 x5) r 3 i := by
  pointwise [val_main_v117, val_main_v116, v107_at x0 x1 x5 x2 x3 x4]

/-- The same over the window's count. -/
theorem e_ref3 (r : Fin 4096) (i : Fin 512) : val_main_v122 (F := Ideal) x1 x2 x3 x4 x5 (ix3 0 r i) = E (argsOf x0 x1 x2 x3 x4 x5) 3 i r.val := by
  pointwise [val_main_v122, val_main_v121, dp_ref3 x0 x1 x5 x2 x3 x4, cnt_ref3]
  exact e_of_count (argsOf x0 x1 x2 x3 x4 x5) 3 r i

/-- Its differences at the window's distance. -/
theorem d_ref3 (r : Fin 4096) (i : Fin 512) :
    val_main_v127 (F := Ideal) x1 x2 x3 x4 x5 (ix3 0 r i) = E (argsOf x0 x1 x2 x3 x4 x5) 3 i r.val - E (argsOf x0 x1 x2 x3 x4 x5) 3 i (r.val + 16) := by
  pointwise [val_main_v127, val_main_v126, val_main_v125, val_main_v123, val_main_cst_16, e_ref3 x0 x1 x5 x2 x3 x4]
  by_cases h : r.val + 16 < 4096
  · rw [dif_pos (by omega), sub_eq_add_neg, add_comm r.val 16]
  · rw [dif_neg (by omega), E_past (argsOf x0 x1 x2 x3 x4 x5) 3 i (r.val + 16) (by omega), sub_zero, add_zero]

/-- Their running sum, a window's sum. -/
theorem w_ref3 (hE : ∀ n, IsR (E (argsOf x0 x1 x2 x3 x4 x5) 3 i n)) (r : Fin 4096) :
    val_main_v128 (F := Ideal) x1 x2 x3 x4 x5 (ix3 0 r i) = ∑ j ∈ Finset.range (width 3), E (argsOf x0 x1 x2 x3 x4 x5) 3 i (r.val + j) := by
  have hi : val_main_call6_call0_v0 (F := Ideal) (Shape.Idx.first h_S_) = 0 := by
    have e : (Shape.Idx.first h_S_ : S_.Idx) = ix0 := funext fun a => a.elim0
    rw [e]
    pointwise [val_main_call6_call0_v0, val_main_call6_call0_cst]
  unfold val_main_v128
  refine (window_at _ _ hi _ _ r i).trans ?_
  exact window_sum (argsOf x0 x1 x2 x3 x4 x5) 3 i hE r _ (fun r => d_ref3 x0 x1 x5 x2 x3 x4 r i)

/-- The group's two terms of the mixer's input gradient, among the four groups. -/
theorem neg_ref3 (r : Fin 4096) (k : Fin 4) (i : Fin 512) :
    val_main_v120 (F := Ideal) x1 x2 x3 x4 x5 (ix4 0 r k i) = if k = 3 then -DP (argsOf x0 x1 x2 x3 x4 x5) r 3 i else 0 := by
  pointwise [val_main_v120, val_main_v119, val_main_v118, val_main_cst_15, dp_ref3 x0 x1 x5 x2 x3 x4]
  by_cases h : k = 3
  · subst h
    rw [if_pos rfl]
    exact dif_pos (by decide)
  · have h' : k.val ≠ 3 := fun e => h (Fin.ext e)
    have hk := k.isLt
    rw [if_neg h]
    exact dif_neg (by omega)

/-- The window of the shares of group 3, in the reference. -/
theorem win_ref3 (hE : ∀ n, IsR (E (argsOf x0 x1 x2 x3 x4 x5) 3 i n)) (r : Fin 4096) (k : Fin 4) :
    val_main_v130 (F := Ideal) x1 x2 x3 x4 x5 (ix4 0 r k i)
      = if k = 3 then ∑ j ∈ Finset.range (width 3), E (argsOf x0 x1 x2 x3 x4 x5) 3 i (r.val + j) else 0 := by
  pointwise [val_main_v130, val_main_v129, val_main_cst_17, w_ref3 x0 x1 x5 x2 x3 x4 i hE]
  by_cases h : k = 3
  · subst h
    rw [if_pos rfl]
    exact dif_pos (by decide)
  · have h' : k.val ≠ 3 := fun e => h (Fin.ext e)
    have hk := k.isLt
    rw [if_neg h]
    exact dif_neg (by omega)

/-! ## The four groups together -/

/-- The mixer's input gradient, by group. -/
theorem v176_at (hE : ∀ g i n, IsR (E (argsOf x0 x1 x2 x3 x4 x5) g i n)) (r : Fin 4096) (g : Fin 4) (i : Fin 512) :
    val_main_v176 (F := Ideal) x1 x2 x3 x4 x5 (ix4 0 r g i) = DU (argsOf x0 x1 x2 x3 x4 x5) r g i := by
  pointwise [val_main_v176, val_main_v165, val_main_v161, val_main_v150, val_main_v146, val_main_v135, val_main_v131,
    neg_ref0 x0 x1 x5 x2 x3 x4, win_ref0 x0 x1 x5 x2 x3 x4 i (hE 0 i), neg_ref1 x0 x1 x5 x2 x3 x4, win_ref1 x0 x1 x5 x2 x3 x4 i (hE 1 i), neg_ref2 x0 x1 x5 x2 x3 x4, win_ref2 x0 x1 x5 x2 x3 x4 i (hE 2 i), neg_ref3 x0 x1 x5 x2 x3 x4, win_ref3 x0 x1 x5 x2 x3 x4 i (hE 3 i)]
  unfold DU
  match g with
  | 0 => simp [sub_eq_add_neg, add_comm]
  | 1 => simp [sub_eq_add_neg, add_comm]
  | 2 => simp [sub_eq_add_neg, add_comm]
  | 3 => simp [sub_eq_add_neg, add_comm]

/-- The first result's first half: the mixer's input gradient by column. -/
theorem v178_at (hE : ∀ g i n, IsR (E (argsOf x0 x1 x2 x3 x4 x5) g i n)) (r : Fin 4096) (g : Fin 4) (i : Fin 512) :
    val_main_v178 (F := Ideal) x1 x2 x3 x4 x5 (ix2 r (colOf g i)) = DU (argsOf x0 x1 x2 x3 x4 x5) r g i := by
  pointwise [val_main_v178, val_main_v177, val_main_cst_27]
  have hg : (⟨(colOf g i).val / 512, by have := (colOf g i).isLt; omega⟩ : Fin 4) = g :=
    Fin.ext (by show ((g : ℕ) * 512 + i) / 512 = g; omega)
  have hi : (⟨(colOf g i).val % 512, by omega⟩ : Fin 512) = i := Fin.ext (by show ((g : ℕ) * 512 + i) % 512 = i; omega)
  rw [Fin.sum_univ_one]
  rw [hg, hi]
  exact v176_at x0 x1 x5 x2 x3 x4 hE r g i

end Cert.Pool

end
-- ==== Proof.RefReal.lean ====
/- Finite arguments give real numbers: the forward stages that the backward pass reads, and the gradients themselves. -/
module

public import proofs.«01_k».proof.Proof.RefWin

@[expose] public section

set_option maxRecDepth 16384

noncomputable section

namespace Cert.Pool

open Cert.ReferenceIdeal Cert.ReferenceIdeal.Gen Cert.ReferenceIdeal.Read
open Idealize.ShloMosaic Idealize.ShloMosaic.TcCoe Idealize.SL.Sem

/-! ## The gradients -/

section Grads
variable (A : Args) (hz : ∀ r c, IsR (A.z r c)) (hdr : ∀ r c, IsR (A.dr r c)) (hwo : ∀ r c, IsR (A.wo r c))
  (hwg : ∀ g i j, IsR (A.wg g i j)) (hsc : ∀ c, IsR (A.sc c))
include hdr hwo

/-- The inner gradient is real. -/
theorem DY_real (r : Fin 4096) (c : Fin 2048) : IsR (DY A r c) :=
  IsR.sum _ _ fun k _ => (hdr r k).mul (hwo c k)

include hz
/-- So is it times the gate, -/
theorem T1_real (r : Fin 4096) (c : Fin 2048) : IsR (T1 A r c) :=
  (DY_real A hdr hwo r c).mul ((hz r c).mul (hz r c).logistic)

include hsc
/-- the mixed channels' gradient, -/
theorem DMX_real (r : Fin 4096) (c : Fin 2048) : IsR (DMX A r c) := (T1_real A hz hdr hwo r c).mul (hsc c)

include hwg
/-- the pooled channels' gradient, -/
theorem DP_real (r : Fin 4096) (g : Fin 4) (i : Fin 512) : IsR (DP A r g i) :=
  IsR.sum _ _ fun d _ => (DMX_real A hz hdr hwo hsc r _).mul (hwg g i d)

/-- and each row's share of it. -/
theorem E_real (g : Fin 4) (i : Fin 512) (n : ℕ) : IsR (E A g i n) := by
  unfold E
  split
  · exact (DP_real A hz hdr hwo hwg hsc _ g i).mul (IsR.coe _)
  · exact IsR.zero

end Grads

/-! ## The forward stages -/

section Fwd
variable (x0 : FVec Ideal S4096x2048 .f32) (x2 : FVec Ideal S4x512x512 .f32) (h0 : ∀ y, IsR (x0 y)) (h2 : ∀ y, IsR (x2 y))

include h0
/-- The grouped input is real. -/
theorem v1_real (y : S1x4096x4x512.Idx) : IsR (val_main_v1 (F := Ideal) x0 y) := by
  rw [val_main_v1_apply, val_main_v0_apply]
  exact h0 _

/-- A group of the input is real. -/
theorem in_real0 (y : S1x4096x512.Idx) : IsR (val_main_v3 (F := Ideal) x0 y) := by
  rw [val_main_v3_apply, val_main_v2_apply]
  exact v1_real x0 h0 _
/-- Its cumulative sums are real. -/
theorem sum_real0 (y : S1x4096x512.Idx) : IsR (val_main_v4 (F := Ideal) x0 y) := by
  have hi : IsR (val_main_call0_call0_v0 (F := Ideal) (Shape.Idx.first h_S_)) := by
    have e : (Shape.Idx.first h_S_ : S_.Idx) = ix0 := funext fun a => a.elim0
    rw [e]
    pointwise [val_main_call0_call0_v0, val_main_call0_call0_cst]
    exact IsR.zero
  unfold val_main_v4
  exact window_real _ _ _ _ _ _ _ _ hi (in_real0 x0 h0) y
/-- So are the sums one window earlier. -/
theorem prev_real0 (r : Fin 4096) (i : Fin 512) : IsR (val_main_v7 (F := Ideal) x0 (ix3 0 r i)) := by
  pointwise [val_main_v7, val_main_v5, val_main_v6, val_main_cst]
  split
  · exact IsR.zero
  · exact sum_real0 x0 h0 _
/-- So is the window mean less the input. -/
theorem pooled_real0 (r : Fin 4096) (i : Fin 512) : IsR (val_main_v21 (F := Ideal) x0 (ix3 0 r i)) := by
  have hs := sum_real0 x0 h0 (ix3 0 r i)
  have hp := prev_real0 x0 h0 r i
  have hx : IsR (val_main_v20 (F := Ideal) x0 (ix3 0 r i)) := by
    rw [val_main_v20_apply, val_main_v19_apply]
    exact v1_real x0 h0 _
  have hc : (((min (r.val + 1) (width 0) : ℕ) : ℝ)) ≠ 0 := by
    have hw : 0 < width 0 := by unfold width; positivity
    have : 0 < min (r.val + 1) (width 0) := by omega
    positivity
  pointwise [val_main_v21, val_main_v18, val_main_v17, val_main_v15, cnt_ref0]
  exact ((hs.sub hp).div hc).sub hx

/-- A group of the input is real. -/
theorem in_real1 (y : S1x4096x512.Idx) : IsR (val_main_v23 (F := Ideal) x0 y) := by
  rw [val_main_v23_apply, val_main_v22_apply]
  exact v1_real x0 h0 _
/-- Its cumulative sums are real. -/
theorem sum_real1 (y : S1x4096x512.Idx) : IsR (val_main_v24 (F := Ideal) x0 y) := by
  have hi : IsR (val_main_call1_call0_v0 (F := Ideal) (Shape.Idx.first h_S_)) := by
    have e : (Shape.Idx.first h_S_ : S_.Idx) = ix0 := funext fun a => a.elim0
    rw [e]
    pointwise [val_main_call1_call0_v0, val_main_call1_call0_cst]
    exact IsR.zero
  unfold val_main_v24
  exact window_real _ _ _ _ _ _ _ _ hi (in_real1 x0 h0) y
/-- So are the sums one window earlier. -/
theorem prev_real1 (r : Fin 4096) (i : Fin 512) : IsR (val_main_v27 (F := Ideal) x0 (ix3 0 r i)) := by
  pointwise [val_main_v27, val_main_v25, val_main_v26, val_main_cst_2]
  split
  · exact IsR.zero
  · exact sum_real1 x0 h0 _
/-- So is the window mean less the input. -/
theorem pooled_real1 (r : Fin 4096) (i : Fin 512) : IsR (val_main_v41 (F := Ideal) x0 (ix3 0 r i)) := by
  have hs := sum_real1 x0 h0 (ix3 0 r i)
  have hp := prev_real1 x0 h0 r i
  have hx : IsR (val_main_v40 (F := Ideal) x0 (ix3 0 r i)) := by
    rw [val_main_v40_apply, val_main_v39_apply]
    exact v1_real x0 h0 _
  have hc : (((min (r.val + 1) (width 1) : ℕ) : ℝ)) ≠ 0 := by
    have hw : 0 < width 1 := by unfold width; positivity
    have : 0 < min (r.val + 1) (width 1) := by omega
    positivity
  pointwise [val_main_v41, val_main_v38, val_main_v37, val_main_v35, cnt_ref1]
  exact ((hs.sub hp).div hc).sub hx

/-- A group of the input is real. -/
theorem in_real2 (y : S1x4096x512.Idx) : IsR (val_main_v43 (F := Ideal) x0 y) := by
  rw [val_main_v43_apply, val_main_v42_apply]
  exact v1_real x0 h0 _
/-- Its cumulative sums are real. -/
theorem sum_real2 (y : S1x4096x512.Idx) : IsR (val_main_v44 (F := Ideal) x0 y) := by
  have hi : IsR (val_main_call2_call0_v0 (F := Ideal) (Shape.Idx.first h_S_)) := by
    have e : (Shape.Idx.first h_S_ : S_.Idx) = ix0 := funext fun a => a.elim0
    rw [e]
    pointwise [val_main_call2_call0_v0, val_main_call2_call0_cst]
    exact IsR.zero
  unfold val_main_v44
  exact window_real _ _ _ _ _ _ _ _ hi (in_real2 x0 h0) y
/-- So are the sums one window earlier. -/
theorem prev_real2 (r : Fin 4096) (i : Fin 512) : IsR (val_main_v47 (F := Ideal) x0 (ix3 0 r i)) := by
  pointwise [val_main_v47, val_main_v45, val_main_v46, val_main_cst_6]
  split
  · exact IsR.zero
  · exact sum_real2 x0 h0 _
/-- So is the window mean less the input. -/
theorem pooled_real2 (r : Fin 4096) (i : Fin 512) : IsR (val_main_v61 (F := Ideal) x0 (ix3 0 r i)) := by
  have hs := sum_real2 x0 h0 (ix3 0 r i)
  have hp := prev_real2 x0 h0 r i
  have hx : IsR (val_main_v60 (F := Ideal) x0 (ix3 0 r i)) := by
    rw [val_main_v60_apply, val_main_v59_apply]
    exact v1_real x0 h0 _
  have hc : (((min (r.val + 1) (width 2) : ℕ) : ℝ)) ≠ 0 := by
    have hw : 0 < width 2 := by unfold width; positivity
    have : 0 < min (r.val + 1) (width 2) := by omega
    positivity
  pointwise [val_main_v61, val_main_v58, val_main_v57, val_main_v55, cnt_ref2]
  exact ((hs.sub hp).div hc).sub hx

/-- A group of the input is real. -/
theorem in_real3 (y : S1x4096x512.Idx) : IsR (val_main_v63 (F := Ideal) x0 y) := by
  rw [val_main_v63_apply, val_main_v62_apply]
  exact v1_real x0 h0 _
/-- Its cumulative sums are real. -/
theorem sum_real3 (y : S1x4096x512.Idx) : IsR (val_main_v64 (F := Ideal) x0 y) := by
  have hi : IsR (val_main_call3_call0_v0 (F := Ideal) (Shape.Idx.first h_S_)) := by
    have e : (Shape.Idx.first h_S_ : S_.Idx) = ix0 := funext fun a => a.elim0
    rw [e]
    pointwise [val_main_call3_call0_v0, val_main_call3_call0_cst]
    exact IsR.zero
  unfold val_main_v64
  exact window_real _ _ _ _ _ _ _ _ hi (in_real3 x0 h0) y
/-- So are the sums one window earlier. -/
theorem prev_real3 (r : Fin 4096) (i : Fin 512) : IsR (val_main_v67 (F := Ideal) x0 (ix3 0 r i)) := by
  pointwise [val_main_v67, val_main_v65, val_main_v66, val_main_cst_10]
  split
  · exact IsR.zero
  · exact sum_real3 x0 h0 _
/-- So is the window mean less the input. -/
theorem pooled_real3 (r : Fin 4096) (i : Fin 512) : IsR (val_main_v81 (F := Ideal) x0 (ix3 0 r i)) := by
  have hs := sum_real3 x0 h0 (ix3 0 r i)
  have hp := prev_real3 x0 h0 r i
  have hx : IsR (val_main_v80 (F := Ideal) x0 (ix3 0 r i)) := by
    rw [val_main_v80_apply, val_main_v79_apply]
    exact v1_real x0 h0 _
  have hc : (((min (r.val + 1) (width 3) : ℕ) : ℝ)) ≠ 0 := by
    have hw : 0 < width 3 := by unfold width; positivity
    have : 0 < min (r.val + 1) (width 3) := by omega
    positivity
  pointwise [val_main_v81, val_main_v78, val_main_v77, val_main_v75, cnt_ref3]
  exact ((hs.sub hp).div hc).sub hx

/-- The pooled channels are real. -/
theorem v86_real (r : Fin 4096) (g : Fin 4) (i : Fin 512) : IsR (val_main_v86 (F := Ideal) x0 (ix4 0 r g i)) := by
  have p0 := pooled_real0 x0 h0 r i
  have p1 := pooled_real1 x0 h0 r i
  have p2 := pooled_real2 x0 h0 r i
  have p3 := pooled_real3 x0 h0 r i
  pointwise [val_main_v86, val_main_v82, val_main_v83, val_main_v84, val_main_v85]
  split
  · exact p0
  · split
    · exact p1
    · split
      · exact p2
      · exact p3

include h2
/-- The mixed channels are real. -/
theorem v89_real (r : Fin 4096) (c : Fin 2048) : IsR (val_main_v89 (F := Ideal) x0 x2 (ix2 r c)) := by
  pointwise [val_main_v89, val_main_v88, val_main_v87]
  refine IsR.sum _ _ fun k _ => (h2 _).mul (v86_real x0 h0 _ _ _)

end Fwd

end Cert.Pool

end
-- ==== Proof.Final.lean ====
/- Finite arguments, and the reference's three results as the gradients of the mixer. -/
module

public import proofs.«01_k».proof.Proof.RefReal
public import proofs.«01_k».proof.Proof.Gen.Pre_finite
public import Idealize.ShloMosaic.Lib.ReduceAll

@[expose] public section

set_option maxRecDepth 16384

noncomputable section

namespace Cert.Pool

open Cert.ReferenceIdeal Cert.ReferenceIdeal.Gen Cert.ReferenceIdeal.Read
open Idealize.ShloMosaic Idealize.ShloMosaic.TcCoe Idealize.SL.Sem

/-- Two conditions hold together exactly when each does. -/
theorem and_one (a b : BitVec 1) : IntOp.andi a b = 1#1 ↔ a = 1#1 ∧ b = 1#1 := by revert a b; decide

/-- An array whose elements are all below infinity in absolute value holds real numbers. -/
theorem real_of_all {s t u : Shape} {axes : List (Fin s.rank)} [Subsingleton t.Idx] (x : FVec Ideal s .f32)
    (b : FVec Ideal s .f32) (hb : ∀ y, b y = (⊤ : EReal)) (init : IVec u 1) (h : s.ReducesTo axes t) (hu : 0 < u.numel) (j : t.Idx)
    (e : Host.reduce IntOp.andi (cmpf .olt (Host.absf x) b) init h hu j = 1#1) (y : s.Idx) : IsR (x y) := by
  have hy := Host.reduce_andi_all _ _ h hu j e y
  refine IsR.of_abs ?_
  have h2 : FloatOps.cmpf (F := Ideal) (φ := .f32) .olt (Host.absf x y) (b y) = 1#1 := hy
  rw [hb] at h2
  by_contra hn
  have : FloatOps.cmpf (F := Ideal) (φ := .f32) .olt (Host.absf x y) (⊤ : EReal) = 0#1 := by
    show BitVec.ofBool (decide (max (x y) (-(x y)) < ⊤)) = 0#1
    rw [decide_eq_false hn]
    rfl
  rw [this] at h2
  exact absurd h2 (by decide)

variable (x0 x1 x5 : FVec Ideal S4096x2048 .f32) (x2 : FVec Ideal S4x512x512 .f32) (x3 : FVec Ideal S1x2048 .f32)
  (x4 : FVec Ideal S2048x2048 .f32)

/-- The precondition: the six arguments hold real numbers. -/
theorem real_args (h : Cert.Pre_finite.fn (F := Ideal) x0 x1 x2 x3 x4 x5 = fun _ => 1#1) :
    (∀ y, IsR (x0 y)) ∧ (∀ y, IsR (x1 y)) ∧ (∀ y, IsR (x2 y)) ∧ (∀ y, IsR (x3 y)) ∧ (∀ y, IsR (x4 y)) ∧ ∀ y, IsR (x5 y) := by
  have h := congrFun h ix0
  unfold Cert.Pre_finite.fn Cert.Pre_finite.fn_part1 at h
  dsimp only at h
  have hs : Subsingleton Cert.Pre_finite.S_.Idx := ⟨fun a b => funext fun k => k.elim0⟩
  have top : ∀ {s : Shape} (hb : Cert.Pre_finite.S_.BroadcastsInDim s (![] : Fin 0 → Fin s.rank)) (y : s.Idx),
      broadcastInDim s ![] hb (constant (F := Ideal) Cert.Pre_finite.S_ .f32 0x7F800000#32) y = (⊤ : EReal) := by
    intro s hb y
    show FloatOps.ofBits (F := Ideal) .f32 0x7F800000#32 = (⊤ : EReal)
    simp [Ideal.ofBits, Ideal.ieee]
  simp only [andi_apply, and_one] at h
  obtain ⟨⟨⟨⟨⟨a0, a1⟩, a2⟩, a3⟩, a4⟩, a5⟩ := h
  exact ⟨real_of_all _ _ (top _) _ _ _ _ a0, real_of_all _ _ (top _) _ _ _ _ a1, real_of_all _ _ (top _) _ _ _ _ a2,
    real_of_all _ _ (top _) _ _ _ _ a3, real_of_all _ _ (top _) _ _ _ _ a4, real_of_all _ _ (top _) _ _ _ _ a5⟩

variable (h0 : ∀ y, IsR (x0 y)) (h1 : ∀ y, IsR (x1 y)) (h2 : ∀ y, IsR (x2 y)) (h3 : ∀ y, IsR (x3 y)) (h4 : ∀ y, IsR (x4 y))
  (h5 : ∀ y, IsR (x5 y))
include h0 h1 h2 h3 h4 h5

/-- The first result: the mixer's input gradient above the gate's. -/
theorem v184_at (k : Fin 2) (r : Fin 4096) (c : Fin 2048) :
    val_main_v184 (F := Ideal) x0 x1 x2 x3 x4 x5 (ix3 k r c)
      = if k.val = 0 then DU (argsOf x0 x1 x2 x3 x4 x5) r ⟨c.val / 512, by omega⟩ ⟨c.val % 512, by omega⟩
        else DZ (argsOf x0 x1 x2 x3 x4 x5) r c := by
  have hz : ∀ r c, IsR ((argsOf x0 x1 x2 x3 x4 x5).z r c) := fun _ _ => h1 _
  have hdr : ∀ r c, IsR ((argsOf x0 x1 x2 x3 x4 x5).dr r c) := fun _ _ => h5 _
  have hwo : ∀ r c, IsR ((argsOf x0 x1 x2 x3 x4 x5).wo r c) := fun _ _ => h4 _
  have hwg : ∀ g i j, IsR ((argsOf x0 x1 x2 x3 x4 x5).wg g i j) := fun _ _ _ => h2 _
  have hsc : ∀ c, IsR ((argsOf x0 x1 x2 x3 x4 x5).sc c) := fun _ => h3 _
  have hE := E_real (argsOf x0 x1 x2 x3 x4 x5) hz hdr hwo hwg hsc
  have hc : c = colOf ⟨c.val / 512, by omega⟩ ⟨c.val % 512, by omega⟩ := by
    apply Fin.ext
    show c.val = c.val / 512 * 512 + c.val % 512
    omega
  have e1 := v178_at x0 x1 x5 x2 x3 x4 hE r ⟨c.val / 512, by omega⟩ ⟨c.val % 512, by omega⟩
  rw [← hc] at e1
  have e2 := dz_at x0 x1 x5 x2 x3 x4 r c (v89_real x0 x2 h0 h2 r c) (hsc c) (DY_real _ hdr hwo r c) (hz r c)
  pointwise [val_main_v184, val_main_v183, val_main_v182, val_main_v181, e1, e2]
  by_cases h : k.val = 0
  · rw [if_pos h, dif_pos (by omega)]
  · rw [if_neg h, dif_neg (by omega)]

end Cert.Pool

end
-- ==== Proof.Value.lean ====
/- The kernel and the reference end with the same three results. -/
module

public import proofs.«01_k».proof.Proof.Finals
public import proofs.«01_k».proof.Proof.Final
public import proofs.«01_k».proof.Proof.Gen.KernelIdeal.Value
public import proofs.«01_k».proof.Proof.Gen.ReferenceIdeal.Run
public import proofs.«01_k».proof.Defs

@[expose] public section

set_option maxRecDepth 16384

noncomputable section

namespace Cert.Pool

open Cert.ReferenceIdeal.Read
open Idealize.ShloMosaic Idealize.ShloMosaic.TcCoe Idealize.SL.Sem

section
variable (x0 x1 x5 : FVec Ideal Cert.ReferenceIdeal.S4096x2048 .f32) (x2 : FVec Ideal Cert.ReferenceIdeal.S4x512x512 .f32)
  (x3 : FVec Ideal Cert.ReferenceIdeal.S1x2048 .f32) (x4 : FVec Ideal Cert.ReferenceIdeal.S2048x2048 .f32)

/-- The reference's first result, whole. -/
theorem ref_v184 (h : Cert.Pre_finite.fn (F := Ideal) x0 x1 x2 x3 x4 x5 = fun _ => 1#1) :
    val_main_v184 (F := Ideal) x0 x1 x2 x3 x4 x5 = G7 (argsOf x0 x1 x2 x3 x4 x5) := by
  obtain ⟨h0, h1, h2, h3, h4, h5⟩ := real_args x0 x1 x5 x2 x3 x4 h
  funext y
  obtain ⟨k, r, c, rfl⟩ : ∃ (k : Fin 2) (r : Fin 4096) (c : Fin 2048), y = ix3 k r c := ⟨y 0, y 1, y 2, eq_ix3 y⟩
  refine (v184_at x0 x1 x5 x2 x3 x4 h0 h1 h2 h3 h4 h5 k r c).trans ?_
  match k with
  | 0 => exact if_pos rfl
  | 1 => exact if_neg (by decide)

/-- The reference's second result, whole. -/
theorem ref_v185 : val_main_v185 (F := Ideal) x0 x1 x3 x4 x5 = G8 (argsOf x0 x1 x2 x3 x4 x5) := by
  funext y
  obtain ⟨g, i, j, rfl⟩ : ∃ (g : Fin 4) (i j : Fin 512), y = ix3 g i j := ⟨y 0, y 1, y 2, eq_ix3 y⟩
  exact v185_at x0 x1 x5 x2 x3 x4 g i j

/-- The reference's third result, whole. -/
theorem ref_v180 : val_main_v180 (F := Ideal) x0 x1 x2 x4 x5 = G9 (argsOf x0 x1 x2 x3 x4 x5) := by
  funext y
  obtain ⟨k, c, rfl⟩ : ∃ (k : Fin 8) (c : Fin 2048), y = ix2 k c := ⟨y 0, y 1, eq_ix2 y⟩
  exact v180_at x0 x1 x5 x2 x3 x4 k c
end

/-- On real arguments the kernel's three results are the reference's. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => G7 (args m c), fun c => G8 (args m c), fun c => G9 (args m c), ?_, ?_⟩
  · refine (θ_run _ _ _).mono (fun r h c => ?_) (Cert.KernelIdeal.Value.run_blocks m g)
    obtain ⟨e7, e8, e9, e⟩ := h c
    exact ⟨e7.trans (final7 m c), e8.trans (final8 m c), e9.trans (final9 m c), e⟩
  · refine (θ_run _ _ _).mono (fun r h c => ?_) (Cert.ReferenceIdeal.Value.run m' g')
    obtain ⟨e7, e8, e9, e⟩ := h c
    obtain ⟨a0, a1, a2, a3, a4, a5⟩ := hagree c
    have ha : argsOf (m' ((c.tc : Thread _ _).loc Cert.ReferenceIdeal.main_arg0)) (m' ((c.tc : Thread _ _).loc Cert.ReferenceIdeal.main_arg1))
        (m' ((c.tc : Thread _ _).loc Cert.ReferenceIdeal.main_arg2)) (m' ((c.tc : Thread _ _).loc Cert.ReferenceIdeal.main_arg3))
        (m' ((c.tc : Thread _ _).loc Cert.ReferenceIdeal.main_arg4)) (m' ((c.tc : Thread _ _).loc Cert.ReferenceIdeal.main_arg5)) = args m c := by
      rw [a0, a1, a2, a3, a4, a5]
      rfl
    refine ⟨?_, ?_, ?_, e⟩
    · refine e7.trans ((val_main_v184_eq (StableHlo.launchContents m' c)).trans ((ref_v184 _ _ _ _ _ _ ?_).trans (congrArg G7 ha)))
      have hp := hpre c
      rw [← a0, ← a1, ← a2, ← a3, ← a4, ← a5] at hp
      exact hp
    · exact e8.trans ((val_main_v185_eq (StableHlo.launchContents m' c)).trans ((ref_v185 _ _ _ _ _ _).trans (congrArg G8 ha)))
    · exact e9.trans ((val_main_v180_eq (StableHlo.launchContents m' c)).trans ((ref_v180 _ _ _ _ _ _).trans (congrArg G9 ha)))

end Cert.Pool

end
-- ==== Proof.NormReal.lean ====
/- The layer norm's derivative in a row: the sum of its parts through the difference, the variance and the mean is the
   closed form, over the reals. -/
module

public import proofs.«01_k».proof.Proof.Reals

@[expose] public section

noncomputable section

namespace Cert.StreamGrad

open Idealize.ShloMosaic Cert.Pool

/-- The number of channels, -/
def NC : EReal := Ideal.ofBits .f32 0x45000000#32
/-- the norm's epsilon, -/
def EPS : EReal := Ideal.ofBits .f32 0x3727C5AC#32
/-- two, -/
def TWO : EReal := Ideal.ofBits .f32 0x40000000#32
/-- and minus a half. -/
def MHALF : EReal := Ideal.ofBits .f32 0xBF000000#32

/-- The number of channels is 2048. -/
theorem NC_eq : NC = ((2048 : ℝ) : EReal) := by
  simp [NC, Ideal.ofBits, Ideal.ieee]
  rw [← EReal.coe_mul]; norm_num
/-- Two is two. -/
theorem TWO_eq : TWO = ((2 : ℝ) : EReal) := by
  simp [TWO, Ideal.ofBits, Ideal.ieee]
  rw [← EReal.coe_mul]; norm_num
/-- Minus a half is minus a half. -/
theorem MHALF_eq : MHALF = ((-1 / 2 : ℝ) : EReal) := by
  simp [MHALF, Ideal.ofBits, Ideal.ieee]
  rw [← EReal.coe_mul, ← EReal.coe_neg]; norm_num
/-- The epsilon is a positive real. -/
theorem EPS_pos : ∃ e : ℝ, 0 < e ∧ EPS = (e : EReal) := by
  refine ⟨_, ?_, by simp [EPS, Ideal.ofBits, Ideal.ieee]; rfl⟩
  norm_num

/-- Division by a nonzero real is multiplication by its inverse. -/
theorem div_inv {y : ℝ} (h : y ≠ 0) (x : EReal) : Ideal.div x (y : EReal) = x * ((y⁻¹ : ℝ) : EReal) := by
  rw [Ideal.div_coe h, one_div]

/-- A finite sum of reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section defs
variable (r u : Fin 2048 → EReal)

/-- A row's mean, -/
def MU : EReal := Ideal.div (∑ j, r j) NC
/-- its differences from the mean, -/
def DF (j : Fin 2048) : EReal := r j - MU r
/-- its variance with the epsilon added, -/
def VE : EReal := Ideal.div (∑ j, DF r j * DF r j) NC + EPS
/-- one over the deviation, -/
def RS : EReal := Ideal.rsqrt (VE r)
/-- and the normed row. -/
def XH (j : Fin 2048) : EReal := DF r j * RS r

/-- The row's gradient in closed form, from the gradient `u` of the normed row. -/
def DRK (j : Fin 2048) : EReal :=
  RS r * (u j - Ideal.div (∑ k, u k) NC - XH r j * Ideal.div (∑ k, u k * XH r k) NC)

/-- The part through the variance, -/
def PV (j : Fin 2048) : EReal :=
  Ideal.div ((∑ k, DF r k * u k) * (MHALF * Ideal.div (RS r) (VE r))) NC * (TWO * DF r j)
/-- and the gradient as the sum of its parts. -/
def DRR (j : Fin 2048) : EReal :=
  u j * RS r + PV r u j + Ideal.div ((∑ k, -(u k * RS r)) + ∑ k, -(PV r u k)) NC
end defs

/-- The identity over the reals: `rs` is one over the root of `s`, and the differences sum to zero. -/
theorem norm_grad (d u : Fin 2048 → ℝ) (s rs : ℝ) (hs : 0 < s) (hrs : rs * rs = s⁻¹) (hd : ∑ k, d k = 0) (j : Fin 2048) :
    u j * rs + (∑ k, d k * u k) * (-1 / 2 * (rs * s⁻¹)) * 2048⁻¹ * (2 * d j)
      + ((∑ k, -(u k * rs)) + ∑ k, -((∑ k, d k * u k) * (-1 / 2 * (rs * s⁻¹)) * 2048⁻¹ * (2 * d k))) * 2048⁻¹
      = rs * (u j - (∑ k, u k) * 2048⁻¹ - d j * rs * ((∑ k, u k * (d k * rs)) * 2048⁻¹)) := by
  have h1 : ∑ k, -(u k * rs) = -((∑ k, u k) * rs) := by rw [Finset.sum_neg_distrib, Finset.sum_mul]
  have h2 : ∀ a : ℝ, ∑ k, -(a * (2 * d k)) = 0 := fun a => by
    rw [Finset.sum_neg_distrib, ← Finset.mul_sum, ← Finset.mul_sum, hd]; ring
  have h3 : ∑ k, u k * (d k * rs) = (∑ k, d k * u k) * rs := by
    rw [Finset.sum_mul]; exact Finset.sum_congr rfl fun k _ => by ring
  rw [h1, h2, h3, ← hrs]
  ring

/-- On real rows the two forms of the gradient agree. -/
theorem forms_agree (r u : Fin 2048 → EReal) (hr : ∀ j, IsR (r j)) (hu : ∀ j, IsR (u j)) (j : Fin 2048) :
    DRR r u j = DRK r u j := by
  choose r' hr' using hr
  choose u' hu' using hu
  obtain rfl : r = fun j => (r' j : EReal) := funext hr'
  obtain rfl : u = fun j => (u' j : EReal) := funext hu'
  obtain ⟨e, he, hE⟩ := EPS_pos
  have n0 : (2048 : ℝ) ≠ 0 := by norm_num
  have eMU : MU (fun j => (r' j : EReal)) = (((∑ j, r' j) * (2048 : ℝ)⁻¹ : ℝ) : EReal) := by
    unfold MU; rw [NC_eq, div_inv n0, coe_sum, ← EReal.coe_mul]
  generalize hmu : (∑ j, r' j) * (2048 : ℝ)⁻¹ = mu at eMU
  have eDF : ∀ j, DF (fun j => (r' j : EReal)) j = ((r' j - mu : ℝ) : EReal) := fun j => by
    unfold DF; rw [eMU, ← EReal.coe_sub]
  have hd : ∑ k, (r' k - mu) = 0 := by
    rw [Finset.sum_sub_distrib, Finset.sum_const, Finset.card_univ, Fintype.card_fin, ← hmu]
    simp only [nsmul_eq_mul]; push_cast; field_simp; ring
  have eVE : VE (fun j => (r' j : EReal)) = (((∑ j, (r' j - mu) * (r' j - mu)) * (2048 : ℝ)⁻¹ + e : ℝ) : EReal) := by
    unfold VE
    simp only [eDF, ← EReal.coe_mul]
    rw [NC_eq, div_inv n0, coe_sum, ← EReal.coe_mul, hE, ← EReal.coe_add]
  have hs : 0 < (∑ j, (r' j - mu) * (r' j - mu)) * (2048 : ℝ)⁻¹ + e := by
    have : 0 ≤ ∑ j, (r' j - mu) * (r' j - mu) := Finset.sum_nonneg fun j _ => mul_self_nonneg _
    positivity
  generalize (∑ j, (r' j - mu) * (r' j - mu)) * (2048 : ℝ)⁻¹ + e = s at eVE hs
  have eRS : RS (fun j => (r' j : EReal)) = (((√s)⁻¹ : ℝ) : EReal) := by
    unfold RS; rw [eVE, Ideal.rsqrt_coe, if_neg (not_lt.mpr hs.le), if_neg hs.ne']
  have hrs : (√s)⁻¹ * (√s)⁻¹ = s⁻¹ := by rw [← mul_inv, Real.mul_self_sqrt hs.le]
  generalize (√s)⁻¹ = rs at eRS hrs
  obtain ⟨d, hd'⟩ : ∃ d : Fin 2048 → ℝ, ∀ k, r' k - mu = d k := ⟨_, fun _ => rfl⟩
  have eDF' : ∀ j, DF (fun j => (r' j : EReal)) j = ((d j : ℝ) : EReal) := fun j => by rw [eDF, hd']
  have hd2 : ∑ k, d k = 0 := by rw [← hd]; exact Finset.sum_congr rfl fun k _ => (hd' k).symm
  have eXH : ∀ j, XH (fun j => (r' j : EReal)) j = ((d j * rs : ℝ) : EReal) := fun j => by
    unfold XH; rw [eDF', eRS, ← EReal.coe_mul]
  have ePV : ∀ j, PV (fun j => (r' j : EReal)) (fun j => (u' j : EReal)) j
      = (((∑ k, d k * u' k) * (-1 / 2 * (rs * s⁻¹)) * 2048⁻¹ * (2 * d j) : ℝ) : EReal) := fun j => by
    unfold PV
    simp only [eDF', eRS, eVE, NC_eq, TWO_eq, MHALF_eq, div_inv n0, div_inv hs.ne', ← EReal.coe_mul, coe_sum]
  unfold DRR DRK
  simp only [ePV, eXH, eRS, NC_eq, div_inv n0, ← EReal.coe_mul, ← EReal.coe_neg, coe_sum, ← EReal.coe_add, ← EReal.coe_sub]
  exact congrArg _ (norm_grad d u' s rs hs hrs hd2 j)

end Cert.StreamGrad

end
-- ==== Proof.Halves.lean ====
/- Two arrays of channels laid side by side, and a sum over the channels of the pair. -/
module

public import Idealize.ShloMosaic.Lib.Pipeline.ValueKit
public import Idealize.ShloMosaic.PureOps.Ideal.Laws

@[expose] public section

noncomputable section

namespace Cert.Halves

open Idealize.ShloMosaic

/-- The two halves of a stacked array side by side, by row and channel. -/
def side (d : FVec Ideal ⟨3, ![2, 4096, 2048]⟩ .f32) (r j : Fin 4096) : EReal :=
  if h : j.val < 2048 then d (ix3 0 r ⟨j.val, h⟩) else d (ix3 1 r ⟨j.val - 2048, by omega⟩)

/-- A channel of the pair is a channel of its half. -/
theorem side_eq (d : FVec Ideal ⟨3, ![2, 4096, 2048]⟩ .f32) (r j : Fin 4096) (k : Fin 2) (l : Fin 2048)
    (h : j.val = k.val * 2048 + l.val) : side d r j = d (ix3 k r l) := by
  unfold side
  by_cases hk : k.val = 0
  · have hl : j.val < 2048 := by rw [h, hk]; omega
    obtain rfl : k = 0 := Fin.ext hk
    obtain rfl : (⟨j.val, hl⟩ : Fin 2048) = l := Fin.ext (h.trans (by rw [hk]; omega))
    exact dif_pos hl
  · have hk1 : k.val = 1 := by omega
    have hl : ¬j.val < 2048 := by rw [h, hk1]; omega
    obtain rfl : k = 1 := Fin.ext hk1
    have e : (⟨j.val - 2048, by omega⟩ : Fin 2048) = l := Fin.ext (by rw [hk1] at h; show j.val - 2048 = l.val; omega)
    exact (dif_neg hl).trans (congrArg (fun q => d (ix3 1 r q)) e)

/-- A sum over the pair's channels is one over each half's. -/
theorem sum_halves {M : Type*} [AddCommMonoid M] (f : Fin 4096 → M) :
    ∑ j, f j = (∑ l : Fin 2048, f ⟨l.val, by omega⟩) + ∑ l : Fin 2048, f ⟨2048 + l.val, by omega⟩ :=
  Fin.sum_univ_add (a := 2048) (b := 2048) f

/-! ## Loads of a part of a block -/

/-- Where an index of a loaded part lies in the block. -/
theorem part2 {a b p q : ℕ} {off : Fin 2 → ℕ} (inb) (i : Fin p) (j : Fin q) (i' : Fin a) (j' : Fin b)
    (h0 : i'.val = off 0 + i.val) (h1 : j'.val = off 1 + j.val) :
    (Rect.unit (s := ⟨2, ![a, b]⟩) off ![p, q] inb).idx (ix2 i j) = ix2 i' j' := by
  funext x; apply Fin.ext
  match x with
  | ⟨0, _⟩ => show off 0 + 1 * i.val = i'.val; omega
  | ⟨1, _⟩ => show off 1 + 1 * j.val = j'.val; omega

/-- The same in a block of three axes. -/
theorem part3 {a b c p q s : ℕ} {off : Fin 3 → ℕ} (inb) (i : Fin p) (j : Fin q) (k : Fin s) (i' : Fin a) (j' : Fin b) (k' : Fin c)
    (h0 : i'.val = off 0 + i.val) (h1 : j'.val = off 1 + j.val) (h2 : k'.val = off 2 + k.val) :
    (Rect.unit (s := ⟨3, ![a, b, c]⟩) off ![p, q, s] inb).idx (ix3 i j k) = ix3 i' j' k' := by
  funext x; apply Fin.ext
  match x with
  | ⟨0, _⟩ => show off 0 + 1 * i.val = i'.val; omega
  | ⟨1, _⟩ => show off 1 + 1 * j.val = j'.val; omega
  | ⟨2, _⟩ => show off 2 + 1 * k.val = k'.val; omega

end Cert.Halves

end
-- ==== Proof.StreamRef.lean ====
/- The reference's gradient of the stream between the layers, stage by stage. -/
module

public import proofs.«01_k».proof.Proof.NormReal
public import proofs.«01_k».proof.Proof.Halves
public import proofs.«01_k».proof.Proof.Gen.Reference2Ideal.Read
public import Idealize.ShloMosaic.Lib.Pipeline.ValueKit

@[expose] public section

set_option maxRecDepth 16384

noncomputable section

namespace Cert.StreamGrad

open Idealize.ShloMosaic Idealize.ShloMosaic.TcCoe Idealize.SL.Sem
open Cert.Halves Cert.Pool

/-- The arguments: the layer's sum, the gain, the three maps, and the gradients of their products and of the stream. -/
structure Args where
  /-- the layer's sum -/
  r : FVec Ideal ⟨2, ![4096, 2048]⟩ .f32
  /-- the norm's gain -/
  g : FVec Ideal ⟨2, ![1, 2048]⟩ .f32
  /-- the queries' and gate's map -/
  wqg : FVec Ideal ⟨2, ![2048, 4096]⟩ .f32
  /-- the keys' map -/
  wk : FVec Ideal ⟨2, ![2048, 256]⟩ .f32
  /-- the values' map -/
  wv : FVec Ideal ⟨2, ![2048, 256]⟩ .f32
  /-- the gradients of queries and gate -/
  dh : FVec Ideal ⟨3, ![2, 4096, 2048]⟩ .f32
  /-- the gradients of keys and values, side by side -/
  dkv : FVec Ideal ⟨2, ![4096, 512]⟩ .f32
  /-- the gradient of the scaled stream -/
  dr : FVec Ideal ⟨2, ![4096, 2048]⟩ .f32

section spec
variable (A : Args)

/-- A row of the layer's sum. -/
def R (i : Fin 4096) (j : Fin 2048) : EReal := A.r (ix2 i j)

/-- The gradient of the normed stream: the scaled stream's and those through the three maps. -/
def CC (i : Fin 4096) (j : Fin 2048) : EReal :=
  ((Ideal.ofBits .f32 0x3FB504F3#32 * A.dr (ix2 i j) + ∑ k : Fin 256, A.dkv (ix2 i ⟨256 + k.val, by omega⟩) * A.wv (ix2 j k))
    + ∑ k : Fin 256, A.dkv (ix2 i ⟨k.val, by omega⟩) * A.wk (ix2 j k))
    + ∑ k : Fin 4096, side A.dh i k * A.wqg (ix2 j k)

/-- The gradient of the normed row before gain and bias. -/
def U (i : Fin 4096) (j : Fin 2048) : EReal := CC A i j * A.g (ix2 0 j)

/-- The gradient of the layer's sum. -/
def DRES : FVec Ideal ⟨2, ![4096, 2048]⟩ .f32 := fun y =>
  DRK (R A ⟨(y 0).val, (y 0).isLt⟩) (U A ⟨(y 0).val, (y 0).isLt⟩) ⟨(y 1).val, (y 1).isLt⟩

/-- The gain's gradient -/
def DG (j : Fin 2048) : EReal := ∑ i : Fin 4096, CC A i j * XH (R A i) j
/-- and the bias's. -/
def DB (j : Fin 2048) : EReal := ∑ i : Fin 4096, CC A i j

/-- The two rows above zeros. -/
def ROWS : FVec Ideal ⟨2, ![8, 2048]⟩ .f32 := fun y =>
  if (y 0).val = 0 then DG A ⟨(y 1).val, (y 1).isLt⟩ else if (y 0).val = 1 then DB A ⟨(y 1).val, (y 1).isLt⟩ else 0
end spec

section reference
open Cert.Reference2Ideal Cert.Reference2Ideal.Gen Cert.Reference2Ideal.Read

/-- The two halves side by side. -/
theorem v4_at (d : FVec Ideal S2x4096x2048 .f32) (r j : Fin 4096) : val_main_v4 (F := Ideal) d (ix2 r j) = side d r j := by
  pointwise [val_main_v4, val_main_v1, val_main_v0, val_main_v3, val_main_v2]
  unfold side
  split <;> rfl

variable (A : Args)

/-- The mean of a row. -/
theorem v9_at (i : Fin 4096) : val_main_v9 (F := Ideal) A.r (ix2 i 0) = MU (R A i) := by
  pointwise [val_main_v9, val_main_v8, val_main_cst_1, val_main_v7, val_main_v6, val_main_cst_0, MU, NC, R]

/-- The differences from it, as the variance takes them, -/
theorem v11_at (i : Fin 4096) (j : Fin 2048) : val_main_v11 (F := Ideal) A.r (ix2 i j) = DF (R A i) j := by
  pointwise [val_main_v11, val_main_v10, v9_at A, DF, R]

/-- and as the normed row does. -/
theorem v20_at (i : Fin 4096) (j : Fin 2048) : val_main_v20 (F := Ideal) A.r (ix2 i j) = DF (R A i) j := by
  pointwise [val_main_v20, val_main_v19, v9_at A, DF, R]

/-- The variance and the epsilon. -/
theorem v22_at (i : Fin 4096) : val_main_v22 (F := Ideal) A.r (ix2 i 0) = VE (R A i) := by
  pointwise [val_main_v22, val_main_v21, val_main_cst_5, val_main_v18, val_main_v17, val_main_cst_4, val_main_v16, val_main_v15,
    val_main_cst_3, val_main_v12, v11_at A, VE, NC, EPS]

/-- One over the deviation. -/
theorem v23_at (i : Fin 4096) : val_main_v23 (F := Ideal) A.r (ix2 i 0) = RS (R A i) := by
  pointwise [val_main_v23, v22_at A, RS]

/-- The variance's factor. -/
theorem v26_at (i : Fin 4096) : val_main_v26 (F := Ideal) A.r (ix2 i 0) = MHALF * Ideal.div (RS (R A i)) (VE (R A i)) := by
  pointwise [val_main_v26, val_main_v25, val_main_cst_6, val_main_v24, v23_at A, v22_at A, MHALF]

/-- The normed row. -/
theorem v28_at (i : Fin 4096) (j : Fin 2048) : val_main_v28 (F := Ideal) A.r (ix2 i j) = XH (R A i) j := by
  pointwise [val_main_v28, val_main_v27, v20_at A, v23_at A, XH]

/-- The normed stream's gradient. -/
theorem v47_at (i : Fin 4096) (j : Fin 2048) :
    val_main_v47 (F := Ideal) A.wqg A.wk A.wv A.dh A.dkv A.dr (ix2 i j) = CC A i j := by
  pointwise [val_main_v47, val_main_v46, v4_at, val_main_v45, val_main_v44, val_main_v38, val_main_v43, val_main_v42, val_main_v39,
    val_main_v41, val_main_v40, val_main_cst_8, CC]

/-- The gradient before gain and bias. -/
theorem v54_at (i : Fin 4096) (j : Fin 2048) :
    val_main_v54 (F := Ideal) A.g A.wqg A.wk A.wv A.dh A.dkv A.dr (ix2 i j) = U A i j := by
  pointwise [val_main_v54, val_main_v53, v47_at A, U]

/-- The part through the difference. -/
theorem v59_at (i : Fin 4096) (j : Fin 2048) :
    val_main_v59 (F := Ideal) A.r A.g A.wqg A.wk A.wv A.dh A.dkv A.dr (ix2 i j) = U A i j * RS (R A i) := by
  pointwise [val_main_v59, val_main_v58, v54_at A, v23_at A]

/-- The part through the variance. -/
theorem v68_at (i : Fin 4096) (j : Fin 2048) :
    val_main_v68 (F := Ideal) A.r A.g A.wqg A.wk A.wv A.dh A.dkv A.dr (ix2 i j) = PV (R A i) (U A i) j := by
  pointwise [val_main_v68, val_main_v14, val_main_v13, val_main_cst_2, v11_at A, val_main_v67, val_main_v66, val_main_cst_14,
    val_main_v65, val_main_v64, val_main_cst_13, val_main_v60, val_main_v57, val_main_v56, val_main_cst_11, val_main_v55, v20_at A,
    v54_at A, v26_at A, PV, NC, TWO]
  rw [Fin.sum_univ_one, v26_at A]

/-- The first result as the sum of its parts. -/
theorem v78_at (i : Fin 4096) (j : Fin 2048) :
    val_main_v78 (F := Ideal) A.r A.g A.wqg A.wk A.wv A.dh A.dkv A.dr (ix2 i j) = DRR (R A i) (U A i) j := by
  pointwise [val_main_v78, val_main_v77, val_main_v76, val_main_cst_17, val_main_v75, val_main_v74, val_main_cst_16, val_main_v73,
    val_main_v71, val_main_v70, val_main_cst_15, val_main_v69, val_main_v63, val_main_v62, val_main_cst_12, val_main_v61,
    val_main_v72, v59_at A, v68_at A, DRR, NC]
  rw [Fin.sum_univ_one]

/-- The gain's gradient. -/
theorem v52_at (j : Fin 2048) : val_main_v52 (F := Ideal) A.r A.wqg A.wk A.wv A.dh A.dkv A.dr (ix2 0 j) = DG A j := by
  pointwise [val_main_v52, val_main_v51, val_main_cst_10, val_main_v50, v28_at A, v47_at A, DG]
  exact Finset.sum_congr rfl fun i _ => mul_comm _ _

/-- The bias's gradient. -/
theorem v49_at (j : Fin 2048) : val_main_v49 (F := Ideal) A.wqg A.wk A.wv A.dh A.dkv A.dr (ix2 0 j) = DB A j := by
  pointwise [val_main_v49, val_main_v48, val_main_cst_9, v47_at A, DB]

/-- The third result. -/
theorem v80_eq : val_main_v80 (F := Ideal) A.r A.wqg A.wk A.wv A.dh A.dkv A.dr = ROWS A := by
  funext y
  obtain ⟨q, j, rfl⟩ : ∃ (q : Fin 8) (j : Fin 2048), y = ix2 q j := ⟨y 0, y 1, eq_ix2 y⟩
  pointwise [val_main_v80, v52_at A, v49_at A, val_main_v79, val_main_cst_18, ROWS]
  by_cases h0 : q.val = 0
  · rw [dif_pos (by omega), if_pos h0]
    exact (congrArg (fun a => val_main_v52 (F := Ideal) A.r A.wqg A.wk A.wv A.dh A.dkv A.dr (ix2 a j))
      (Subsingleton.elim _ (0 : Fin 1))).trans (v52_at A j)
  · rw [dif_neg (by omega), if_neg h0]
    by_cases h1 : q.val = 1
    · rw [dif_pos (by omega), if_pos h1]
      exact (congrArg (fun a => val_main_v49 (F := Ideal) A.wqg A.wk A.wv A.dh A.dkv A.dr (ix2 a j))
        (Subsingleton.elim _ (0 : Fin 1))).trans (v49_at A j)
    · rw [dif_neg (by omega), if_neg h1]

/-- Where the arguments are real so is the normed stream's gradient. -/
theorem CC_real (hk : ∀ y, IsR (A.wk y)) (hv : ∀ y, IsR (A.wv y)) (hq : ∀ y, IsR (A.wqg y)) (hh : ∀ y, IsR (A.dh y))
    (hd : ∀ y, IsR (A.dkv y)) (hr : ∀ y, IsR (A.dr y)) (i : Fin 4096) (j : Fin 2048) : IsR (CC A i j) := by
  have ha : IsR (Ideal.ofBits .f32 0x3FB504F3#32) := ⟨_, by simp [Ideal.ofBits, Ideal.ieee]; rfl⟩
  have hs : ∀ k, IsR (side A.dh i k) := fun k => by
    unfold side
    split
    · exact hh _
    · exact hh _
  exact (((ha.mul (hr _)).add (IsR.sum _ _ fun k _ => (hd _).mul (hv _))).add (IsR.sum _ _ fun k _ => (hd _).mul (hk _))).add
    (IsR.sum _ _ fun k _ => (hs k).mul (hq _))

/-- On real arguments the first result is the closed form. -/
theorem v78_eq (h0 : ∀ y, IsR (A.r y)) (hg : ∀ y, IsR (A.g y)) (hk : ∀ y, IsR (A.wk y)) (hv : ∀ y, IsR (A.wv y))
    (hq : ∀ y, IsR (A.wqg y)) (hh : ∀ y, IsR (A.dh y)) (hd : ∀ y, IsR (A.dkv y)) (hr : ∀ y, IsR (A.dr y)) :
    val_main_v78 (F := Ideal) A.r A.g A.wqg A.wk A.wv A.dh A.dkv A.dr = DRES A := by
  funext y
  obtain ⟨i, j, rfl⟩ : ∃ (i : Fin 4096) (j : Fin 2048), y = ix2 i j := ⟨y 0, y 1, eq_ix2 y⟩
  exact (v78_at A i j).trans (forms_agree _ _ (fun _ => h0 _) (fun _ => (CC_real A hk hv hq hh hd hr i _).mul (hg _)) j)

/-- The second result is the first in the narrower format. -/
theorem v81_eq : val_main_v81 (F := Ideal) A.r A.g A.wqg A.wk A.wv A.dh A.dkv A.dr
    = (val_main_v78 (F := Ideal) A.r A.g A.wqg A.wk A.wv A.dh A.dkv A.dr : FVec Ideal S4096x2048 .f32) := rfl

end reference

end Cert.StreamGrad

end
-- ==== Proof.StreamTile.lean ====
/- The gradient of the stream between the layers: the blocks that a grid point of the call reads, and what its lines make of them. -/
module

public import proofs.«01_k».proof.Proof.StreamRef
public import proofs.«01_k».proof.Proof.Gen.Kernel2Ideal.Value
public import Idealize.ShloMosaic.Lib.StableHlo.RunRead
public import Idealize.ShloMosaic.Lib.Pipeline.ValueKit

@[expose] public section

set_option maxRecDepth 16384

noncomputable section

namespace Cert.StreamGrad

open Cert.Kernel2Ideal Cert.Kernel2Ideal.Gen
open Idealize.ShloMosaic Idealize.ShloMosaic.TcCoe Idealize.SL.Sem
open Cert.Halves

variable (m : (ℓ : Loc nD τ sig) → Buf (Elt Ideal) ℓ) (c : Dev nD)

/-- The arrays that the call takes. -/
def args : Args where
  r := m ((c : Thread nD τ).loc main_arg0)
  g := m ((c : Thread nD τ).loc main_arg1)
  wqg := m ((c : Thread nD τ).loc main_arg2)
  wk := m ((c : Thread nD τ).loc main_arg3)
  wv := m ((c : Thread nD τ).loc main_arg4)
  dh := m ((c : Thread nD τ).loc main_arg5)
  dkv := m ((c : Thread nD τ).loc main_arg6)
  dr := m ((c : Thread nD τ).loc main_arg7)

/-! ## The arrays at the call -/

/-- The halves' gradients in the narrower format. -/
theorem V20 : V m c main_v20 = (truncf (F := Ideal) .bf16 (m ((c : Thread nD τ).loc main_arg5)) bitsLt_bf16_f32 : FVec Ideal S2x4096x2048 .bf16) := by
  simp only [V, List.flatten_cons, List.flatten_nil, List.append_nil]
  after_reads_simp

/-- The queries' and gate's map in the narrower format. -/
theorem V21 : V m c main_v21 = (truncf (F := Ideal) .bf16 (m ((c : Thread nD τ).loc main_arg2)) bitsLt_bf16_f32 : FVec Ideal S2048x4096 .bf16) := by
  simp only [V, List.flatten_cons, List.flatten_nil, List.append_nil]
  after_reads_simp

/-- The keys' and values' gradients in the narrower format. -/
theorem V22 : V m c main_v22 = (truncf (F := Ideal) .bf16 (m ((c : Thread nD τ).loc main_arg6)) bitsLt_bf16_f32 : FVec Ideal S4096x512 .bf16) := by
  simp only [V, List.flatten_cons, List.flatten_nil, List.append_nil]
  after_reads_simp

/-- The keys' and values' maps side by side. -/
def pair (wk wv : FVec Ideal S2048x256 .f32) : FVec Ideal S2048x512 .f32 :=
  concatenate S2048x512 1 [⟨S2048x256, wk⟩, ⟨S2048x256, wv⟩] concatenates_S2048x256_S2048x256_S2048x512_d1

/-- The pair of maps in the narrower format. -/
theorem V19 : V m c main_v19 = (truncf (F := Ideal) .bf16 (pair (args m c).wk (args m c).wv) bitsLt_bf16_f32 : FVec Ideal S2048x512 .bf16) := by
  simp only [V, List.flatten_cons, List.flatten_nil, List.append_nil]
  after_reads_simp
  rfl

/-- The pair's left half, -/
theorem pair_left (wk wv : FVec Ideal S2048x256 .f32) (j : Fin 2048) (k : Fin 256) : pair wk wv (ix2 j ⟨k.val, by omega⟩) = wk (ix2 j k) := by
  have h := k.isLt
  pointwise [pair]
/-- and its right. -/
theorem pair_right (wk wv : FVec Ideal S2048x256 .f32) (j : Fin 2048) (k : Fin 256) : pair wk wv (ix2 j ⟨256 + k.val, by omega⟩) = wv (ix2 j k) := by
  have h := k.isLt
  pointwise [pair]

set_option maxHeartbeats 1600000 in
/-- The normed rows are those of the reference. -/
theorem V17 : V m c main_v17 = (Cert.Reference2Ideal.Read.val_main_v28 (F := Ideal) (args m c).r : FVec Ideal S4096x2048 .f32) := by
  simp only [V, List.flatten_cons, List.flatten_nil, List.append_nil]
  after_reads_simp
  rfl

set_option maxHeartbeats 1600000 in
/-- The rows' scales are those of the reference. -/
theorem V13 : V m c main_v13 = (Cert.Reference2Ideal.Read.val_main_v23 (F := Ideal) (args m c).r : FVec Ideal S4096x1 .f32) := by
  simp only [V, List.flatten_cons, List.flatten_nil, List.append_nil]
  after_reads_simp
  rfl

/-! ## The blocks -/

/-- Which block each window takes at a point. -/
theorem idx : ∀ t : Fin cfg0.N, t.val % 16 = t.val ∧ win0_0.index t = ![0, t.val, 0] ∧ win0_1.index t = ![0, 0]
    ∧ win0_2.index t = ![t.val, 0] ∧ win0_3.index t = ![0, 0] ∧ win0_4.index t = ![t.val, 0] ∧ win0_5.index t = ![t.val, 0]
    ∧ win0_6.index t = ![t.val, 0] ∧ win0_7.index t = ![0, 0] ∧ win0_8.index t = ![t.val, 0] ∧ win0_9.index t = ![t.val, 0]
    ∧ win0_10.index t = ![0, 0] :=
  (by decide +kernel : ∀ t : Fin grid0.N, _)

/-- A tile's row. -/
def row (n : ℕ) (i : Fin 256) : Fin 4096 := ⟨n % 16 * 256 + i.val, by omega⟩

/-- Where a tile of the halves lies. -/
theorem emb0 (t : Fin cfg0.N) (k : Fin 2) (i : Fin 256) (l : Fin 2048) :
    ((cfg0.win 0).blk t).view.emb (ix3 k i l) = ix3 k (row t.val i) l := by
  unfold row
  blk_ext [idx t]
/-- The map is one block. -/
theorem emb1 (t : Fin cfg0.N) (j : Fin 2048) (l : Fin 4096) : ((cfg0.win 1).blk t).view.emb (ix2 j l) = ix2 j l := by
  blk_ext [idx t]
/-- Where a tile of the keys' and values' gradients lies. -/
theorem emb2 (t : Fin cfg0.N) (i : Fin 256) (k : Fin 512) : ((cfg0.win 2).blk t).view.emb (ix2 i k) = ix2 (row t.val i) k := by
  unfold row
  blk_ext [idx t]
/-- The pair of maps is one block. -/
theorem emb3 (t : Fin cfg0.N) (j : Fin 2048) (k : Fin 512) : ((cfg0.win 3).blk t).view.emb (ix2 j k) = ix2 j k := by
  blk_ext [idx t]
/-- Where a tile of the stream's gradient lies. -/
theorem emb4 (t : Fin cfg0.N) (i : Fin 256) (j : Fin 2048) : ((cfg0.win 4).blk t).view.emb (ix2 i j) = ix2 (row t.val i) j := by
  unfold row
  blk_ext [idx t]
/-- Where a tile of the normed rows lies. -/
theorem emb5 (t : Fin cfg0.N) (i : Fin 256) (j : Fin 2048) : ((cfg0.win 5).blk t).view.emb (ix2 i j) = ix2 (row t.val i) j := by
  unfold row
  blk_ext [idx t]
/-- Where a tile of the rows' scales lies. -/
theorem emb6 (t : Fin cfg0.N) (i : Fin 256) : ((cfg0.win 6).blk t).view.emb (ix2 i (0 : Fin 1)) = ix2 (row t.val i) (0 : Fin 1) := by
  unfold row
  blk_ext [idx t]
/-- The gain is one block. -/
theorem emb7 (t : Fin cfg0.N) (j : Fin 2048) : ((cfg0.win 7).blk t).view.emb (ix2 (0 : Fin 1) j) = ix2 (0 : Fin 1) j := by
  blk_ext [idx t]

/-- The halves' rows that a tile reads. -/
theorem block0 (t : Fin cfg0.N) (k : Fin 2) (i : Fin 256) (l : Fin 2048) :
    (iblk m c 0 t : FVec Ideal S2x256x2048 .bf16) (ix3 k i l) = (args m c).dh (ix3 k (row t.val i) l) :=
  (congrArg (V m c main_v20 : FVec Ideal S2x4096x2048 .bf16) (emb0 t k i l)).trans (congrFun (V20 m c) _)
/-- The map. -/
theorem block1 (t : Fin cfg0.N) (j : Fin 2048) (l : Fin 4096) :
    (iblk m c 1 t : FVec Ideal S2048x4096 .bf16) (ix2 j l) = (args m c).wqg (ix2 j l) :=
  (congrArg (V m c main_v21 : FVec Ideal S2048x4096 .bf16) (emb1 t j l)).trans (congrFun (V21 m c) _)
/-- The keys' and values' gradients that a tile reads. -/
theorem block2 (t : Fin cfg0.N) (i : Fin 256) (k : Fin 512) :
    (iblk m c 2 t : FVec Ideal S256x512 .bf16) (ix2 i k) = (args m c).dkv (ix2 (row t.val i) k) :=
  (congrArg (V m c main_v22 : FVec Ideal S4096x512 .bf16) (emb2 t i k)).trans (congrFun (V22 m c) _)
/-- The pair of maps. -/
theorem block3 (t : Fin cfg0.N) (j : Fin 2048) (k : Fin 512) :
    (iblk m c 3 t : FVec Ideal S2048x512 .bf16) (ix2 j k) = pair (args m c).wk (args m c).wv (ix2 j k) :=
  (congrArg (V m c main_v19 : FVec Ideal S2048x512 .bf16) (emb3 t j k)).trans (congrFun (V19 m c) _)
/-- The stream's gradient that a tile reads. -/
theorem block4 (t : Fin cfg0.N) (i : Fin 256) (j : Fin 2048) :
    (iblk m c 4 t : FVec Ideal S256x2048 .f32) (ix2 i j) = (args m c).dr (ix2 (row t.val i) j) :=
  (congrArg (V m c main_arg7 : FVec Ideal S4096x2048 .f32) (emb4 t i j)).trans (congrFun (V_main_arg7 m c) _)
/-- The normed rows that a tile reads. -/
theorem block5 (t : Fin cfg0.N) (i : Fin 256) (j : Fin 2048) :
    (iblk m c 5 t : FVec Ideal S256x2048 .f32) (ix2 i j) = XH (R (args m c) (row t.val i)) j :=
  ((congrArg (V m c main_v17 : FVec Ideal S4096x2048 .f32) (emb5 t i j)).trans (congrFun (V17 m c) _)).trans (v28_at (args m c) _ _)
/-- The rows' scales that a tile reads. -/
theorem block6 (t : Fin cfg0.N) (i : Fin 256) :
    (iblk m c 6 t : FVec Ideal S256x1 .f32) (ix2 i 0) = RS (R (args m c) (row t.val i)) :=
  ((congrArg (V m c main_v13 : FVec Ideal S4096x1 .f32) (emb6 t i)).trans (congrFun (V13 m c) _)).trans (v23_at (args m c) _)
/-- The gain. -/
theorem block7 (t : Fin cfg0.N) (j : Fin 2048) :
    (iblk m c 7 t : FVec Ideal S1x2048 .f32) (ix2 0 j) = (args m c).g (ix2 0 j) :=
  (congrArg (V m c main_arg1 : FVec Ideal S1x2048 .f32) (emb7 t j)).trans (congrFun (V_main_arg1 m c) _)

/-! ## The lines -/

/-- The gradient of the normed stream: three products and the scaled stream. -/
theorem pay6 (x0 x1 : FVec Ideal S1x256x2048 .bf16) (w0 w1 : FVec Ideal S2048x2048 .bf16) (d : FVec Ideal S256x512 .bf16)
    (w : FVec Ideal S2048x512 .bf16) (s : FVec Ideal S256x2048 .f32) (i : Fin 256) (j : Fin 2048) :
    k0_pay6 (F := Ideal) x0 w0 x1 w1 d w s (ix2 i j)
      = (((∑ l : Fin 2048, x0 (ix3 0 i l) * w0 (ix2 j l)) + ∑ l : Fin 2048, x1 (ix3 0 i l) * w1 (ix2 j l))
          + ∑ k : Fin 512, d (ix2 i k) * w (ix2 j k))
        + Ideal.ofBits .f32 0x3FB504F3#32 * s (ix2 i j) := by
  pointwise [k0_pay6]

/-- The gradient of the layer's sum. -/
theorem pay1 (C X : FVec Ideal S256x2048 .f32) (s : FVec Ideal S256x1 .f32) (g : FVec Ideal S1x2048 .f32) (i : Fin 256) (j : Fin 2048) :
    k0_pay1 (F := Ideal) C (k0_pay7 X) (k0_pay8 s) (k0_pay9 g) (ix2 i j)
      = s (ix2 i 0) * (C (ix2 i j) * g (ix2 0 j) - Ideal.div (∑ k : Fin 2048, C (ix2 i k) * g (ix2 0 k)) NC
          - X (ix2 i j) * Ideal.div (∑ k : Fin 2048, C (ix2 i k) * g (ix2 0 k) * X (ix2 i k)) NC) := by
  pointwise [k0_pay1, k0_pay7, k0_pay8, k0_pay9, NC]

/-- The gain's row grows by a tile's part, -/
theorem pay3 (C X : FVec Ideal S256x2048 .f32) (a : FVec Ideal S1x2048 .f32) (j : Fin 2048) :
    k0_pay3 (F := Ideal) C (k0_pay7 X) a (ix2 0 j) = a (ix2 0 j) + ∑ i : Fin 256, C (ix2 i j) * X (ix2 i j) := by
  pointwise [k0_pay3, k0_pay7]

/-- and the bias's. -/
theorem pay4 (C : FVec Ideal S256x2048 .f32) (a : FVec Ideal S1x2048 .f32) (j : Fin 2048) :
    k0_pay4 (F := Ideal) C a (ix2 0 j) = a (ix2 0 j) + ∑ i : Fin 256, C (ix2 i j) := by
  pointwise [k0_pay4]

/-- The sums start at zero. -/
theorem pay5 (q : Fin 8) (j : Fin 2048) : k0_pay5 (F := Ideal) (ix2 q j) = (0 : EReal) := by
  pointwise [k0_pay5]

end Cert.StreamGrad

end
-- ==== Proof.StreamSums.lean ====
/- The gradient of the stream between the layers: what the points of the call leave. -/
module

public import proofs.«01_k».proof.Proof.StreamTile
public import proofs.«01_k».proof.Proof.Canon
public import Idealize.ShloMosaic.Lib.Pipeline.ReadBack
public import Idealize.ShloMosaic.Lib.Pipeline.ValueKit

@[expose] public section

set_option maxRecDepth 16384

noncomputable section

namespace Cert.StreamGrad

open Cert.Kernel2Ideal Cert.Kernel2Ideal.Gen
open Idealize.ShloMosaic Idealize.ShloMosaic.TcCoe Idealize.SL.Sem
open Cert.Halves
open Cert.Pool (canon_hit canon_miss)

variable (m : (ℓ : Loc nD τ sig) → Buf (Elt Ideal) ℓ) (c : Dev nD)

/-- The gradient of the normed stream as a point computes it from its blocks. -/
def tile (t : Fin cfg0.N) : FVec Ideal S256x2048 .f32 :=
  k0_pay6 (F := Ideal)
    (View.ld (Val := Elt Ideal) (e' := .bf16) (iblk m c 0 t : FVec Ideal S2x256x2048 .bf16) (Rect.unit ![0, 0, 0] ![1, 256, 2048] inb_S2x256x2048_S1x256x2048_0_0_0))
    (View.ld (Val := Elt Ideal) (e' := .bf16) (iblk m c 1 t : FVec Ideal S2048x4096 .bf16) (Rect.unit ![0, 0] ![2048, 2048] inb_S2048x4096_S2048x2048_0_0))
    (View.ld (Val := Elt Ideal) (e' := .bf16) (iblk m c 0 t : FVec Ideal S2x256x2048 .bf16) (Rect.unit ![1, 0, 0] ![1, 256, 2048] inb_S2x256x2048_S1x256x2048_1_0_0))
    (View.ld (Val := Elt Ideal) (e' := .bf16) (iblk m c 1 t : FVec Ideal S2048x4096 .bf16) (Rect.unit ![0, 2048] ![2048, 2048] inb_S2048x4096_S2048x2048_0_2048))
    (iblk m c 2 t) (iblk m c 3 t) (iblk m c 4 t)

/-- The product with the pair of maps is one with each. -/
theorem sum_pair (A : Args) (a : FVec Ideal S256x512 .bf16) (b : FVec Ideal S2048x512 .bf16) (r : Fin 4096) (i : Fin 256) (j : Fin 2048)
    (ha : ∀ k, a (ix2 i k) = A.dkv (ix2 r k)) (hb : ∀ k, b (ix2 j k) = pair A.wk A.wv (ix2 j k)) :
    ∑ k : Fin 512, a (ix2 i k) * b (ix2 j k)
      = (∑ k : Fin 256, A.dkv (ix2 r ⟨k.val, by omega⟩) * A.wk (ix2 j k)) + ∑ k : Fin 256, A.dkv (ix2 r ⟨256 + k.val, by omega⟩) * A.wv (ix2 j k) := by
  refine (Fin.sum_univ_add (a := 256) (b := 256) _).trans (congrArg₂ (· + ·) ?_ ?_)
  · exact Finset.sum_congr rfl fun k _ => congrArg₂ (· * ·) (ha _) ((hb _).trans (pair_left _ _ j k))
  · exact Finset.sum_congr rfl fun k _ => congrArg₂ (· * ·) (ha _) ((hb _).trans (pair_right _ _ j k))

/-- A point's tile is its rows of the gradient. -/
theorem tile_at (t : Fin cfg0.N) (i : Fin 256) (j : Fin 2048) : tile m c t (ix2 i j) = CC (args m c) (row t.val i) j := by
  refine (pay6 _ _ _ _ _ _ _ i j).trans ?_
  unfold CC
  rw [sum_pair (args m c) (iblk m c 2 t) (iblk m c 3 t) (row t.val i) i j (block2 m c t i) (block3 m c t j), sum_halves, block4 m c t i j]
  have e2 : (∑ l : Fin 2048, (View.ld (Val := Elt Ideal) (e' := .bf16) (iblk m c 0 t : FVec Ideal S2x256x2048 .bf16) (Rect.unit ![0, 0, 0] ![1, 256, 2048] inb_S2x256x2048_S1x256x2048_0_0_0) : FVec Ideal S1x256x2048 .bf16) (ix3 0 i l)
        * (View.ld (Val := Elt Ideal) (e' := .bf16) (iblk m c 1 t : FVec Ideal S2048x4096 .bf16) (Rect.unit ![0, 0] ![2048, 2048] inb_S2048x4096_S2048x2048_0_0) : FVec Ideal S2048x2048 .bf16) (ix2 j l))
      = ∑ l : Fin 2048, side (args m c).dh (row t.val i) ⟨l.val, by omega⟩ * (args m c).wqg (ix2 j ⟨l.val, by omega⟩) := by
    refine Finset.sum_congr rfl fun l _ => congrArg₂ (· * ·) ?_ ?_
    · exact ((congrArg (iblk m c 0 t : FVec Ideal S2x256x2048 .bf16) (part3 _ 0 i l 0 i l rfl (by simp) (by simp))).trans
        (block0 m c t 0 i l)).trans (side_eq _ _ _ 0 l (by simp)).symm
    · exact (congrArg (iblk m c 1 t : FVec Ideal S2048x4096 .bf16) (part2 _ j l j ⟨l.val, by omega⟩ (by simp) (by simp))).trans
        (block1 m c t j _)
  have e3 : (∑ l : Fin 2048, (View.ld (Val := Elt Ideal) (e' := .bf16) (iblk m c 0 t : FVec Ideal S2x256x2048 .bf16) (Rect.unit ![1, 0, 0] ![1, 256, 2048] inb_S2x256x2048_S1x256x2048_1_0_0) : FVec Ideal S1x256x2048 .bf16) (ix3 0 i l)
        * (View.ld (Val := Elt Ideal) (e' := .bf16) (iblk m c 1 t : FVec Ideal S2048x4096 .bf16) (Rect.unit ![0, 2048] ![2048, 2048] inb_S2048x4096_S2048x2048_0_2048) : FVec Ideal S2048x2048 .bf16) (ix2 j l))
      = ∑ l : Fin 2048, side (args m c).dh (row t.val i) ⟨2048 + l.val, by omega⟩ * (args m c).wqg (ix2 j ⟨2048 + l.val, by omega⟩) := by
    refine Finset.sum_congr rfl fun l _ => congrArg₂ (· * ·) ?_ ?_
    · exact ((congrArg (iblk m c 0 t : FVec Ideal S2x256x2048 .bf16) (part3 _ 0 i l 1 i l rfl (by simp) (by simp))).trans
        (block0 m c t 1 i l)).trans (side_eq _ _ _ 1 l (by simp)).symm
    · exact (congrArg (iblk m c 1 t : FVec Ideal S2048x4096 .bf16) (part2 _ j l j ⟨2048 + l.val, by omega⟩ (by simp) (by simp))).trans
        (block1 m c t j _)
  rw [e2, e3]
  ac_rfl

/-! ## The gradient of the layer's sum -/

/-- What a point makes of its tile. -/
theorem res_at (t : Fin cfg0.N) (i : Fin 256) (j : Fin 2048) :
    k0_pay1 (F := Ideal) (tile m c t) (k0_pay7 (iblk m c 5 t)) (k0_pay8 (iblk m c 6 t)) (k0_pay9 (iblk m c 7 t)) (ix2 i j)
      = DRES (args m c) (ix2 (row t.val i) j) := by
  refine (pay1 _ _ _ _ i j).trans ?_
  have hu : ∀ k, tile m c t (ix2 i k) * (iblk m c 7 t : FVec Ideal S1x2048 .f32) (ix2 0 k) = U (args m c) (row t.val i) k :=
    fun k => congrArg₂ (· * ·) (tile_at m c t i k) (block7 m c t k)
  have hx : ∀ k, (iblk m c 5 t : FVec Ideal S256x2048 .f32) (ix2 i k) = XH (R (args m c) (row t.val i)) k := block5 m c t i
  rw [hu j, hx j, block6 m c t i, Finset.sum_congr rfl fun k _ => hu k,
    Finset.sum_congr rfl fun k _ => congrArg₂ (· * ·) (hu k) (hx k)]
  rfl

/-- Each point leaves its rows of the first result. -/
theorem out8_at (t : Fin cfg0.N) (i : Fin 256) (j : Fin 2048) :
    ((outsAt0 m c t.val t.isLt).1 : FVec Ideal S256x2048 .f32) (ix2 i j) = DRES (args m c) (ix2 (row t.val i) j) := by
  by_cases h0 : t.val % 16 = 0
  · rw [outsAt0_A m c t h0]
    frame_out
    exact res_at m c t i j
  · rw [outsAt0_B m c t h0]
    frame_out
    exact res_at m c t i j

/-- The narrower format holds the same. -/
theorem narrow_at (t : Fin cfg0.N) (i : Fin 256) (j : Fin 2048) :
    k0_pay2 (F := Ideal) (tile m c t) (k0_pay7 (iblk m c 5 t)) (k0_pay8 (iblk m c 6 t)) (k0_pay9 (iblk m c 7 t)) (ix2 i j)
      = DRES (args m c) (ix2 (row t.val i) j) := (show _ = _ from rfl).trans (res_at m c t i j)

/-- Each point leaves its rows of the second result. -/
theorem out9_at (t : Fin cfg0.N) (i : Fin 256) (j : Fin 2048) :
    ((outsAt0 m c t.val t.isLt).2.1 : FVec Ideal S256x2048 .bf16) (ix2 i j) = DRES (args m c) (ix2 (row t.val i) j) := by
  by_cases h0 : t.val % 16 = 0
  · rw [outsAt0_A m c t h0]
    frame_out
    exact narrow_at m c t i j
  · rw [outsAt0_B m c t h0]
    frame_out
    exact narrow_at m c t i j

/-! ## The two rows -/

/-- The stores of a point into the rows, newest first. -/
abbrev rows (w0 w1 : FVec Ideal S1x2048 .f32) (L : List (View.Piece (Elt Ideal) S8x2048 .f32)) : List (View.Piece (Elt Ideal) S8x2048 .f32) :=
  ⟨Rect.unit ![1, 0] ![1, 2048] inb_S8x2048_S1x2048_1_0, w1⟩ :: ⟨Rect.unit ![0, 0] ![1, 2048] inb_S8x2048_S1x2048_0_0, w0⟩ :: L

/-- What the stores leave of the first row, -/
theorem rows_0 (w0 w1 : FVec Ideal S1x2048 .f32) (L : List (View.Piece (Elt Ideal) S8x2048 .f32)) (j : Fin 2048) :
    View.canon (rows w0 w1 L) (ix2 0 j) = w0 (ix2 0 j) := by
  rw [canon_miss _ _ _ _ (0 : Fin 2) (Or.inl Nat.zero_lt_one), canon_hit _ _ _ _ (ix2 0 j) _]
  intro a; fin_cases a <;> simp
/-- of the second, -/
theorem rows_1 (w0 w1 : FVec Ideal S1x2048 .f32) (L : List (View.Piece (Elt Ideal) S8x2048 .f32)) (j : Fin 2048) :
    View.canon (rows w0 w1 L) (ix2 1 j) = w1 (ix2 0 j) := by
  rw [canon_hit _ _ _ _ (ix2 0 j) _]
  intro a; fin_cases a <;> simp
/-- and of the others. -/
theorem rows_rest (w0 w1 : FVec Ideal S1x2048 .f32) (L : List (View.Piece (Elt Ideal) S8x2048 .f32)) (q : Fin 8) (hq : 2 ≤ q.val) (j : Fin 2048) :
    View.canon (rows w0 w1 L) (ix2 q j) = View.canon L (ix2 q j) := by
  rw [canon_miss _ _ _ _ (0 : Fin 2) (Or.inr hq), canon_miss _ _ _ _ (0 : Fin 2) (Or.inr (le_trans one_le_two hq))]

/-- The same over what the buffer held: the first row, -/
theorem over_0 {sp : Space} (v : View sig .tc sp S8x2048 .f32) (f : v.ty.Contents (Elt Ideal)) (w0 w1 : FVec Ideal S1x2048 .f32) (j : Fin 2048) :
    v.read (Elt Ideal) (v.writes (Elt Ideal) f (rows w0 w1 [])) (ix2 0 j) = w0 (ix2 0 j) := by
  rw [View.read_writes_cons_unit_of_not_mem _ _ _ _ _ _ rfl (0 : Fin 2) (Or.inl Nat.zero_lt_one),
    View.read_writes_cons_unit_of_mem _ _ _ _ _ _ (ix2 0 j) rfl _]
  intro a; fin_cases a <;> simp
/-- the second -/
theorem over_1 {sp : Space} (v : View sig .tc sp S8x2048 .f32) (f : v.ty.Contents (Elt Ideal)) (w0 w1 : FVec Ideal S1x2048 .f32) (j : Fin 2048) :
    v.read (Elt Ideal) (v.writes (Elt Ideal) f (rows w0 w1 [])) (ix2 1 j) = w1 (ix2 0 j) := by
  rw [View.read_writes_cons_unit_of_mem _ _ _ _ _ _ (ix2 0 j) rfl _]
  intro a; fin_cases a <;> simp
/-- and the others. -/
theorem over_rest {sp : Space} (v : View sig .tc sp S8x2048 .f32) (f : v.ty.Contents (Elt Ideal)) (w0 w1 : FVec Ideal S1x2048 .f32)
    (q : Fin 8) (hq : 2 ≤ q.val) (j : Fin 2048) :
    v.read (Elt Ideal) (v.writes (Elt Ideal) f (rows w0 w1 [])) (ix2 q j) = v.read (Elt Ideal) f (ix2 q j) := by
  rw [View.read_writes_cons_unit_of_not_mem _ _ _ _ _ _ rfl (0 : Fin 2) (Or.inr hq),
    View.read_writes_cons_unit_of_not_mem _ _ _ _ _ _ rfl (0 : Fin 2) (Or.inr (le_trans one_le_two hq))]
  rfl

/-- The zeros of the first point. -/
abbrev zeros : List (View.Piece (Elt Ideal) S8x2048 .f32) :=
  [⟨Rect.unit ![0, 0] ![8, 2048] inb_S8x2048_S8x2048_0_0, k0_pay5 (F := Ideal)⟩]

/-- They cover every row. -/
theorem zeros_at (q : Fin 8) (j : Fin 2048) : View.canon zeros (ix2 q j) = (0 : EReal) := by
  rw [canon_hit _ _ _ _ (ix2 q j) _]
  · exact pay5 q j
  · intro a; fin_cases a <;> simp

/-- The first row of the zeros, -/
theorem fresh_0 {sp : Space} (v : View sig .tc sp S8x2048 .f32) (j : Fin 2048) :
    (View.readCov (Val := Elt Ideal) v zeros (Rect.unit (s := S8x2048) ![0, 0] ![1, 2048] inb_S8x2048_S1x2048_0_0).toLoadRect
      : FVec Ideal S1x2048 .f32) (ix2 0 j) = (0 : EReal) := by
  rw [View.readCov_eq_canon']
  have hy : (Rect.unit (s := S8x2048) ![0, 0] ![1, 2048] inb_S8x2048_S1x2048_0_0).toLoadRect.idx (ix2 0 j) = ix2 0 j :=
    part2 _ 0 j 0 j rfl (by simp)
  exact (congrArg (View.canon zeros) hy).trans (zeros_at 0 j)
/-- and the second, below the store of the first. -/
theorem fresh_1 {sp : Space} (v : View sig .tc sp S8x2048 .f32) (w0 : FVec Ideal S1x2048 .f32) (j : Fin 2048) :
    (View.readCov (Val := Elt Ideal) v (⟨Rect.unit ![0, 0] ![1, 2048] inb_S8x2048_S1x2048_0_0, w0⟩ :: zeros)
      (Rect.unit (s := S8x2048) ![1, 0] ![1, 2048] inb_S8x2048_S1x2048_1_0).toLoadRect : FVec Ideal S1x2048 .f32) (ix2 0 j) = (0 : EReal) := by
  rw [View.readCov_eq_canon']
  have hy : (Rect.unit (s := S8x2048) ![1, 0] ![1, 2048] inb_S8x2048_S1x2048_1_0).toLoadRect.idx (ix2 0 j) = ix2 1 j :=
    part2 _ 0 j 1 j rfl (by simp)
  refine (congrArg (View.canon _) hy).trans (Eq.trans ?_ (zeros_at 1 j))
  rw [canon_miss _ _ _ _ (0 : Fin 2) (Or.inr le_rfl)]

/-- A tile's part of the gain's gradient -/
def GT (n : ℕ) (j : Fin 2048) : EReal := ∑ i : Fin 256, CC (args m c) (row n i) j * XH (R (args m c) (row n i)) j
/-- and of the bias's. -/
def BT (n : ℕ) (j : Fin 2048) : EReal := ∑ i : Fin 256, CC (args m c) (row n i) j

/-- The gain's row after a point, from what it was, -/
theorem gain_at (t : Fin cfg0.N) (a : FVec Ideal S1x2048 .f32) (j : Fin 2048) :
    k0_pay3 (F := Ideal) (tile m c t) (k0_pay7 (iblk m c 5 t)) a (ix2 0 j) = a (ix2 0 j) + GT m c t.val j :=
  (pay3 _ _ _ j).trans (congrArg (a (ix2 0 j) + ·) (Finset.sum_congr rfl fun i _ =>
    congrArg₂ (· * ·) (tile_at m c t i j) (block5 m c t i j)))
/-- and the bias's. -/
theorem bias_at (t : Fin cfg0.N) (a : FVec Ideal S1x2048 .f32) (j : Fin 2048) :
    k0_pay4 (F := Ideal) (tile m c t) a (ix2 0 j) = a (ix2 0 j) + BT m c t.val j :=
  (pay4 _ _ j).trans (congrArg (a (ix2 0 j) + ·) (Finset.sum_congr rfl fun i _ => tile_at m c t i j))

/-- The first point starts the gain's row at zero, -/
theorem gain_first (t : Fin cfg0.N) (h0 : t.val % 16 = 0) (j : Fin 2048) :
    ((outsAt0 m c t.val t.isLt).2.2 : FVec Ideal S8x2048 .f32) (ix2 0 j) = 0 + GT m c t.val j := by
  rw [outsAt0_A m c t h0]
  frame_out
  exact (rows_0 _ _ _ j).trans ((gain_at m c t _ j).trans (congrArg (· + _) (fresh_0 _ j)))
/-- the bias's too, -/
theorem bias_first (t : Fin cfg0.N) (h0 : t.val % 16 = 0) (j : Fin 2048) :
    ((outsAt0 m c t.val t.isLt).2.2 : FVec Ideal S8x2048 .f32) (ix2 1 j) = 0 + BT m c t.val j := by
  rw [outsAt0_A m c t h0]
  frame_out
  exact (rows_1 _ _ _ j).trans ((bias_at m c t _ j).trans (congrArg (· + _) (fresh_1 _ _ j)))
/-- and clears the others. -/
theorem rest_first (t : Fin cfg0.N) (h0 : t.val % 16 = 0) (q : Fin 8) (hq : 2 ≤ q.val) (j : Fin 2048) :
    ((outsAt0 m c t.val t.isLt).2.2 : FVec Ideal S8x2048 .f32) (ix2 q j) = 0 := by
  rw [outsAt0_A m c t h0]
  frame_out
  exact (rows_rest _ _ _ q hq j).trans (zeros_at q j)

/-- A later point adds its tile to the gain's row, -/
theorem gain_later (t : Fin cfg0.N) (h0 : ¬t.val % 16 = 0) (j : Fin 2048) :
    ((outsAt0 m c t.val t.isLt).2.2 : FVec Ideal S8x2048 .f32) (ix2 0 j)
      = ((outsAt0 m c (t.val - 1) (Nat.lt_of_le_of_lt (Nat.sub_le _ _) t.isLt)).2.2 : FVec Ideal S8x2048 .f32) (ix2 0 j) + GT m c t.val j := by
  rw [outsAt0_B m c t h0]
  frame_out
  exact (over_0 _ _ _ _ j).trans ((gain_at m c t _ j).trans (congrArg (· + _)
    (congrArg ((outsAt0 m c (t.val - 1) (Nat.lt_of_le_of_lt (Nat.sub_le _ _) t.isLt)).2.2 : FVec Ideal S8x2048 .f32) (part2 _ 0 j 0 j rfl (by simp)))))
/-- and to the bias's, -/
theorem bias_later (t : Fin cfg0.N) (h0 : ¬t.val % 16 = 0) (j : Fin 2048) :
    ((outsAt0 m c t.val t.isLt).2.2 : FVec Ideal S8x2048 .f32) (ix2 1 j)
      = ((outsAt0 m c (t.val - 1) (Nat.lt_of_le_of_lt (Nat.sub_le _ _) t.isLt)).2.2 : FVec Ideal S8x2048 .f32) (ix2 1 j) + BT m c t.val j := by
  rw [outsAt0_B m c t h0]
  frame_out
  exact (over_1 _ _ _ _ j).trans ((bias_at m c t _ j).trans (congrArg (· + _)
    (congrArg ((outsAt0 m c (t.val - 1) (Nat.lt_of_le_of_lt (Nat.sub_le _ _) t.isLt)).2.2 : FVec Ideal S8x2048 .f32) (part2 _ 0 j 1 j rfl (by simp)))))
/-- and keeps the others. -/
theorem rest_later (t : Fin cfg0.N) (h0 : ¬t.val % 16 = 0) (q : Fin 8) (hq : 2 ≤ q.val) (j : Fin 2048) :
    ((outsAt0 m c t.val t.isLt).2.2 : FVec Ideal S8x2048 .f32) (ix2 q j)
      = ((outsAt0 m c (t.val - 1) (Nat.lt_of_le_of_lt (Nat.sub_le _ _) t.isLt)).2.2 : FVec Ideal S8x2048 .f32) (ix2 q j) := by
  rw [outsAt0_B m c t h0]
  frame_out
  refine (over_rest _ _ _ _ q hq j).trans ?_
  rw [Memref.IsWhole.read_unread]

end Cert.StreamGrad

end
-- ==== Proof.StreamGrad.lean ====
/- The gradient of the stream between the layers: the kernel's results are the reference's on finite arguments. -/
module

public import proofs.«01_k».proof.Proof.StreamSums
public import proofs.«01_k».proof.Proof.Gen.Reference2Ideal.Run
public import proofs.«01_k».proof.Proof.Gen.Reference2Ideal
public import proofs.«01_k».proof.Proof.Gen.Pre_finite2
public import proofs.«01_k».proof.Proof.Final
public import proofs.«01_k».proof.Defs
public import Idealize.ShloMosaic.Lib.Quiescent
public import Idealize.ShloMosaic.Lib.Pipeline.ValueKit

@[expose] public section

set_option maxRecDepth 16384

noncomputable section

namespace Cert.StreamGrad

open Idealize.ShloMosaic Idealize.ShloMosaic.TcCoe Idealize.SL.Sem
open Cert.Pool (IsR and_one real_of_all)

section kernel
open Cert.Kernel2Ideal Cert.Kernel2Ideal.Gen
open Idealize.ShloMosaic.Pipeline (Dat)

variable (m : (ℓ : Loc nD τ sig) → Buf (Elt Ideal) ℓ) (c : Dev nD)

/-- The sixteen tiles make up the rows. -/
theorem sum_tiles (f : Fin 4096 → EReal) : ∑ n ∈ Finset.range 16, ∑ r : Fin 256, f (row n r) = ∑ i : Fin 4096, f i := by
  rw [Finset.sum_range, ← Fintype.sum_prod_type' (f := fun (n : Fin 16) (r : Fin 256) => f (row n.val r))]
  refine Fintype.sum_bijective (fun x : Fin 16 × Fin 256 => row x.1.val x.2) ⟨?_, ?_⟩ _ _ fun _ => rfl
  · rintro ⟨a, b⟩ ⟨a', b'⟩ hab
    have h : (row a.val b).val = (row a'.val b').val := congrArg Fin.val hab
    simp only [row] at h
    have := a.isLt; have := a'.isLt; have := b.isLt; have := b'.isLt
    have ha : a.val = a'.val := by omega
    have hb : b.val = b'.val := by omega
    exact Prod.ext (Fin.ext ha) (Fin.ext hb)
  · intro i
    refine ⟨(⟨i.val / 256, by omega⟩, ⟨i.val % 256, by omega⟩), Fin.ext ?_⟩
    simp only [row]; omega

/-- A sum that starts at the first point and grows by a term at each. -/
theorem sum_of_steps (W : ∀ n, n < cfg0.N → EReal) (f : ℕ → EReal) (hfirst : ∀ t : Fin cfg0.N, t.val % 16 = 0 → W t.val t.isLt = 0 + f t.val)
    (hlater : ∀ t : Fin cfg0.N, ¬t.val % 16 = 0 → W t.val t.isLt = W (t.val - 1) (Nat.lt_of_le_of_lt (Nat.sub_le _ _) t.isLt) + f t.val) :
    ∀ n (hn : n < cfg0.N), W n hn = ∑ s ∈ Finset.range (n + 1), f s
  | 0, hn => (hfirst ⟨0, hn⟩ rfl).trans (by rw [Finset.sum_range_one, zero_add])
  | n + 1, hn => by
    have h16 : n + 1 < 16 := hn
    rw [Finset.sum_range_succ, ← sum_of_steps W f hfirst hlater n (by omega)]
    exact hlater ⟨n + 1, hn⟩ (by show ¬(n + 1) % 16 = 0; omega)

/-- The rows below the two sums are zero after every point. -/
theorem rest_zero (q : Fin 8) (hq : 2 ≤ q.val) (j : Fin 2048) : ∀ (n : ℕ) (hn : n < cfg0.N),
    ((outsAt0 m c n hn).2.2 : FVec Ideal S8x2048 .f32) (ix2 q j) = 0
  | 0, hn => rest_first m c ⟨0, hn⟩ rfl q hq j
  | n + 1, hn => by
    have h16 : n + 1 < 16 := hn
    exact (rest_later m c ⟨n + 1, hn⟩ (by show ¬(n + 1) % 16 = 0; omega) q hq j).trans (rest_zero q hq j n (by omega))

/-- The last point leaves the gain's gradient in the first row, -/
theorem gain_last (t : Fin cfg0.N) (ht : t.val = 15) (j : Fin 2048) :
    ((outsAt0 m c t.val t.isLt).2.2 : FVec Ideal S8x2048 .f32) (ix2 0 j) = DG (args m c) j := by
  rw [sum_of_steps (fun n hn => ((outsAt0 m c n hn).2.2 : FVec Ideal S8x2048 .f32) (ix2 0 j)) (fun s => GT m c s j)
    (fun t h0 => gain_first m c t h0 j) (fun t h0 => gain_later m c t h0 j) t.val t.isLt]
  obtain ⟨n, hn⟩ := t
  obtain rfl : n = 15 := ht
  exact sum_tiles fun i => CC (args m c) i j * XH (R (args m c) i) j
/-- and the bias's in the second. -/
theorem bias_last (t : Fin cfg0.N) (ht : t.val = 15) (j : Fin 2048) :
    ((outsAt0 m c t.val t.isLt).2.2 : FVec Ideal S8x2048 .f32) (ix2 1 j) = DB (args m c) j := by
  rw [sum_of_steps (fun n hn => ((outsAt0 m c n hn).2.2 : FVec Ideal S8x2048 .f32) (ix2 1 j)) (fun s => BT m c s j)
    (fun t h0 => bias_first m c t h0 j) (fun t h0 => bias_later m c t h0 j) t.val t.isLt]
  obtain ⟨n, hn⟩ := t
  obtain rfl : n = 15 := ht
  exact sum_tiles fun i => CC (args m c) i j

/-- Only the last point writes the rows back. -/
theorem last_of_flush (t : Fin cfg0.N) (hf : (cfg0.win 10).flush t = true) : t.val = 15 := by
  have h := (flush0_10 t).mp hf
  have : t.val < 16 := t.isLt
  omega

/-- Where a tile of the first result lies, -/
theorem emb8 (t : Fin cfg0.N) (i : Fin 256) (j : Fin 2048) : ((cfg0.win 8).blk t).view.emb (ix2 i j) = ix2 (row t.val i) j := by
  unfold row
  blk_ext [idx t]
/-- of the second, -/
theorem emb9 (t : Fin cfg0.N) (i : Fin 256) (j : Fin 2048) : ((cfg0.win 9).blk t).view.emb (ix2 i j) = ix2 (row t.val i) j := by
  unfold row
  blk_ext [idx t]
/-- and the third, which is one block. -/
theorem emb10 (t : Fin cfg0.N) (q : Fin 8) (j : Fin 2048) : ((cfg0.win 10).blk t).view.emb (ix2 q j) = ix2 q j := by
  blk_ext [idx t]

/-- The first result. -/
theorem final8 : (dats m 0 c).arrAt 8 cfg0.N = DRES (args m c) := by
  refine (dats m 0 c).arrAt_eq_of_covers 8 _ (by decide +kernel) fun t hf y => ?_
  blk_simp
  rw [after0_8]
  obtain ⟨i, j, rfl⟩ : ∃ (i : Fin 256) (j : Fin 2048), y = ix2 i j := ⟨y 0, y 1, eq_ix2 y⟩
  exact (out8_at m c t i j).trans (congrArg (DRES (args m c)) (emb8 t i j)).symm

/-- The second, the same in the narrower format. -/
theorem final9 : (dats m 0 c).arrAt 9 cfg0.N = (DRES (args m c) : FVec Ideal S4096x2048 .f32) := by
  refine (dats m 0 c).arrAt_eq_of_covers 9 _ (by decide +kernel) fun t hf y => ?_
  blk_simp
  rw [after0_9]
  obtain ⟨i, j, rfl⟩ : ∃ (i : Fin 256) (j : Fin 2048), y = ix2 i j := ⟨y 0, y 1, eq_ix2 y⟩
  exact (out9_at m c t i j).trans (congrArg (DRES (args m c)) (emb9 t i j)).symm

/-- The third: the two rows above zeros. -/
theorem final10 : (dats m 0 c).arrAt 10 cfg0.N = ROWS (args m c) := by
  refine (dats m 0 c).arrAt_eq_of_covers 10 _ (by decide +kernel) fun t hf y => ?_
  blk_simp
  rw [after0_10]
  obtain ⟨q, j, rfl⟩ : ∃ (q : Fin 8) (j : Fin 2048), y = ix2 q j := ⟨y 0, y 1, eq_ix2 y⟩
  refine Eq.trans ?_ (congrArg (ROWS (args m c)) (emb10 t q j)).symm
  have ht := last_of_flush t hf
  by_cases hq : 2 ≤ q.val
  · have n0 : ¬q.val = 0 := by omega
    have n1 : ¬q.val = 1 := by omega
    exact (rest_zero m c q hq j _ _).trans ((if_neg n0).trans (if_neg n1)).symm
  · by_cases h0 : q.val = 0
    · obtain rfl : q = 0 := Fin.ext h0
      exact (gain_last m c t ht j).trans (if_pos rfl).symm
    · obtain rfl : q = 1 := Fin.ext (by show q.val = 1; omega)
      exact (bias_last m c t ht j).trans ((if_neg h0).trans (if_pos rfl)).symm

end kernel

section reference
open Cert.Reference2Ideal Cert.Reference2Ideal.Gen Cert.Reference2Ideal.Read

/-- The reference's run leaves the arguments and the counters as it finds them. -/
theorem frame_ref : Cert.quiescent_Reference2Ideal (hReference2Ideal := Cert.Reference2Ideal.Gen.facts) := fun m g _ =>
  (θ_run _ _ _).mono (fun r h => ⟨fun c => (h c).2.2.2, sem_eq_zero_of_no_sems rfl r.2⟩)
    (Cert.Reference2Ideal.Value.run m g)

variable (A : Args)

/-- The precondition: the eight arguments hold real numbers. -/
theorem real_args (h : Cert.Pre_finite2.fn (F := Ideal) A.r A.g A.wqg A.wk A.wv A.dh A.dkv A.dr = fun _ => 1#1) :
    (∀ y, IsR (A.r y)) ∧ (∀ y, IsR (A.g y)) ∧ (∀ y, IsR (A.wqg y)) ∧ (∀ y, IsR (A.wk y)) ∧ (∀ y, IsR (A.wv y)) ∧ (∀ y, IsR (A.dh y))
      ∧ (∀ y, IsR (A.dkv y)) ∧ ∀ y, IsR (A.dr y) := by
  have h := congrFun h ix0
  unfold Cert.Pre_finite2.fn Cert.Pre_finite2.fn_part1 Cert.Pre_finite2.fn_part2 at h
  dsimp only at h
  have hs : Subsingleton Cert.Pre_finite2.S_.Idx := ⟨fun a b => funext fun k => k.elim0⟩
  have top : ∀ {s : Shape} (hb : Cert.Pre_finite2.S_.BroadcastsInDim s (![] : Fin 0 → Fin s.rank)) (y : s.Idx),
      broadcastInDim s ![] hb (constant (F := Ideal) Cert.Pre_finite2.S_ .f32 0x7F800000#32) y = (⊤ : EReal) := by
    intro s hb y
    show FloatOps.ofBits (F := Ideal) .f32 0x7F800000#32 = (⊤ : EReal)
    simp [Ideal.ofBits, Ideal.ieee]
  simp only [andi_apply, and_one] at h
  obtain ⟨⟨⟨⟨⟨⟨⟨a0, a1⟩, a2⟩, a3⟩, a4⟩, a5⟩, a6⟩, a7⟩ := h
  exact ⟨real_of_all _ _ (top _) _ _ _ _ a0, real_of_all _ _ (top _) _ _ _ _ a1, real_of_all _ _ (top _) _ _ _ _ a2,
    real_of_all _ _ (top _) _ _ _ _ a3, real_of_all _ _ (top _) _ _ _ _ a4, real_of_all _ _ (top _) _ _ _ _ a5,
    real_of_all _ _ (top _) _ _ _ _ a6, real_of_all _ _ (top _) _ _ _ _ a7⟩

/-- On real arguments the reference's first result is the closed form. -/
theorem ref_v78 (h : Cert.Pre_finite2.fn (F := Ideal) A.r A.g A.wqg A.wk A.wv A.dh A.dkv A.dr = fun _ => 1#1) :
    val_main_v78 (F := Ideal) A.r A.g A.wqg A.wk A.wv A.dh A.dkv A.dr = DRES A := by
  obtain ⟨h0, hg, hq, hk, hv, hh, hd, hr⟩ := real_args A h
  exact v78_eq A h0 hg hk hv hq hh hd hr

variable (m' : (ℓ : Loc nD τ sig) → Buf (Elt Ideal) ℓ) (c : Dev nD)

/-- The reference's arguments. -/
def refArgs : Args where
  r := m' ((c.tc : Thread nD τ).loc main_arg0)
  g := m' ((c.tc : Thread nD τ).loc main_arg1)
  wqg := m' ((c.tc : Thread nD τ).loc main_arg2)
  wk := m' ((c.tc : Thread nD τ).loc main_arg3)
  wv := m' ((c.tc : Thread nD τ).loc main_arg4)
  dh := m' ((c.tc : Thread nD τ).loc main_arg5)
  dkv := m' ((c.tc : Thread nD τ).loc main_arg6)
  dr := m' ((c.tc : Thread nD τ).loc main_arg7)

end reference

/-- On real arguments the kernel's three results are the reference's. -/
theorem value : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hagree
  refine ⟨fun c => DRES (args m c), fun c => (DRES (args m c) : FVec Ideal Cert.Kernel2Ideal.S4096x2048 .f32), fun c => ROWS (args m c), ?_, ?_⟩
  · refine (θ_run _ _ _).mono (fun r h c => ?_) (Cert.Kernel2Ideal.Value.run_blocks m g)
    obtain ⟨e8, e9, e10, e⟩ := h c
    exact ⟨e8.trans (final8 m c), e9.trans (final9 m c), e10.trans (final10 m c), e⟩
  · refine (θ_run _ _ _).mono (fun r h c => ?_) (Cert.Reference2Ideal.Value.run m' g')
    obtain ⟨e8, e9, e10, e⟩ := h c
    obtain ⟨a0, a1, a2, a3, a4, a5, a6, a7⟩ := hagree c
    have ha : refArgs m' c = args m c := by
      unfold refArgs
      rw [a0, a1, a2, a3, a4, a5, a6, a7]
      rfl
    have hp : Cert.Pre_finite2.fn (F := Ideal) (refArgs m' c).r (refArgs m' c).g (refArgs m' c).wqg (refArgs m' c).wk (refArgs m' c).wv
        (refArgs m' c).dh (refArgs m' c).dkv (refArgs m' c).dr = fun _ => 1#1 := by
      rw [ha]
      exact hpre c
    refine ⟨?_, ?_, ?_, e⟩
    · exact e8.trans ((Cert.Reference2Ideal.Read.val_main_v78_eq m' c).trans
        ((ref_v78 (refArgs m' c) hp).trans (congrArg DRES ha)))
    · exact e9.trans ((Cert.Reference2Ideal.Read.val_main_v81_eq m' c).trans
        ((v81_eq (refArgs m' c)).trans ((ref_v78 (refArgs m' c) hp).trans (congrArg DRES ha))))
    · exact e10.trans ((Cert.Reference2Ideal.Read.val_main_v80_eq m' c).trans
        ((v80_eq (refArgs m' c)).trans (congrArg ROWS ha)))

end Cert.StreamGrad

end
-- ==== Proof.InputGrad.lean ====
/- The gradient of the layer's input: each tile of the call is a product over both halves of the gradients plus the
   scaled stream, and so is the reference's. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Halves
public import proofs.«01_k».proof.Defs
public import Idealize.ShloMosaic.Lib.StableHlo.RunRead
public import Idealize.ShloMosaic.Lib.Pipeline.ValueKit
public import Idealize.ShloMosaic.Lib.Quiescent

@[expose] public section

set_option maxRecDepth 16384

noncomputable section

namespace Cert.InputGrad

open Idealize.ShloMosaic Idealize.ShloMosaic.TcCoe Idealize.SL.Sem
open Cert.Halves

/-- The gradient: the scaled stream's, plus the product of both halves of the gradients with the map's columns. -/
def DX (w : FVec Ideal ⟨2, ![2048, 4096]⟩ .f32) (d : FVec Ideal ⟨3, ![2, 4096, 2048]⟩ .f32) (dr : FVec Ideal ⟨2, ![4096, 2048]⟩ .f32) :
    FVec Ideal ⟨2, ![4096, 2048]⟩ .f32 := fun y =>
  Ideal.ofBits .f32 0x3FB504F3#32 * dr y
    + ∑ k : Fin 4096, side d ⟨(y 0).val, (y 0).isLt⟩ k * w (ix2 ⟨(y 1).val, (y 1).isLt⟩ k)

section kernel
open Cert.Kernel3Ideal Cert.Kernel3Ideal.Gen
open Idealize.ShloMosaic.Pipeline (Dat)

variable (m : (ℓ : Loc nD τ sig) → Buf (Elt Ideal) ℓ) (c : Dev nD)

/-- The gradients' halves in the narrower format. -/
theorem V0 : V m c main_v0 = (truncf (F := Ideal) .bf16 (m ((c : Thread nD τ).loc main_arg1)) bitsLt_bf16_f32 : FVec Ideal S2x4096x2048 .bf16) := by
  simp only [V, List.flatten_cons, List.flatten_nil, List.append_nil]
  after_reads_simp

/-- The map in the narrower format. -/
theorem V1 : V m c main_v1 = (truncf (F := Ideal) .bf16 (m ((c : Thread nD τ).loc main_arg0)) bitsLt_bf16_f32 : FVec Ideal S2048x4096 .bf16) := by
  simp only [V, List.flatten_cons, List.flatten_nil, List.append_nil]
  after_reads_simp

/-- Which block each window takes at a point. -/
theorem idx : ∀ t : Fin cfg0.N, win0_0.index t = ![0, t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- A tile's row. -/
def row (t : Fin cfg0.N) (i : Fin 1024) : Fin 4096 := ⟨t.val / 4 * 1024 + i.val, by have : t.val < 16 := t.isLt; omega⟩
/-- A tile's channel. -/
def col (t : Fin cfg0.N) (j : Fin 512) : Fin 2048 := ⟨t.val % 4 * 512 + j.val, by omega⟩

/-- Where a tile of the halves lies. -/
theorem emb0 (t : Fin cfg0.N) (k : Fin 2) (i : Fin 1024) (l : Fin 2048) :
    ((cfg0.win 0).blk t).view.emb (ix3 k i l) = ix3 k (row t i) l := by
  unfold row
  blk_ext [idx t]
/-- Where a tile of the map lies. -/
theorem emb1 (t : Fin cfg0.N) (j : Fin 512) (l : Fin 4096) : ((cfg0.win 1).blk t).view.emb (ix2 j l) = ix2 (col t j) l := by
  unfold col
  blk_ext [idx t]
/-- Where a tile of the stream's gradient lies. -/
theorem emb2 (t : Fin cfg0.N) (i : Fin 1024) (j : Fin 512) : ((cfg0.win 2).blk t).view.emb (ix2 i j) = ix2 (row t i) (col t j) := by
  unfold row col
  blk_ext [idx t]
/-- Where a tile of the result lies. -/
theorem emb3 (t : Fin cfg0.N) (i : Fin 1024) (j : Fin 512) : ((cfg0.win 3).blk t).view.emb (ix2 i j) = ix2 (row t i) (col t j) := by
  unfold row col
  blk_ext [idx t]

/-- The halves' rows that a tile reads. -/
theorem block0 (t : Fin cfg0.N) (k : Fin 2) (i : Fin 1024) (l : Fin 2048) :
    (iblk m c 0 t : FVec Ideal S2x1024x2048 .bf16) (ix3 k i l)
      = (m ((c : Thread nD τ).loc main_arg1) : FVec Ideal S2x4096x2048 .f32) (ix3 k (row t i) l) :=
  (congrArg (V m c main_v0 : FVec Ideal S2x4096x2048 .bf16) (emb0 t k i l)).trans (congrFun (V0 m c) _)
/-- The map's rows that a tile reads. -/
theorem block1 (t : Fin cfg0.N) (j : Fin 512) (l : Fin 4096) :
    (iblk m c 1 t : FVec Ideal S512x4096 .bf16) (ix2 j l)
      = (m ((c : Thread nD τ).loc main_arg0) : FVec Ideal S2048x4096 .f32) (ix2 (col t j) l) :=
  (congrArg (V m c main_v1 : FVec Ideal S2048x4096 .bf16) (emb1 t j l)).trans (congrFun (V1 m c) _)
/-- The stream's gradient that a tile reads. -/
theorem block2 (t : Fin cfg0.N) (i : Fin 1024) (j : Fin 512) :
    (iblk m c 2 t : FVec Ideal S1024x512 .f32) (ix2 i j)
      = (m ((c : Thread nD τ).loc main_arg2) : FVec Ideal S4096x2048 .f32) (ix2 (row t i) (col t j)) :=
  (congrArg (V m c main_arg2 : FVec Ideal S4096x2048 .f32) (emb2 t i j)).trans (congrFun (V_main_arg2 m c) _)

/-- What a tile leaves: two products and the scaled stream. -/
theorem pay1 (x0 x1 : FVec Ideal S1x1024x2048 .bf16) (w0 w1 : FVec Ideal S512x2048 .bf16) (d : FVec Ideal S1024x512 .f32)
    (i : Fin 1024) (j : Fin 512) :
    k0_pay1 (F := Ideal) x0 w0 x1 w1 d (ix2 i j)
      = (∑ l : Fin 2048, x0 (ix3 0 i l) * w0 (ix2 j l)) + (∑ l : Fin 2048, x1 (ix3 0 i l) * w1 (ix2 j l))
        + Ideal.ofBits .f32 0x3FB504F3#32 * d (ix2 i j) := by
  pointwise [k0_pay1]

/-- A tile of the result after its point. -/
theorem out_at (t : Fin cfg0.N) (i : Fin 1024) (j : Fin 512) :
    (outsAt0 m c t : FVec Ideal S1024x512 .f32) (ix2 i j)
      = DX (m ((c : Thread nD τ).loc main_arg0)) (m ((c : Thread nD τ).loc main_arg1)) (m ((c : Thread nD τ).loc main_arg2))
          (ix2 (row t i) (col t j)) := by
  unfold outsAt0
  frame_out
  refine (pay1 _ _ _ _ _ i j).trans ?_
  unfold DX
  rw [sum_halves, add_comm]
  refine congrArg₂ (· + ·) (congrArg (Ideal.ofBits .f32 0x3FB504F3#32 * ·) (block2 m c t i j)) (congrArg₂ (· + ·) ?_ ?_)
  · refine Finset.sum_congr rfl fun l _ => congrArg₂ (· * ·) ?_ ?_
    · exact ((congrArg (iblk m c 0 t : FVec Ideal S2x1024x2048 .bf16) (part3 _ 0 i l 0 i l rfl (by simp) (by simp))).trans
        (block0 m c t 0 i l)).trans (side_eq _ _ _ 0 l (by simp)).symm
    · exact (congrArg (iblk m c 1 t : FVec Ideal S512x4096 .bf16) (part2 _ j l j ⟨l.val, by omega⟩ (by simp) (by simp))).trans
        (block1 m c t j _)
  · refine Finset.sum_congr rfl fun l _ => congrArg₂ (· * ·) ?_ ?_
    · exact ((congrArg (iblk m c 0 t : FVec Ideal S2x1024x2048 .bf16) (part3 _ 0 i l 1 i l rfl (by simp) (by simp))).trans
        (block0 m c t 1 i l)).trans (side_eq _ _ _ 1 l (by simp)).symm
    · exact (congrArg (iblk m c 1 t : FVec Ideal S512x4096 .bf16) (part2 _ j l j ⟨2048 + l.val, by omega⟩ (by simp) (by simp))).trans
        (block1 m c t j _)

/-- The call's result. -/
theorem final : (dats m 0 c).arrAt 3 cfg0.N
    = DX (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i, j, rfl⟩ : ∃ (i : Fin 1024) (j : Fin 512), y = ix2 i j := ⟨y 0, y 1, eq_ix2 y⟩
  exact (out_at m c t i j).trans (congrArg (DX _ _ _) (emb3 t i j)).symm

end kernel

section reference
open Cert.Reference3Ideal Cert.Reference3Ideal.Gen Cert.Reference3Ideal.Read

/-- The two halves side by side. -/
theorem v4_at (d : FVec Ideal S2x4096x2048 .f32) (r j : Fin 4096) : val_main_v4 (F := Ideal) d (ix2 r j) = side d r j := by
  pointwise [val_main_v4, val_main_v1, val_main_v0, val_main_v3, val_main_v2]
  unfold side
  split <;> rfl

/-- The reference's result. -/
theorem ref_eq (w : FVec Ideal S2048x4096 .f32) (d : FVec Ideal S2x4096x2048 .f32) (dr : FVec Ideal S4096x2048 .f32) :
    val_main_v12 (F := Ideal) w d dr = DX w d dr := by
  funext y
  obtain ⟨i, j, rfl⟩ : ∃ (i : Fin 4096) (j : Fin 2048), y = ix2 i j := ⟨y 0, y 1, eq_ix2 y⟩
  pointwise [val_main_v12, val_main_v11, val_main_v10, val_main_v9, val_main_cst_1, v4_at]
  rfl

/-- The reference's run leaves the arguments and the counters as it finds them. -/
theorem frame_ref : Cert.quiescent_Reference3Ideal (hReference3Ideal := Cert.Reference3Ideal.Gen.facts) := fun m g _ =>
  (θ_run _ _ _).mono (fun r h => ⟨fun c => (h c).2, sem_eq_zero_of_no_sems rfl r.2⟩)
    (Cert.Reference3Ideal.Value.run m g)

end reference

/-- The kernel's result is the reference's, whatever the arguments hold. -/
theorem value : Cert.algebraic_Kernel3Ideal_Reference3Ideal (hKernel3Ideal := Cert.Kernel3Ideal.Gen.facts)
    (hReference3Ideal := Cert.Reference3Ideal.Gen.facts) := by
  intro m g m' g' _ hagree
  refine ⟨fun c => DX (m ((c.tc : Thread _ _).loc Cert.Kernel3Ideal.main_arg0)) (m ((c.tc : Thread _ _).loc Cert.Kernel3Ideal.main_arg1))
    (m ((c.tc : Thread _ _).loc Cert.Kernel3Ideal.main_arg2)), ?_, ?_⟩
  · refine (θ_run _ _ _).mono (fun r h c => ?_) (Cert.Kernel3Ideal.Value.run_blocks m g)
    obtain ⟨e0, e⟩ := h c
    exact ⟨e0.trans (final m c), e⟩
  · refine (θ_run _ _ _).mono (fun r h c => ?_) (Cert.Reference3Ideal.Value.run m' g')
    obtain ⟨e0, e⟩ := h c
    obtain ⟨a0, a1, a2⟩ := hagree c
    refine ⟨e0.trans ((Cert.Reference3Ideal.Read.val_main_v12_eq _ _ _).trans ((ref_eq _ _ _).trans ?_)), e⟩
    exact (congrArg₂ (fun a b => DX a b _) a0 a1).trans (congrArg (DX _ _) a2)

end Cert.InputGrad

end
-- ==== Proof.Qg.lean ====
/- The weight gradient of the queries' and gate's projection: each tile of the call is one whole product, and the tiles
   are those of the reference's product. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Halves
public import proofs.«01_k».proof.Defs
public import Idealize.ShloMosaic.Lib.StableHlo.RunRead
public import Idealize.ShloMosaic.Lib.Pipeline.ValueKit
public import Idealize.ShloMosaic.Lib.Quiescent

@[expose] public section

set_option maxRecDepth 16384

noncomputable section

namespace Cert.Qg

open Idealize.ShloMosaic Idealize.ShloMosaic.TcCoe Idealize.SL.Sem
open Cert.Halves

/-- The gradient: over the rows, an input channel times a channel of the two halves laid side by side. -/
def DW (x : FVec Ideal ⟨2, ![4096, 2048]⟩ .f32) (d : FVec Ideal ⟨3, ![2, 4096, 2048]⟩ .f32) : FVec Ideal ⟨2, ![2048, 4096]⟩ .bf16 :=
  fun y => ∑ r : Fin 4096, x (ix2 r ⟨(y 0).val, (y 0).isLt⟩) * side d r ⟨(y 1).val, (y 1).isLt⟩

section kernel
open Cert.Kernel4Ideal Cert.Kernel4Ideal.Gen
open Idealize.ShloMosaic.Pipeline (Dat)

variable (m : (ℓ : Loc nD τ sig) → Buf (Elt Ideal) ℓ) (c : Dev nD)

/-- The input channels in the narrower format. -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp

/-- The gradients' halves in the narrower format. -/
theorem V1 : V m c main_v1 = (truncf (F := Ideal) .bf16 (m ((c : Thread nD τ).loc main_arg1)) bitsLt_bf16_f32 : FVec Ideal S2x4096x2048 .bf16) := by
  simp only [V, List.flatten_cons, List.flatten_nil, List.append_nil]
  after_reads_simp

/-- Which block each window takes at a point. -/
theorem idx : ∀ t : Fin cfg0.N, win0_0.index t = ![0, t.val / 4] ∧ win0_1.index t = ![t.val % 4 / 2, 0, t.val % 2]
    ∧ win0_2.index t = ![t.val / 4, t.val % 4] :=
  (by decide +kernel : ∀ t : Fin grid0.N, _)

/-- A tile's input channel. -/
def inCol (t : Fin cfg0.N) (i : Fin 1024) : Fin 2048 := ⟨t.val / 4 * 1024 + i.val, by have : t.val < 8 := t.isLt; omega⟩
/-- A tile's output channel. -/
def outCol (t : Fin cfg0.N) (j : Fin 1024) : Fin 4096 := ⟨t.val % 4 * 1024 + j.val, by omega⟩

/-- Where a tile of the input channels lies. -/
theorem emb0 (t : Fin cfg0.N) (r : Fin 4096) (i : Fin 1024) : ((cfg0.win 0).blk t).view.emb (ix2 r i) = ix2 r (inCol t i) := by
  unfold inCol
  blk_ext [idx t]

/-- Where a tile of the halves lies. -/
theorem emb1 (t : Fin cfg0.N) (r : Fin 4096) (j : Fin 1024) : ((cfg0.win 1).blk t).view.emb (ix3 0 r j)
    = ix3 (⟨t.val % 4 / 2, by omega⟩ : Fin 2) r ⟨t.val % 2 * 1024 + j.val, by omega⟩ := by
  blk_ext [idx t]

/-- Where a tile of the result lies. -/
theorem emb2 (t : Fin cfg0.N) (i j : Fin 1024) : ((cfg0.win 2).blk t).view.emb (ix2 i j) = ix2 (inCol t i) (outCol t j) := by
  unfold inCol outCol
  blk_ext [idx t]

/-- The input channels that a tile reads. -/
theorem block0 (t : Fin cfg0.N) (r : Fin 4096) (i : Fin 1024) :
    (iblk m c 0 t : FVec Ideal S4096x1024 .bf16) (ix2 r i)
      = (m ((c : Thread nD τ).loc main_arg0) : FVec Ideal S4096x2048 .f32) (ix2 r (inCol t i)) :=
  (congrArg (V m c main_v0 : FVec Ideal S4096x2048 .bf16) (emb0 t r i)).trans (congrFun (V0 m c) _)

/-- The halves' channels that a tile reads. -/
theorem block1 (t : Fin cfg0.N) (r : Fin 4096) (j : Fin 1024) :
    (iblk m c 1 t : FVec Ideal S1x4096x1024 .bf16) (ix3 0 r j)
      = side (m ((c : Thread nD τ).loc main_arg1) : FVec Ideal S2x4096x2048 .f32) r (outCol t j) :=
  ((congrArg (V m c main_v1 : FVec Ideal S2x4096x2048 .bf16) (emb1 t r j)).trans (congrFun (V1 m c) _)).trans
    (side_eq _ _ _ _ _ (by simp only [outCol]; omega)).symm

/-- What a tile leaves is one product over all rows. -/
theorem pay1 (x : FVec Ideal S4096x1024 .bf16) (d : FVec Ideal S1x4096x1024 .bf16) (i j : Fin 1024) :
    k0_pay1 (F := Ideal) x d (ix2 i j) = ∑ r : Fin 4096, x (ix2 r i) * d (ix3 0 r j) := by
  pointwise [k0_pay1]

/-- A tile of the result after its point. -/
theorem out_at (t : Fin cfg0.N) (i j : Fin 1024) :
    (outsAt0 m c t : FVec Ideal S1024x1024 .bf16) (ix2 i j)
      = DW (m ((c : Thread nD τ).loc main_arg0)) (m ((c : Thread nD τ).loc main_arg1)) (ix2 (inCol t i) (outCol t j)) := by
  unfold outsAt0
  frame_out
  refine (pay1 _ _ i j).trans (Finset.sum_congr rfl fun r _ => ?_)
  rw [block0 m c t r i, block1 m c t r j]
  rfl

/-- The call's result. -/
theorem final : (dats m 0 c).arrAt 2 cfg0.N = DW (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i j : Fin 1024), y = ix2 i j := ⟨y 0, y 1, eq_ix2 y⟩
  exact (out_at m c t i j).trans (congrArg (DW _ _) (emb2 t i j)).symm

end kernel

section reference
open Cert.Reference4Ideal Cert.Reference4Ideal.Gen Cert.Reference4Ideal.Read

/-- The two halves side by side. -/
theorem v4_at (d : FVec Ideal S2x4096x2048 .f32) (r j : Fin 4096) : val_main_v4 (F := Ideal) d (ix2 r j) = side d r j := by
  pointwise [val_main_v4, val_main_v1, val_main_v0, val_main_v3, val_main_v2]
  unfold side
  split <;> rfl

/-- The reference's result. -/
theorem ref_eq (x : FVec Ideal S4096x2048 .f32) (d : FVec Ideal S2x4096x2048 .f32) : val_main_v9 (F := Ideal) x d = DW x d := by
  funext y
  obtain ⟨i, j, rfl⟩ : ∃ (i : Fin 2048) (j : Fin 4096), y = ix2 i j := ⟨y 0, y 1, eq_ix2 y⟩
  pointwise [val_main_v9, val_main_v8, val_main_v7, v4_at]
  exact Finset.sum_congr rfl fun r _ => mul_comm _ _

/-- The reference's run leaves the arguments and the counters as it finds them. -/
theorem frame_ref : Cert.quiescent_Reference4Ideal (hReference4Ideal := Cert.Reference4Ideal.Gen.facts) := fun m g _ =>
  (θ_run _ _ _).mono (fun r h => ⟨fun c => (h c).2, sem_eq_zero_of_no_sems rfl r.2⟩)
    (Cert.Reference4Ideal.Value.run m g)

end reference

/-- The kernel's result is the reference's, whatever the arguments hold. -/
theorem value : Cert.algebraic_Kernel4Ideal_Reference4Ideal (hKernel4Ideal := Cert.Kernel4Ideal.Gen.facts)
    (hReference4Ideal := Cert.Reference4Ideal.Gen.facts) := by
  intro m g m' g' _ hagree
  refine ⟨fun c => DW (m ((c.tc : Thread _ _).loc Cert.Kernel4Ideal.main_arg0)) (m ((c.tc : Thread _ _).loc Cert.Kernel4Ideal.main_arg1)), ?_, ?_⟩
  · refine (θ_run _ _ _).mono (fun r h c => ?_) (Cert.Kernel4Ideal.Value.run_blocks m g)
    obtain ⟨e0, e⟩ := h c
    exact ⟨e0.trans (final m c), e⟩
  · refine (θ_run _ _ _).mono (fun r h c => ?_) (Cert.Reference4Ideal.Value.run m' g')
    obtain ⟨e0, e⟩ := h c
    obtain ⟨a0, a1⟩ := hagree c
    exact ⟨e0.trans ((Cert.Reference4Ideal.Read.val_main_v9_eq _ _).trans ((ref_eq _ _).trans (congrArg₂ DW a0 a1))), e⟩

end Cert.Qg

end
-- ==== Proof.InProj0.lean ====
/- The weight gradient of the input projection, its first 1024 rows: each tile of the call is one whole
   product. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Halves
public import proofs.«01_k».proof.Proof.Canon
public import proofs.«01_k».proof.Defs
public import Idealize.ShloMosaic.Lib.StableHlo.RunRead
public import Idealize.ShloMosaic.Lib.Pipeline.ValueKit
public import Idealize.ShloMosaic.Lib.Quiescent

@[expose] public section

set_option maxRecDepth 16384

noncomputable section

namespace Cert.InProj0

open Idealize.ShloMosaic Idealize.ShloMosaic.TcCoe Idealize.SL.Sem
open Cert.Halves

/-- The gradient: over the rows, an input channel times a channel of the two halves laid side by side. -/
def RES (x : FVec Ideal ⟨2, ![4096, 2048]⟩ .f32) (d : FVec Ideal ⟨3, ![2, 4096, 2048]⟩ .f32) : FVec Ideal ⟨2, ![1024, 4096]⟩ .bf16 :=
  fun y => ∑ k : Fin 4096, x (ix2 k ⟨(y 0).val, by have : (y 0).val < 1024 := (y 0).isLt; omega⟩) * side d k ⟨(y 1).val, (y 1).isLt⟩

section kernel
open Cert.Kernel5Ideal Cert.Kernel5Ideal.Gen
open Idealize.ShloMosaic.Pipeline (Dat)

variable (m : (ℓ : Loc nD τ sig) → Buf (Elt Ideal) ℓ) (c : Dev nD)

/-- The first operand in the narrower format. -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp

/-- The second operand in the narrower format. -/
theorem V1 : V m c main_v1 = (truncf (F := Ideal) .bf16 (m ((c : Thread nD τ).loc main_arg1)) bitsLt_bf16_f32 : FVec Ideal S2x4096x2048 .bf16) := by
  simp only [V, List.flatten_cons, List.flatten_nil, List.append_nil]
  after_reads_simp

/-- Which block each window takes at a point. -/
theorem idx : ∀ t : Fin cfg0.N, win0_0.index t = ![0, 0] ∧ win0_1.index t = ![t.val / 2, 0, t.val % 2] ∧ win0_2.index t = ![0, t.val] :=
  (by decide +kernel : ∀ t : Fin grid0.N, _)

/-- The row of the result that a tile's row is. -/
def outRow (t : Fin cfg0.N) (i : Fin 1024) : Fin 1024 := ⟨i.val, by have : t.val < 4 := t.isLt; omega⟩
/-- The column of the result that a tile's column is. -/
def outCol (t : Fin cfg0.N) (j : Fin 1024) : Fin 4096 := ⟨t.val * 1024 + j.val, by have : t.val < 4 := t.isLt; omega⟩

/-- Where a tile of the first operand lies. -/
theorem emb0 (t : Fin cfg0.N) (r : Fin 4096) (i : Fin 1024) : ((cfg0.win 0).blk t).view.emb (ix2 r i) = ix2 r (⟨i.val, by omega⟩ : Fin 2048) := by
  try unfold outRow
  blk_ext [idx t]
/-- Where a tile of the second operand lies. -/
theorem emb1 (t : Fin cfg0.N) (r : Fin 4096) (j : Fin 1024) : ((cfg0.win 1).blk t).view.emb (ix3 0 r j) = ix3 (⟨t.val / 2, by have : t.val < 4 := t.isLt; omega⟩ : Fin 2) r (⟨t.val % 2 * 1024 + j.val, by omega⟩ : Fin 2048) := by
  try unfold outCol
  blk_ext [idx t]
/-- Where a tile of the result lies. -/
theorem emb2 (t : Fin cfg0.N) (i : Fin 1024) (j : Fin 1024) : ((cfg0.win 2).blk t).view.emb (ix2 i j) = ix2 (outRow t i) (outCol t j) := by
  unfold outRow outCol
  blk_ext [idx t]

/-- The entries of the first operand that a tile reads. -/
theorem block0 (t : Fin cfg0.N) (r : Fin 4096) (i : Fin 1024) :
    (iblk m c 0 t : FVec Ideal S4096x1024 .bf16) (ix2 r i)
      = (m ((c : Thread nD τ).loc main_arg0) : FVec Ideal S4096x2048 .f32) (ix2 r (⟨i.val, by omega⟩ : Fin 2048)) :=
  (congrArg (V m c main_v0 : FVec Ideal S4096x2048 .bf16) (emb0 t r i)).trans (congrFun (V0 m c) _)
/-- The entries of the second operand that a tile reads. -/
theorem block1 (t : Fin cfg0.N) (r : Fin 4096) (j : Fin 1024) :
    (iblk m c 1 t : FVec Ideal S1x4096x1024 .bf16) (ix3 0 r j)
      = (m ((c : Thread nD τ).loc main_arg1) : FVec Ideal S2x4096x2048 .f32) (ix3 (⟨t.val / 2, by have : t.val < 4 := t.isLt; omega⟩ : Fin 2) r (⟨t.val % 2 * 1024 + j.val, by omega⟩ : Fin 2048)) :=
  (congrArg (V m c main_v1 : FVec Ideal S2x4096x2048 .bf16) (emb1 t r j)).trans (congrFun (V1 m c) _)

/-- What a tile leaves is one whole product. -/
theorem pay1 (x : FVec Ideal S4096x1024 .bf16) (d : FVec Ideal S1x4096x1024 .bf16) (i : Fin 1024) (j : Fin 1024) :
    k0_pay1 (F := Ideal) x d (ix2 i j) = ∑ k : Fin 4096, x (ix2 k i) * d (ix3 0 k j) := by
  pointwise [k0_pay1]

/-- A tile's product is the result's on its rows and columns. -/
theorem tile (t : Fin cfg0.N) (i : Fin 1024) (j : Fin 1024) :
    k0_pay1 (F := Ideal) (iblk m c 0 t) (iblk m c 1 t) (ix2 i j)
      = RES (m ((c : Thread nD τ).loc main_arg0)) (m ((c : Thread nD τ).loc main_arg1)) (ix2 (outRow t i) (outCol t j)) := by
  refine (pay1 _ _ i j).trans (Finset.sum_congr rfl fun k _ => congrArg₂ (· * ·) ((block0 m c t k i).trans ?_) ((block1 m c t k j).trans ?_))
  · rfl
  · exact (side_eq (m ((c : Thread nD τ).loc main_arg1)) k (outCol t j) _ _ (by simp only [outCol]; omega)).symm

/-- The call's result. -/
theorem final : (dats m 0 c).arrAt 2 cfg0.N = RES (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  refine Eq.trans ?_ ((tile m c t i j).trans (congrArg (RES _ _) (emb2 t i j)).symm)
  unfold outsAt0
  frame_out

end kernel

section reference
open Cert.Reference5Ideal Cert.Reference5Ideal.Gen Cert.Reference5Ideal.Read

/-- The two halves side by side. -/
theorem v4_at (d : FVec Ideal S2x4096x2048 .f32) (r j : Fin 4096) : val_main_v4 (F := Ideal) d (ix2 r j) = side d r j := by
  pointwise [val_main_v4, val_main_v1, val_main_v0, val_main_v3, val_main_v2]
  unfold side
  split <;> rfl

/-- The reference's result. -/
theorem ref_eq (x : FVec Ideal S4096x2048 .f32) (d : FVec Ideal S2x4096x2048 .f32) : val_main_v10 (F := Ideal) x d = RES x d := by
  funext y
  obtain ⟨i, j, rfl⟩ : ∃ (i : Fin 1024) (j : Fin 4096), y = ix2 i j := ⟨y 0, y 1, eq_ix2 y⟩
  pointwise [val_main_v10, val_main_v9, val_main_v8, val_main_v7, v4_at]
  exact Finset.sum_congr rfl fun r _ => mul_comm _ _

/-- The reference's run leaves the arguments and the counters as it finds them. -/
theorem frame_ref : Cert.quiescent_Reference5Ideal (hReference5Ideal := Cert.Reference5Ideal.Gen.facts) := fun m g _ =>
  (θ_run _ _ _).mono (fun r h => ⟨fun c => (h c).2, sem_eq_zero_of_no_sems rfl r.2⟩)
    (Cert.Reference5Ideal.Value.run m g)

end reference

/-- The kernel's result is the reference's, whatever the arguments hold. -/
theorem value : Cert.algebraic_Kernel5Ideal_Reference5Ideal (hKernel5Ideal := Cert.Kernel5Ideal.Gen.facts)
    (hReference5Ideal := Cert.Reference5Ideal.Gen.facts) := by
  intro m g m' g' _ hagree
  refine ⟨fun c => RES (m ((c.tc : Thread _ _).loc Cert.Kernel5Ideal.main_arg0)) (m ((c.tc : Thread _ _).loc Cert.Kernel5Ideal.main_arg1)), ?_, ?_⟩
  · refine (θ_run _ _ _).mono (fun r h c => ?_) (Cert.Kernel5Ideal.Value.run_blocks m g)
    obtain ⟨e0, e⟩ := h c
    exact ⟨e0.trans (final m c), e⟩
  · refine (θ_run _ _ _).mono (fun r h c => ?_) (Cert.Reference5Ideal.Value.run m' g')
    obtain ⟨e0, e⟩ := h c
    obtain ⟨a0, a1, _⟩ := hagree c
    exact ⟨e0.trans ((Cert.Reference5Ideal.Read.val_main_v10_eq _ _).trans ((ref_eq _ _).trans (congrArg₂ RES a0 a1))), e⟩

end Cert.InProj0

end
-- ==== Proof.InProj1.lean ====
/- The weight gradient of the input projection, its last 1024 rows: each tile of the call is one whole
   product. -/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Halves
public import proofs.«01_k».proof.Proof.Canon
public import proofs.«01_k».proof.Defs
public import Idealize.ShloMosaic.Lib.StableHlo.RunRead
public import Idealize.ShloMosaic.Lib.Pipeline.ValueKit
public import Idealize.ShloMosaic.Lib.Quiescent

@[expose] public section

set_option maxRecDepth 16384

noncomputable section

namespace Cert.InProj1

open Idealize.ShloMosaic Idealize.ShloMosaic.TcCoe Idealize.SL.Sem
open Cert.Halves

/-- The gradient: over the rows, an input channel times a channel of the two halves laid side by side. -/
def RES (x : FVec Ideal ⟨2, ![4096, 2048]⟩ .f32) (d : FVec Ideal ⟨3, ![2, 4096, 2048]⟩ .f32) : FVec Ideal ⟨2, ![1024, 4096]⟩ .bf16 :=
  fun y => ∑ k : Fin 4096, x (ix2 k ⟨1024 + (y 0).val, by have : (y 0).val < 1024 := (y 0).isLt; omega⟩) * side d k ⟨(y 1).val, (y 1).isLt⟩

section kernel
open Cert.Kernel6Ideal Cert.Kernel6Ideal.Gen
open Idealize.ShloMosaic.Pipeline (Dat)

variable (m : (ℓ : Loc nD τ sig) → Buf (Elt Ideal) ℓ) (c : Dev nD)

/-- The first operand in the narrower format. -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp

/-- The second operand in the narrower format. -/
theorem V1 : V m c main_v1 = (truncf (F := Ideal) .bf16 (m ((c : Thread nD τ).loc main_arg1)) bitsLt_bf16_f32 : FVec Ideal S2x4096x2048 .bf16) := by
  simp only [V, List.flatten_cons, List.flatten_nil, List.append_nil]
  after_reads_simp

/-- Which block each window takes at a point. -/
theorem idx : ∀ t : Fin cfg0.N, win0_0.index t = ![0, 1] ∧ win0_1.index t = ![t.val / 2, 0, t.val % 2] ∧ win0_2.index t = ![0, t.val] :=
  (by decide +kernel : ∀ t : Fin grid0.N, _)

/-- The row of the result that a tile's row is. -/
def outRow (t : Fin cfg0.N) (i : Fin 1024) : Fin 1024 := ⟨i.val, by have : t.val < 4 := t.isLt; omega⟩
/-- The column of the result that a tile's column is. -/
def outCol (t : Fin cfg0.N) (j : Fin 1024) : Fin 4096 := ⟨t.val * 1024 + j.val, by have : t.val < 4 := t.isLt; omega⟩

/-- Where a tile of the first operand lies. -/
theorem emb0 (t : Fin cfg0.N) (r : Fin 4096) (i : Fin 1024) : ((cfg0.win 0).blk t).view.emb (ix2 r i) = ix2 r (⟨1024 + i.val, by omega⟩ : Fin 2048) := by
  try unfold outRow
  blk_ext [idx t]
/-- Where a tile of the second operand lies. -/
theorem emb1 (t : Fin cfg0.N) (r : Fin 4096) (j : Fin 1024) : ((cfg0.win 1).blk t).view.emb (ix3 0 r j) = ix3 (⟨t.val / 2, by have : t.val < 4 := t.isLt; omega⟩ : Fin 2) r (⟨t.val % 2 * 1024 + j.val, by omega⟩ : Fin 2048) := by
  try unfold outCol
  blk_ext [idx t]
/-- Where a tile of the result lies. -/
theorem emb2 (t : Fin cfg0.N) (i : Fin 1024) (j : Fin 1024) : ((cfg0.win 2).blk t).view.emb (ix2 i j) = ix2 (outRow t i) (outCol t j) := by
  unfold outRow outCol
  blk_ext [idx t]

/-- The entries of the first operand that a tile reads. -/
theorem block0 (t : Fin cfg0.N) (r : Fin 4096) (i : Fin 1024) :
    (iblk m c 0 t : FVec Ideal S4096x1024 .bf16) (ix2 r i)
      = (m ((c : Thread nD τ).loc main_arg0) : FVec Ideal S4096x2048 .f32) (ix2 r (⟨1024 + i.val, by omega⟩ : Fin 2048)) :=
  (congrArg (V m c main_v0 : FVec Ideal S4096x2048 .bf16) (emb0 t r i)).trans (congrFun (V0 m c) _)
/-- The entries of the second operand that a tile reads. -/
theorem block1 (t : Fin cfg0.N) (r : Fin 4096) (j : Fin 1024) :
    (iblk m c 1 t : FVec Ideal S1x4096x1024 .bf16) (ix3 0 r j)
      = (m ((c : Thread nD τ).loc main_arg1) : FVec Ideal S2x4096x2048 .f32) (ix3 (⟨t.val / 2, by have : t.val < 4 := t.isLt; omega⟩ : Fin 2) r (⟨t.val % 2 * 1024 + j.val, by omega⟩ : Fin 2048)) :=
  (congrArg (V m c main_v1 : FVec Ideal S2x4096x2048 .bf16) (emb1 t r j)).trans (congrFun (V1 m c) _)

/-- What a tile leaves is one whole product. -/
theorem pay1 (x : FVec Ideal S4096x1024 .bf16) (d : FVec Ideal S1x4096x1024 .bf16) (i : Fin 1024) (j : Fin 1024) :
    k0_pay1 (F := Ideal) x d (ix2 i j) = ∑ k : Fin 4096, x (ix2 k i) * d (ix3 0 k j) := by
  pointwise [k0_pay1]

/-- A tile's product is the result's on its rows and columns. -/
theorem tile (t : Fin cfg0.N) (i : Fin 1024) (j : Fin 1024) :
    k0_pay1 (F := Ideal) (iblk m c 0 t) (iblk m c 1 t) (ix2 i j)
      = RES (m ((c : Thread nD τ).loc main_arg0)) (m ((c : Thread nD τ).loc main_arg1)) (ix2 (outRow t i) (outCol t j)) := by
  refine (pay1 _ _ i j).trans (Finset.sum_congr rfl fun k _ => congrArg₂ (· * ·) ((block0 m c t k i).trans ?_) ((block1 m c t k j).trans ?_))
  · rfl
  · exact (side_eq (m ((c : Thread nD τ).loc main_arg1)) k (outCol t j) _ _ (by simp only [outCol]; omega)).symm

/-- The call's result. -/
theorem final : (dats m 0 c).arrAt 2 cfg0.N = RES (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  refine Eq.trans ?_ ((tile m c t i j).trans (congrArg (RES _ _) (emb2 t i j)).symm)
  unfold outsAt0
  frame_out

end kernel

section reference
open Cert.Reference6Ideal Cert.Reference6Ideal.Gen Cert.Reference6Ideal.Read

/-- The two halves side by side. -/
theorem v4_at (d : FVec Ideal S2x4096x2048 .f32) (r j : Fin 4096) : val_main_v4 (F := Ideal) d (ix2 r j) = side d r j := by
  pointwise [val_main_v4, val_main_v1, val_main_v0, val_main_v3, val_main_v2]
  unfold side
  split <;> rfl

/-- The reference's result. -/
theorem ref_eq (x : FVec Ideal S4096x2048 .f32) (d : FVec Ideal S2x4096x2048 .f32) : val_main_v10 (F := Ideal) x d = RES x d := by
  funext y
  obtain ⟨i, j, rfl⟩ : ∃ (i : Fin 1024) (j : Fin 4096), y = ix2 i j := ⟨y 0, y 1, eq_ix2 y⟩
  pointwise [val_main_v10, val_main_v9, val_main_v8, val_main_v7, v4_at]
  exact Finset.sum_congr rfl fun r _ => mul_comm _ _

/-- The reference's run leaves the arguments and the counters as it finds them. -/
theorem frame_ref : Cert.quiescent_Reference6Ideal (hReference6Ideal := Cert.Reference6Ideal.Gen.facts) := fun m g _ =>
  (θ_run _ _ _).mono (fun r h => ⟨fun c => (h c).2, sem_eq_zero_of_no_sems rfl r.2⟩)
    (Cert.Reference6Ideal.Value.run m g)

end reference

/-- The kernel's result is the reference's, whatever the arguments hold. -/
theorem value : Cert.algebraic_Kernel6Ideal_Reference6Ideal (hKernel6Ideal := Cert.Kernel6Ideal.Gen.facts)
    (hReference6Ideal := Cert.Reference6Ideal.Gen.facts) := by
  intro m g m' g' _ hagree
  refine ⟨fun c => RES (m ((c.tc : Thread _ _).loc Cert.Kernel6Ideal.main_arg0)) (m ((c.tc : Thread _ _).loc Cert.Kernel6Ideal.main_arg1)), ?_, ?_⟩
  · refine (θ_run _ _ _).mono (fun r h c => ?_) (Cert.Kernel6Ideal.Value.run_blocks m g)
    obtain ⟨e0, e⟩ := h c
    exact ⟨e0.trans (final m c), e⟩
  · refine (θ_run _ _ _).mono (fun r h c => ?_) (Cert.Reference6Ideal.Value.run m' g')
    obtain ⟨e0, e⟩ := h c
    obtain ⟨a0, a1, _⟩ := hagree c
    exact ⟨e0.trans ((Cert.Reference6Ideal.Read.val_main_v10_eq _ _).trans ((ref_eq _ _).trans (congrArg₂ RES a0 a1))), e⟩

end Cert.InProj1

end
-- ==== Proof.OutProjA.lean ====
/- The weight gradient of the pooling mixer's output projection: each tile of the call is one whole product. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Halves
public import proofs.«01_k».proof.Proof.Canon
public import proofs.«01_k».proof.Defs
public import Idealize.ShloMosaic.Lib.StableHlo.RunRead
public import Idealize.ShloMosaic.Lib.Pipeline.ValueKit
public import Idealize.ShloMosaic.Lib.Quiescent

@[expose] public section

set_option maxRecDepth 16384

noncomputable section

namespace Cert.OutProjA

open Idealize.ShloMosaic Idealize.ShloMosaic.TcCoe Idealize.SL.Sem
open Cert.Halves

/-- The gradient: over the rows, an input channel times a channel of the output's gradient. -/
def RES (x : FVec Ideal ⟨2, ![4096, 2048]⟩ .f32) (d : FVec Ideal ⟨2, ![4096, 2048]⟩ .f32) : FVec Ideal ⟨2, ![2048, 2048]⟩ .bf16 :=
  fun y => ∑ k : Fin 4096, x (ix2 k ⟨(y 0).val, (y 0).isLt⟩) * d (ix2 k ⟨(y 1).val, (y 1).isLt⟩)

section kernel
open Cert.Kernel7Ideal Cert.Kernel7Ideal.Gen
open Idealize.ShloMosaic.Pipeline (Dat)

variable (m : (ℓ : Loc nD τ sig) → Buf (Elt Ideal) ℓ) (c : Dev nD)

/-- The first operand in the narrower format. -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp

/-- The second operand in the narrower format. -/
theorem V1 : V m c main_v1 = (truncf (F := Ideal) .bf16 (m ((c : Thread nD τ).loc main_arg1)) bitsLt_bf16_f32 : FVec Ideal S4096x2048 .bf16) := by
  simp only [V, List.flatten_cons, List.flatten_nil, List.append_nil]
  after_reads_simp

/-- Which block each window takes at a point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The row of the result that a tile's row is. -/
def outRow (t : Fin cfg0.N) (i : Fin 1024) : Fin 2048 := ⟨t.val / 2 * 1024 + i.val, by have : t.val < 4 := t.isLt; omega⟩
/-- The column of the result that a tile's column is. -/
def outCol (t : Fin cfg0.N) (j : Fin 1024) : Fin 2048 := ⟨t.val % 2 * 1024 + j.val, by have : t.val < 4 := t.isLt; omega⟩

/-- Where a tile of the first operand lies. -/
theorem emb0 (t : Fin cfg0.N) (r : Fin 4096) (i : Fin 1024) : ((cfg0.win 0).blk t).view.emb (ix2 r i) = ix2 r (outRow t i) := by
  try unfold outRow
  blk_ext [idx t]
/-- Where a tile of the second operand lies. -/
theorem emb1 (t : Fin cfg0.N) (r : Fin 4096) (j : Fin 1024) : ((cfg0.win 1).blk t).view.emb (ix2 r j) = ix2 r (outCol t j) := by
  try unfold outCol
  blk_ext [idx t]
/-- Where a tile of the result lies. -/
theorem emb2 (t : Fin cfg0.N) (i : Fin 1024) (j : Fin 1024) : ((cfg0.win 2).blk t).view.emb (ix2 i j) = ix2 (outRow t i) (outCol t j) := by
  unfold outRow outCol
  blk_ext [idx t]

/-- The entries of the first operand that a tile reads. -/
theorem block0 (t : Fin cfg0.N) (r : Fin 4096) (i : Fin 1024) :
    (iblk m c 0 t : FVec Ideal S4096x1024 .bf16) (ix2 r i)
      = (m ((c : Thread nD τ).loc main_arg0) : FVec Ideal S4096x2048 .f32) (ix2 r (outRow t i)) :=
  (congrArg (V m c main_v0 : FVec Ideal S4096x2048 .bf16) (emb0 t r i)).trans (congrFun (V0 m c) _)
/-- The entries of the second operand that a tile reads. -/
theorem block1 (t : Fin cfg0.N) (r : Fin 4096) (j : Fin 1024) :
    (iblk m c 1 t : FVec Ideal S4096x1024 .bf16) (ix2 r j)
      = (m ((c : Thread nD τ).loc main_arg1) : FVec Ideal S4096x2048 .f32) (ix2 r (outCol t j)) :=
  (congrArg (V m c main_v1 : FVec Ideal S4096x2048 .bf16) (emb1 t r j)).trans (congrFun (V1 m c) _)

/-- What a tile leaves is one whole product. -/
theorem pay1 (x : FVec Ideal S4096x1024 .bf16) (d : FVec Ideal S4096x1024 .bf16) (i : Fin 1024) (j : Fin 1024) :
    k0_pay1 (F := Ideal) x d (ix2 i j) = ∑ k : Fin 4096, x (ix2 k i) * d (ix2 k j) := by
  pointwise [k0_pay1]

/-- A tile's product is the result's on its rows and columns. -/
theorem tile (t : Fin cfg0.N) (i : Fin 1024) (j : Fin 1024) :
    k0_pay1 (F := Ideal) (iblk m c 0 t) (iblk m c 1 t) (ix2 i j)
      = RES (m ((c : Thread nD τ).loc main_arg0)) (m ((c : Thread nD τ).loc main_arg1)) (ix2 (outRow t i) (outCol t j)) := by
  refine (pay1 _ _ i j).trans (Finset.sum_congr rfl fun k _ => congrArg₂ (· * ·) ((block0 m c t k i).trans ?_) ((block1 m c t k j).trans ?_))
  · rfl
  · rfl

/-- The call's result. -/
theorem final : (dats m 0 c).arrAt 2 cfg0.N = RES (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  refine Eq.trans ?_ ((tile m c t i j).trans (congrArg (RES _ _) (emb2 t i j)).symm)
  unfold outsAt0
  frame_out

end kernel

section reference
open Cert.Reference7Ideal Cert.Reference7Ideal.Gen Cert.Reference7Ideal.Read

/-- The reference's result. -/
theorem ref_eq (x : FVec Ideal S4096x2048 .f32) (d : FVec Ideal S4096x2048 .f32) : val_main_v4 (F := Ideal) x d = RES x d := by
  funext y
  obtain ⟨i, j, rfl⟩ : ∃ (i : Fin 2048) (j : Fin 2048), y = ix2 i j := ⟨y 0, y 1, eq_ix2 y⟩
  pointwise [val_main_v4, val_main_v3, val_main_v2]
  exact Finset.sum_congr rfl fun r _ => mul_comm _ _

/-- The reference's run leaves the arguments and the counters as it finds them. -/
theorem frame_ref : Cert.quiescent_Reference7Ideal (hReference7Ideal := Cert.Reference7Ideal.Gen.facts) := fun m g _ =>
  (θ_run _ _ _).mono (fun r h => ⟨fun c => (h c).2, sem_eq_zero_of_no_sems rfl r.2⟩)
    (Cert.Reference7Ideal.Value.run m g)

end reference

/-- The kernel's result is the reference's, whatever the arguments hold. -/
theorem value : Cert.algebraic_Kernel7Ideal_Reference7Ideal (hKernel7Ideal := Cert.Kernel7Ideal.Gen.facts)
    (hReference7Ideal := Cert.Reference7Ideal.Gen.facts) := by
  intro m g m' g' _ hagree
  refine ⟨fun c => RES (m ((c.tc : Thread _ _).loc Cert.Kernel7Ideal.main_arg0)) (m ((c.tc : Thread _ _).loc Cert.Kernel7Ideal.main_arg1)), ?_, ?_⟩
  · refine (θ_run _ _ _).mono (fun r h c => ?_) (Cert.Kernel7Ideal.Value.run_blocks m g)
    obtain ⟨e0, e⟩ := h c
    exact ⟨e0.trans (final m c), e⟩
  · refine (θ_run _ _ _).mono (fun r h c => ?_) (Cert.Reference7Ideal.Value.run m' g')
    obtain ⟨e0, e⟩ := h c
    obtain ⟨a0, a1⟩ := hagree c
    exact ⟨e0.trans ((Cert.Reference7Ideal.Read.val_main_v4_eq _ _).trans ((ref_eq _ _).trans (congrArg₂ RES a0 a1))), e⟩

end Cert.OutProjA

end
-- ==== Proof.OutProjB.lean ====
/- The weight gradient of the attention mixer's output projection: each tile of the call is one whole product. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference8Ideal
public import proofs.«01_k».proof.Proof.Halves
public import proofs.«01_k».proof.Proof.Canon
public import proofs.«01_k».proof.Defs
public import Idealize.ShloMosaic.Lib.StableHlo.RunRead
public import Idealize.ShloMosaic.Lib.Pipeline.ValueKit
public import Idealize.ShloMosaic.Lib.Quiescent

@[expose] public section

set_option maxRecDepth 16384

noncomputable section

namespace Cert.OutProjB

open Idealize.ShloMosaic Idealize.ShloMosaic.TcCoe Idealize.SL.Sem
open Cert.Halves

/-- The gradient: over the rows, an input channel times a channel of the output's gradient. -/
def RES (x : FVec Ideal ⟨2, ![4096, 2048]⟩ .f32) (d : FVec Ideal ⟨2, ![4096, 2048]⟩ .f32) : FVec Ideal ⟨2, ![2048, 2048]⟩ .bf16 :=
  fun y => ∑ k : Fin 4096, x (ix2 k ⟨(y 0).val, (y 0).isLt⟩) * d (ix2 k ⟨(y 1).val, (y 1).isLt⟩)

section kernel
open Cert.Kernel8Ideal Cert.Kernel8Ideal.Gen
open Idealize.ShloMosaic.Pipeline (Dat)

variable (m : (ℓ : Loc nD τ sig) → Buf (Elt Ideal) ℓ) (c : Dev nD)

/-- The first operand in the narrower format. -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp

/-- The second operand in the narrower format. -/
theorem V1 : V m c main_v1 = (truncf (F := Ideal) .bf16 (m ((c : Thread nD τ).loc main_arg1)) bitsLt_bf16_f32 : FVec Ideal S4096x2048 .bf16) := by
  simp only [V, List.flatten_cons, List.flatten_nil, List.append_nil]
  after_reads_simp

/-- Which block each window takes at a point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The row of the result that a tile's row is. -/
def outRow (t : Fin cfg0.N) (i : Fin 1024) : Fin 2048 := ⟨t.val / 2 * 1024 + i.val, by have : t.val < 4 := t.isLt; omega⟩
/-- The column of the result that a tile's column is. -/
def outCol (t : Fin cfg0.N) (j : Fin 1024) : Fin 2048 := ⟨t.val % 2 * 1024 + j.val, by have : t.val < 4 := t.isLt; omega⟩

/-- Where a tile of the first operand lies. -/
theorem emb0 (t : Fin cfg0.N) (r : Fin 4096) (i : Fin 1024) : ((cfg0.win 0).blk t).view.emb (ix2 r i) = ix2 r (outRow t i) := by
  try unfold outRow
  blk_ext [idx t]
/-- Where a tile of the second operand lies. -/
theorem emb1 (t : Fin cfg0.N) (r : Fin 4096) (j : Fin 1024) : ((cfg0.win 1).blk t).view.emb (ix2 r j) = ix2 r (outCol t j) := by
  try unfold outCol
  blk_ext [idx t]
/-- Where a tile of the result lies. -/
theorem emb2 (t : Fin cfg0.N) (i : Fin 1024) (j : Fin 1024) : ((cfg0.win 2).blk t).view.emb (ix2 i j) = ix2 (outRow t i) (outCol t j) := by
  unfold outRow outCol
  blk_ext [idx t]

/-- The entries of the first operand that a tile reads. -/
theorem block0 (t : Fin cfg0.N) (r : Fin 4096) (i : Fin 1024) :
    (iblk m c 0 t : FVec Ideal S4096x1024 .bf16) (ix2 r i)
      = (m ((c : Thread nD τ).loc main_arg0) : FVec Ideal S4096x2048 .f32) (ix2 r (outRow t i)) :=
  (congrArg (V m c main_v0 : FVec Ideal S4096x2048 .bf16) (emb0 t r i)).trans (congrFun (V0 m c) _)
/-- The entries of the second operand that a tile reads. -/
theorem block1 (t : Fin cfg0.N) (r : Fin 4096) (j : Fin 1024) :
    (iblk m c 1 t : FVec Ideal S4096x1024 .bf16) (ix2 r j)
      = (m ((c : Thread nD τ).loc main_arg1) : FVec Ideal S4096x2048 .f32) (ix2 r (outCol t j)) :=
  (congrArg (V m c main_v1 : FVec Ideal S4096x2048 .bf16) (emb1 t r j)).trans (congrFun (V1 m c) _)

/-- What a tile leaves is one whole product. -/
theorem pay1 (x : FVec Ideal S4096x1024 .bf16) (d : FVec Ideal S4096x1024 .bf16) (i : Fin 1024) (j : Fin 1024) :
    k0_pay1 (F := Ideal) x d (ix2 i j) = ∑ k : Fin 4096, x (ix2 k i) * d (ix2 k j) := by
  pointwise [k0_pay1]

/-- A tile's product is the result's on its rows and columns. -/
theorem tile (t : Fin cfg0.N) (i : Fin 1024) (j : Fin 1024) :
    k0_pay1 (F := Ideal) (iblk m c 0 t) (iblk m c 1 t) (ix2 i j)
      = RES (m ((c : Thread nD τ).loc main_arg0)) (m ((c : Thread nD τ).loc main_arg1)) (ix2 (outRow t i) (outCol t j)) := by
  refine (pay1 _ _ i j).trans (Finset.sum_congr rfl fun k _ => congrArg₂ (· * ·) ((block0 m c t k i).trans ?_) ((block1 m c t k j).trans ?_))
  · rfl
  · rfl

/-- The call's result. -/
theorem final : (dats m 0 c).arrAt 2 cfg0.N = RES (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  refine Eq.trans ?_ ((tile m c t i j).trans (congrArg (RES _ _) (emb2 t i j)).symm)
  unfold out0_2
  frame_out

end kernel

section reference
open Cert.Reference8Ideal Cert.Reference8Ideal.Gen Cert.Reference8Ideal.Read

/-- The reference's result. -/
theorem ref_eq (x : FVec Ideal S4096x2048 .f32) (d : FVec Ideal S4096x2048 .f32) : val_main_v4 (F := Ideal) x d = RES x d := by
  funext y
  obtain ⟨i, j, rfl⟩ : ∃ (i : Fin 2048) (j : Fin 2048), y = ix2 i j := ⟨y 0, y 1, eq_ix2 y⟩
  pointwise [val_main_v4, val_main_v3, val_main_v2]
  exact Finset.sum_congr rfl fun r _ => mul_comm _ _

/-- The reference's run leaves the arguments and the counters as it finds them. -/
theorem frame_ref : Cert.quiescent_Reference8Ideal (hReference8Ideal := Cert.Reference8Ideal.Gen.facts) := fun m g _ =>
  (θ_run _ _ _).mono (fun r h => ⟨fun c => (h c).2, sem_eq_zero_of_no_sems rfl r.2⟩)
    (Cert.Reference8Ideal.Value.run m g)

end reference

/-- The kernel's result is the reference's, whatever the arguments hold. -/
theorem value : Cert.algebraic_Kernel8Ideal_Reference8Ideal (hKernel8Ideal := Cert.Kernel8Ideal.Gen.facts)
    (hReference8Ideal := Cert.Reference8Ideal.Gen.facts) := by
  intro m g m' g' _ hagree
  refine ⟨fun c => RES (m ((c.tc : Thread _ _).loc Cert.Kernel8Ideal.main_arg0)) (m ((c.tc : Thread _ _).loc Cert.Kernel8Ideal.main_arg1)), ?_, ?_⟩
  · refine (θ_run _ _ _).mono (fun r h c => ?_) (Cert.Kernel8Ideal.Value.run_blocks m g)
    obtain ⟨e0, e⟩ := h c
    exact ⟨e0.trans (final m c), e⟩
  · refine (θ_run _ _ _).mono (fun r h c => ?_) (Cert.Reference8Ideal.Value.run m' g')
    obtain ⟨e0, e⟩ := h c
    obtain ⟨a0, a1⟩ := hagree c
    exact ⟨e0.trans ((Cert.Reference8Ideal.Read.val_main_v4_eq _ _).trans ((ref_eq _ _).trans (congrArg₂ RES a0 a1))), e⟩

end Cert.OutProjB

end
-- ==== Proof.OutProjDx.lean ====
/- The gradient of the gated attention: each tile of the call is one whole product with the transposed output map. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference9Ideal
public import proofs.«01_k».proof.Proof.Halves
public import proofs.«01_k».proof.Proof.Canon
public import proofs.«01_k».proof.Defs
public import Idealize.ShloMosaic.Lib.StableHlo.RunRead
public import Idealize.ShloMosaic.Lib.Pipeline.ValueKit
public import Idealize.ShloMosaic.Lib.Quiescent

@[expose] public section

set_option maxRecDepth 16384

noncomputable section

namespace Cert.OutProjDx

open Idealize.ShloMosaic Idealize.ShloMosaic.TcCoe Idealize.SL.Sem
open Cert.Halves

/-- The gradient: over the channels, the output's gradient times the map's row. -/
def RES (x : FVec Ideal ⟨2, ![4096, 2048]⟩ .f32) (d : FVec Ideal ⟨2, ![2048, 2048]⟩ .f32) : FVec Ideal ⟨2, ![4096, 2048]⟩ .f32 :=
  fun y => ∑ k : Fin 2048, x (ix2 ⟨(y 0).val, (y 0).isLt⟩ k) * d (ix2 ⟨(y 1).val, (y 1).isLt⟩ k)

section kernel
open Cert.Kernel9Ideal Cert.Kernel9Ideal.Gen
open Idealize.ShloMosaic.Pipeline (Dat)

variable (m : (ℓ : Loc nD τ sig) → Buf (Elt Ideal) ℓ) (c : Dev nD)

/-- The first operand in the narrower format. -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp

/-- The second operand in the narrower format. -/
theorem V1 : V m c main_v1 = (truncf (F := Ideal) .bf16 (m ((c : Thread nD τ).loc main_arg1)) bitsLt_bf16_f32 : FVec Ideal S2048x2048 .bf16) := by
  simp only [V, List.flatten_cons, List.flatten_nil, List.append_nil]
  after_reads_simp

/-- Which block each window takes at a point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The row of the result that a tile's row is. -/
def outRow (t : Fin cfg0.N) (i : Fin 2048) : Fin 4096 := ⟨t.val / 2 * 2048 + i.val, by have : t.val < 4 := t.isLt; omega⟩
/-- The column of the result that a tile's column is. -/
def outCol (t : Fin cfg0.N) (j : Fin 1024) : Fin 2048 := ⟨t.val % 2 * 1024 + j.val, by have : t.val < 4 := t.isLt; omega⟩

/-- Where a tile of the first operand lies. -/
theorem emb0 (t : Fin cfg0.N) (i k : Fin 2048) : ((cfg0.win 0).blk t).view.emb (ix2 i k) = ix2 (outRow t i) k := by
  try unfold outRow
  blk_ext [idx t]
/-- Where a tile of the second operand lies. -/
theorem emb1 (t : Fin cfg0.N) (j : Fin 1024) (k : Fin 2048) : ((cfg0.win 1).blk t).view.emb (ix2 j k) = ix2 (outCol t j) k := by
  try unfold outCol
  blk_ext [idx t]
/-- Where a tile of the result lies. -/
theorem emb2 (t : Fin cfg0.N) (i : Fin 2048) (j : Fin 1024) : ((cfg0.win 2).blk t).view.emb (ix2 i j) = ix2 (outRow t i) (outCol t j) := by
  unfold outRow outCol
  blk_ext [idx t]

/-- The entries of the first operand that a tile reads. -/
theorem block0 (t : Fin cfg0.N) (i k : Fin 2048) :
    (iblk m c 0 t : FVec Ideal S2048x2048 .bf16) (ix2 i k)
      = (m ((c : Thread nD τ).loc main_arg0) : FVec Ideal S4096x2048 .f32) (ix2 (outRow t i) k) :=
  (congrArg (V m c main_v0 : FVec Ideal S4096x2048 .bf16) (emb0 t i k)).trans (congrFun (V0 m c) _)
/-- The entries of the second operand that a tile reads. -/
theorem block1 (t : Fin cfg0.N) (j : Fin 1024) (k : Fin 2048) :
    (iblk m c 1 t : FVec Ideal S1024x2048 .bf16) (ix2 j k)
      = (m ((c : Thread nD τ).loc main_arg1) : FVec Ideal S2048x2048 .f32) (ix2 (outCol t j) k) :=
  (congrArg (V m c main_v1 : FVec Ideal S2048x2048 .bf16) (emb1 t j k)).trans (congrFun (V1 m c) _)

/-- What a tile leaves is one whole product. -/
theorem pay1 (x : FVec Ideal S2048x2048 .bf16) (d : FVec Ideal S1024x2048 .bf16) (i : Fin 2048) (j : Fin 1024) :
    k0_pay1 (F := Ideal) x d (ix2 i j) = ∑ k : Fin 2048, x (ix2 i k) * d (ix2 j k) := by
  pointwise [k0_pay1]

/-- A tile's product is the result's on its rows and columns. -/
theorem tile (t : Fin cfg0.N) (i : Fin 2048) (j : Fin 1024) :
    k0_pay1 (F := Ideal) (iblk m c 0 t) (iblk m c 1 t) (ix2 i j)
      = RES (m ((c : Thread nD τ).loc main_arg0)) (m ((c : Thread nD τ).loc main_arg1)) (ix2 (outRow t i) (outCol t j)) := by
  refine (pay1 _ _ i j).trans (Finset.sum_congr rfl fun k _ => congrArg₂ (· * ·) ((block0 m c t i k).trans ?_) ((block1 m c t j k).trans ?_))
  · rfl
  · rfl

/-- The call's result. -/
theorem final : (dats m 0 c).arrAt 2 cfg0.N = RES (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 2048) (j : Fin 1024), y = ix2 i j := ⟨y 0, y 1, eq_ix2 y⟩
  refine Eq.trans ?_ ((tile m c t i j).trans (congrArg (RES _ _) (emb2 t i j)).symm)
  unfold out0_2
  frame_out

end kernel

section reference
open Cert.Reference9Ideal Cert.Reference9Ideal.Gen Cert.Reference9Ideal.Read

/-- The reference's result. -/
theorem ref_eq (x : FVec Ideal S4096x2048 .f32) (d : FVec Ideal S2048x2048 .f32) : val_main_v2 (F := Ideal) x d = RES x d := by
  funext y
  obtain ⟨i, j, rfl⟩ : ∃ (i : Fin 4096) (j : Fin 2048), y = ix2 i j := ⟨y 0, y 1, eq_ix2 y⟩
  pointwise [val_main_v2]
  rfl

/-- The reference's run leaves the arguments and the counters as it finds them. -/
theorem frame_ref : Cert.quiescent_Reference9Ideal (hReference9Ideal := Cert.Reference9Ideal.Gen.facts) := fun m g _ =>
  (θ_run _ _ _).mono (fun r h => ⟨fun c => (h c).2, sem_eq_zero_of_no_sems rfl r.2⟩)
    (Cert.Reference9Ideal.Value.run m g)

end reference

/-- The kernel's result is the reference's, whatever the arguments hold. -/
theorem value : Cert.algebraic_Kernel9Ideal_Reference9Ideal (hKernel9Ideal := Cert.Kernel9Ideal.Gen.facts)
    (hReference9Ideal := Cert.Reference9Ideal.Gen.facts) := by
  intro m g m' g' _ hagree
  refine ⟨fun c => RES (m ((c.tc : Thread _ _).loc Cert.Kernel9Ideal.main_arg0)) (m ((c.tc : Thread _ _).loc Cert.Kernel9Ideal.main_arg1)), ?_, ?_⟩
  · refine (θ_run _ _ _).mono (fun r h c => ?_) (Cert.Kernel9Ideal.Value.run_blocks m g)
    obtain ⟨e0, e⟩ := h c
    exact ⟨e0.trans (final m c), e⟩
  · refine (θ_run _ _ _).mono (fun r h c => ?_) (Cert.Reference9Ideal.Value.run m' g')
    obtain ⟨e0, e⟩ := h c
    obtain ⟨a0, a1⟩ := hagree c
    exact ⟨e0.trans ((Cert.Reference9Ideal.Read.val_main_v2_eq _ _).trans ((ref_eq _ _).trans (congrArg₂ RES a0 a1))), e⟩

end Cert.OutProjDx

end
-- ==== Proof.KvGrad.lean ====
/- The weight gradients of the keys' and values' projections, side by side: each tile of the call is one whole product. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference10Ideal
public import proofs.«01_k».proof.Proof.Halves
public import proofs.«01_k».proof.Proof.Canon
public import proofs.«01_k».proof.Defs
public import Idealize.ShloMosaic.Lib.StableHlo.RunRead
public import Idealize.ShloMosaic.Lib.Pipeline.ValueKit
public import Idealize.ShloMosaic.Lib.Quiescent

@[expose] public section

set_option maxRecDepth 16384

noncomputable section

namespace Cert.KvGrad

open Idealize.ShloMosaic Idealize.ShloMosaic.TcCoe Idealize.SL.Sem
open Cert.Halves

/-- The gradients: over the rows, an input channel times a channel of the keys' and values' gradients. -/
def RES (x : FVec Ideal ⟨2, ![4096, 2048]⟩ .f32) (d : FVec Ideal ⟨2, ![4096, 512]⟩ .f32) : FVec Ideal ⟨2, ![2048, 512]⟩ .bf16 :=
  fun y => ∑ k : Fin 4096, x (ix2 k ⟨(y 0).val, (y 0).isLt⟩) * d (ix2 k ⟨(y 1).val, (y 1).isLt⟩)

section kernel
open Cert.Kernel10Ideal Cert.Kernel10Ideal.Gen
open Idealize.ShloMosaic.Pipeline (Dat)

variable (m : (ℓ : Loc nD τ sig) → Buf (Elt Ideal) ℓ) (c : Dev nD)

/-- The first operand in the narrower format. -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp

/-- The second operand in the narrower format. -/
theorem V1 : V m c main_v1 = (truncf (F := Ideal) .bf16 (m ((c : Thread nD τ).loc main_arg1)) bitsLt_bf16_f32 : FVec Ideal S4096x512 .bf16) := by
  simp only [V, List.flatten_cons, List.flatten_nil, List.append_nil]
  after_reads_simp

/-- Which block each window takes at a point. -/
theorem idx : ∀ t : Fin cfg0.N, win0_0.index t = ![0, t.val] ∧ win0_1.index t = ![0, 0] ∧ win0_2.index t = ![t.val, 0] :=
  (by decide +kernel : ∀ t : Fin grid0.N, _)

/-- The row of the result that a tile's row is. -/
def outRow (t : Fin cfg0.N) (i : Fin 1024) : Fin 2048 := ⟨t.val * 1024 + i.val, by have : t.val < 2 := t.isLt; omega⟩
/-- The column of the result that a tile's column is. -/
def outCol (t : Fin cfg0.N) (j : Fin 512) : Fin 512 := ⟨j.val, by have : t.val < 2 := t.isLt; omega⟩

/-- Where a tile of the first operand lies. -/
theorem emb0 (t : Fin cfg0.N) (r : Fin 4096) (i : Fin 1024) : ((cfg0.win 0).blk t).view.emb (ix2 r i) = ix2 r (outRow t i) := by
  try unfold outRow
  blk_ext [idx t]
/-- Where a tile of the second operand lies. -/
theorem emb1 (t : Fin cfg0.N) (r : Fin 4096) (j : Fin 512) : ((cfg0.win 1).blk t).view.emb (ix2 r j) = ix2 r (outCol t j) := by
  try unfold outCol
  blk_ext [idx t]
/-- Where a tile of the result lies. -/
theorem emb2 (t : Fin cfg0.N) (i : Fin 1024) (j : Fin 512) : ((cfg0.win 2).blk t).view.emb (ix2 i j) = ix2 (outRow t i) (outCol t j) := by
  unfold outRow outCol
  blk_ext [idx t]

/-- The entries of the first operand that a tile reads. -/
theorem block0 (t : Fin cfg0.N) (r : Fin 4096) (i : Fin 1024) :
    (iblk m c 0 t : FVec Ideal S4096x1024 .bf16) (ix2 r i)
      = (m ((c : Thread nD τ).loc main_arg0) : FVec Ideal S4096x2048 .f32) (ix2 r (outRow t i)) :=
  (congrArg (V m c main_v0 : FVec Ideal S4096x2048 .bf16) (emb0 t r i)).trans (congrFun (V0 m c) _)
/-- The entries of the second operand that a tile reads. -/
theorem block1 (t : Fin cfg0.N) (r : Fin 4096) (j : Fin 512) :
    (iblk m c 1 t : FVec Ideal S4096x512 .bf16) (ix2 r j)
      = (m ((c : Thread nD τ).loc main_arg1) : FVec Ideal S4096x512 .f32) (ix2 r (outCol t j)) :=
  (congrArg (V m c main_v1 : FVec Ideal S4096x512 .bf16) (emb1 t r j)).trans (congrFun (V1 m c) _)

/-- What a tile leaves is one whole product. -/
theorem pay1 (x : FVec Ideal S4096x1024 .bf16) (d : FVec Ideal S4096x512 .bf16) (i : Fin 1024) (j : Fin 512) :
    k0_pay1 (F := Ideal) x d (ix2 i j) = ∑ k : Fin 4096, x (ix2 k i) * d (ix2 k j) := by
  pointwise [k0_pay1]

/-- A tile's product is the result's on its rows and columns. -/
theorem tile (t : Fin cfg0.N) (i : Fin 1024) (j : Fin 512) :
    k0_pay1 (F := Ideal) (iblk m c 0 t) (iblk m c 1 t) (ix2 i j)
      = RES (m ((c : Thread nD τ).loc main_arg0)) (m ((c : Thread nD τ).loc main_arg1)) (ix2 (outRow t i) (outCol t j)) := by
  refine (pay1 _ _ i j).trans (Finset.sum_congr rfl fun k _ => congrArg₂ (· * ·) ((block0 m c t k i).trans ?_) ((block1 m c t k j).trans ?_))
  · rfl
  · rfl

/-- The call's result. -/
theorem final : (dats m 0 c).arrAt 2 cfg0.N = RES (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 512), y = ix2 i j := ⟨y 0, y 1, eq_ix2 y⟩
  refine Eq.trans ?_ ((tile m c t i j).trans (congrArg (RES _ _) (emb2 t i j)).symm)
  unfold out0_2
  frame_out

end kernel

section reference
open Cert.Reference10Ideal Cert.Reference10Ideal.Gen Cert.Reference10Ideal.Read

/-- The reference's result. -/
theorem ref_eq (x : FVec Ideal S4096x2048 .f32) (d : FVec Ideal S4096x512 .f32) : val_main_v10 (F := Ideal) x d = RES x d := by
  funext y
  obtain ⟨i, j, rfl⟩ : ∃ (i : Fin 2048) (j : Fin 512), y = ix2 i j := ⟨y 0, y 1, eq_ix2 y⟩
  pointwise [val_main_v10, val_main_v9, val_main_v8, val_main_v7, val_main_v6, val_main_v5, val_main_v4, val_main_v3]
  split
  · exact Finset.sum_congr rfl fun r _ => mul_comm _ _
  · refine Finset.sum_congr rfl fun r _ => (mul_comm _ _).trans (congrArg (fun q => x (ix2 r i) * d (ix2 r q)) (Fin.ext (?_ : _ = j.val)))
    simp only; omega

/-- The reference's run leaves the arguments and the counters as it finds them. -/
theorem frame_ref : Cert.quiescent_Reference10Ideal (hReference10Ideal := Cert.Reference10Ideal.Gen.facts) := fun m g _ =>
  (θ_run _ _ _).mono (fun r h => ⟨fun c => (h c).2, sem_eq_zero_of_no_sems rfl r.2⟩)
    (Cert.Reference10Ideal.Value.run m g)

end reference

/-- The kernel's result is the reference's, whatever the arguments hold. -/
theorem value : Cert.algebraic_Kernel10Ideal_Reference10Ideal (hKernel10Ideal := Cert.Kernel10Ideal.Gen.facts)
    (hReference10Ideal := Cert.Reference10Ideal.Gen.facts) := by
  intro m g m' g' _ hagree
  refine ⟨fun c => RES (m ((c.tc : Thread _ _).loc Cert.Kernel10Ideal.main_arg0)) (m ((c.tc : Thread _ _).loc Cert.Kernel10Ideal.main_arg1)), ?_, ?_⟩
  · refine (θ_run _ _ _).mono (fun r h c => ?_) (Cert.Kernel10Ideal.Value.run_blocks m g)
    obtain ⟨e0, e⟩ := h c
    exact ⟨e0.trans (final m c), e⟩
  · refine (θ_run _ _ _).mono (fun r h c => ?_) (Cert.Reference10Ideal.Value.run m' g')
    obtain ⟨e0, e⟩ := h c
    obtain ⟨a0, a1⟩ := hagree c
    exact ⟨e0.trans ((Cert.Reference10Ideal.Read.val_main_v10_eq _ _).trans ((ref_eq _ _).trans (congrArg₂ RES a0 a1))), e⟩

end Cert.KvGrad

end
-- ==== Proof.GateProj.lean ====
/- The gate's projection: each tile of the call is one whole product with columns of the map's second half. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Reference11Ideal
public import proofs.«01_k».proof.Proof.Halves
public import proofs.«01_k».proof.Proof.Canon
public import proofs.«01_k».proof.Defs
public import Idealize.ShloMosaic.Lib.StableHlo.RunRead
public import Idealize.ShloMosaic.Lib.Pipeline.ValueKit
public import Idealize.ShloMosaic.Lib.Quiescent

@[expose] public section

set_option maxRecDepth 16384

noncomputable section

namespace Cert.GateProj

open Idealize.ShloMosaic Idealize.ShloMosaic.TcCoe Idealize.SL.Sem
open Cert.Halves

/-- The projection: over the channels, the input times a column of the map's second half. -/
def RES (x : FVec Ideal ⟨2, ![4096, 2048]⟩ .f32) (d : FVec Ideal ⟨2, ![2048, 4096]⟩ .f32) : FVec Ideal ⟨2, ![4096, 2048]⟩ .f32 :=
  fun y => ∑ k : Fin 2048, x (ix2 ⟨(y 0).val, (y 0).isLt⟩ k) * d (ix2 k ⟨2048 + (y 1).val, by have : (y 1).val < 2048 := (y 1).isLt; omega⟩)

section kernel
open Cert.Kernel11Ideal Cert.Kernel11Ideal.Gen
open Idealize.ShloMosaic.Pipeline (Dat)

variable (m : (ℓ : Loc nD τ sig) → Buf (Elt Ideal) ℓ) (c : Dev nD)

/-- The first operand in the narrower format. -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp

/-- The second operand in the narrower format. -/
theorem V1 : V m c main_v1 = (truncf (F := Ideal) .bf16 (m ((c : Thread nD τ).loc main_arg1)) bitsLt_bf16_f32 : FVec Ideal S2048x4096 .bf16) := by
  simp only [V, List.flatten_cons, List.flatten_nil, List.append_nil]
  after_reads_simp

/-- Which block each window takes at a point. -/
theorem idx : ∀ t : Fin cfg0.N, win0_0.index t = ![t.val / 2, 0] ∧ win0_1.index t = ![0, 2 + t.val % 2] ∧ win0_2.index t = ![t.val / 2, t.val % 2] :=
  (by decide +kernel : ∀ t : Fin grid0.N, _)

/-- The row of the result that a tile's row is. -/
def outRow (t : Fin cfg0.N) (i : Fin 2048) : Fin 4096 := ⟨t.val / 2 * 2048 + i.val, by have : t.val < 4 := t.isLt; omega⟩
/-- The column of the result that a tile's column is. -/
def outCol (t : Fin cfg0.N) (j : Fin 1024) : Fin 2048 := ⟨t.val % 2 * 1024 + j.val, by have : t.val < 4 := t.isLt; omega⟩

/-- Where a tile of the first operand lies. -/
theorem emb0 (t : Fin cfg0.N) (i k : Fin 2048) : ((cfg0.win 0).blk t).view.emb (ix2 i k) = ix2 (outRow t i) k := by
  try unfold outRow
  blk_ext [idx t]
/-- Where a tile of the second operand lies. -/
theorem emb1 (t : Fin cfg0.N) (k : Fin 2048) (j : Fin 1024) : ((cfg0.win 1).blk t).view.emb (ix2 k j) = ix2 k (⟨2048 + (outCol t j).val, by omega⟩ : Fin 4096) := by
  try unfold outCol
  blk_ext [idx t]
/-- Where a tile of the result lies. -/
theorem emb2 (t : Fin cfg0.N) (i : Fin 2048) (j : Fin 1024) : ((cfg0.win 2).blk t).view.emb (ix2 i j) = ix2 (outRow t i) (outCol t j) := by
  unfold outRow outCol
  blk_ext [idx t]

/-- The entries of the first operand that a tile reads. -/
theorem block0 (t : Fin cfg0.N) (i k : Fin 2048) :
    (iblk m c 0 t : FVec Ideal S2048x2048 .bf16) (ix2 i k)
      = (m ((c : Thread nD τ).loc main_arg0) : FVec Ideal S4096x2048 .f32) (ix2 (outRow t i) k) :=
  (congrArg (V m c main_v0 : FVec Ideal S4096x2048 .bf16) (emb0 t i k)).trans (congrFun (V0 m c) _)
/-- The entries of the second operand that a tile reads. -/
theorem block1 (t : Fin cfg0.N) (k : Fin 2048) (j : Fin 1024) :
    (iblk m c 1 t : FVec Ideal S2048x1024 .bf16) (ix2 k j)
      = (m ((c : Thread nD τ).loc main_arg1) : FVec Ideal S2048x4096 .f32) (ix2 k (⟨2048 + (outCol t j).val, by omega⟩ : Fin 4096)) :=
  (congrArg (V m c main_v1 : FVec Ideal S2048x4096 .bf16) (emb1 t k j)).trans (congrFun (V1 m c) _)

/-- What a tile leaves is one whole product. -/
theorem pay1 (x : FVec Ideal S2048x2048 .bf16) (d : FVec Ideal S2048x1024 .bf16) (i : Fin 2048) (j : Fin 1024) :
    k0_pay1 (F := Ideal) x d (ix2 i j) = ∑ k : Fin 2048, x (ix2 i k) * d (ix2 k j) := by
  pointwise [k0_pay1]

/-- A tile's product is the result's on its rows and columns. -/
theorem tile (t : Fin cfg0.N) (i : Fin 2048) (j : Fin 1024) :
    k0_pay1 (F := Ideal) (iblk m c 0 t) (iblk m c 1 t) (ix2 i j)
      = RES (m ((c : Thread nD τ).loc main_arg0)) (m ((c : Thread nD τ).loc main_arg1)) (ix2 (outRow t i) (outCol t j)) := by
  refine (pay1 _ _ i j).trans (Finset.sum_congr rfl fun k _ => congrArg₂ (· * ·) ((block0 m c t i k).trans ?_) ((block1 m c t k j).trans ?_))
  · rfl
  · rfl

/-- The call's result. -/
theorem final : (dats m 0 c).arrAt 2 cfg0.N = RES (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 2048) (j : Fin 1024), y = ix2 i j := ⟨y 0, y 1, eq_ix2 y⟩
  refine Eq.trans ?_ ((tile m c t i j).trans (congrArg (RES _ _) (emb2 t i j)).symm)
  unfold out0_2
  frame_out

end kernel

section reference
open Cert.Reference11Ideal Cert.Reference11Ideal.Gen Cert.Reference11Ideal.Read

/-- The reference's result. -/
theorem ref_eq (x : FVec Ideal S4096x2048 .f32) (d : FVec Ideal S2048x4096 .f32) : val_main_v1 (F := Ideal) x d = RES x d := by
  funext y
  obtain ⟨i, j, rfl⟩ : ∃ (i : Fin 4096) (j : Fin 2048), y = ix2 i j := ⟨y 0, y 1, eq_ix2 y⟩
  pointwise [val_main_v1, val_main_v0]
  rfl

/-- The reference's run leaves the arguments and the counters as it finds them. -/
theorem frame_ref : Cert.quiescent_Reference11Ideal (hReference11Ideal := Cert.Reference11Ideal.Gen.facts) := fun m g _ =>
  (θ_run _ _ _).mono (fun r h => ⟨fun c => (h c).2, sem_eq_zero_of_no_sems rfl r.2⟩)
    (Cert.Reference11Ideal.Value.run m g)

end reference

/-- The kernel's result is the reference's, whatever the arguments hold. -/
theorem value : Cert.algebraic_Kernel11Ideal_Reference11Ideal (hKernel11Ideal := Cert.Kernel11Ideal.Gen.facts)
    (hReference11Ideal := Cert.Reference11Ideal.Gen.facts) := by
  intro m g m' g' _ hagree
  refine ⟨fun c => RES (m ((c.tc : Thread _ _).loc Cert.Kernel11Ideal.main_arg0)) (m ((c.tc : Thread _ _).loc Cert.Kernel11Ideal.main_arg1)), ?_, ?_⟩
  · refine (θ_run _ _ _).mono (fun r h c => ?_) (Cert.Kernel11Ideal.Value.run_blocks m g)
    obtain ⟨e0, e⟩ := h c
    exact ⟨e0.trans (final m c), e⟩
  · refine (θ_run _ _ _).mono (fun r h c => ?_) (Cert.Reference11Ideal.Value.run m' g')
    obtain ⟨e0, e⟩ := h c
    obtain ⟨a0, a1⟩ := hagree c
    exact ⟨e0.trans ((Cert.Reference11Ideal.Read.val_main_v1_eq _ _).trans ((ref_eq _ _).trans (congrArg₂ RES a0 a1))), e⟩

end Cert.GateProj

end
-- ==== Proof.OutNorm.lean ====
/- The mixer's output projection with the layer norm: the kernel's normed rows, scales and scaled rows are the reference's. -/
module

public import proofs.«01_k».proof.Proof.NormReal
public import proofs.«01_k».proof.Proof.Halves
public import proofs.«01_k».proof.Proof.Final
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Reference12Ideal
public import proofs.«01_k».proof.Defs
public import Idealize.ShloMosaic.Lib.StableHlo.RunRead
public import Idealize.ShloMosaic.Lib.Quiescent
public import Idealize.ShloMosaic.Lib.Pipeline.ReadBack
public import Idealize.ShloMosaic.Lib.Pipeline.ValueKit

@[expose] public section

set_option maxRecDepth 16384

noncomputable section

namespace Cert.OutNorm

open Idealize.ShloMosaic Idealize.ShloMosaic.TcCoe Idealize.SL.Sem
open Cert.Halves Cert.StreamGrad

/-- The arguments: the mixer's output, its projection, the layer's input, gain and bias. -/
structure Args where
  /-- the mixer's output -/
  y : FVec Ideal ⟨2, ![4096, 2048]⟩ .f32
  /-- its projection -/
  w : FVec Ideal ⟨2, ![2048, 2048]⟩ .f32
  /-- the layer's input -/
  x : FVec Ideal ⟨2, ![4096, 2048]⟩ .f32
  /-- the norm's gain -/
  g : FVec Ideal ⟨2, ![1, 2048]⟩ .f32
  /-- and bias -/
  b : FVec Ideal ⟨2, ![1, 2048]⟩ .f32

section spec
variable (A : Args)

/-- A row of the layer's sum. -/
def SUM (i : Fin 4096) (j : Fin 2048) : EReal :=
  Ideal.ofBits .f32 0x3FB504F3#32 * A.x (ix2 i j) + ∑ k : Fin 2048, A.y (ix2 i k) * A.w (ix2 k j)

/-- The normed rows, -/
def NORM : FVec Ideal ⟨2, ![4096, 2048]⟩ .f32 := fun y => XH (SUM A ⟨(y 0).val, (y 0).isLt⟩) ⟨(y 1).val, (y 1).isLt⟩
/-- their scales -/
def SCALE : FVec Ideal ⟨2, ![4096, 1]⟩ .f32 := fun y => RS (SUM A ⟨(y 0).val, (y 0).isLt⟩)
/-- and the rows with gain and bias. -/
def OUT : FVec Ideal ⟨2, ![4096, 2048]⟩ .f32 := fun y =>
  XH (SUM A ⟨(y 0).val, (y 0).isLt⟩) ⟨(y 1).val, (y 1).isLt⟩ * A.g (ix2 0 ⟨(y 1).val, (y 1).isLt⟩) + A.b (ix2 0 ⟨(y 1).val, (y 1).isLt⟩)
end spec

section reference
open Cert.Reference12Ideal Cert.Reference12Ideal.Gen Cert.Reference12Ideal.Read

variable (A : Args)

/-- The layer's sum. -/
theorem v3_at (i : Fin 4096) (j : Fin 2048) : val_main_v3 (F := Ideal) A.y A.w A.x (ix2 i j) = SUM A i j := by
  pointwise [val_main_v3, val_main_v1, val_main_v0, val_main_cst, val_main_v2, SUM]

/-- The mean of a row. -/
theorem v7_at (i : Fin 4096) : val_main_v7 (F := Ideal) A.y A.w A.x (ix2 i 0) = MU (SUM A i) := by
  pointwise [val_main_v7, val_main_v6, val_main_cst_1, val_main_v5, val_main_v4, val_main_cst_0, v3_at A, MU, NC]

/-- The differences from it. -/
theorem v9_at (i : Fin 4096) (j : Fin 2048) : val_main_v9 (F := Ideal) A.y A.w A.x (ix2 i j) = DF (SUM A i) j := by
  pointwise [val_main_v9, val_main_v8, v7_at A, v3_at A, DF]

/-- One over the deviation. -/
theorem v17_at (i : Fin 4096) : val_main_v17 (F := Ideal) A.y A.w A.x (ix2 i 0) = RS (SUM A i) := by
  pointwise [val_main_v17, val_main_v16, val_main_v15, val_main_cst_4, val_main_v14, val_main_v13, val_main_cst_3, val_main_v12,
    val_main_v11, val_main_cst_2, val_main_v10, v9_at A, RS, VE, NC, EPS]

/-- The normed rows. -/
theorem v21_at (i : Fin 4096) (j : Fin 2048) : val_main_v21 (F := Ideal) A.y A.w A.x (ix2 i j) = XH (SUM A i) j := by
  pointwise [val_main_v21, val_main_v20, v17_at A, val_main_v19, val_main_v18, v7_at A, v3_at A, XH, DF]

/-- The second norm takes the same mean, -/
theorem v25_eq : val_main_v25 (F := Ideal) A.y A.w A.x = val_main_v7 (F := Ideal) A.y A.w A.x := rfl
/-- and has the same rows. -/
theorem v39_eq : val_main_v39 (F := Ideal) A.y A.w A.x = val_main_v21 (F := Ideal) A.y A.w A.x := rfl

/-- The first result, -/
theorem v21_eq : val_main_v21 (F := Ideal) A.y A.w A.x = NORM A := by
  funext y
  obtain ⟨i, j, rfl⟩ : ∃ (i : Fin 4096) (j : Fin 2048), y = ix2 i j := ⟨y 0, y 1, eq_ix2 y⟩
  exact v21_at A i j
/-- the second -/
theorem v17_eq : val_main_v17 (F := Ideal) A.y A.w A.x = SCALE A := by
  funext y
  obtain ⟨i, j, rfl⟩ : ∃ (i : Fin 4096) (j : Fin 1), y = ix2 i j := ⟨y 0, y 1, eq_ix2 y⟩
  obtain rfl : j = 0 := Subsingleton.elim _ _
  exact v17_at A i
/-- and the third. -/
theorem v44_eq : val_main_v44 (F := Ideal) A.y A.w A.x A.g A.b = (OUT A : FVec Ideal S4096x2048 .f32) := by
  funext y
  obtain ⟨i, j, rfl⟩ : ∃ (i : Fin 4096) (j : Fin 2048), y = ix2 i j := ⟨y 0, y 1, eq_ix2 y⟩
  pointwise [val_main_v44, val_main_v43, val_main_v42, val_main_v41, val_main_v40, v39_eq A, v21_at A, OUT]

/-- The reference's run leaves the arguments and the counters as it finds them. -/
theorem frame_ref : Cert.quiescent_Reference12Ideal (hReference12Ideal := Cert.Reference12Ideal.Gen.facts) := fun m g _ =>
  (θ_run _ _ _).mono (fun r h => ⟨fun c => (h c).2.2.2, sem_eq_zero_of_no_sems rfl r.2⟩)
    (Cert.Reference12Ideal.Value.run m g)

variable (m' : (ℓ : Loc nD τ sig) → Buf (Elt Ideal) ℓ) (c : Dev nD)

/-- The reference's arguments. -/
def refArgs : Args where
  y := m' ((c.tc : Thread nD τ).loc main_arg0)
  w := m' ((c.tc : Thread nD τ).loc main_arg1)
  x := m' ((c.tc : Thread nD τ).loc main_arg2)
  g := m' ((c.tc : Thread nD τ).loc main_arg3)
  b := m' ((c.tc : Thread nD τ).loc main_arg4)

end reference

section kernel
open Cert.Kernel12Ideal Cert.Kernel12Ideal.Gen
open Idealize.ShloMosaic.Pipeline (Dat)

variable (m : (ℓ : Loc nD τ sig) → Buf (Elt Ideal) ℓ) (c : Dev nD)

/-- The arrays that the call takes. -/
def args : Args where
  y := m ((c : Thread nD τ).loc main_arg0)
  w := m ((c : Thread nD τ).loc main_arg1)
  x := m ((c : Thread nD τ).loc main_arg2)
  g := m ((c : Thread nD τ).loc main_arg3)
  b := m ((c : Thread nD τ).loc main_arg4)

/-! ## The blocks -/

/-- The mixer's output in the narrower format, -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp
/-- and the projection. -/
theorem V1 : V m c main_v1 = (truncf (F := Ideal) .bf16 (m ((c : Thread nD τ).loc main_arg1)) bitsLt_bf16_f32 : FVec Ideal S2048x2048 .bf16) := by
  simp only [V, List.flatten_cons, List.flatten_nil, List.append_nil]
  after_reads_simp

/-- Which block each window takes at a point. -/
theorem idx : ∀ t : Fin cfg0.N, t.val % 8 = t.val ∧ win0_0.index t = ![t.val, 0] ∧ win0_1.index t = ![0, 0]
    ∧ win0_2.index t = ![t.val, 0] ∧ win0_3.index t = ![0, 0] ∧ win0_4.index t = ![0, 0] ∧ win0_5.index t = ![t.val, 0]
    ∧ win0_6.index t = ![t.val, 0] ∧ win0_7.index t = ![t.val, 0] :=
  (by decide +kernel : ∀ t : Fin grid0.N, _)

/-- A tile's row. -/
def row (n : ℕ) (i : Fin 512) : Fin 4096 := ⟨n % 8 * 512 + i.val, by omega⟩

/-- Where a tile of the mixer's output lies, -/
theorem emb0 (t : Fin cfg0.N) (i : Fin 512) (j : Fin 2048) : ((cfg0.win 0).blk t).view.emb (ix2 i j) = ix2 (row t.val i) j := by
  unfold row
  blk_ext [idx t]
/-- of the projection, -/
theorem emb1 (t : Fin cfg0.N) (j l : Fin 2048) : ((cfg0.win 1).blk t).view.emb (ix2 j l) = ix2 j l := by
  blk_ext [idx t]
/-- of the layer's input, -/
theorem emb2 (t : Fin cfg0.N) (i : Fin 512) (j : Fin 2048) : ((cfg0.win 2).blk t).view.emb (ix2 i j) = ix2 (row t.val i) j := by
  unfold row
  blk_ext [idx t]
/-- of the gain, -/
theorem emb3 (t : Fin cfg0.N) (j : Fin 2048) : ((cfg0.win 3).blk t).view.emb (ix2 (0 : Fin 1) j) = ix2 (0 : Fin 1) j := by
  blk_ext [idx t]
/-- of the bias, -/
theorem emb4 (t : Fin cfg0.N) (j : Fin 2048) : ((cfg0.win 4).blk t).view.emb (ix2 (0 : Fin 1) j) = ix2 (0 : Fin 1) j := by
  blk_ext [idx t]
/-- of the normed rows, -/
theorem emb5 (t : Fin cfg0.N) (i : Fin 512) (j : Fin 2048) : ((cfg0.win 5).blk t).view.emb (ix2 i j) = ix2 (row t.val i) j := by
  unfold row
  blk_ext [idx t]
/-- of the scales, -/
theorem emb6 (t : Fin cfg0.N) (i : Fin 512) : ((cfg0.win 6).blk t).view.emb (ix2 i (0 : Fin 1)) = ix2 (row t.val i) (0 : Fin 1) := by
  unfold row
  blk_ext [idx t]
/-- and of the third result. -/
theorem emb7 (t : Fin cfg0.N) (i : Fin 512) (j : Fin 2048) : ((cfg0.win 7).blk t).view.emb (ix2 i j) = ix2 (row t.val i) j := by
  unfold row
  blk_ext [idx t]

/-- The mixer's output that a tile reads, -/
theorem block0 (t : Fin cfg0.N) (i : Fin 512) (j : Fin 2048) :
    (iblk m c 0 t : FVec Ideal S512x2048 .bf16) (ix2 i j) = (args m c).y (ix2 (row t.val i) j) :=
  (congrArg (V m c main_v0 : FVec Ideal S4096x2048 .bf16) (emb0 t i j)).trans (congrFun (V0 m c) _)
/-- the projection, -/
theorem block1 (t : Fin cfg0.N) (j l : Fin 2048) :
    (iblk m c 1 t : FVec Ideal S2048x2048 .bf16) (ix2 j l) = (args m c).w (ix2 j l) :=
  (congrArg (V m c main_v1 : FVec Ideal S2048x2048 .bf16) (emb1 t j l)).trans (congrFun (V1 m c) _)
/-- the layer's input, -/
theorem block2 (t : Fin cfg0.N) (i : Fin 512) (j : Fin 2048) :
    (iblk m c 2 t : FVec Ideal S512x2048 .f32) (ix2 i j) = (args m c).x (ix2 (row t.val i) j) :=
  (congrArg (V m c main_arg2 : FVec Ideal S4096x2048 .f32) (emb2 t i j)).trans (congrFun (V_main_arg2 m c) _)
/-- the gain -/
theorem block3 (t : Fin cfg0.N) (j : Fin 2048) :
    (iblk m c 3 t : FVec Ideal S1x2048 .f32) (ix2 0 j) = (args m c).g (ix2 0 j) :=
  (congrArg (V m c main_arg3 : FVec Ideal S1x2048 .f32) (emb3 t j)).trans (congrFun (V_main_arg3 m c) _)
/-- and the bias. -/
theorem block4 (t : Fin cfg0.N) (j : Fin 2048) :
    (iblk m c 4 t : FVec Ideal S1x2048 .f32) (ix2 0 j) = (args m c).b (ix2 0 j) :=
  (congrArg (V m c main_arg4 : FVec Ideal S1x2048 .f32) (emb4 t j)).trans (congrFun (V_main_arg4 m c) _)

/-! ## The lines of one part of a tile -/

section lines
variable (y : FVec Ideal S128x2048 .bf16) (w : FVec Ideal S2048x2048 .bf16) (x : FVec Ideal S128x2048 .f32)
  (g b : FVec Ideal S1x2048 .f32)

/-- The layer's sum in a row of the part. -/
def part (i : Fin 128) (j : Fin 2048) : EReal :=
  Ideal.ofBits .f32 0x3FB504F3#32 * x (ix2 i j) + ∑ k : Fin 2048, y (ix2 i k) * w (ix2 k j)

/-- The differences from the mean, -/
theorem pay2 (i : Fin 128) (j : Fin 2048) : k0_pay2 (F := Ideal) y w x (ix2 i j) = DF (part y w x i) j := by
  pointwise [k0_pay2, DF, MU, NC, part]
/-- one over the deviation, -/
theorem pay3 (i : Fin 128) : k0_pay3 (F := Ideal) y w x (ix2 i 0) = RS (part y w x i) := by
  pointwise [k0_pay3, pay2, RS, VE, NC, EPS]
/-- the normed row -/
theorem pay4 (i : Fin 128) (j : Fin 2048) : k0_pay4 (F := Ideal) y w x (ix2 i j) = XH (part y w x i) j := by
  pointwise [k0_pay4, pay2, pay3, XH]
/-- and the row with gain and bias. -/
theorem pay5 (i : Fin 128) (j : Fin 2048) :
    k0_pay5 (F := Ideal) y w x g b (ix2 i j) = XH (part y w x i) j * g (ix2 0 j) + b (ix2 0 j) := by
  pointwise [k0_pay5, pay4]
end lines

/-! ## The tile -/

/-- A row of a part, in its tile. -/
def at_ (o : ℕ) (ho : o + 128 ≤ 512) (i : Fin 128) : Fin 512 := ⟨o + i.val, by omega⟩

/-- The normed rows of a tile, -/
def normT (n : ℕ) : FVec Ideal S512x2048 .f32 := fun y => NORM (args m c) (ix2 (row n ⟨(y 0).val, (y 0).isLt⟩) ⟨(y 1).val, (y 1).isLt⟩)
/-- its scales -/
def scaleT (n : ℕ) : FVec Ideal S512x1 .f32 := fun y => SCALE (args m c) (ix2 (row n ⟨(y 0).val, (y 0).isLt⟩) (0 : Fin 1))
/-- and its rows with gain and bias. -/
def outT (n : ℕ) : FVec Ideal S512x2048 .bf16 := fun y => OUT (args m c) (ix2 (row n ⟨(y 0).val, (y 0).isLt⟩) ⟨(y 1).val, (y 1).isLt⟩)

section tile
variable (t : Fin cfg0.N) (o : ℕ) (ho : o + 128 ≤ 512)
  (inb : ∀ a, (![o, 0] : Fin 2 → ℕ) a + S128x2048.size a ≤ S512x2048.size a)

/-- The sum that a part computes is the layer's. -/
theorem part_at (i : Fin 128) :
    part (View.ld (Val := Elt Ideal) (e' := .bf16) (iblk m c 0 t : FVec Ideal S512x2048 .bf16) (Rect.unit (s := S512x2048) ![o, 0] S128x2048.size inb))
      (View.ld (Val := Elt Ideal) (e' := .bf16) (iblk m c 1 t : FVec Ideal S2048x2048 .bf16) r0_1)
      (View.ld (Val := Elt Ideal) (e' := .f32) (iblk m c 2 t : FVec Ideal S512x2048 .f32) (Rect.unit (s := S512x2048) ![o, 0] S128x2048.size inb)) i
      = SUM (args m c) (row t.val (at_ o ho i)) := by
  funext j
  refine congrArg₂ (fun a b : EReal => Ideal.ofBits .f32 0x3FB504F3#32 * a + b) ?_ (Finset.sum_congr rfl fun k _ => congrArg₂ (· * ·) ?_ ?_)
  · exact (congrArg (iblk m c 2 t : FVec Ideal S512x2048 .f32) (part2 _ i j (at_ o ho i) j rfl (by simp))).trans (block2 m c t _ j)
  · exact (congrArg (iblk m c 0 t : FVec Ideal S512x2048 .bf16) (part2 _ i k (at_ o ho i) k rfl (by simp))).trans (block0 m c t _ k)
  · exact (congrArg (iblk m c 1 t : FVec Ideal S2048x2048 .bf16) (part2 _ k j k j (by simp) (by simp))).trans (block1 m c t k j)

include ho

/-- Its normed rows, -/
theorem norm_at (x : S128x2048.Idx) :
    k0_pay4 (F := Ideal) (View.ld (Val := Elt Ideal) (e' := .bf16) (iblk m c 0 t : FVec Ideal S512x2048 .bf16) (Rect.unit (s := S512x2048) ![o, 0] S128x2048.size inb))
      (View.ld (Val := Elt Ideal) (e' := .bf16) (iblk m c 1 t : FVec Ideal S2048x2048 .bf16) r0_1)
      (View.ld (Val := Elt Ideal) (e' := .f32) (iblk m c 2 t : FVec Ideal S512x2048 .f32) (Rect.unit (s := S512x2048) ![o, 0] S128x2048.size inb)) x
      = (normT m c t.val)
          ((Rect.unit (s := S512x2048) ![o, 0] S128x2048.size inb).emb x) := by
  obtain ⟨i, j, rfl⟩ : ∃ (i : Fin 128) (j : Fin 2048), x = ix2 i j := ⟨x 0, x 1, eq_ix2 x⟩
  refine (pay4 _ _ _ i j).trans ?_
  rw [part_at m c t o ho inb i]
  exact (congrArg (normT m c t.val)
    (part2 inb i j (at_ o ho i) j rfl (by simp))).symm

/-- their scales -/
theorem scale_at (inb1 : ∀ a, (![o, 0] : Fin 2 → ℕ) a + S128x1.size a ≤ S512x1.size a) (x : S128x1.Idx) :
    k0_pay3 (F := Ideal) (View.ld (Val := Elt Ideal) (e' := .bf16) (iblk m c 0 t : FVec Ideal S512x2048 .bf16) (Rect.unit (s := S512x2048) ![o, 0] S128x2048.size inb))
      (View.ld (Val := Elt Ideal) (e' := .bf16) (iblk m c 1 t : FVec Ideal S2048x2048 .bf16) r0_1)
      (View.ld (Val := Elt Ideal) (e' := .f32) (iblk m c 2 t : FVec Ideal S512x2048 .f32) (Rect.unit (s := S512x2048) ![o, 0] S128x2048.size inb)) x
      = (scaleT m c t.val)
          ((Rect.unit (s := S512x1) ![o, 0] S128x1.size inb1).emb x) := by
  obtain ⟨i, j, rfl⟩ : ∃ (i : Fin 128) (j : Fin 1), x = ix2 i j := ⟨x 0, x 1, eq_ix2 x⟩
  obtain rfl : j = 0 := Subsingleton.elim _ _
  refine (pay3 _ _ _ i).trans ?_
  rw [part_at m c t o ho inb i]
  exact (congrArg (scaleT m c t.val)
    (part2 inb1 i (0 : Fin 1) (at_ o ho i) (0 : Fin 1) rfl (by simp))).symm

/-- and the rows with gain and bias. -/
theorem out_at (x : S128x2048.Idx) :
    k0_pay5 (F := Ideal) (View.ld (Val := Elt Ideal) (e' := .bf16) (iblk m c 0 t : FVec Ideal S512x2048 .bf16) (Rect.unit (s := S512x2048) ![o, 0] S128x2048.size inb))
      (View.ld (Val := Elt Ideal) (e' := .bf16) (iblk m c 1 t : FVec Ideal S2048x2048 .bf16) r0_1)
      (View.ld (Val := Elt Ideal) (e' := .f32) (iblk m c 2 t : FVec Ideal S512x2048 .f32) (Rect.unit (s := S512x2048) ![o, 0] S128x2048.size inb))
      (View.ld (Val := Elt Ideal) (e' := .f32) (iblk m c 3 t : FVec Ideal S1x2048 .f32) r0_3)
      (View.ld (Val := Elt Ideal) (e' := .f32) (iblk m c 4 t : FVec Ideal S1x2048 .f32) r0_3) x
      = (outT m c t.val)
          ((Rect.unit (s := S512x2048) ![o, 0] S128x2048.size inb).emb x) := by
  obtain ⟨i, j, rfl⟩ : ∃ (i : Fin 128) (j : Fin 2048), x = ix2 i j := ⟨x 0, x 1, eq_ix2 x⟩
  refine (pay5 _ _ _ _ _ i j).trans ?_
  rw [part_at m c t o ho inb i]
  refine Eq.trans ?_ (congrArg (outT m c t.val)
    (part2 inb i j (at_ o ho i) j rfl (by simp))).symm
  refine congrArg₂ (fun a b : EReal => XH (SUM (args m c) (row t.val (at_ o ho i))) j * a + b) ?_ ?_
  · exact (congrArg (iblk m c 3 t : FVec Ideal S1x2048 .f32) (part2 _ 0 j 0 j (by simp) (by simp))).trans (block3 m c t j)
  · exact (congrArg (iblk m c 4 t : FVec Ideal S1x2048 .f32) (part2 _ 0 j 0 j (by simp) (by simp))).trans (block4 m c t j)
end tile

/-- Each point leaves its normed rows, -/
theorem out5_at (t : Fin cfg0.N) (i : Fin 512) (j : Fin 2048) :
    out0_5 (F := Ideal) (iblk m c 0 t) (iblk m c 1 t) (iblk m c 2 t) (iblk m c 3 t) (iblk m c 4 t) (ix2 i j) = NORM (args m c) (ix2 (row t.val i) j) := by
  unfold out0_5
  refine View.canon_apply_of_pieces (Val := Elt Ideal) (e := .f32)
    (normT m c t.val) _ (View.PiecesOf.mem (Val := Elt Ideal) (e := .f32) (G := normT m c t.val) ?_) (ix2 i j)
    (cover0_5 _ _ _ _ _)
  exact ⟨norm_at m c t 384 (by omega) _, norm_at m c t 256 (by omega) _, norm_at m c t 128 (by omega) _, norm_at m c t 0 (by omega) _, trivial⟩
/-- their scales -/
theorem out6_at (t : Fin cfg0.N) (i : Fin 512) :
    out0_6 (F := Ideal) (iblk m c 0 t) (iblk m c 1 t) (iblk m c 2 t) (iblk m c 3 t) (iblk m c 4 t) (ix2 i 0) = SCALE (args m c) (ix2 (row t.val i) 0) := by
  unfold out0_6
  refine View.canon_apply_of_pieces (Val := Elt Ideal) (e := .f32)
    (scaleT m c t.val) _ (View.PiecesOf.mem (Val := Elt Ideal) (e := .f32) (G := scaleT m c t.val) ?_) (ix2 i 0)
    (cover0_6 _ _ _ _ _)
  exact ⟨scale_at m c t 384 (by omega) _ inb_S512x1_S128x1_384_0, scale_at m c t 256 (by omega) _ inb_S512x1_S128x1_256_0, scale_at m c t 128 (by omega) _ inb_S512x1_S128x1_128_0, scale_at m c t 0 (by omega) _ inb_S512x1_S128x1_0_0, trivial⟩
/-- and the rows with gain and bias. -/
theorem out7_at (t : Fin cfg0.N) (i : Fin 512) (j : Fin 2048) :
    out0_7 (F := Ideal) (iblk m c 0 t) (iblk m c 1 t) (iblk m c 2 t) (iblk m c 3 t) (iblk m c 4 t) (ix2 i j) = OUT (args m c) (ix2 (row t.val i) j) := by
  unfold out0_7
  refine View.canon_apply_of_pieces (Val := Elt Ideal) (e := .bf16)
    (outT m c t.val) _ (View.PiecesOf.mem (Val := Elt Ideal) (e := .bf16) (G := outT m c t.val) ?_) (ix2 i j)
    (cover0_7 _ _ _ _ _)
  exact ⟨out_at m c t 384 (by omega) _, out_at m c t 256 (by omega) _, out_at m c t 128 (by omega) _, out_at m c t 0 (by omega) _, trivial⟩

/-- The normed rows, -/
theorem final5 : (dats m 0 c).arrAt 5 cfg0.N = NORM (args m c) := by
  refine (dats m 0 c).arrAt_eq_of_covers 5 _ (by decide +kernel) fun t hf y => ?_
  blk_simp
  rw [after0_5]
  obtain ⟨i, j, rfl⟩ : ∃ (i : Fin 512) (j : Fin 2048), y = ix2 i j := ⟨y 0, y 1, eq_ix2 y⟩
  exact (out5_at m c t i j).trans (congrArg (NORM (args m c)) (emb5 t i j)).symm
/-- their scales -/
theorem final6 : (dats m 0 c).arrAt 6 cfg0.N = SCALE (args m c) := by
  refine (dats m 0 c).arrAt_eq_of_covers 6 _ (by decide +kernel) fun t hf y => ?_
  blk_simp
  rw [after0_6]
  obtain ⟨i, j, rfl⟩ : ∃ (i : Fin 512) (j : Fin 1), y = ix2 i j := ⟨y 0, y 1, eq_ix2 y⟩
  obtain rfl : j = 0 := Subsingleton.elim _ _
  exact (out6_at m c t i).trans (congrArg (SCALE (args m c)) (emb6 t i)).symm
/-- and the rows with gain and bias. -/
theorem final7 : (dats m 0 c).arrAt 7 cfg0.N = (OUT (args m c) : FVec Ideal S4096x2048 .f32) := by
  refine (dats m 0 c).arrAt_eq_of_covers 7 _ (by decide +kernel) fun t hf y => ?_
  blk_simp
  rw [after0_7]
  obtain ⟨i, j, rfl⟩ : ∃ (i : Fin 512) (j : Fin 2048), y = ix2 i j := ⟨y 0, y 1, eq_ix2 y⟩
  exact (out7_at m c t i j).trans (congrArg (OUT (args m c)) (emb7 t i j)).symm

end kernel

/-- The kernel's three results are the reference's. -/
theorem value : Cert.algebraic_Kernel12Ideal_Reference12Ideal (hKernel12Ideal := Cert.Kernel12Ideal.Gen.facts)
    (hReference12Ideal := Cert.Reference12Ideal.Gen.facts) := by
  intro m g m' g' _ hagree
  refine ⟨fun c => NORM (args m c), fun c => SCALE (args m c), fun c => (OUT (args m c) : FVec Ideal Cert.Kernel12Ideal.S4096x2048 .f32), ?_, ?_⟩
  · refine (θ_run _ _ _).mono (fun r h c => ?_) (Cert.Kernel12Ideal.Value.run_blocks m g)
    obtain ⟨e5, e6, e7, e⟩ := h c
    exact ⟨e5.trans (final5 m c), e6.trans (final6 m c), e7.trans (final7 m c), e⟩
  · refine (θ_run _ _ _).mono (fun r h c => ?_) (Cert.Reference12Ideal.Value.run m' g')
    obtain ⟨e5, e6, e7, e⟩ := h c
    obtain ⟨a0, a1, a2, a3, a4⟩ := hagree c
    have ha : refArgs m' c = args m c := by
      unfold refArgs
      rw [a0, a1, a2, a3, a4]
      rfl
    refine ⟨?_, ?_, ?_, e⟩
    · exact e5.trans ((Cert.Reference12Ideal.Read.val_main_v21_eq _ _ _).trans
        ((v21_eq (refArgs m' c)).trans (congrArg NORM ha)))
    · exact e6.trans ((Cert.Reference12Ideal.Read.val_main_v17_eq _ _ _).trans
        ((v17_eq (refArgs m' c)).trans (congrArg SCALE ha)))
    · exact e7.trans ((Cert.Reference12Ideal.Read.val_main_v44_eq _ _ _ _ _).trans
        ((v44_eq (refArgs m' c)).trans (congrArg OUT ha)))

end Cert.OutNorm

end
-- ==== Proof.LossRef.lean ====
/- The reference's loss against the target: the gradient of the second layer's sum through its norm, stage by stage. -/
module

public import proofs.«01_k».proof.Proof.NormReal
public import proofs.«01_k».proof.Proof.Halves
public import proofs.«01_k».proof.Proof.Gen.Reference13Ideal.Read
public import Idealize.ShloMosaic.Lib.Pipeline.ValueKit

@[expose] public section

set_option maxRecDepth 16384

noncomputable section

namespace Cert.LossNorm

open Idealize.ShloMosaic Idealize.ShloMosaic.TcCoe Idealize.SL.Sem
open Cert.Halves Cert.Pool Cert.StreamGrad

/-- The arguments. -/
structure Args where
  /-- the gated attention -/
  y : FVec Ideal ⟨2, ![4096, 2048]⟩ .f32
  /-- its projection -/
  w : FVec Ideal ⟨2, ![2048, 2048]⟩ .f32
  /-- the first norm's rows -/
  x : FVec Ideal ⟨2, ![4096, 2048]⟩ .f32
  /-- the first norm's gain -/
  g : FVec Ideal ⟨2, ![1, 2048]⟩ .f32
  /-- and bias -/
  b : FVec Ideal ⟨2, ![1, 2048]⟩ .f32
  /-- the second norm's gain -/
  h : FVec Ideal ⟨2, ![1, 2048]⟩ .f32
  /-- and bias -/
  e : FVec Ideal ⟨2, ![1, 2048]⟩ .f32
  /-- the target -/
  z : FVec Ideal ⟨2, ![4096, 2048]⟩ .f32

/-- One over the number of channels. -/
def INV : EReal := Ideal.ofBits .f32 0x3A000000#32

/-- It is 1 / 2048. -/
theorem INV_eq : INV = ((2048⁻¹ : ℝ) : EReal) := by
  simp [INV, Ideal.ofBits, Ideal.ieee]
  rw [← EReal.coe_mul]; norm_num

section spec
variable (A : Args)

/-- A row of the layer's sum. -/
def SUM (i : Fin 4096) (j : Fin 2048) : EReal :=
  Ideal.ofBits .f32 0x3FB504F3#32 * (A.x (ix2 i j) * A.g (ix2 0 j) + A.b (ix2 0 j)) + ∑ k : Fin 2048, A.y (ix2 i k) * A.w (ix2 k j)

/-- The output less the target, -/
def ERR (i : Fin 4096) (j : Fin 2048) : EReal := XH (SUM A i) j * A.h (ix2 0 j) + A.e (ix2 0 j) - A.z (ix2 i j)
/-- the output's gradient -/
def DO (i : Fin 4096) (j : Fin 2048) : EReal := ERR A i j * INV
/-- and the normed row's. -/
def U (i : Fin 4096) (j : Fin 2048) : EReal := DO A i j * A.h (ix2 0 j)

/-- The gradient of the layer's sum. -/
def DRES : FVec Ideal ⟨2, ![4096, 2048]⟩ .f32 := fun y =>
  DRK (SUM A ⟨(y 0).val, (y 0).isLt⟩) (U A ⟨(y 0).val, (y 0).isLt⟩) ⟨(y 1).val, (y 1).isLt⟩

/-- The gain's gradient, -/
def DG (j : Fin 2048) : EReal := ∑ i : Fin 4096, DO A i j * XH (SUM A i) j
/-- the bias's -/
def DB (j : Fin 2048) : EReal := ∑ i : Fin 4096, DO A i j
/-- and the squared error of a channel. -/
def SQ (j : Fin 2048) : EReal := ∑ i : Fin 4096, ERR A i j * ERR A i j

/-- The three rows above zeros. -/
def ROWS : FVec Ideal ⟨2, ![8, 2048]⟩ .f32 := fun y =>
  if (y 0).val = 0 then DG A ⟨(y 1).val, (y 1).isLt⟩ else if (y 0).val = 1 then DB A ⟨(y 1).val, (y 1).isLt⟩
  else if (y 0).val = 2 then SQ A ⟨(y 1).val, (y 1).isLt⟩ else 0
end spec

/-- The reference's factor of the error: a half over the channels, times two. -/
theorem factor (x : EReal) : Ideal.div (Ideal.ofBits .f32 0x3F000000#32) NC * (TWO * x) = x * INV := by
  have h1 : Ideal.ofBits .f32 0x3F000000#32 = ((1 / 2 : ℝ) : EReal) := by
    simp [Ideal.ofBits, Ideal.ieee]
    rw [← EReal.coe_mul]; norm_num
  rw [h1, NC_eq, TWO_eq, INV_eq, div_inv (by norm_num), ← EReal.coe_mul, ← mul_assoc, ← EReal.coe_mul, mul_comm x]
  congr 2; norm_num

section reference
open Cert.Reference13Ideal Cert.Reference13Ideal.Gen Cert.Reference13Ideal.Read

variable (A : Args)

/-- The layer's sum. -/
theorem v7_at (i : Fin 4096) (j : Fin 2048) : val_main_v7 (F := Ideal) A.y A.w A.x A.g A.b (ix2 i j) = SUM A i j := by
  pointwise [val_main_v7, val_main_v6, val_main_v5, val_main_v4, val_main_cst, val_main_v3, val_main_v2, val_main_v1, val_main_v0, SUM]

/-- The mean of a row. -/
theorem v11_at (i : Fin 4096) : val_main_v11 (F := Ideal) A.y A.w A.x A.g A.b (ix2 i 0) = MU (SUM A i) := by
  pointwise [val_main_v11, val_main_v10, val_main_cst_1, val_main_v9, val_main_v8, val_main_cst_0, v7_at A, MU, NC]

/-- The differences from it, as the variance takes them, -/
theorem v13_at (i : Fin 4096) (j : Fin 2048) : val_main_v13 (F := Ideal) A.y A.w A.x A.g A.b (ix2 i j) = DF (SUM A i) j := by
  pointwise [val_main_v13, val_main_v12, v11_at A, v7_at A, DF]

/-- and as the normed row does. -/
theorem v22_at (i : Fin 4096) (j : Fin 2048) : val_main_v22 (F := Ideal) A.y A.w A.x A.g A.b (ix2 i j) = DF (SUM A i) j := by
  pointwise [val_main_v22, val_main_v21, v11_at A, v7_at A, DF]

/-- The variance and the epsilon. -/
theorem v24_at (i : Fin 4096) : val_main_v24 (F := Ideal) A.y A.w A.x A.g A.b (ix2 i 0) = VE (SUM A i) := by
  pointwise [val_main_v24, val_main_v23, val_main_cst_5, val_main_v20, val_main_v19, val_main_cst_4, val_main_v18, val_main_v17,
    val_main_cst_3, val_main_v14, v13_at A, VE, NC, EPS]

/-- One over the deviation. -/
theorem v25_at (i : Fin 4096) : val_main_v25 (F := Ideal) A.y A.w A.x A.g A.b (ix2 i 0) = RS (SUM A i) := by
  pointwise [val_main_v25, v24_at A, RS]

/-- The variance's factor. -/
theorem v28_at (i : Fin 4096) :
    val_main_v28 (F := Ideal) A.y A.w A.x A.g A.b (ix2 i 0) = MHALF * Ideal.div (RS (SUM A i)) (VE (SUM A i)) := by
  pointwise [val_main_v28, val_main_v27, val_main_cst_6, val_main_v26, v25_at A, v24_at A, MHALF]

/-- The normed row. -/
theorem v30_at (i : Fin 4096) (j : Fin 2048) : val_main_v30 (F := Ideal) A.y A.w A.x A.g A.b (ix2 i j) = XH (SUM A i) j := by
  pointwise [val_main_v30, val_main_v29, v22_at A, v25_at A, XH]

/-- The output less the target. -/
theorem v35_at (i : Fin 4096) (j : Fin 2048) :
    val_main_v35 (F := Ideal) A.y A.w A.x A.g A.b A.h A.e A.z (ix2 i j) = ERR A i j := by
  pointwise [val_main_v35, val_main_v34, val_main_v33, val_main_v32, val_main_v31, v30_at A, ERR]

/-- The output's gradient. -/
theorem v49_at (i : Fin 4096) (j : Fin 2048) :
    val_main_v49 (F := Ideal) A.y A.w A.x A.g A.b A.h A.e A.z (ix2 i j) = DO A i j := by
  pointwise [val_main_v49, val_main_v48, val_main_v47, val_main_v46, val_main_cst_14, val_main_v45, val_main_v44, val_main_cst_12,
    val_main_cst_13, val_main_v38, val_main_v37, val_main_cst_7, v35_at A]
  exact factor _

/-- The gradient before gain and bias. -/
theorem v56_at (i : Fin 4096) (j : Fin 2048) :
    val_main_v56 (F := Ideal) A.y A.w A.x A.g A.b A.h A.e A.z (ix2 i j) = U A i j := by
  pointwise [val_main_v56, val_main_v55, v49_at A, U]

/-- The part through the difference. -/
theorem v61_at (i : Fin 4096) (j : Fin 2048) :
    val_main_v61 (F := Ideal) A.y A.w A.x A.g A.b A.h A.e A.z (ix2 i j) = U A i j * RS (SUM A i) := by
  pointwise [val_main_v61, val_main_v60, v56_at A, v25_at A]

/-- The part through the variance. -/
theorem v70_at (i : Fin 4096) (j : Fin 2048) :
    val_main_v70 (F := Ideal) A.y A.w A.x A.g A.b A.h A.e A.z (ix2 i j) = PV (SUM A i) (U A i) j := by
  pointwise [val_main_v70, val_main_v16, val_main_v15, val_main_cst_2, v13_at A, val_main_v69, val_main_v68, val_main_cst_20,
    val_main_v67, val_main_v66, val_main_cst_19, val_main_v62, val_main_v59, val_main_v58, val_main_cst_17, val_main_v57, v22_at A,
    v56_at A, v28_at A, PV, NC, TWO]
  rw [Fin.sum_univ_one, v28_at A]

/-- The first result as the sum of its parts. -/
theorem v80_at (i : Fin 4096) (j : Fin 2048) :
    val_main_v80 (F := Ideal) A.y A.w A.x A.g A.b A.h A.e A.z (ix2 i j) = DRR (SUM A i) (U A i) j := by
  pointwise [val_main_v80, val_main_v79, val_main_v78, val_main_cst_23, val_main_v77, val_main_v76, val_main_cst_22, val_main_v75,
    val_main_v73, val_main_v72, val_main_cst_21, val_main_v71, val_main_v65, val_main_v64, val_main_cst_18, val_main_v63,
    val_main_v74, v61_at A, v70_at A, DRR, NC]
  rw [Fin.sum_univ_one]

/-- The gain's gradient. -/
theorem v54_at (j : Fin 2048) : val_main_v54 (F := Ideal) A.y A.w A.x A.g A.b A.h A.e A.z (ix2 0 j) = DG A j := by
  pointwise [val_main_v54, val_main_v53, val_main_cst_16, val_main_v52, v30_at A, v49_at A, DG]
  exact Finset.sum_congr rfl fun i _ => mul_comm _ _

/-- The bias's gradient. -/
theorem v51_at (j : Fin 2048) : val_main_v51 (F := Ideal) A.y A.w A.x A.g A.b A.h A.e A.z (ix2 0 j) = DB A j := by
  pointwise [val_main_v51, val_main_v50, val_main_cst_15, v49_at A, DB]

/-- The loss takes the same normed rows. -/
theorem v98_eq : val_main_v98 (F := Ideal) A.y A.w A.x A.g A.b = val_main_v30 (F := Ideal) A.y A.w A.x A.g A.b := rfl

/-- The squared error of a channel. -/
theorem v106_at (j : Fin 2048) : val_main_v106 (F := Ideal) A.y A.w A.x A.g A.b A.h A.e A.z (ix2 0 j) = SQ A j := by
  pointwise [val_main_v106, val_main_v105, val_main_cst_29, val_main_v104, val_main_v103, val_main_v102, val_main_v101,
    val_main_v100, val_main_v99, v98_eq A, v30_at A, SQ, ERR]

/-- The third result. -/
theorem v108_eq : val_main_v108 (F := Ideal) A.y A.w A.x A.g A.b A.h A.e A.z = ROWS A := by
  funext y
  obtain ⟨q, j, rfl⟩ : ∃ (q : Fin 8) (j : Fin 2048), y = ix2 q j := ⟨y 0, y 1, eq_ix2 y⟩
  pointwise [val_main_v108, v54_at A, v51_at A, v106_at A, val_main_v107, val_main_cst_30, ROWS]
  by_cases h0 : q.val = 0
  · rw [dif_pos (by omega), if_pos h0]
    exact (congrArg (fun a => val_main_v54 (F := Ideal) A.y A.w A.x A.g A.b A.h A.e A.z (ix2 a j))
      (Subsingleton.elim _ (0 : Fin 1))).trans (v54_at A j)
  · rw [dif_neg (by omega), if_neg h0]
    by_cases h1 : q.val = 1
    · rw [dif_pos (by omega), if_pos h1]
      exact (congrArg (fun a => val_main_v51 (F := Ideal) A.y A.w A.x A.g A.b A.h A.e A.z (ix2 a j))
        (Subsingleton.elim _ (0 : Fin 1))).trans (v51_at A j)
    · rw [dif_neg (by omega), if_neg h1]
      by_cases h2 : q.val = 2
      · rw [dif_pos (by omega), if_pos h2]
        exact (congrArg (fun a => val_main_v106 (F := Ideal) A.y A.w A.x A.g A.b A.h A.e A.z (ix2 a j))
          (Subsingleton.elim _ (0 : Fin 1))).trans (v106_at A j)
      · rw [dif_neg (by omega), if_neg h2]

/-- A real row's normed row is real. -/
theorem XH_real (r : Fin 2048 → EReal) (hr : ∀ j, IsR (r j)) (j : Fin 2048) : IsR (XH r j) := by
  choose r' hr' using hr
  obtain rfl : r = fun j => (r' j : EReal) := funext hr'
  obtain ⟨e, he, hE⟩ := EPS_pos
  have n0 : (2048 : ℝ) ≠ 0 := by norm_num
  have eMU : MU (fun j => (r' j : EReal)) = (((∑ j, r' j) * (2048 : ℝ)⁻¹ : ℝ) : EReal) := by
    unfold MU; rw [NC_eq, div_inv n0, coe_sum, ← EReal.coe_mul]
  generalize (∑ j, r' j) * (2048 : ℝ)⁻¹ = mu at eMU
  have eDF : ∀ j, DF (fun j => (r' j : EReal)) j = ((r' j - mu : ℝ) : EReal) := fun j => by
    unfold DF; rw [eMU, ← EReal.coe_sub]
  have eVE : VE (fun j => (r' j : EReal)) = (((∑ j, (r' j - mu) * (r' j - mu)) * (2048 : ℝ)⁻¹ + e : ℝ) : EReal) := by
    unfold VE
    simp only [eDF, ← EReal.coe_mul]
    rw [NC_eq, div_inv n0, coe_sum, ← EReal.coe_mul, hE, ← EReal.coe_add]
  have hs : 0 < (∑ j, (r' j - mu) * (r' j - mu)) * (2048 : ℝ)⁻¹ + e := by
    have : 0 ≤ ∑ j, (r' j - mu) * (r' j - mu) := Finset.sum_nonneg fun j _ => mul_self_nonneg _
    positivity
  have eRS : RS (fun j => (r' j : EReal)) = (((√((∑ j, (r' j - mu) * (r' j - mu)) * (2048 : ℝ)⁻¹ + e))⁻¹ : ℝ) : EReal) := by
    unfold RS; rw [eVE, Ideal.rsqrt_coe, if_neg (not_lt.mpr hs.le), if_neg hs.ne']
  exact ⟨_, by unfold XH; rw [eDF, eRS, ← EReal.coe_mul]⟩

/-- On real arguments the first result is the closed form. -/
theorem v80_eq (hy : ∀ y, IsR (A.y y)) (hw : ∀ y, IsR (A.w y)) (hx : ∀ y, IsR (A.x y)) (hg : ∀ y, IsR (A.g y)) (hb : ∀ y, IsR (A.b y))
    (hh : ∀ y, IsR (A.h y)) (he : ∀ y, IsR (A.e y)) (hz : ∀ y, IsR (A.z y)) :
    val_main_v80 (F := Ideal) A.y A.w A.x A.g A.b A.h A.e A.z = DRES A := by
  have ha : IsR (Ideal.ofBits .f32 0x3FB504F3#32) := ⟨_, by simp [Ideal.ofBits, Ideal.ieee]; rfl⟩
  have hi : IsR INV := ⟨_, INV_eq⟩
  have hS : ∀ i j, IsR (SUM A i j) := fun i j =>
    (ha.mul (((hx _).mul (hg _)).add (hb _))).add (IsR.sum _ _ fun k _ => (hy _).mul (hw _))
  have hU : ∀ i j, IsR (U A i j) := fun i j =>
    (((((XH_real _ (hS i) j).mul (hh _)).add (he _)).sub (hz _)).mul hi).mul (hh _)
  funext y
  obtain ⟨i, j, rfl⟩ : ∃ (i : Fin 4096) (j : Fin 2048), y = ix2 i j := ⟨y 0, y 1, eq_ix2 y⟩
  exact (v80_at A i j).trans (forms_agree _ _ (hS i) (hU i) j)

/-- The second result is the first in the narrower format. -/
theorem v109_eq : val_main_v109 (F := Ideal) A.y A.w A.x A.g A.b A.h A.e A.z
    = (val_main_v80 (F := Ideal) A.y A.w A.x A.g A.b A.h A.e A.z : FVec Ideal S4096x2048 .f32) := rfl

end reference

end Cert.LossNorm

end
-- ==== Proof.LossTile.lean ====
/- The output projection with the second norm and the loss: the blocks that a grid point of the call reads, and what its lines make
   of them, in four parts of the rows. -/
module

public import proofs.«01_k».proof.Proof.LossRef
public import proofs.«01_k».proof.Proof.Gen.Kernel13Ideal.Value
public import Idealize.ShloMosaic.Lib.StableHlo.RunRead
public import Idealize.ShloMosaic.Lib.Pipeline.ValueKit

@[expose] public section

set_option maxRecDepth 16384

noncomputable section

namespace Cert.LossNorm

open Cert.Kernel13Ideal Cert.Kernel13Ideal.Gen
open Idealize.ShloMosaic Idealize.ShloMosaic.TcCoe Idealize.SL.Sem
open Cert.Halves Cert.StreamGrad

variable (m : (ℓ : Loc nD τ sig) → Buf (Elt Ideal) ℓ) (c : Dev nD)

/-- The arrays that the call takes. -/
def args : Args where
  y := m ((c : Thread nD τ).loc main_arg0)
  w := m ((c : Thread nD τ).loc main_arg1)
  x := m ((c : Thread nD τ).loc main_arg2)
  g := m ((c : Thread nD τ).loc main_arg3)
  b := m ((c : Thread nD τ).loc main_arg4)
  h := m ((c : Thread nD τ).loc main_arg5)
  e := m ((c : Thread nD τ).loc main_arg6)
  z := m ((c : Thread nD τ).loc main_arg7)

/-! ## The blocks -/

/-- The gated attention in the narrower format, -/
theorem V0 : V m c main_v0 = (truncf (F := Ideal) .bf16 (m ((c : Thread nD τ).loc main_arg0)) bitsLt_bf16_f32 : FVec Ideal S4096x2048 .bf16) := by
  simp only [V, List.flatten_cons, List.flatten_nil, List.append_nil]
  after_reads_simp
/-- and the projection. -/
theorem V1 : V m c main_v1 = (truncf (F := Ideal) .bf16 (m ((c : Thread nD τ).loc main_arg1)) bitsLt_bf16_f32 : FVec Ideal S2048x2048 .bf16) := by
  simp only [V, List.flatten_cons, List.flatten_nil, List.append_nil]
  after_reads_simp

/-- Which block each window takes at a point. -/
theorem idx : ∀ t : Fin cfg0.N, t.val % 8 = t.val ∧ win0_0.index t = ![t.val, 0] ∧ win0_1.index t = ![0, 0]
    ∧ win0_2.index t = ![t.val, 0] ∧ win0_3.index t = ![0, 0] ∧ win0_4.index t = ![0, 0] ∧ win0_5.index t = ![0, 0]
    ∧ win0_6.index t = ![0, 0] ∧ win0_7.index t = ![t.val, 0] ∧ win0_8.index t = ![t.val, 0] ∧ win0_9.index t = ![t.val, 0]
    ∧ win0_10.index t = ![0, 0] :=
  (by decide +kernel : ∀ t : Fin grid0.N, _)

/-- A tile's row. -/
def row (n : ℕ) (i : Fin 512) : Fin 4096 := ⟨n % 8 * 512 + i.val, by omega⟩

/-- Where a tile of the gated attention lies, -/
theorem emb0 (t : Fin cfg0.N) (i : Fin 512) (j : Fin 2048) : ((cfg0.win 0).blk t).view.emb (ix2 i j) = ix2 (row t.val i) j := by
  unfold row
  blk_ext [idx t]
/-- of the projection, -/
theorem emb1 (t : Fin cfg0.N) (j l : Fin 2048) : ((cfg0.win 1).blk t).view.emb (ix2 j l) = ix2 j l := by
  blk_ext [idx t]
/-- of the first norm's rows, -/
theorem emb2 (t : Fin cfg0.N) (i : Fin 512) (j : Fin 2048) : ((cfg0.win 2).blk t).view.emb (ix2 i j) = ix2 (row t.val i) j := by
  unfold row
  blk_ext [idx t]
/-- of its gain -/
theorem emb3 (t : Fin cfg0.N) (j : Fin 2048) : ((cfg0.win 3).blk t).view.emb (ix2 (0 : Fin 1) j) = ix2 (0 : Fin 1) j := by
  blk_ext [idx t]
/-- and bias, -/
theorem emb4 (t : Fin cfg0.N) (j : Fin 2048) : ((cfg0.win 4).blk t).view.emb (ix2 (0 : Fin 1) j) = ix2 (0 : Fin 1) j := by
  blk_ext [idx t]
/-- of the second's gain -/
theorem emb5 (t : Fin cfg0.N) (j : Fin 2048) : ((cfg0.win 5).blk t).view.emb (ix2 (0 : Fin 1) j) = ix2 (0 : Fin 1) j := by
  blk_ext [idx t]
/-- and bias, -/
theorem emb6 (t : Fin cfg0.N) (j : Fin 2048) : ((cfg0.win 6).blk t).view.emb (ix2 (0 : Fin 1) j) = ix2 (0 : Fin 1) j := by
  blk_ext [idx t]
/-- of the target, -/
theorem emb7 (t : Fin cfg0.N) (i : Fin 512) (j : Fin 2048) : ((cfg0.win 7).blk t).view.emb (ix2 i j) = ix2 (row t.val i) j := by
  unfold row
  blk_ext [idx t]
/-- of the first result, -/
theorem emb8 (t : Fin cfg0.N) (i : Fin 512) (j : Fin 2048) : ((cfg0.win 8).blk t).view.emb (ix2 i j) = ix2 (row t.val i) j := by
  unfold row
  blk_ext [idx t]
/-- of the second, -/
theorem emb9 (t : Fin cfg0.N) (i : Fin 512) (j : Fin 2048) : ((cfg0.win 9).blk t).view.emb (ix2 i j) = ix2 (row t.val i) j := by
  unfold row
  blk_ext [idx t]
/-- and of the third, which is one block. -/
theorem emb10 (t : Fin cfg0.N) (q : Fin 8) (j : Fin 2048) : ((cfg0.win 10).blk t).view.emb (ix2 q j) = ix2 q j := by
  blk_ext [idx t]

/-- The gated attention that a tile reads, -/
theorem block0 (t : Fin cfg0.N) (i : Fin 512) (j : Fin 2048) :
    (iblk m c 0 t : FVec Ideal S512x2048 .bf16) (ix2 i j) = (args m c).y (ix2 (row t.val i) j) :=
  (congrArg (V m c main_v0 : FVec Ideal S4096x2048 .bf16) (emb0 t i j)).trans (congrFun (V0 m c) _)
/-- the projection, -/
theorem block1 (t : Fin cfg0.N) (j l : Fin 2048) :
    (iblk m c 1 t : FVec Ideal S2048x2048 .bf16) (ix2 j l) = (args m c).w (ix2 j l) :=
  (congrArg (V m c main_v1 : FVec Ideal S2048x2048 .bf16) (emb1 t j l)).trans (congrFun (V1 m c) _)
/-- the first norm's rows, -/
theorem block2 (t : Fin cfg0.N) (i : Fin 512) (j : Fin 2048) :
    (iblk m c 2 t : FVec Ideal S512x2048 .f32) (ix2 i j) = (args m c).x (ix2 (row t.val i) j) :=
  (congrArg (V m c main_arg2 : FVec Ideal S4096x2048 .f32) (emb2 t i j)).trans (congrFun (V_main_arg2 m c) _)
/-- its gain -/
theorem block3 (t : Fin cfg0.N) (j : Fin 2048) :
    (iblk m c 3 t : FVec Ideal S1x2048 .f32) (ix2 0 j) = (args m c).g (ix2 0 j) :=
  (congrArg (V m c main_arg3 : FVec Ideal S1x2048 .f32) (emb3 t j)).trans (congrFun (V_main_arg3 m c) _)
/-- and bias, -/
theorem block4 (t : Fin cfg0.N) (j : Fin 2048) :
    (iblk m c 4 t : FVec Ideal S1x2048 .f32) (ix2 0 j) = (args m c).b (ix2 0 j) :=
  (congrArg (V m c main_arg4 : FVec Ideal S1x2048 .f32) (emb4 t j)).trans (congrFun (V_main_arg4 m c) _)
/-- the second's gain -/
theorem block5 (t : Fin cfg0.N) (j : Fin 2048) :
    (iblk m c 5 t : FVec Ideal S1x2048 .f32) (ix2 0 j) = (args m c).h (ix2 0 j) :=
  (congrArg (V m c main_arg5 : FVec Ideal S1x2048 .f32) (emb5 t j)).trans (congrFun (V_main_arg5 m c) _)
/-- and bias, -/
theorem block6 (t : Fin cfg0.N) (j : Fin 2048) :
    (iblk m c 6 t : FVec Ideal S1x2048 .f32) (ix2 0 j) = (args m c).e (ix2 0 j) :=
  (congrArg (V m c main_arg6 : FVec Ideal S1x2048 .f32) (emb6 t j)).trans (congrFun (V_main_arg6 m c) _)
/-- and the target. -/
theorem block7 (t : Fin cfg0.N) (i : Fin 512) (j : Fin 2048) :
    (iblk m c 7 t : FVec Ideal S512x2048 .f32) (ix2 i j) = (args m c).z (ix2 (row t.val i) j) :=
  (congrArg (V m c main_arg7 : FVec Ideal S4096x2048 .f32) (emb7 t i j)).trans (congrFun (V_main_arg7 m c) _)

/-! ## The lines of one part of a tile -/

section lines
variable (y : FVec Ideal S128x2048 .bf16) (w : FVec Ideal S2048x2048 .bf16) (x : FVec Ideal S128x2048 .f32)
  (g b h e : FVec Ideal S1x2048 .f32) (z : FVec Ideal S128x2048 .f32)

/-- The layer's sum in a row of the part, -/
def part (i : Fin 128) (j : Fin 2048) : EReal :=
  Ideal.ofBits .f32 0x3FB504F3#32 * (x (ix2 i j) * g (ix2 0 j) + b (ix2 0 j)) + ∑ k : Fin 2048, y (ix2 i k) * w (ix2 k j)
/-- the output less the target -/
def perr (i : Fin 128) (j : Fin 2048) : EReal := XH (part y w x g b i) j * h (ix2 0 j) + e (ix2 0 j) - z (ix2 i j)

/-- The norm's epsilon, as the lines take it. -/
abbrev EP : Ideal .f32 := Ideal.ofBits .f32 0x3727C5AC#32

/-- The normed rows of the first part, -/
abbrev xh0 : FVec Ideal S128x2048 .f32 := k0_pay7 (F := Ideal) (k0_pay4 y w x g b) (k0_pay5 y w x g b) EP
/-- their errors, -/
abbrev er0 : FVec Ideal S128x2048 .f32 := k0_pay8 (F := Ideal) (k0_pay4 y w x g b) (k0_pay5 y w x g b) EP h e z
/-- the output's gradient -/
abbrev do0 : FVec Ideal S128x2048 .f32 := k0_pay9 (F := Ideal) (k0_pay4 y w x g b) (k0_pay5 y w x g b) EP h e z
/-- and the sum's. -/
abbrev dr0 : FVec Ideal S128x2048 .f32 := k0_pay10 (F := Ideal) (k0_pay4 y w x g b) (k0_pay5 y w x g b) EP h e z h

/-- The same of the second part: the normed rows, -/
abbrev xh1 : FVec Ideal S128x2048 .f32 := k0_pay20 (F := Ideal) (k0_pay3 y w) (k0_pay17 x g b)
/-- the errors, -/
abbrev er1 : FVec Ideal S128x2048 .f32 := k0_pay21 (F := Ideal) (k0_pay3 y w) (k0_pay17 x g b) h e z
/-- the output's gradient -/
abbrev do1 : FVec Ideal S128x2048 .f32 := k0_pay22 (F := Ideal) (k0_pay3 y w) (k0_pay17 x g b) h e z
/-- and the sum's. -/
abbrev dr1 : FVec Ideal S128x2048 .f32 := k0_pay26 (F := Ideal) (k0_pay19 (k0_pay3 y w) (k0_pay17 x g b)) (xh1 y w x g b)
  (k0_pay24 (k0_pay3 y w) (k0_pay17 x g b) h e z h) (k0_pay25 (k0_pay3 y w) (k0_pay17 x g b) h e z h)

/-- The same of the third part: the normed rows, -/
abbrev xh2 : FVec Ideal S128x2048 .f32 := k0_pay36 (F := Ideal) (k0_pay16 y w) x g b
/-- the errors, -/
abbrev er2 : FVec Ideal S128x2048 .f32 := k0_pay37 (F := Ideal) (k0_pay16 y w) x g b h e z
/-- the output's gradient -/
abbrev do2 : FVec Ideal S128x2048 .f32 := k0_pay38 (F := Ideal) (k0_pay16 y w) x g b h e z
/-- and the sum's. -/
abbrev dr2 : FVec Ideal S128x2048 .f32 := k0_pay40 (F := Ideal) (k0_pay35 (k0_pay16 y w) x g b) (xh2 y w x g b) (do2 y w x g b h e z) (k0_pay39 h)

/-- The product of the last part. -/
abbrev pr3 : FVec Ideal S128x2048 .f32 := k0_pay33 (F := Ideal) (k0_pay31 y) (k0_pay32 w) (constant S128x2048 .f32 0x00000000#32)
/-- The same of the last part: the normed rows, -/
abbrev xh3 : FVec Ideal S128x2048 .f32 := k0_pay49 (F := Ideal) (pr3 y w) x g b
/-- the errors -/
abbrev er3 : FVec Ideal S128x2048 .f32 := k0_pay50 (F := Ideal) (pr3 y w) x g b h e z
/-- and the sum's gradient. -/
abbrev dr3 : FVec Ideal S128x2048 .f32 := k0_pay52 (F := Ideal) (k0_pay48 (pr3 y w) x g b) (xh3 y w x g b) (er3 y w x g b h e z) h

/-- The differences from the mean, -/
theorem pay4 (i : Fin 128) (j : Fin 2048) : k0_pay4 (F := Ideal) y w x g b (ix2 i j) = DF (part y w x g b i) j := by
  pointwise [k0_pay4, DF, MU, NC, part]
/-- the variance and the epsilon, -/
theorem pay5 (i : Fin 128) : k0_pay5 (F := Ideal) y w x g b (ix2 i 0) + EPS = VE (part y w x g b i) := by
  pointwise [k0_pay5, pay4, VE, NC]
/-- one over the deviation, -/
theorem pay6 (i : Fin 128) : k0_pay6 (F := Ideal) (k0_pay5 y w x g b) EP (ix2 i 0) = RS (part y w x g b i) := by
  unfold RS
  rw [← pay5]
  pointwise [k0_pay6, EPS]
/-- the normed row, -/
theorem xh0_at (i : Fin 128) (j : Fin 2048) : xh0 y w x g b (ix2 i j) = XH (part y w x g b i) j := by
  pointwise [k0_pay7, pay4, pay6, XH]
/-- the error, -/
theorem er0_at (i : Fin 128) (j : Fin 2048) : er0 y w x g b h e z (ix2 i j) = perr y w x g b h e z i j := by
  pointwise [k0_pay8, xh0_at, perr]
/-- the output's gradient -/
theorem do0_at (i : Fin 128) (j : Fin 2048) : do0 y w x g b h e z (ix2 i j) = perr y w x g b h e z i j * INV := by
  pointwise [k0_pay9, er0_at, INV]
/-- and the sum's. -/
theorem dr0_at (i : Fin 128) (j : Fin 2048) : dr0 y w x g b h e z (ix2 i j)
    = DRK (part y w x g b i) (fun j => perr y w x g b h e z i j * INV * h (ix2 0 j)) j := by
  pointwise [k0_pay10, do0_at, xh0_at, pay6, DRK, NC]

/-- The parts' lines are the same: the normed rows, -/
theorem xh1_eq : xh1 y w x g b = xh0 y w x g b := rfl
theorem xh2_eq : xh2 y w x g b = xh0 y w x g b := rfl
theorem xh3_eq : xh3 y w x g b = xh0 y w x g b := rfl
/-- the errors, -/
theorem er1_eq : er1 y w x g b h e z = er0 y w x g b h e z := rfl
theorem er2_eq : er2 y w x g b h e z = er0 y w x g b h e z := rfl
theorem er3_eq : er3 y w x g b h e z = er0 y w x g b h e z := rfl
/-- the output's gradient -/
theorem do1_eq : do1 y w x g b h e z = do0 y w x g b h e z := rfl
theorem do2_eq : do2 y w x g b h e z = do0 y w x g b h e z := rfl
theorem do3_eq : k0_pay51 (F := Ideal) (er3 y w x g b h e z) = do0 y w x g b h e z := rfl
/-- and the sum's. -/
theorem dr1_eq : dr1 y w x g b h e z = dr0 y w x g b h e z := rfl
theorem dr2_eq : dr2 y w x g b h e z = dr0 y w x g b h e z := rfl
theorem dr3_eq : dr3 y w x g b h e z = dr0 y w x g b h e z := rfl

end lines

end Cert.LossNorm

end
-- ==== Proof.LossSums.lean ====
/- The output projection with the second norm and the loss: what the points of the call leave. -/
module

public import proofs.«01_k».proof.Proof.LossTile
public import proofs.«01_k».proof.Proof.Canon
public import Idealize.ShloMosaic.Lib.Pipeline.ReadBack
public import Idealize.ShloMosaic.Lib.Pipeline.ValueKit

@[expose] public section

set_option maxRecDepth 16384

noncomputable section

namespace Cert.LossNorm

open Cert.Kernel13Ideal Cert.Kernel13Ideal.Gen
open Idealize.ShloMosaic Idealize.ShloMosaic.TcCoe Idealize.SL.Sem
open Cert.Halves Cert.StreamGrad
open Cert.Pool (canon_hit canon_miss)

/-! ## Lists of stores -/

/-- A row of a part, in its tile. -/
def at_ (o : ℕ) (ho : o + 128 ≤ 512) (i : Fin 128) : Fin 512 := ⟨o + i.val, by omega⟩

/-- Four parts make up a tile. -/
theorem four_parts {e : EltTy} (T : Fin 512 → Fin 2048 → Elt Ideal e) (w0 w1 w2 w3 : S128x2048.Idx → Elt Ideal e)
    (h0 : ∀ i j, w0 (ix2 i j) = T (at_ 0 (by omega) i) j) (h1 : ∀ i j, w1 (ix2 i j) = T (at_ 128 (by omega) i) j)
    (h2 : ∀ i j, w2 (ix2 i j) = T (at_ 256 (by omega) i) j) (h3 : ∀ i j, w3 (ix2 i j) = T (at_ 384 (by omega) i) j)
    (i : Fin 512) (j : Fin 2048) :
    View.canon (Val := Elt Ideal) (s := S512x2048) (e := e) [⟨Rect.unit ![384, 0] ![128, 2048] inb_S512x2048_S128x2048_384_0, w3⟩,
      ⟨Rect.unit ![256, 0] ![128, 2048] inb_S512x2048_S128x2048_256_0, w2⟩,
      ⟨Rect.unit ![128, 0] ![128, 2048] inb_S512x2048_S128x2048_128_0, w1⟩,
      ⟨Rect.unit ![0, 0] ![128, 2048] inb_S512x2048_S128x2048_0_0, w0⟩] (ix2 i j) = T i j := by
  have hi := i.isLt
  by_cases a3 : 384 ≤ i.val
  · rw [canon_hit _ _ _ _ (ix2 (⟨i.val - 384, by omega⟩ : Fin 128) j) ?_]
    · exact (h3 _ _).trans (congrArg (T · j) (Fin.ext (by show 384 + (i.val - 384) = i.val; omega)))
    · intro a
      match a with
      | ⟨0, _⟩ => show i.val = 384 + (i.val - 384); omega
      | ⟨1, _⟩ => show j.val = 0 + j.val; omega
  rw [canon_miss _ _ _ _ (0 : Fin 2) (Or.inl (by show i.val < 384; omega))]
  by_cases a2 : 256 ≤ i.val
  · rw [canon_hit _ _ _ _ (ix2 (⟨i.val - 256, by omega⟩ : Fin 128) j) ?_]
    · exact (h2 _ _).trans (congrArg (T · j) (Fin.ext (by show 256 + (i.val - 256) = i.val; omega)))
    · intro a
      match a with
      | ⟨0, _⟩ => show i.val = 256 + (i.val - 256); omega
      | ⟨1, _⟩ => show j.val = 0 + j.val; omega
  rw [canon_miss _ _ _ _ (0 : Fin 2) (Or.inl (by show i.val < 256; omega))]
  by_cases a1 : 128 ≤ i.val
  · rw [canon_hit _ _ _ _ (ix2 (⟨i.val - 128, by omega⟩ : Fin 128) j) ?_]
    · exact (h1 _ _).trans (congrArg (T · j) (Fin.ext (by show 128 + (i.val - 128) = i.val; omega)))
    · intro a
      match a with
      | ⟨0, _⟩ => show i.val = 128 + (i.val - 128); omega
      | ⟨1, _⟩ => show j.val = 0 + j.val; omega
  rw [canon_miss _ _ _ _ (0 : Fin 2) (Or.inl (by show i.val < 128; omega)),
    canon_hit _ _ _ _ (ix2 (⟨i.val, by omega⟩ : Fin 128) j) ?_]
  · exact (h0 _ _).trans (congrArg (T · j) (Fin.ext (by show 0 + i.val = i.val; omega)))
  · intro a
    match a with
    | ⟨0, _⟩ => show i.val = 0 + i.val; omega
    | ⟨1, _⟩ => show j.val = 0 + j.val; omega

/-- The row that a store of a part writes. -/
abbrev R0 : Rect S8x2048 := Rect.unit ![0, 0] ![1, 2048] inb_S8x2048_S1x2048_0_0
/-- The second's -/
abbrev R1 : Rect S8x2048 := Rect.unit ![1, 0] ![1, 2048] inb_S8x2048_S1x2048_1_0
/-- and the third's. -/
abbrev R2 : Rect S8x2048 := Rect.unit ![2, 0] ![1, 2048] inb_S8x2048_S1x2048_2_0

section lists
variable (w0 w1 w2 : FVec Ideal S1x2048 .f32) (L : List (View.Piece (Elt Ideal) S8x2048 .f32)) (j : Fin 2048)

/-- The stores of a part into the rows, newest first. -/
abbrev three : List (View.Piece (Elt Ideal) S8x2048 .f32) := ⟨R2, w2⟩ :: ⟨R1, w1⟩ :: ⟨R0, w0⟩ :: L

/-- What they leave of the first row, -/
theorem three_0 : View.canon (three w0 w1 w2 L) (ix2 0 j) = w0 (ix2 0 j) := by
  rw [canon_miss _ _ _ _ (0 : Fin 2) (Or.inl Nat.zero_lt_two), canon_miss _ _ _ _ (0 : Fin 2) (Or.inl Nat.zero_lt_one),
    canon_hit _ _ _ _ (ix2 0 j) _]
  intro a; fin_cases a <;> simp
/-- of the second, -/
theorem three_1 : View.canon (three w0 w1 w2 L) (ix2 1 j) = w1 (ix2 0 j) := by
  rw [canon_miss _ _ _ _ (0 : Fin 2) (Or.inl Nat.one_lt_two), canon_hit _ _ _ _ (ix2 0 j) _]
  intro a; fin_cases a <;> simp
/-- of the third -/
theorem three_2 : View.canon (three w0 w1 w2 L) (ix2 2 j) = w2 (ix2 0 j) := by
  rw [canon_hit _ _ _ _ (ix2 0 j) _]
  intro a; fin_cases a <;> simp
/-- and of the others. -/
theorem three_rest (q : Fin 8) (hq : 3 ≤ q.val) : View.canon (three w0 w1 w2 L) (ix2 q j) = View.canon L (ix2 q j) := by
  rw [canon_miss _ _ _ _ (0 : Fin 2) (Or.inr hq), canon_miss _ _ _ _ (0 : Fin 2) (Or.inr (by show 2 ≤ q.val; omega)),
    canon_miss _ _ _ _ (0 : Fin 2) (Or.inr (by show 1 ≤ q.val; omega))]

variable {sp : Space} (v : View sig .tc sp S8x2048 .f32)

/-- A part reads the first row below its stores, -/
theorem read_0 : (View.readCov (Val := Elt Ideal) v L R0.toLoadRect : FVec Ideal S1x2048 .f32) (ix2 0 j) = View.canon L (ix2 0 j) := by
  rw [View.readCov_eq_canon']
  have hy : R0.toLoadRect.idx (ix2 0 j) = ix2 0 j := part2 _ 0 j 0 j rfl (by simp)
  exact congrArg (View.canon L) hy
/-- the second -/
theorem read_1 : (View.readCov (Val := Elt Ideal) v (⟨R0, w0⟩ :: L) R1.toLoadRect : FVec Ideal S1x2048 .f32) (ix2 0 j)
    = View.canon L (ix2 1 j) := by
  rw [View.readCov_eq_canon']
  have hy : R1.toLoadRect.idx (ix2 0 j) = ix2 1 j := part2 _ 0 j 1 j rfl (by simp)
  refine (congrArg (View.canon _) hy).trans ?_
  rw [canon_miss _ _ _ _ (0 : Fin 2) (Or.inr le_rfl)]
/-- and the third. -/
theorem read_2 : (View.readCov (Val := Elt Ideal) v (⟨R1, w1⟩ :: ⟨R0, w0⟩ :: L) R2.toLoadRect : FVec Ideal S1x2048 .f32) (ix2 0 j)
    = View.canon L (ix2 2 j) := by
  rw [View.readCov_eq_canon']
  have hy : R2.toLoadRect.idx (ix2 0 j) = ix2 2 j := part2 _ 0 j 2 j rfl (by simp)
  refine (congrArg (View.canon _) hy).trans ?_
  rw [canon_miss _ _ _ _ (0 : Fin 2) (Or.inr le_rfl), canon_miss _ _ _ _ (0 : Fin 2) (Or.inr one_le_two)]

variable (s : EReal)

/-- A part adds to the first row, -/
theorem step_0 (h : w0 (ix2 0 j) = (View.readCov (Val := Elt Ideal) v L R0.toLoadRect : FVec Ideal S1x2048 .f32) (ix2 0 j) + s) :
    View.canon (three w0 w1 w2 L) (ix2 0 j) = View.canon L (ix2 0 j) + s :=
  (three_0 w0 w1 w2 L j).trans (h.trans (congrArg (· + s) (read_0 L j v)))
/-- the second -/
theorem step_1 (h : w1 (ix2 0 j) = (View.readCov (Val := Elt Ideal) v (⟨R0, w0⟩ :: L) R1.toLoadRect : FVec Ideal S1x2048 .f32) (ix2 0 j) + s) :
    View.canon (three w0 w1 w2 L) (ix2 1 j) = View.canon L (ix2 1 j) + s :=
  (three_1 w0 w1 w2 L j).trans (h.trans (congrArg (· + s) (read_1 w0 L j v)))
/-- and the third. -/
theorem step_2 (h : w2 (ix2 0 j) = (View.readCov (Val := Elt Ideal) v (⟨R1, w1⟩ :: ⟨R0, w0⟩ :: L) R2.toLoadRect : FVec Ideal S1x2048 .f32) (ix2 0 j) + s) :
    View.canon (three w0 w1 w2 L) (ix2 2 j) = View.canon L (ix2 2 j) + s :=
  (three_2 w0 w1 w2 L j).trans (h.trans (congrArg (· + s) (read_2 w0 w1 L j v)))

variable (f : v.ty.Contents (Elt Ideal))

/-- The last part's stores over what the buffer held: the first row, -/
theorem over_0 (h : w0 (ix2 0 j) = (View.readCov (Val := Elt Ideal) v L R0.toLoadRect : FVec Ideal S1x2048 .f32) (ix2 0 j) + s) :
    v.read (Elt Ideal) (v.writes (Elt Ideal) f (three w0 w1 w2 L)) (ix2 0 j) = View.canon L (ix2 0 j) + s := by
  refine Eq.trans ?_ (h.trans (congrArg (· + s) (read_0 L j v)))
  rw [View.read_writes_cons_unit_of_not_mem _ _ _ _ _ _ rfl (0 : Fin 2) (Or.inl Nat.zero_lt_two),
    View.read_writes_cons_unit_of_not_mem _ _ _ _ _ _ rfl (0 : Fin 2) (Or.inl Nat.zero_lt_one),
    View.read_writes_cons_unit_of_mem _ _ _ _ _ _ (ix2 0 j) rfl _]
  intro a; fin_cases a <;> simp
/-- the second, -/
theorem over_1 (h : w1 (ix2 0 j) = (View.readCov (Val := Elt Ideal) v (⟨R0, w0⟩ :: L) R1.toLoadRect : FVec Ideal S1x2048 .f32) (ix2 0 j) + s) :
    v.read (Elt Ideal) (v.writes (Elt Ideal) f (three w0 w1 w2 L)) (ix2 1 j) = View.canon L (ix2 1 j) + s := by
  refine Eq.trans ?_ (h.trans (congrArg (· + s) (read_1 w0 L j v)))
  rw [View.read_writes_cons_unit_of_not_mem _ _ _ _ _ _ rfl (0 : Fin 2) (Or.inl Nat.one_lt_two),
    View.read_writes_cons_unit_of_mem _ _ _ _ _ _ (ix2 0 j) rfl _]
  intro a; fin_cases a <;> simp
/-- the third -/
theorem over_2 (h : w2 (ix2 0 j) = (View.readCov (Val := Elt Ideal) v (⟨R1, w1⟩ :: ⟨R0, w0⟩ :: L) R2.toLoadRect : FVec Ideal S1x2048 .f32) (ix2 0 j) + s) :
    v.read (Elt Ideal) (v.writes (Elt Ideal) f (three w0 w1 w2 L)) (ix2 2 j) = View.canon L (ix2 2 j) + s := by
  refine Eq.trans ?_ (h.trans (congrArg (· + s) (read_2 w0 w1 L j v)))
  rw [View.read_writes_cons_unit_of_mem _ _ _ _ _ _ (ix2 0 j) rfl _]
  intro a; fin_cases a <;> simp
/-- and the others. -/
theorem over_rest (q : Fin 8) (hq : 3 ≤ q.val) :
    v.read (Elt Ideal) (v.writes (Elt Ideal) f (three w0 w1 w2 L)) (ix2 q j) = v.read (Elt Ideal) (v.writes (Elt Ideal) f L) (ix2 q j) := by
  rw [View.read_writes_cons_unit_of_not_mem _ _ _ _ _ _ rfl (0 : Fin 2) (Or.inr hq),
    View.read_writes_cons_unit_of_not_mem _ _ _ _ _ _ rfl (0 : Fin 2) (Or.inr (by show 2 ≤ q.val; omega)),
    View.read_writes_cons_unit_of_not_mem _ _ _ _ _ _ rfl (0 : Fin 2) (Or.inr (by show 1 ≤ q.val; omega))]

end lists

/-- The zeros of the first point. -/
abbrev zeros : List (View.Piece (Elt Ideal) S8x2048 .f32) :=
  [⟨Rect.unit ![0, 0] ![8, 2048] inb_S8x2048_S8x2048_0_0, k0_pay2 (F := Ideal)⟩]

/-- They are zero. -/
theorem pay2 (q : Fin 8) (j : Fin 2048) : k0_pay2 (F := Ideal) (ix2 q j) = (0 : EReal) := by pointwise [k0_pay2]

/-- They cover every row. -/
theorem zeros_at (q : Fin 8) (j : Fin 2048) : View.canon zeros (ix2 q j) = (0 : EReal) := by
  rw [canon_hit _ _ _ _ (ix2 q j) _]
  · exact pay2 q j
  · intro a; fin_cases a <;> simp

/-! ## Sums over a tile -/

/-- The sum over a part of a tile, -/
def PS (f : Fin 4096 → EReal) (n o : ℕ) (ho : o + 128 ≤ 512) : EReal := ∑ i : Fin 128, f (row n (at_ o ho i))
/-- and over the tile. -/
def TS (f : Fin 4096 → EReal) (n : ℕ) : EReal := ∑ i : Fin 512, f (row n i)

/-- The parts' sums make up the tile's. -/
theorem sum_parts (f : Fin 4096 → EReal) (n : ℕ) :
    TS f n = PS f n 0 (by omega) + PS f n 128 (by omega) + PS f n 256 (by omega) + PS f n 384 (by omega) := by
  unfold TS
  refine (Fin.sum_univ_add (a := 384) (b := 128) _).trans (congrArg₂ (· + ·) ?_ rfl)
  refine (Fin.sum_univ_add (a := 256) (b := 128) _).trans (congrArg₂ (· + ·) ?_ rfl)
  refine (Fin.sum_univ_add (a := 128) (b := 128) _).trans (congrArg₂ (· + ·) ?_ rfl)
  exact Finset.sum_congr rfl fun i _ => congrArg (fun k => f (row n k)) (Fin.ext (by simp [at_]))

/-- Four additions add the tile's sum. -/
theorem four (f : Fin 4096 → EReal) (n : ℕ) {a0 a1 a2 a3 a4 z : EReal} (h3 : a4 = a3 + PS f n 384 (by omega))
    (h2 : a3 = a2 + PS f n 256 (by omega)) (h1 : a2 = a1 + PS f n 128 (by omega)) (h0 : a1 = a0 + PS f n 0 (by omega)) (hz : a0 = z) :
    a4 = z + TS f n := by
  rw [h3, h2, h1, h0, hz, sum_parts]
  simp only [add_assoc]

/-! ## The rows' lines -/

section pays
variable (X D E : FVec Ideal S128x2048 .f32) (a : FVec Ideal S1x2048 .f32) (j : Fin 2048)

/-- The gain's row in the first part, -/
theorem pay13 : k0_pay13 (F := Ideal) X D (k0_pay12 a) (ix2 0 j) = a (ix2 0 j) + ∑ i : Fin 128, D (ix2 i j) * X (ix2 i j) := by
  pointwise [k0_pay13, k0_pay12]

/-- the bias's -/
theorem pay14 : k0_pay14 (F := Ideal) D a (ix2 0 j) = a (ix2 0 j) + ∑ i : Fin 128, D (ix2 i j) := by
  pointwise [k0_pay14]

/-- and the squares'. -/
theorem pay15 : k0_pay15 (F := Ideal) E a (ix2 0 j) = a (ix2 0 j) + ∑ i : Fin 128, E (ix2 i j) * E (ix2 i j) := by
  pointwise [k0_pay15]

/-- The gain's row in the second part, -/
theorem pay28 : k0_pay28 (F := Ideal) X D a (ix2 0 j) = a (ix2 0 j) + ∑ i : Fin 128, D (ix2 i j) * X (ix2 i j) := by
  pointwise [k0_pay28]

/-- the bias's -/
theorem pay29 : k0_pay29 (F := Ideal) D a (ix2 0 j) = a (ix2 0 j) + ∑ i : Fin 128, D (ix2 i j) := by
  pointwise [k0_pay29]

/-- and the squares'. -/
theorem pay30 : k0_pay30 (F := Ideal) E a (ix2 0 j) = a (ix2 0 j) + ∑ i : Fin 128, E (ix2 i j) * E (ix2 i j) := by
  pointwise [k0_pay30]

/-- The gain's row in the third part, -/
theorem pay42 : k0_pay42 (F := Ideal) X D a (ix2 0 j) = a (ix2 0 j) + ∑ i : Fin 128, D (ix2 i j) * X (ix2 i j) := by
  pointwise [k0_pay42]

/-- the bias's -/
theorem pay43 : k0_pay43 (F := Ideal) D a (ix2 0 j) = a (ix2 0 j) + ∑ i : Fin 128, D (ix2 i j) := by
  pointwise [k0_pay43]

/-- and the squares'. -/
theorem pay46 : k0_pay46 (F := Ideal) (k0_pay44 a) (k0_pay45 E) (ix2 0 j) = a (ix2 0 j) + ∑ i : Fin 128, E (ix2 i j) * E (ix2 i j) := by
  pointwise [k0_pay46, k0_pay44, k0_pay45]

/-- The gain's row in the last part, -/
theorem pay54 : k0_pay54 (F := Ideal) X E a (ix2 0 j) = a (ix2 0 j) + ∑ i : Fin 128, k0_pay51 (F := Ideal) E (ix2 i j) * X (ix2 i j) := by
  pointwise [k0_pay54]

/-- the bias's -/
theorem pay55 : k0_pay55 (F := Ideal) E a (ix2 0 j) = a (ix2 0 j) + ∑ i : Fin 128, k0_pay51 (F := Ideal) E (ix2 i j) := by
  pointwise [k0_pay55]

/-- and the squares'. -/
theorem pay1 : k0_pay1 (F := Ideal) E a (ix2 0 j) = a (ix2 0 j) + ∑ i : Fin 128, E (ix2 i j) * E (ix2 i j) := by
  pointwise [k0_pay1]

end pays

/-! ## The tile -/

variable (m : (ℓ : Loc nD τ sig) → Buf (Elt Ideal) ℓ) (c : Dev nD) (t : Fin cfg0.N)

section tile
variable (o : ℕ) (ho : o + 128 ≤ 512) (inb : ∀ a, (![o, 0] : Fin 2 → ℕ) a + S128x2048.size a ≤ S512x2048.size a)

/-- What a part reads of the gated attention, -/
abbrev yb : FVec Ideal S128x2048 .bf16 := View.ld (Val := Elt Ideal) (e' := .bf16) (iblk m c 0 t : FVec Ideal S512x2048 .bf16) (Rect.unit (s := S512x2048) ![o, 0] S128x2048.size inb)
/-- of the first norm's rows -/
abbrev xb : FVec Ideal S128x2048 .f32 := View.ld (Val := Elt Ideal) (e' := .f32) (iblk m c 2 t : FVec Ideal S512x2048 .f32) (Rect.unit (s := S512x2048) ![o, 0] S128x2048.size inb)
/-- and of the target. -/
abbrev zb : FVec Ideal S128x2048 .f32 := View.ld (Val := Elt Ideal) (e' := .f32) (iblk m c 7 t : FVec Ideal S512x2048 .f32) (Rect.unit (s := S512x2048) ![o, 0] S128x2048.size inb)

/-- The sum that a part computes is the layer's, -/
theorem part_at (i : Fin 128) :
    part (yb m c t o inb) (iblk m c 1 t) (xb m c t o inb) (iblk m c 3 t) (iblk m c 4 t) i = SUM (args m c) (row t.val (at_ o ho i)) := by
  funext j
  refine congrArg₂ (fun a b : EReal => Ideal.ofBits .f32 0x3FB504F3#32 * a + b)
    (congrArg₂ (· + ·) (congrArg₂ (· * ·) ?_ (block3 m c t j)) (block4 m c t j))
    (Finset.sum_congr rfl fun k _ => congrArg₂ (· * ·) ?_ (block1 m c t k j))
  · exact (congrArg (iblk m c 2 t : FVec Ideal S512x2048 .f32) (part2 _ i j (at_ o ho i) j rfl (by simp))).trans (block2 m c t _ j)
  · exact (congrArg (iblk m c 0 t : FVec Ideal S512x2048 .bf16) (part2 _ i k (at_ o ho i) k rfl (by simp))).trans (block0 m c t _ k)

/-- and its error the output's. -/
theorem perr_at (i : Fin 128) (j : Fin 2048) :
    perr (yb m c t o inb) (iblk m c 1 t) (xb m c t o inb) (iblk m c 3 t) (iblk m c 4 t) (iblk m c 5 t) (iblk m c 6 t) (zb m c t o inb) i j
      = ERR (args m c) (row t.val (at_ o ho i)) j := by
  unfold perr
  rw [part_at m c t o ho inb i]
  refine congrArg₂ (· - ·) (congrArg₂ (· + ·) (congrArg (_ * ·) (block5 m c t j)) (block6 m c t j)) ?_
  exact (congrArg (iblk m c 7 t : FVec Ideal S512x2048 .f32) (part2 _ i j (at_ o ho i) j rfl (by simp))).trans (block7 m c t _ j)

/-- The normed rows of a part, -/
theorem xh_at (i : Fin 128) (j : Fin 2048) : xh0 (yb m c t o inb) (iblk m c 1 t) (xb m c t o inb) (iblk m c 3 t) (iblk m c 4 t) (ix2 i j) = XH (SUM (args m c) (row t.val (at_ o ho i))) j :=
  (xh0_at _ _ _ _ _ i j).trans (congrArg (XH · j) (part_at m c t o ho inb i))
/-- its errors, -/
theorem er_at (i : Fin 128) (j : Fin 2048) : er0 (yb m c t o inb) (iblk m c 1 t) (xb m c t o inb) (iblk m c 3 t) (iblk m c 4 t) (iblk m c 5 t) (iblk m c 6 t) (zb m c t o inb) (ix2 i j)
    = ERR (args m c) (row t.val (at_ o ho i)) j :=
  (er0_at _ _ _ _ _ _ _ _ i j).trans (perr_at m c t o ho inb i j)
/-- the output's gradient -/
theorem do_at (i : Fin 128) (j : Fin 2048) : do0 (yb m c t o inb) (iblk m c 1 t) (xb m c t o inb) (iblk m c 3 t) (iblk m c 4 t) (iblk m c 5 t) (iblk m c 6 t) (zb m c t o inb) (ix2 i j)
    = DO (args m c) (row t.val (at_ o ho i)) j :=
  (do0_at _ _ _ _ _ _ _ _ i j).trans (congrArg (· * INV) (perr_at m c t o ho inb i j))
/-- and the sum's. -/
theorem dr_at (i : Fin 128) (j : Fin 2048) : dr0 (yb m c t o inb) (iblk m c 1 t) (xb m c t o inb) (iblk m c 3 t) (iblk m c 4 t) (iblk m c 5 t) (iblk m c 6 t) (zb m c t o inb) (ix2 i j)
    = DRES (args m c) (ix2 (row t.val (at_ o ho i)) j) := by
  refine (dr0_at _ _ _ _ _ _ _ _ i j).trans ?_
  refine congrArg₂ (fun r u => DRK r u j) (part_at m c t o ho inb i) (funext fun k => ?_)
  exact congrArg₂ (· * ·) (congrArg (· * INV) (perr_at m c t o ho inb i k)) (block5 m c t k)
end tile

/-- The gain's terms, -/
abbrev GF (j : Fin 2048) : Fin 4096 → EReal := fun i => DO (args m c) i j * XH (SUM (args m c) i) j
/-- the bias's -/
abbrev BF (j : Fin 2048) : Fin 4096 → EReal := fun i => DO (args m c) i j
/-- and the squares. -/
abbrev QF (j : Fin 2048) : Fin 4096 → EReal := fun i => ERR (args m c) i j * ERR (args m c) i j

section adds
variable (a : FVec Ideal S1x2048 .f32) (j : Fin 2048)

/-- The first part adds its sum to the gain's row, -/
theorem gain_0 : k0_pay13 (F := Ideal) (xh0 (yb m c t 0 inb_S512x2048_S128x2048_0_0) (iblk m c 1 t) (xb m c t 0 inb_S512x2048_S128x2048_0_0) (iblk m c 3 t) (iblk m c 4 t)) (do0 (yb m c t 0 inb_S512x2048_S128x2048_0_0) (iblk m c 1 t) (xb m c t 0 inb_S512x2048_S128x2048_0_0) (iblk m c 3 t) (iblk m c 4 t) (iblk m c 5 t) (iblk m c 6 t) (zb m c t 0 inb_S512x2048_S128x2048_0_0)) (k0_pay12 a) (ix2 0 j)
    = a (ix2 0 j) + PS (GF m c j) t.val 0 (by omega) :=
  (pay13 _ _ _ j).trans (congrArg (a (ix2 0 j) + ·) (Finset.sum_congr rfl fun i _ => congrArg₂ (· * ·)
    (do_at m c t 0 (by omega) inb_S512x2048_S128x2048_0_0 i j) (xh_at m c t 0 (by omega) inb_S512x2048_S128x2048_0_0 i j)))
/-- to the bias's -/
theorem bias_0 : k0_pay14 (F := Ideal) (do0 (yb m c t 0 inb_S512x2048_S128x2048_0_0) (iblk m c 1 t) (xb m c t 0 inb_S512x2048_S128x2048_0_0) (iblk m c 3 t) (iblk m c 4 t) (iblk m c 5 t) (iblk m c 6 t) (zb m c t 0 inb_S512x2048_S128x2048_0_0)) a (ix2 0 j)
    = a (ix2 0 j) + PS (BF m c j) t.val 0 (by omega) :=
  (pay14 _ _ j).trans (congrArg (a (ix2 0 j) + ·) (Finset.sum_congr rfl fun i _ =>
    (do_at m c t 0 (by omega) inb_S512x2048_S128x2048_0_0 i j)))
/-- and to the squares'. -/
theorem sq_0 : k0_pay15 (F := Ideal) (er0 (yb m c t 0 inb_S512x2048_S128x2048_0_0) (iblk m c 1 t) (xb m c t 0 inb_S512x2048_S128x2048_0_0) (iblk m c 3 t) (iblk m c 4 t) (iblk m c 5 t) (iblk m c 6 t) (zb m c t 0 inb_S512x2048_S128x2048_0_0)) a (ix2 0 j)
    = a (ix2 0 j) + PS (QF m c j) t.val 0 (by omega) :=
  (pay15 _ _ j).trans (congrArg (a (ix2 0 j) + ·) (Finset.sum_congr rfl fun i _ => congrArg₂ (· * ·)
    (er_at m c t 0 (by omega) inb_S512x2048_S128x2048_0_0 i j)
    (er_at m c t 0 (by omega) inb_S512x2048_S128x2048_0_0 i j)))

/-- The second part adds its sum to the gain's row, -/
theorem gain_1 : k0_pay28 (F := Ideal) (xh1 (yb m c t 128 inb_S512x2048_S128x2048_128_0) (iblk m c 1 t) (xb m c t 128 inb_S512x2048_S128x2048_128_0) (iblk m c 3 t) (iblk m c 4 t)) (do1 (yb m c t 128 inb_S512x2048_S128x2048_128_0) (iblk m c 1 t) (xb m c t 128 inb_S512x2048_S128x2048_128_0) (iblk m c 3 t) (iblk m c 4 t) (iblk m c 5 t) (iblk m c 6 t) (zb m c t 128 inb_S512x2048_S128x2048_128_0)) a (ix2 0 j)
    = a (ix2 0 j) + PS (GF m c j) t.val 128 (by omega) :=
  (pay28 _ _ _ j).trans (congrArg (a (ix2 0 j) + ·) (Finset.sum_congr rfl fun i _ => congrArg₂ (· * ·)
    ((congrFun (do1_eq _ _ _ _ _ _ _ _) _).trans (do_at m c t 128 (by omega) inb_S512x2048_S128x2048_128_0 i j)) ((congrFun (xh1_eq _ _ _ _ _) _).trans (xh_at m c t 128 (by omega) inb_S512x2048_S128x2048_128_0 i j))))
/-- to the bias's -/
theorem bias_1 : k0_pay29 (F := Ideal) (do1 (yb m c t 128 inb_S512x2048_S128x2048_128_0) (iblk m c 1 t) (xb m c t 128 inb_S512x2048_S128x2048_128_0) (iblk m c 3 t) (iblk m c 4 t) (iblk m c 5 t) (iblk m c 6 t) (zb m c t 128 inb_S512x2048_S128x2048_128_0)) a (ix2 0 j)
    = a (ix2 0 j) + PS (BF m c j) t.val 128 (by omega) :=
  (pay29 _ _ j).trans (congrArg (a (ix2 0 j) + ·) (Finset.sum_congr rfl fun i _ =>
    ((congrFun (do1_eq _ _ _ _ _ _ _ _) _).trans (do_at m c t 128 (by omega) inb_S512x2048_S128x2048_128_0 i j))))
/-- and to the squares'. -/
theorem sq_1 : k0_pay30 (F := Ideal) (er1 (yb m c t 128 inb_S512x2048_S128x2048_128_0) (iblk m c 1 t) (xb m c t 128 inb_S512x2048_S128x2048_128_0) (iblk m c 3 t) (iblk m c 4 t) (iblk m c 5 t) (iblk m c 6 t) (zb m c t 128 inb_S512x2048_S128x2048_128_0)) a (ix2 0 j)
    = a (ix2 0 j) + PS (QF m c j) t.val 128 (by omega) :=
  (pay30 _ _ j).trans (congrArg (a (ix2 0 j) + ·) (Finset.sum_congr rfl fun i _ => congrArg₂ (· * ·)
    ((congrFun (er1_eq _ _ _ _ _ _ _ _) _).trans (er_at m c t 128 (by omega) inb_S512x2048_S128x2048_128_0 i j))
    ((congrFun (er1_eq _ _ _ _ _ _ _ _) _).trans (er_at m c t 128 (by omega) inb_S512x2048_S128x2048_128_0 i j))))

/-- The third part adds its sum to the gain's row, -/
theorem gain_2 : k0_pay42 (F := Ideal) (xh2 (yb m c t 256 inb_S512x2048_S128x2048_256_0) (iblk m c 1 t) (xb m c t 256 inb_S512x2048_S128x2048_256_0) (iblk m c 3 t) (iblk m c 4 t)) (do2 (yb m c t 256 inb_S512x2048_S128x2048_256_0) (iblk m c 1 t) (xb m c t 256 inb_S512x2048_S128x2048_256_0) (iblk m c 3 t) (iblk m c 4 t) (iblk m c 5 t) (iblk m c 6 t) (zb m c t 256 inb_S512x2048_S128x2048_256_0)) a (ix2 0 j)
    = a (ix2 0 j) + PS (GF m c j) t.val 256 (by omega) :=
  (pay42 _ _ _ j).trans (congrArg (a (ix2 0 j) + ·) (Finset.sum_congr rfl fun i _ => congrArg₂ (· * ·)
    ((congrFun (do2_eq _ _ _ _ _ _ _ _) _).trans (do_at m c t 256 (by omega) inb_S512x2048_S128x2048_256_0 i j)) ((congrFun (xh2_eq _ _ _ _ _) _).trans (xh_at m c t 256 (by omega) inb_S512x2048_S128x2048_256_0 i j))))
/-- to the bias's -/
theorem bias_2 : k0_pay43 (F := Ideal) (do2 (yb m c t 256 inb_S512x2048_S128x2048_256_0) (iblk m c 1 t) (xb m c t 256 inb_S512x2048_S128x2048_256_0) (iblk m c 3 t) (iblk m c 4 t) (iblk m c 5 t) (iblk m c 6 t) (zb m c t 256 inb_S512x2048_S128x2048_256_0)) a (ix2 0 j)
    = a (ix2 0 j) + PS (BF m c j) t.val 256 (by omega) :=
  (pay43 _ _ j).trans (congrArg (a (ix2 0 j) + ·) (Finset.sum_congr rfl fun i _ =>
    ((congrFun (do2_eq _ _ _ _ _ _ _ _) _).trans (do_at m c t 256 (by omega) inb_S512x2048_S128x2048_256_0 i j))))
/-- and to the squares'. -/
theorem sq_2 : k0_pay46 (F := Ideal) (k0_pay44 a) (k0_pay45 (er2 (yb m c t 256 inb_S512x2048_S128x2048_256_0) (iblk m c 1 t) (xb m c t 256 inb_S512x2048_S128x2048_256_0) (iblk m c 3 t) (iblk m c 4 t) (iblk m c 5 t) (iblk m c 6 t) (zb m c t 256 inb_S512x2048_S128x2048_256_0))) (ix2 0 j)
    = a (ix2 0 j) + PS (QF m c j) t.val 256 (by omega) :=
  (pay46 _ _ j).trans (congrArg (a (ix2 0 j) + ·) (Finset.sum_congr rfl fun i _ => congrArg₂ (· * ·)
    ((congrFun (er2_eq _ _ _ _ _ _ _ _) _).trans (er_at m c t 256 (by omega) inb_S512x2048_S128x2048_256_0 i j))
    ((congrFun (er2_eq _ _ _ _ _ _ _ _) _).trans (er_at m c t 256 (by omega) inb_S512x2048_S128x2048_256_0 i j))))

/-- The last part adds its sum to the gain's row, -/
theorem gain_3 : k0_pay54 (F := Ideal) (xh3 (yb m c t 384 inb_S512x2048_S128x2048_384_0) (iblk m c 1 t) (xb m c t 384 inb_S512x2048_S128x2048_384_0) (iblk m c 3 t) (iblk m c 4 t)) (er3 (yb m c t 384 inb_S512x2048_S128x2048_384_0) (iblk m c 1 t) (xb m c t 384 inb_S512x2048_S128x2048_384_0) (iblk m c 3 t) (iblk m c 4 t) (iblk m c 5 t) (iblk m c 6 t) (zb m c t 384 inb_S512x2048_S128x2048_384_0)) a (ix2 0 j)
    = a (ix2 0 j) + PS (GF m c j) t.val 384 (by omega) :=
  (pay54 _ _ _ j).trans (congrArg (a (ix2 0 j) + ·) (Finset.sum_congr rfl fun i _ => congrArg₂ (· * ·)
    ((congrFun (do3_eq _ _ _ _ _ _ _ _) _).trans (do_at m c t 384 (by omega) inb_S512x2048_S128x2048_384_0 i j)) ((congrFun (xh3_eq _ _ _ _ _) _).trans (xh_at m c t 384 (by omega) inb_S512x2048_S128x2048_384_0 i j))))
/-- to the bias's -/
theorem bias_3 : k0_pay55 (F := Ideal) (er3 (yb m c t 384 inb_S512x2048_S128x2048_384_0) (iblk m c 1 t) (xb m c t 384 inb_S512x2048_S128x2048_384_0) (iblk m c 3 t) (iblk m c 4 t) (iblk m c 5 t) (iblk m c 6 t) (zb m c t 384 inb_S512x2048_S128x2048_384_0)) a (ix2 0 j)
    = a (ix2 0 j) + PS (BF m c j) t.val 384 (by omega) :=
  (pay55 _ _ j).trans (congrArg (a (ix2 0 j) + ·) (Finset.sum_congr rfl fun i _ =>
    ((congrFun (do3_eq _ _ _ _ _ _ _ _) _).trans (do_at m c t 384 (by omega) inb_S512x2048_S128x2048_384_0 i j))))
/-- and to the squares'. -/
theorem sq_3 : k0_pay1 (F := Ideal) (er3 (yb m c t 384 inb_S512x2048_S128x2048_384_0) (iblk m c 1 t) (xb m c t 384 inb_S512x2048_S128x2048_384_0) (iblk m c 3 t) (iblk m c 4 t) (iblk m c 5 t) (iblk m c 6 t) (zb m c t 384 inb_S512x2048_S128x2048_384_0)) a (ix2 0 j)
    = a (ix2 0 j) + PS (QF m c j) t.val 384 (by omega) :=
  (pay1 _ _ j).trans (congrArg (a (ix2 0 j) + ·) (Finset.sum_congr rfl fun i _ => congrArg₂ (· * ·)
    ((congrFun (er3_eq _ _ _ _ _ _ _ _) _).trans (er_at m c t 384 (by omega) inb_S512x2048_S128x2048_384_0 i j))
    ((congrFun (er3_eq _ _ _ _ _ _ _ _) _).trans (er_at m c t 384 (by omega) inb_S512x2048_S128x2048_384_0 i j))))

end adds

/-! ## What a point leaves -/

/-- The rows of the first result, in either case, -/
theorem out8_at (i : Fin 512) (j : Fin 2048) :
    ((outsAt0 m c t.val t.isLt).1 : FVec Ideal S512x2048 .f32) (ix2 i j) = DRES (args m c) (ix2 (row t.val i) j) := by
  by_cases h0 : t.val % 8 = 0
  · rw [outsAt0_A m c t h0]
    frame_out
    exact four_parts (e := .f32) (fun i j => DRES (args m c) (ix2 (row t.val i) j)) _ _ _ _
      (fun i j => (dr_at m c t 0 (by omega) inb_S512x2048_S128x2048_0_0 i j))
      (fun i j => ((congrFun (dr1_eq _ _ _ _ _ _ _ _) _).trans (dr_at m c t 128 (by omega) inb_S512x2048_S128x2048_128_0 i j)))
      (fun i j => ((congrFun (dr2_eq _ _ _ _ _ _ _ _) _).trans (dr_at m c t 256 (by omega) inb_S512x2048_S128x2048_256_0 i j)))
      (fun i j => ((congrFun (dr3_eq _ _ _ _ _ _ _ _) _).trans (dr_at m c t 384 (by omega) inb_S512x2048_S128x2048_384_0 i j))) i j
  · rw [outsAt0_B m c t h0]
    frame_out
    exact four_parts (e := .f32) (fun i j => DRES (args m c) (ix2 (row t.val i) j)) _ _ _ _
      (fun i j => (dr_at m c t 0 (by omega) inb_S512x2048_S128x2048_0_0 i j))
      (fun i j => ((congrFun (dr1_eq _ _ _ _ _ _ _ _) _).trans (dr_at m c t 128 (by omega) inb_S512x2048_S128x2048_128_0 i j)))
      (fun i j => ((congrFun (dr2_eq _ _ _ _ _ _ _ _) _).trans (dr_at m c t 256 (by omega) inb_S512x2048_S128x2048_256_0 i j)))
      (fun i j => ((congrFun (dr3_eq _ _ _ _ _ _ _ _) _).trans (dr_at m c t 384 (by omega) inb_S512x2048_S128x2048_384_0 i j))) i j

/-- and of the second. -/
theorem out9_at (i : Fin 512) (j : Fin 2048) :
    ((outsAt0 m c t.val t.isLt).2.1 : FVec Ideal S512x2048 .bf16) (ix2 i j) = DRES (args m c) (ix2 (row t.val i) j) := by
  by_cases h0 : t.val % 8 = 0
  · rw [outsAt0_A m c t h0]
    frame_out
    exact four_parts (e := .bf16) (fun i j => DRES (args m c) (ix2 (row t.val i) j)) _ _ _ _
      (fun i j => (dr_at m c t 0 (by omega) inb_S512x2048_S128x2048_0_0 i j))
      (fun i j => ((congrFun (dr1_eq _ _ _ _ _ _ _ _) _).trans (dr_at m c t 128 (by omega) inb_S512x2048_S128x2048_128_0 i j)))
      (fun i j => ((congrFun (dr2_eq _ _ _ _ _ _ _ _) _).trans (dr_at m c t 256 (by omega) inb_S512x2048_S128x2048_256_0 i j)))
      (fun i j => ((congrFun (dr3_eq _ _ _ _ _ _ _ _) _).trans (dr_at m c t 384 (by omega) inb_S512x2048_S128x2048_384_0 i j))) i j
  · rw [outsAt0_B m c t h0]
    frame_out
    exact four_parts (e := .bf16) (fun i j => DRES (args m c) (ix2 (row t.val i) j)) _ _ _ _
      (fun i j => (dr_at m c t 0 (by omega) inb_S512x2048_S128x2048_0_0 i j))
      (fun i j => ((congrFun (dr1_eq _ _ _ _ _ _ _ _) _).trans (dr_at m c t 128 (by omega) inb_S512x2048_S128x2048_128_0 i j)))
      (fun i j => ((congrFun (dr2_eq _ _ _ _ _ _ _ _) _).trans (dr_at m c t 256 (by omega) inb_S512x2048_S128x2048_256_0 i j)))
      (fun i j => ((congrFun (dr3_eq _ _ _ _ _ _ _ _) _).trans (dr_at m c t 384 (by omega) inb_S512x2048_S128x2048_384_0 i j))) i j

/-- The first point starts the gain's row at zero, -/
theorem gain_first (h0 : t.val % 8 = 0) (j : Fin 2048) :
    ((outsAt0 m c t.val t.isLt).2.2 : FVec Ideal S8x2048 .f32) (ix2 0 j) = 0 + TS (GF m c j) t.val := by
  rw [outsAt0_A m c t h0]
  frame_out
  exact four _ _ (step_0 _ _ _ _ _ _ _ (gain_3 m c t _ j)) (step_0 _ _ _ _ _ _ _ (gain_2 m c t _ j)) (step_0 _ _ _ _ _ _ _ (gain_1 m c t _ j))
    (step_0 _ _ _ _ _ _ _ (gain_0 m c t _ j)) (zeros_at 0 j)
/-- a later one adds its tile to it. -/
theorem gain_later (h0 : ¬t.val % 8 = 0) (j : Fin 2048) :
    ((outsAt0 m c t.val t.isLt).2.2 : FVec Ideal S8x2048 .f32) (ix2 0 j)
      = ((outsAt0 m c (t.val - 1) (Nat.lt_of_le_of_lt (Nat.sub_le _ _) t.isLt)).2.2 : FVec Ideal S8x2048 .f32) (ix2 0 j) + TS (GF m c j) t.val := by
  rw [outsAt0_B m c t h0]
  frame_out
  exact four _ _ (over_0 _ _ _ _ _ _ _ _ (gain_3 m c t _ j)) (step_0 _ _ _ _ _ _ _ (gain_2 m c t _ j)) (step_0 _ _ _ _ _ _ _ (gain_1 m c t _ j))
    ((three_0 _ _ _ _ j).trans (gain_0 m c t _ j))
    (congrArg ((outsAt0 m c (t.val - 1) (Nat.lt_of_le_of_lt (Nat.sub_le _ _) t.isLt)).2.2 : FVec Ideal S8x2048 .f32) (part2 _ 0 j 0 j rfl (by simp)))

/-- The same of the bias's row: the first point -/
theorem bias_first (h0 : t.val % 8 = 0) (j : Fin 2048) :
    ((outsAt0 m c t.val t.isLt).2.2 : FVec Ideal S8x2048 .f32) (ix2 1 j) = 0 + TS (BF m c j) t.val := by
  rw [outsAt0_A m c t h0]
  frame_out
  exact four _ _ (step_1 _ _ _ _ _ _ _ (bias_3 m c t _ j)) (step_1 _ _ _ _ _ _ _ (bias_2 m c t _ j)) (step_1 _ _ _ _ _ _ _ (bias_1 m c t _ j))
    (step_1 _ _ _ _ _ _ _ (bias_0 m c t _ j)) (zeros_at 1 j)
/-- and a later one. -/
theorem bias_later (h0 : ¬t.val % 8 = 0) (j : Fin 2048) :
    ((outsAt0 m c t.val t.isLt).2.2 : FVec Ideal S8x2048 .f32) (ix2 1 j)
      = ((outsAt0 m c (t.val - 1) (Nat.lt_of_le_of_lt (Nat.sub_le _ _) t.isLt)).2.2 : FVec Ideal S8x2048 .f32) (ix2 1 j) + TS (BF m c j) t.val := by
  rw [outsAt0_B m c t h0]
  frame_out
  exact four _ _ (over_1 _ _ _ _ _ _ _ _ (bias_3 m c t _ j)) (step_1 _ _ _ _ _ _ _ (bias_2 m c t _ j)) (step_1 _ _ _ _ _ _ _ (bias_1 m c t _ j))
    ((three_1 _ _ _ _ j).trans (bias_0 m c t _ j))
    (congrArg ((outsAt0 m c (t.val - 1) (Nat.lt_of_le_of_lt (Nat.sub_le _ _) t.isLt)).2.2 : FVec Ideal S8x2048 .f32) (part2 _ 0 j 1 j rfl (by simp)))

/-- The same of the squares' row: the first point -/
theorem sq_first (h0 : t.val % 8 = 0) (j : Fin 2048) :
    ((outsAt0 m c t.val t.isLt).2.2 : FVec Ideal S8x2048 .f32) (ix2 2 j) = 0 + TS (QF m c j) t.val := by
  rw [outsAt0_A m c t h0]
  frame_out
  exact four _ _ (step_2 _ _ _ _ _ _ _ (sq_3 m c t _ j)) (step_2 _ _ _ _ _ _ _ (sq_2 m c t _ j)) (step_2 _ _ _ _ _ _ _ (sq_1 m c t _ j))
    (step_2 _ _ _ _ _ _ _ (sq_0 m c t _ j)) (zeros_at 2 j)
/-- and a later one. -/
theorem sq_later (h0 : ¬t.val % 8 = 0) (j : Fin 2048) :
    ((outsAt0 m c t.val t.isLt).2.2 : FVec Ideal S8x2048 .f32) (ix2 2 j)
      = ((outsAt0 m c (t.val - 1) (Nat.lt_of_le_of_lt (Nat.sub_le _ _) t.isLt)).2.2 : FVec Ideal S8x2048 .f32) (ix2 2 j) + TS (QF m c j) t.val := by
  rw [outsAt0_B m c t h0]
  frame_out
  exact four _ _ (over_2 _ _ _ _ _ _ _ _ (sq_3 m c t _ j)) (step_2 _ _ _ _ _ _ _ (sq_2 m c t _ j)) (step_2 _ _ _ _ _ _ _ (sq_1 m c t _ j))
    ((three_2 _ _ _ _ j).trans (sq_0 m c t _ j))
    (congrArg ((outsAt0 m c (t.val - 1) (Nat.lt_of_le_of_lt (Nat.sub_le _ _) t.isLt)).2.2 : FVec Ideal S8x2048 .f32) (part2 _ 0 j 2 j rfl (by simp)))

/-- The first point clears the other rows, -/
theorem rest_first (h0 : t.val % 8 = 0) (q : Fin 8) (hq : 3 ≤ q.val) (j : Fin 2048) :
    ((outsAt0 m c t.val t.isLt).2.2 : FVec Ideal S8x2048 .f32) (ix2 q j) = 0 := by
  rw [outsAt0_A m c t h0]
  frame_out
  exact (three_rest _ _ _ _ j q hq).trans ((three_rest _ _ _ _ j q hq).trans ((three_rest _ _ _ _ j q hq).trans
    ((three_rest _ _ _ _ j q hq).trans (zeros_at q j))))
/-- and a later one keeps them. -/
theorem rest_later (h0 : ¬t.val % 8 = 0) (q : Fin 8) (hq : 3 ≤ q.val) (j : Fin 2048) :
    ((outsAt0 m c t.val t.isLt).2.2 : FVec Ideal S8x2048 .f32) (ix2 q j) = ((outsAt0 m c (t.val - 1) (Nat.lt_of_le_of_lt (Nat.sub_le _ _) t.isLt)).2.2 : FVec Ideal S8x2048 .f32) (ix2 q j) := by
  rw [outsAt0_B m c t h0]
  frame_out
  refine (over_rest _ _ _ _ j _ _ q hq).trans ((over_rest _ _ _ _ j _ _ q hq).trans ((over_rest _ _ _ _ j _ _ q hq).trans
    ((over_rest _ _ _ _ j _ _ q hq).trans ?_)))
  exact congrFun (Memref.IsWhole.read_unread _ _) _

end Cert.LossNorm

end
-- ==== Proof.LossNorm.lean ====
/- The output projection with the second norm and the loss: the kernel's results are the reference's on finite arguments. -/
module

public import proofs.«01_k».proof.Proof.LossSums
public import proofs.«01_k».proof.Proof.Gen.Reference13Ideal.Run
public import proofs.«01_k».proof.Proof.Gen.Reference13Ideal
public import proofs.«01_k».proof.Proof.Gen.Pre_finite13
public import proofs.«01_k».proof.Proof.Final
public import proofs.«01_k».proof.Defs
public import Idealize.ShloMosaic.Lib.Quiescent
public import Idealize.ShloMosaic.Lib.Pipeline.ValueKit

@[expose] public section

set_option maxRecDepth 16384

noncomputable section

namespace Cert.LossNorm

open Idealize.ShloMosaic Idealize.ShloMosaic.TcCoe Idealize.SL.Sem

open Cert.Pool (IsR and_one real_of_all)

section kernel
open Cert.Kernel13Ideal Cert.Kernel13Ideal.Gen
open Idealize.ShloMosaic.Pipeline (Dat)

variable (m : (ℓ : Loc nD τ sig) → Buf (Elt Ideal) ℓ) (c : Dev nD)

/-- The eight tiles make up the rows. -/
theorem sum_tiles (f : Fin 4096 → EReal) : ∑ n ∈ Finset.range 8, TS f n = ∑ i : Fin 4096, f i := by
  unfold TS
  rw [Finset.sum_range, ← Fintype.sum_prod_type' (f := fun (n : Fin 8) (r : Fin 512) => f (row n.val r))]
  refine Fintype.sum_bijective (fun x : Fin 8 × Fin 512 => row x.1.val x.2) ⟨?_, ?_⟩ _ _ fun _ => rfl
  · rintro ⟨a, b⟩ ⟨a', b'⟩ hab
    have h : (row a.val b).val = (row a'.val b').val := congrArg Fin.val hab
    simp only [row] at h
    have := a.isLt; have := a'.isLt; have := b.isLt; have := b'.isLt
    have ha : a.val = a'.val := by omega
    have hb : b.val = b'.val := by omega
    exact Prod.ext (Fin.ext ha) (Fin.ext hb)
  · intro i
    refine ⟨(⟨i.val / 512, by omega⟩, ⟨i.val % 512, by omega⟩), Fin.ext ?_⟩
    simp only [row]; omega

/-- A sum that starts at the first point and grows by a term at each. -/
theorem sum_of_steps (W : ∀ n, n < cfg0.N → EReal) (f : ℕ → EReal) (hfirst : ∀ t : Fin cfg0.N, t.val % 8 = 0 → W t.val t.isLt = 0 + f t.val)
    (hlater : ∀ t : Fin cfg0.N, ¬t.val % 8 = 0 → W t.val t.isLt = W (t.val - 1) (Nat.lt_of_le_of_lt (Nat.sub_le _ _) t.isLt) + f t.val) :
    ∀ n (hn : n < cfg0.N), W n hn = ∑ s ∈ Finset.range (n + 1), f s
  | 0, hn => (hfirst ⟨0, hn⟩ rfl).trans (by rw [Finset.sum_range_one, zero_add])
  | n + 1, hn => by
    have h8 : n + 1 < 8 := hn
    rw [Finset.sum_range_succ, ← sum_of_steps W f hfirst hlater n (by omega)]
    exact hlater ⟨n + 1, hn⟩ (by show ¬(n + 1) % 8 = 0; omega)

/-- The rows below the three sums are zero after every point. -/
theorem rest_zero (q : Fin 8) (hq : 3 ≤ q.val) (j : Fin 2048) : ∀ (n : ℕ) (hn : n < cfg0.N),
    ((outsAt0 m c n hn).2.2 : FVec Ideal S8x2048 .f32) (ix2 q j) = 0
  | 0, hn => rest_first m c ⟨0, hn⟩ rfl q hq j
  | n + 1, hn => by
    have h8 : n + 1 < 8 := hn
    exact (rest_later m c ⟨n + 1, hn⟩ (by show ¬(n + 1) % 8 = 0; omega) q hq j).trans (rest_zero q hq j n (by omega))

/-- The last point leaves the gain's gradient in the first row, -/
theorem gain_last (t : Fin cfg0.N) (ht : t.val = 7) (j : Fin 2048) :
    ((outsAt0 m c t.val t.isLt).2.2 : FVec Ideal S8x2048 .f32) (ix2 0 j) = DG (args m c) j := by
  rw [sum_of_steps (fun n hn => ((outsAt0 m c n hn).2.2 : FVec Ideal S8x2048 .f32) (ix2 0 j)) (fun s => TS (GF m c j) s)
    (fun t h0 => gain_first m c t h0 j) (fun t h0 => gain_later m c t h0 j) t.val t.isLt]
  obtain ⟨n, hn⟩ := t
  obtain rfl : n = 7 := ht
  exact sum_tiles (GF m c j)
/-- the bias's in the second -/
theorem bias_last (t : Fin cfg0.N) (ht : t.val = 7) (j : Fin 2048) :
    ((outsAt0 m c t.val t.isLt).2.2 : FVec Ideal S8x2048 .f32) (ix2 1 j) = DB (args m c) j := by
  rw [sum_of_steps (fun n hn => ((outsAt0 m c n hn).2.2 : FVec Ideal S8x2048 .f32) (ix2 1 j)) (fun s => TS (BF m c j) s)
    (fun t h0 => bias_first m c t h0 j) (fun t h0 => bias_later m c t h0 j) t.val t.isLt]
  obtain ⟨n, hn⟩ := t
  obtain rfl : n = 7 := ht
  exact sum_tiles (BF m c j)
/-- and the squared errors in the third. -/
theorem sq_last (t : Fin cfg0.N) (ht : t.val = 7) (j : Fin 2048) :
    ((outsAt0 m c t.val t.isLt).2.2 : FVec Ideal S8x2048 .f32) (ix2 2 j) = SQ (args m c) j := by
  rw [sum_of_steps (fun n hn => ((outsAt0 m c n hn).2.2 : FVec Ideal S8x2048 .f32) (ix2 2 j)) (fun s => TS (QF m c j) s)
    (fun t h0 => sq_first m c t h0 j) (fun t h0 => sq_later m c t h0 j) t.val t.isLt]
  obtain ⟨n, hn⟩ := t
  obtain rfl : n = 7 := ht
  exact sum_tiles (QF m c j)

/-- Only the last point writes the rows back. -/
theorem last_of_flush (t : Fin cfg0.N) (hf : (cfg0.win 10).flush t = true) : t.val = 7 := by
  have h := (flush0_10 t).mp hf
  have : t.val < 8 := t.isLt
  omega

/-- The first result. -/
theorem final8 : (dats m 0 c).arrAt 8 cfg0.N = DRES (args m c) := by
  refine (dats m 0 c).arrAt_eq_of_covers 8 _ (by decide +kernel) fun t hf y => ?_
  blk_simp
  rw [after0_8]
  obtain ⟨i, j, rfl⟩ : ∃ (i : Fin 512) (j : Fin 2048), y = ix2 i j := ⟨y 0, y 1, eq_ix2 y⟩
  exact (out8_at m c t i j).trans (congrArg (DRES (args m c)) (emb8 t i j)).symm

/-- The second, the same in the narrower format. -/
theorem final9 : (dats m 0 c).arrAt 9 cfg0.N = (DRES (args m c) : FVec Ideal S4096x2048 .f32) := by
  refine (dats m 0 c).arrAt_eq_of_covers 9 _ (by decide +kernel) fun t hf y => ?_
  blk_simp
  rw [after0_9]
  obtain ⟨i, j, rfl⟩ : ∃ (i : Fin 512) (j : Fin 2048), y = ix2 i j := ⟨y 0, y 1, eq_ix2 y⟩
  exact (out9_at m c t i j).trans (congrArg (DRES (args m c)) (emb9 t i j)).symm

/-- The third: the three rows above zeros. -/
theorem final10 : (dats m 0 c).arrAt 10 cfg0.N = ROWS (args m c) := by
  refine (dats m 0 c).arrAt_eq_of_covers 10 _ (by decide +kernel) fun t hf y => ?_
  blk_simp
  rw [after0_10]
  obtain ⟨q, j, rfl⟩ : ∃ (q : Fin 8) (j : Fin 2048), y = ix2 q j := ⟨y 0, y 1, eq_ix2 y⟩
  refine Eq.trans ?_ (congrArg (ROWS (args m c)) (emb10 t q j)).symm
  have ht := last_of_flush t hf
  by_cases h0 : q.val = 0
  · obtain rfl : q = 0 := Fin.ext h0
    exact (gain_last m c t ht j).trans (if_pos rfl).symm
  by_cases h1 : q.val = 1
  · obtain rfl : q = 1 := Fin.ext h1
    exact (bias_last m c t ht j).trans ((if_neg h0).trans (if_pos rfl)).symm
  by_cases h2 : q.val = 2
  · obtain rfl : q = 2 := Fin.ext h2
    exact (sq_last m c t ht j).trans ((if_neg h0).trans ((if_neg h1).trans (if_pos rfl))).symm
  · exact (rest_zero m c q (by omega) j _ _).trans ((if_neg h0).trans ((if_neg h1).trans (if_neg h2))).symm

end kernel

section reference
open Cert.Reference13Ideal Cert.Reference13Ideal.Gen Cert.Reference13Ideal.Read

/-- The reference's run leaves the arguments and the counters as it finds them. -/
theorem frame_ref : Cert.quiescent_Reference13Ideal (hReference13Ideal := Cert.Reference13Ideal.Gen.facts) := fun m g _ =>
  (θ_run _ _ _).mono (fun r h => ⟨fun c => (h c).2.2.2, sem_eq_zero_of_no_sems rfl r.2⟩)
    (Cert.Reference13Ideal.Value.run m g)

variable (A : Args)

/-- The precondition: the eight arguments hold real numbers. -/
theorem real_args (h : Cert.Pre_finite13.fn (F := Ideal) A.y A.w A.x A.g A.b A.h A.e A.z = fun _ => 1#1) :
    (∀ y, IsR (A.y y)) ∧ (∀ y, IsR (A.w y)) ∧ (∀ y, IsR (A.x y)) ∧ (∀ y, IsR (A.g y)) ∧ (∀ y, IsR (A.b y)) ∧ (∀ y, IsR (A.h y))
      ∧ (∀ y, IsR (A.e y)) ∧ ∀ y, IsR (A.z y) := by
  have h := congrFun h ix0
  unfold Cert.Pre_finite13.fn Cert.Pre_finite13.fn_part1 Cert.Pre_finite13.fn_part2 at h
  dsimp only at h
  have hs : Subsingleton Cert.Pre_finite13.S_.Idx := ⟨fun a b => funext fun k => k.elim0⟩
  have top : ∀ {s : Shape} (hb : Cert.Pre_finite13.S_.BroadcastsInDim s (![] : Fin 0 → Fin s.rank)) (y : s.Idx),
      broadcastInDim s ![] hb (constant (F := Ideal) Cert.Pre_finite13.S_ .f32 0x7F800000#32) y = (⊤ : EReal) := by
    intro s hb y
    show FloatOps.ofBits (F := Ideal) .f32 0x7F800000#32 = (⊤ : EReal)
    simp [Ideal.ofBits, Ideal.ieee]
  simp only [andi_apply, and_one] at h
  obtain ⟨⟨⟨⟨⟨⟨⟨a0, a1⟩, a2⟩, a3⟩, a4⟩, a5⟩, a6⟩, a7⟩ := h
  exact ⟨real_of_all _ _ (top _) _ _ _ _ a0, real_of_all _ _ (top _) _ _ _ _ a1, real_of_all _ _ (top _) _ _ _ _ a2,
    real_of_all _ _ (top _) _ _ _ _ a3, real_of_all _ _ (top _) _ _ _ _ a4, real_of_all _ _ (top _) _ _ _ _ a5,
    real_of_all _ _ (top _) _ _ _ _ a6, real_of_all _ _ (top _) _ _ _ _ a7⟩

/-- On real arguments the reference's first result is the closed form. -/
theorem ref_v80 (h : Cert.Pre_finite13.fn (F := Ideal) A.y A.w A.x A.g A.b A.h A.e A.z = fun _ => 1#1) :
    val_main_v80 (F := Ideal) A.y A.w A.x A.g A.b A.h A.e A.z = DRES A := by
  obtain ⟨hy, hw, hx, hg, hb, hh, he, hz⟩ := real_args A h
  exact v80_eq A hy hw hx hg hb hh he hz

variable (m' : (ℓ : Loc nD τ sig) → Buf (Elt Ideal) ℓ) (c : Dev nD)

/-- The reference's arguments. -/
def refArgs : Args where
  y := m' ((c.tc : Thread nD τ).loc main_arg0)
  w := m' ((c.tc : Thread nD τ).loc main_arg1)
  x := m' ((c.tc : Thread nD τ).loc main_arg2)
  g := m' ((c.tc : Thread nD τ).loc main_arg3)
  b := m' ((c.tc : Thread nD τ).loc main_arg4)
  h := m' ((c.tc : Thread nD τ).loc main_arg5)
  e := m' ((c.tc : Thread nD τ).loc main_arg6)
  z := m' ((c.tc : Thread nD τ).loc main_arg7)

end reference

/-- On real arguments the kernel's three results are the reference's. -/
theorem value : Cert.algebraic_Kernel13Ideal_Reference13Ideal_pre_finite13 (hKernel13Ideal := Cert.Kernel13Ideal.Gen.facts)
    (hReference13Ideal := Cert.Reference13Ideal.Gen.facts) (hPre_finite13 := Cert.Pre_finite13.Gen.facts) := by
  intro m g m' g' hpre hagree
  refine ⟨fun c => DRES (args m c), fun c => (DRES (args m c) : FVec Ideal Cert.Kernel13Ideal.S4096x2048 .f32), fun c => ROWS (args m c), ?_, ?_⟩
  · refine (θ_run _ _ _).mono (fun r h c => ?_) (Cert.Kernel13Ideal.Value.run_blocks m g)
    obtain ⟨e8, e9, e10, e⟩ := h c
    exact ⟨e8.trans (final8 m c), e9.trans (final9 m c), e10.trans (final10 m c), e⟩
  · refine (θ_run _ _ _).mono (fun r h c => ?_) (Cert.Reference13Ideal.Value.run m' g')
    obtain ⟨e8, e9, e10, e⟩ := h c
    obtain ⟨a0, a1, a2, a3, a4, a5, a6, a7⟩ := hagree c
    have ha : refArgs m' c = args m c := by
      unfold refArgs
      rw [a0, a1, a2, a3, a4, a5, a6, a7]
      rfl
    have hp : Cert.Pre_finite13.fn (F := Ideal) (refArgs m' c).y (refArgs m' c).w (refArgs m' c).x (refArgs m' c).g (refArgs m' c).b
        (refArgs m' c).h (refArgs m' c).e (refArgs m' c).z = fun _ => 1#1 := by
      rw [ha]
      exact hpre c
    refine ⟨?_, ?_, ?_, e⟩
    · exact e8.trans ((Cert.Reference13Ideal.Read.val_main_v80_eq m' c).trans
        ((ref_v80 (refArgs m' c) hp).trans (congrArg DRES ha)))
    · exact e9.trans ((Cert.Reference13Ideal.Read.val_main_v109_eq m' c).trans
        ((v109_eq (refArgs m' c)).trans ((ref_v80 (refArgs m' c) hp).trans (congrArg DRES ha))))
    · exact e10.trans ((Cert.Reference13Ideal.Read.val_main_v108_eq m' c).trans
        ((v108_eq (refArgs m' c)).trans (congrArg ROWS ha)))

end Cert.LossNorm

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefFrame
public import proofs.«01_k».proof.Proof.Value
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Pre_finite2
public import proofs.«01_k».proof.Proof.Gen.Pre_finite13
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.StreamGrad
public import proofs.«01_k».proof.Proof.InputGrad
public import proofs.«01_k».proof.Proof.Qg
public import proofs.«01_k».proof.Proof.InProj0
public import proofs.«01_k».proof.Proof.InProj1
public import proofs.«01_k».proof.Proof.OutProjA
public import proofs.«01_k».proof.Proof.OutProjB
public import proofs.«01_k».proof.Proof.OutProjDx
public import proofs.«01_k».proof.Proof.KvGrad
public import proofs.«01_k».proof.Proof.GateProj
public import proofs.«01_k».proof.Proof.OutNorm
public import proofs.«01_k».proof.Proof.LossNorm
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
   Cert.Kernel2Ideal.Gen.facts, Cert.Reference2Ideal.Gen.facts, Cert.Kernel3.Gen.facts, Cert.Kernel3Ideal.Gen.facts,
   Cert.Reference3Ideal.Gen.facts, Cert.Kernel4.Gen.facts, Cert.Kernel4Ideal.Gen.facts,
   Cert.Reference4Ideal.Gen.facts, Cert.Kernel5.Gen.facts, Cert.Kernel5Ideal.Gen.facts,
   Cert.Reference5Ideal.Gen.facts, Cert.Kernel6.Gen.facts, Cert.Kernel6Ideal.Gen.facts,
   Cert.Reference6Ideal.Gen.facts, Cert.Kernel7.Gen.facts, Cert.Kernel7Ideal.Gen.facts,
   Cert.Reference7Ideal.Gen.facts, Cert.Kernel8.Gen.facts, Cert.Kernel8Ideal.Gen.facts,
   Cert.Reference8Ideal.Gen.facts, Cert.Kernel9.Gen.facts, Cert.Kernel9Ideal.Gen.facts,
   Cert.Reference9Ideal.Gen.facts, Cert.Kernel10.Gen.facts, Cert.Kernel10Ideal.Gen.facts,
   Cert.Reference10Ideal.Gen.facts, Cert.Kernel11.Gen.facts, Cert.Kernel11Ideal.Gen.facts,
   Cert.Reference11Ideal.Gen.facts, Cert.Kernel12.Gen.facts, Cert.Kernel12Ideal.Gen.facts,
   Cert.Reference12Ideal.Gen.facts, Cert.Kernel13.Gen.facts, Cert.Kernel13Ideal.Gen.facts,
   Cert.Reference13Ideal.Gen.facts, Cert.Pre_finite.Gen.facts, Cert.Pre_finite2.Gen.facts,
   Cert.Pre_finite13.Gen.facts, fun m g _ => Cert.Kernel.Gen.frame m g, fun m g _ => Cert.KernelIdeal.Gen.frame m g,
   fun m g _ => Cert.KernelIdeal.Gen.frame m g, Cert.Pool.frame_ref, fun m g _ => Cert.Pool.frame_ref m g trivial,
   fun m g _ => Cert.Kernel2.Gen.frame m g, fun m g _ => Cert.Kernel2Ideal.Gen.frame m g,
   fun m g _ => Cert.Kernel2Ideal.Gen.frame m g, Cert.StreamGrad.frame_ref,
   fun m g _ => Cert.StreamGrad.frame_ref m g trivial, fun m g _ => Cert.Kernel3.Gen.frame m g,
   fun m g _ => Cert.Kernel3Ideal.Gen.frame m g, Cert.InputGrad.frame_ref, fun m g _ => Cert.Kernel4.Gen.frame m g,
   fun m g _ => Cert.Kernel4Ideal.Gen.frame m g, Cert.Qg.frame_ref, fun m g _ => Cert.Kernel5.Gen.frame m g,
   fun m g _ => Cert.Kernel5Ideal.Gen.frame m g, Cert.InProj0.frame_ref, fun m g _ => Cert.Kernel6.Gen.frame m g,
   fun m g _ => Cert.Kernel6Ideal.Gen.frame m g, Cert.InProj1.frame_ref, fun m g _ => Cert.Kernel7.Gen.frame m g,
   fun m g _ => Cert.Kernel7Ideal.Gen.frame m g, Cert.OutProjA.frame_ref, fun m g _ => Cert.Kernel8.Gen.frame m g,
   fun m g _ => Cert.Kernel8Ideal.Gen.frame m g, Cert.OutProjB.frame_ref, fun m g _ => Cert.Kernel9.Gen.frame m g,
   fun m g _ => Cert.Kernel9Ideal.Gen.frame m g, Cert.OutProjDx.frame_ref, fun m g _ => Cert.Kernel10.Gen.frame m g,
   fun m g _ => Cert.Kernel10Ideal.Gen.frame m g, Cert.KvGrad.frame_ref, fun m g _ => Cert.Kernel11.Gen.frame m g,
   fun m g _ => Cert.Kernel11Ideal.Gen.frame m g, Cert.GateProj.frame_ref, fun m g _ => Cert.Kernel12.Gen.frame m g,
   fun m g _ => Cert.Kernel12Ideal.Gen.frame m g, Cert.OutNorm.frame_ref, fun m g _ => Cert.Kernel13.Gen.frame m g,
   fun m g _ => Cert.Kernel13Ideal.Gen.frame m g, fun m g _ => Cert.Kernel13Ideal.Gen.frame m g,
   Cert.LossNorm.frame_ref, fun m g _ => Cert.LossNorm.frame_ref m g trivial, trivial, Cert.Pool.value, trivial,
   Cert.StreamGrad.value, trivial, Cert.InputGrad.value, trivial, Cert.Qg.value, trivial, Cert.InProj0.value,
   trivial, Cert.InProj1.value, trivial, Cert.OutProjA.value, trivial, Cert.OutProjB.value, trivial,
   Cert.OutProjDx.value, trivial, Cert.KvGrad.value, trivial, Cert.GateProj.value, trivial, Cert.OutNorm.value,
   trivial, Cert.LossNorm.value⟩

end Cert.Proof

end
